-- ==== Defs.lean ====
def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallRefIdeal (m : (ℓ : Loc Cert.GatherSmallRefIdeal.nD Cert.GatherSmallRefIdeal.τ Cert.GatherSmallRefIdeal.sig) → Buf (Elt Ideal) ℓ) : Prop :=
  True

def Pre_GatherSmallRef (m : (ℓ : Loc Cert.GatherSmallRef.nD Cert.GatherSmallRef.τ Cert.GatherSmallRef.sig) → Buf (Elt Bits) ℓ) : Prop :=
  True

def Pre_GatherGrads (m : (ℓ : Loc Cert.GatherGrads.nD Cert.GatherGrads.τ Cert.GatherGrads.sig) → Buf (Elt Bits) ℓ) : Prop :=
  True

def Pre_GatherGradsIdeal (m : (ℓ : Loc Cert.GatherGradsIdeal.nD Cert.GatherGradsIdeal.τ Cert.GatherGradsIdeal.sig) → Buf (Elt Ideal) ℓ) : Prop :=
  True

def Pre_GatherGradsRefIdeal (m : (ℓ : Loc Cert.GatherGradsRefIdeal.nD Cert.GatherGradsRefIdeal.τ Cert.GatherGradsRefIdeal.sig) → Buf (Elt Ideal) ℓ) : Prop :=
  True

def Pre_GatherGradsRef (m : (ℓ : Loc Cert.GatherGradsRef.nD Cert.GatherGradsRef.τ Cert.GatherGradsRef.sig) → Buf (Elt Bits) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_Rep (m : (ℓ : Loc Cert.Rep.nD Cert.Rep.τ Cert.Rep.sig) → Buf (Elt Bits) ℓ) : Prop :=
  True

def Pre_RepIdeal (m : (ℓ : Loc Cert.RepIdeal.nD Cert.RepIdeal.τ Cert.RepIdeal.sig) → Buf (Elt Ideal) ℓ) : Prop :=
  True

def Pre_RepRefIdeal (m : (ℓ : Loc Cert.RepRefIdeal.nD Cert.RepRefIdeal.τ Cert.RepRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_DwAda (m : (ℓ : Loc Cert.DwAda.nD Cert.DwAda.τ Cert.DwAda.sig) → Buf (Elt Bits) ℓ) : Prop :=
  True

def Pre_DwAdaIdeal (m : (ℓ : Loc Cert.DwAdaIdeal.nD Cert.DwAdaIdeal.τ Cert.DwAdaIdeal.sig) → Buf (Elt Ideal) ℓ) : Prop :=
  True

def Pre_DwAdaRefIdeal (m : (ℓ : Loc Cert.DwAdaRefIdeal.nD Cert.DwAdaRefIdeal.τ Cert.DwAdaRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_PrenormFwd (m : (ℓ : Loc Cert.PrenormFwd.nD Cert.PrenormFwd.τ Cert.PrenormFwd.sig) → Buf (Elt Bits) ℓ) : Prop :=
  True

def Pre_PrenormFwdIdeal (m : (ℓ : Loc Cert.PrenormFwdIdeal.nD Cert.PrenormFwdIdeal.τ Cert.PrenormFwdIdeal.sig) → Buf (Elt Ideal) ℓ) : Prop :=
  True

def Pre_PrenormFwdRefIdeal (m : (ℓ : Loc Cert.PrenormFwdRefIdeal.nD Cert.PrenormFwdRefIdeal.τ Cert.PrenormFwdRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_heads [hPre_finite_heads : Cert.Pre_finite_heads.Facts] (m : (ℓ : Loc Cert.AttnIdeal.nD Cert.AttnIdeal.τ Cert.AttnIdeal.sig) → Buf (Elt Ideal) ℓ) : Prop :=
  ∀ c : Dev Cert.AttnIdeal.nD,
    (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_heads [hPre_finite_heads : Cert.Pre_finite_heads.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_DmRefIdeal (m : (ℓ : Loc Cert.DmRefIdeal.nD Cert.DmRefIdeal.τ Cert.DmRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallRefIdeal [hGatherSmallRefIdeal : Cert.GatherSmallRefIdeal.Facts] : Prop :=
  ∀ (m : (ℓ : Loc Cert.GatherSmallRefIdeal.nD Cert.GatherSmallRefIdeal.τ Cert.GatherSmallRefIdeal.sig) → Buf (Elt Ideal) ℓ) (g : Dev Cert.GatherSmallRefIdeal.nD → PrngReg), Pre_GatherSmallRefIdeal m →
    θ_run (Cert.GatherSmallRefIdeal.defs (F := Ideal)) (onTc (τ := Cert.GatherSmallRefIdeal.τ) (Cert.GatherSmallRefIdeal.main (F := Ideal))) ⟨m, fun _ => 0, g⟩ (fun r => (∀ c : Dev Cert.GatherSmallRefIdeal.nD,
      r.2.mem ((c.tc : Thread Cert.GatherSmallRefIdeal.nD Cert.GatherSmallRefIdeal.τ).loc Cert.GatherSmallRefIdeal.main_arg0) = m ((c.tc : Thread Cert.GatherSmallRefIdeal.nD Cert.GatherSmallRefIdeal.τ).loc Cert.GatherSmallRefIdeal.main_arg0))
      ∧ r.2.sem = fun _ => 0)

def quiescent_GatherSmallRef [hGatherSmallRef : Cert.GatherSmallRef.Facts] : Prop :=
  ∀ (m : (ℓ : Loc Cert.GatherSmallRef.nD Cert.GatherSmallRef.τ Cert.GatherSmallRef.sig) → Buf (Elt Bits) ℓ) (g : Dev Cert.GatherSmallRef.nD → PrngReg), Pre_GatherSmallRef m →
    θ_run (Cert.GatherSmallRef.defs (F := Bits)) (onTc (τ := Cert.GatherSmallRef.τ) (Cert.GatherSmallRef.main (F := Bits))) ⟨m, fun _ => 0, g⟩ (fun r => (∀ c : Dev Cert.GatherSmallRef.nD,
      r.2.mem ((c.tc : Thread Cert.GatherSmallRef.nD Cert.GatherSmallRef.τ).loc Cert.GatherSmallRef.main_arg0) = m ((c.tc : Thread Cert.GatherSmallRef.nD Cert.GatherSmallRef.τ).loc Cert.GatherSmallRef.main_arg0))
      ∧ r.2.sem = fun _ => 0)

def quiescent_GatherGrads [hGatherGrads : Cert.GatherGrads.Facts] : Prop :=
  ∀ (m : (ℓ : Loc Cert.GatherGrads.nD Cert.GatherGrads.τ Cert.GatherGrads.sig) → Buf (Elt Bits) ℓ) (g : Dev Cert.GatherGrads.nD → PrngReg), Pre_GatherGrads m →
    θ_run (Cert.GatherGrads.defs (F := Bits)) (onTc (τ := Cert.GatherGrads.τ) (Cert.GatherGrads.main (F := Bits))) ⟨m, fun _ => 0, g⟩ (fun r => (∀ c : Dev Cert.GatherGrads.nD,
      r.2.mem ((c.tc : Thread Cert.GatherGrads.nD Cert.GatherGrads.τ).loc Cert.GatherGrads.main_arg0) = m ((c.tc : Thread Cert.GatherGrads.nD Cert.GatherGrads.τ).loc Cert.GatherGrads.main_arg0))
      ∧ r.2.sem = fun _ => 0)

def quiescent_GatherGradsIdeal [hGatherGradsIdeal : Cert.GatherGradsIdeal.Facts] : Prop :=
  ∀ (m : (ℓ : Loc Cert.GatherGradsIdeal.nD Cert.GatherGradsIdeal.τ Cert.GatherGradsIdeal.sig) → Buf (Elt Ideal) ℓ) (g : Dev Cert.GatherGradsIdeal.nD → PrngReg), Pre_GatherGradsIdeal m →
    θ_run (Cert.GatherGradsIdeal.defs (F := Ideal)) (onTc (τ := Cert.GatherGradsIdeal.τ) (Cert.GatherGradsIdeal.main (F := Ideal))) ⟨m, fun _ => 0, g⟩ (fun r => (∀ c : Dev Cert.GatherGradsIdeal.nD,
      r.2.mem ((c.tc : Thread Cert.GatherGradsIdeal.nD Cert.GatherGradsIdeal.τ).loc Cert.GatherGradsIdeal.main_arg0) = m ((c.tc : Thread Cert.GatherGradsIdeal.nD Cert.GatherGradsIdeal.τ).loc Cert.GatherGradsIdeal.main_arg0))
      ∧ r.2.sem = fun _ => 0)

def quiescent_GatherGradsRefIdeal [hGatherGradsRefIdeal : Cert.GatherGradsRefIdeal.Facts] : Prop :=
  ∀ (m : (ℓ : Loc Cert.GatherGradsRefIdeal.nD Cert.GatherGradsRefIdeal.τ Cert.GatherGradsRefIdeal.sig) → Buf (Elt Ideal) ℓ) (g : Dev Cert.GatherGradsRefIdeal.nD → PrngReg), Pre_GatherGradsRefIdeal m →
    θ_run (Cert.GatherGradsRefIdeal.defs (F := Ideal)) (onTc (τ := Cert.GatherGradsRefIdeal.τ) (Cert.GatherGradsRefIdeal.main (F := Ideal))) ⟨m, fun _ => 0, g⟩ (fun r => (∀ c : Dev Cert.GatherGradsRefIdeal.nD,
      r.2.mem ((c.tc : Thread Cert.GatherGradsRefIdeal.nD Cert.GatherGradsRefIdeal.τ).loc Cert.GatherGradsRefIdeal.main_arg0) = m ((c.tc : Thread Cert.GatherGradsRefIdeal.nD Cert.GatherGradsRefIdeal.τ).loc Cert.GatherGradsRefIdeal.main_arg0))
      ∧ r.2.sem = fun _ => 0)

def quiescent_GatherGradsRef [hGatherGradsRef : Cert.GatherGradsRef.Facts] : Prop :=
  ∀ (m : (ℓ : Loc Cert.GatherGradsRef.nD Cert.GatherGradsRef.τ Cert.GatherGradsRef.sig) → Buf (Elt Bits) ℓ) (g : Dev Cert.GatherGradsRef.nD → PrngReg), Pre_GatherGradsRef m →
    θ_run (Cert.GatherGradsRef.defs (F := Bits)) (onTc (τ := Cert.GatherGradsRef.τ) (Cert.GatherGradsRef.main (F := Bits))) ⟨m, fun _ => 0, g⟩ (fun r => (∀ c : Dev Cert.GatherGradsRef.nD,
      r.2.mem ((c.tc : Thread Cert.GatherGradsRef.nD Cert.GatherGradsRef.τ).loc Cert.GatherGradsRef.main_arg0) = m ((c.tc : Thread Cert.GatherGradsRef.nD Cert.GatherGradsRef.τ).loc Cert.GatherGradsRef.main_arg0))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3))
      ∧ r.2.sem = fun _ => 0)

def quiescent_Rep [hRep : Cert.Rep.Facts] : Prop :=
  ∀ (m : (ℓ : Loc Cert.Rep.nD Cert.Rep.τ Cert.Rep.sig) → Buf (Elt Bits) ℓ) (g : Dev Cert.Rep.nD → PrngReg), Pre_Rep m →
    θ_run (Cert.Rep.defs (F := Bits)) (onTc (τ := Cert.Rep.τ) (Cert.Rep.main (F := Bits))) ⟨m, fun _ => 0, g⟩ (fun r => (∀ c : Dev Cert.Rep.nD,
      r.2.mem ((c.tc : Thread Cert.Rep.nD Cert.Rep.τ).loc Cert.Rep.main_arg0) = m ((c.tc : Thread Cert.Rep.nD Cert.Rep.τ).loc Cert.Rep.main_arg0)
      ∧ r.2.mem ((c.tc : Thread Cert.Rep.nD Cert.Rep.τ).loc Cert.Rep.main_arg1) = m ((c.tc : Thread Cert.Rep.nD Cert.Rep.τ).loc Cert.Rep.main_arg1)
      ∧ r.2.mem ((c.tc : Thread Cert.Rep.nD Cert.Rep.τ).loc Cert.Rep.main_arg2) = m ((c.tc : Thread Cert.Rep.nD Cert.Rep.τ).loc Cert.Rep.main_arg2)
      ∧ r.2.mem ((c.tc : Thread Cert.Rep.nD Cert.Rep.τ).loc Cert.Rep.main_arg3) = m ((c.tc : Thread Cert.Rep.nD Cert.Rep.τ).loc Cert.Rep.main_arg3))
      ∧ r.2.sem = fun _ => 0)

def quiescent_RepIdeal [hRepIdeal : Cert.RepIdeal.Facts] : Prop :=
  ∀ (m : (ℓ : Loc Cert.RepIdeal.nD Cert.RepIdeal.τ Cert.RepIdeal.sig) → Buf (Elt Ideal) ℓ) (g : Dev Cert.RepIdeal.nD → PrngReg), Pre_RepIdeal m →
    θ_run (Cert.RepIdeal.defs (F := Ideal)) (onTc (τ := Cert.RepIdeal.τ) (Cert.RepIdeal.main (F := Ideal))) ⟨m, fun _ => 0, g⟩ (fun r => (∀ c : Dev Cert.RepIdeal.nD,
      r.2.mem ((c.tc : Thread Cert.RepIdeal.nD Cert.RepIdeal.τ).loc Cert.RepIdeal.main_arg0) = m ((c.tc : Thread Cert.RepIdeal.nD Cert.RepIdeal.τ).loc Cert.RepIdeal.main_arg0)
      ∧ r.2.mem ((c.tc : Thread Cert.RepIdeal.nD Cert.RepIdeal.τ).loc Cert.RepIdeal.main_arg1) = m ((c.tc : Thread Cert.RepIdeal.nD Cert.RepIdeal.τ).loc Cert.RepIdeal.main_arg1)
      ∧ r.2.mem ((c.tc : Thread Cert.RepIdeal.nD Cert.RepIdeal.τ).loc Cert.RepIdeal.main_arg2) = m ((c.tc : Thread Cert.RepIdeal.nD Cert.RepIdeal.τ).loc Cert.RepIdeal.main_arg2)
      ∧ r.2.mem ((c.tc : Thread Cert.RepIdeal.nD Cert.RepIdeal.τ).loc Cert.RepIdeal.main_arg3) = m ((c.tc : Thread Cert.RepIdeal.nD Cert.RepIdeal.τ).loc Cert.RepIdeal.main_arg3))
      ∧ r.2.sem = fun _ => 0)

def quiescent_RepRefIdeal [hRepRefIdeal : Cert.RepRefIdeal.Facts] : Prop :=
  ∀ (m : (ℓ : Loc Cert.RepRefIdeal.nD Cert.RepRefIdeal.τ Cert.RepRefIdeal.sig) → Buf (Elt Ideal) ℓ) (g : Dev Cert.RepRefIdeal.nD → PrngReg), Pre_RepRefIdeal m →
    θ_run (Cert.RepRefIdeal.defs (F := Ideal)) (onTc (τ := Cert.RepRefIdeal.τ) (Cert.RepRefIdeal.main (F := Ideal))) ⟨m, fun _ => 0, g⟩ (fun r => (∀ c : Dev Cert.RepRefIdeal.nD,
      r.2.mem ((c.tc : Thread Cert.RepRefIdeal.nD Cert.RepRefIdeal.τ).loc Cert.RepRefIdeal.main_arg0) = m ((c.tc : Thread Cert.RepRefIdeal.nD Cert.RepRefIdeal.τ).loc Cert.RepRefIdeal.main_arg0)
      ∧ r.2.mem ((c.tc : Thread Cert.RepRefIdeal.nD Cert.RepRefIdeal.τ).loc Cert.RepRefIdeal.main_arg1) = m ((c.tc : Thread Cert.RepRefIdeal.nD Cert.RepRefIdeal.τ).loc Cert.RepRefIdeal.main_arg1)
      ∧ r.2.mem ((c.tc : Thread Cert.RepRefIdeal.nD Cert.RepRefIdeal.τ).loc Cert.RepRefIdeal.main_arg2) = m ((c.tc : Thread Cert.RepRefIdeal.nD Cert.RepRefIdeal.τ).loc Cert.RepRefIdeal.main_arg2)
      ∧ r.2.mem ((c.tc : Thread Cert.RepRefIdeal.nD Cert.RepRefIdeal.τ).loc Cert.RepRefIdeal.main_arg3) = m ((c.tc : Thread Cert.RepRefIdeal.nD Cert.RepRefIdeal.τ).loc Cert.RepRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_DwAda [hDwAda : Cert.DwAda.Facts] : Prop :=
  ∀ (m : (ℓ : Loc Cert.DwAda.nD Cert.DwAda.τ Cert.DwAda.sig) → Buf (Elt Bits) ℓ) (g : Dev Cert.DwAda.nD → PrngReg), Pre_DwAda m →
    θ_run (Cert.DwAda.defs (F := Bits)) (onTc (τ := Cert.DwAda.τ) (Cert.DwAda.main (F := Bits))) ⟨m, fun _ => 0, g⟩ (fun r => (∀ c : Dev Cert.DwAda.nD,
      r.2.mem ((c.tc : Thread Cert.DwAda.nD Cert.DwAda.τ).loc Cert.DwAda.main_arg0) = m ((c.tc : Thread Cert.DwAda.nD Cert.DwAda.τ).loc Cert.DwAda.main_arg0)
      ∧ r.2.mem ((c.tc : Thread Cert.DwAda.nD Cert.DwAda.τ).loc Cert.DwAda.main_arg1) = m ((c.tc : Thread Cert.DwAda.nD Cert.DwAda.τ).loc Cert.DwAda.main_arg1))
      ∧ r.2.sem = fun _ => 0)

def quiescent_DwAdaIdeal [hDwAdaIdeal : Cert.DwAdaIdeal.Facts] : Prop :=
  ∀ (m : (ℓ : Loc Cert.DwAdaIdeal.nD Cert.DwAdaIdeal.τ Cert.DwAdaIdeal.sig) → Buf (Elt Ideal) ℓ) (g : Dev Cert.DwAdaIdeal.nD → PrngReg), Pre_DwAdaIdeal m →
    θ_run (Cert.DwAdaIdeal.defs (F := Ideal)) (onTc (τ := Cert.DwAdaIdeal.τ) (Cert.DwAdaIdeal.main (F := Ideal))) ⟨m, fun _ => 0, g⟩ (fun r => (∀ c : Dev Cert.DwAdaIdeal.nD,
      r.2.mem ((c.tc : Thread Cert.DwAdaIdeal.nD Cert.DwAdaIdeal.τ).loc Cert.DwAdaIdeal.main_arg0) = m ((c.tc : Thread Cert.DwAdaIdeal.nD Cert.DwAdaIdeal.τ).loc Cert.DwAdaIdeal.main_arg0)
      ∧ r.2.mem ((c.tc : Thread Cert.DwAdaIdeal.nD Cert.DwAdaIdeal.τ).loc Cert.DwAdaIdeal.main_arg1) = m ((c.tc : Thread Cert.DwAdaIdeal.nD Cert.DwAdaIdeal.τ).loc Cert.DwAdaIdeal.main_arg1))
      ∧ r.2.sem = fun _ => 0)

def quiescent_DwAdaRefIdeal [hDwAdaRefIdeal : Cert.DwAdaRefIdeal.Facts] : Prop :=
  ∀ (m : (ℓ : Loc Cert.DwAdaRefIdeal.nD Cert.DwAdaRefIdeal.τ Cert.DwAdaRefIdeal.sig) → Buf (Elt Ideal) ℓ) (g : Dev Cert.DwAdaRefIdeal.nD → PrngReg), Pre_DwAdaRefIdeal m →
    θ_run (Cert.DwAdaRefIdeal.defs (F := Ideal)) (onTc (τ := Cert.DwAdaRefIdeal.τ) (Cert.DwAdaRefIdeal.main (F := Ideal))) ⟨m, fun _ => 0, g⟩ (fun r => (∀ c : Dev Cert.DwAdaRefIdeal.nD,
      r.2.mem ((c.tc : Thread Cert.DwAdaRefIdeal.nD Cert.DwAdaRefIdeal.τ).loc Cert.DwAdaRefIdeal.main_arg0) = m ((c.tc : Thread Cert.DwAdaRefIdeal.nD Cert.DwAdaRefIdeal.τ).loc Cert.DwAdaRefIdeal.main_arg0)
      ∧ r.2.mem ((c.tc : Thread Cert.DwAdaRefIdeal.nD Cert.DwAdaRefIdeal.τ).loc Cert.DwAdaRefIdeal.main_arg1) = m ((c.tc : Thread Cert.DwAdaRefIdeal.nD Cert.DwAdaRefIdeal.τ).loc Cert.DwAdaRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3)
      ∧ r.2.mem ((c.tc : Thread Cert.Prenorm.nD Cert.Prenorm.τ).loc Cert.Prenorm.main_arg4) = m ((c.tc : Thread Cert.Prenorm.nD Cert.Prenorm.τ).loc Cert.Prenorm.main_arg4))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
      ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3)
      ∧ r.2.mem ((c.tc : Thread Cert.PrenormRefIdeal.nD Cert.PrenormRefIdeal.τ).loc Cert.PrenormRefIdeal.main_arg4) = m ((c.tc : Thread Cert.PrenormRefIdeal.nD Cert.PrenormRefIdeal.τ).loc Cert.PrenormRefIdeal.main_arg4))
      ∧ r.2.sem = fun _ => 0)

def quiescent_PrenormFwd [hPrenormFwd : Cert.PrenormFwd.Facts] : Prop :=
  ∀ (m : (ℓ : Loc Cert.PrenormFwd.nD Cert.PrenormFwd.τ Cert.PrenormFwd.sig) → Buf (Elt Bits) ℓ) (g : Dev Cert.PrenormFwd.nD → PrngReg), Pre_PrenormFwd m →
    θ_run (Cert.PrenormFwd.defs (F := Bits)) (onTc (τ := Cert.PrenormFwd.τ) (Cert.PrenormFwd.main (F := Bits))) ⟨m, fun _ => 0, g⟩ (fun r => (∀ c : Dev Cert.PrenormFwd.nD,
      r.2.mem ((c.tc : Thread Cert.PrenormFwd.nD Cert.PrenormFwd.τ).loc Cert.PrenormFwd.main_arg0) = m ((c.tc : Thread Cert.PrenormFwd.nD Cert.PrenormFwd.τ).loc Cert.PrenormFwd.main_arg0)
      ∧ r.2.mem ((c.tc : Thread Cert.PrenormFwd.nD Cert.PrenormFwd.τ).loc Cert.PrenormFwd.main_arg1) = m ((c.tc : Thread Cert.PrenormFwd.nD Cert.PrenormFwd.τ).loc Cert.PrenormFwd.main_arg1)
      ∧ r.2.mem ((c.tc : Thread Cert.PrenormFwd.nD Cert.PrenormFwd.τ).loc Cert.PrenormFwd.main_arg2) = m ((c.tc : Thread Cert.PrenormFwd.nD Cert.PrenormFwd.τ).loc Cert.PrenormFwd.main_arg2))
      ∧ r.2.sem = fun _ => 0)

def quiescent_PrenormFwdIdeal [hPrenormFwdIdeal : Cert.PrenormFwdIdeal.Facts] : Prop :=
  ∀ (m : (ℓ : Loc Cert.PrenormFwdIdeal.nD Cert.PrenormFwdIdeal.τ Cert.PrenormFwdIdeal.sig) → Buf (Elt Ideal) ℓ) (g : Dev Cert.PrenormFwdIdeal.nD → PrngReg), Pre_PrenormFwdIdeal m →
    θ_run (Cert.PrenormFwdIdeal.defs (F := Ideal)) (onTc (τ := Cert.PrenormFwdIdeal.τ) (Cert.PrenormFwdIdeal.main (F := Ideal))) ⟨m, fun _ => 0, g⟩ (fun r => (∀ c : Dev Cert.PrenormFwdIdeal.nD,
      r.2.mem ((c.tc : Thread Cert.PrenormFwdIdeal.nD Cert.PrenormFwdIdeal.τ).loc Cert.PrenormFwdIdeal.main_arg0) = m ((c.tc : Thread Cert.PrenormFwdIdeal.nD Cert.PrenormFwdIdeal.τ).loc Cert.PrenormFwdIdeal.main_arg0)
      ∧ r.2.mem ((c.tc : Thread Cert.PrenormFwdIdeal.nD Cert.PrenormFwdIdeal.τ).loc Cert.PrenormFwdIdeal.main_arg1) = m ((c.tc : Thread Cert.PrenormFwdIdeal.nD Cert.PrenormFwdIdeal.τ).loc Cert.PrenormFwdIdeal.main_arg1)
      ∧ r.2.mem ((c.tc : Thread Cert.PrenormFwdIdeal.nD Cert.PrenormFwdIdeal.τ).loc Cert.PrenormFwdIdeal.main_arg2) = m ((c.tc : Thread Cert.PrenormFwdIdeal.nD Cert.PrenormFwdIdeal.τ).loc Cert.PrenormFwdIdeal.main_arg2))
      ∧ r.2.sem = fun _ => 0)

def quiescent_PrenormFwdRefIdeal [hPrenormFwdRefIdeal : Cert.PrenormFwdRefIdeal.Facts] : Prop :=
  ∀ (m : (ℓ : Loc Cert.PrenormFwdRefIdeal.nD Cert.PrenormFwdRefIdeal.τ Cert.PrenormFwdRefIdeal.sig) → Buf (Elt Ideal) ℓ) (g : Dev Cert.PrenormFwdRefIdeal.nD → PrngReg), Pre_PrenormFwdRefIdeal m →
    θ_run (Cert.PrenormFwdRefIdeal.defs (F := Ideal)) (onTc (τ := Cert.PrenormFwdRefIdeal.τ) (Cert.PrenormFwdRefIdeal.main (F := Ideal))) ⟨m, fun _ => 0, g⟩ (fun r => (∀ c : Dev Cert.PrenormFwdRefIdeal.nD,
      r.2.mem ((c.tc : Thread Cert.PrenormFwdRefIdeal.nD Cert.PrenormFwdRefIdeal.τ).loc Cert.PrenormFwdRefIdeal.main_arg0) = m ((c.tc : Thread Cert.PrenormFwdRefIdeal.nD Cert.PrenormFwdRefIdeal.τ).loc Cert.PrenormFwdRefIdeal.main_arg0)
      ∧ r.2.mem ((c.tc : Thread Cert.PrenormFwdRefIdeal.nD Cert.PrenormFwdRefIdeal.τ).loc Cert.PrenormFwdRefIdeal.main_arg1) = m ((c.tc : Thread Cert.PrenormFwdRefIdeal.nD Cert.PrenormFwdRefIdeal.τ).loc Cert.PrenormFwdRefIdeal.main_arg1)
      ∧ r.2.mem ((c.tc : Thread Cert.PrenormFwdRefIdeal.nD Cert.PrenormFwdRefIdeal.τ).loc Cert.PrenormFwdRefIdeal.main_arg2) = m ((c.tc : Thread Cert.PrenormFwdRefIdeal.nD Cert.PrenormFwdRefIdeal.τ).loc Cert.PrenormFwdRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_heads [hAttnIdeal : Cert.AttnIdeal.Facts] [hPre_finite_heads : Cert.Pre_finite_heads.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_heads m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_heads [hAttnRefIdeal : Cert.AttnRefIdeal.Facts] [hPre_finite_heads : Cert.Pre_finite_heads.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_heads m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1))
      ∧ r.2.sem = fun _ => 0)

def quiescent_DmRefIdeal [hDmRefIdeal : Cert.DmRefIdeal.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![8, 33856, 128]⟩ ⟨3, ![64, 33856, 128]⟩ 0 8 c (m' (((0 : Dev Cert.ExchangeRefIdeal.nD).tc : Thread Cert.ExchangeRefIdeal.nD Cert.ExchangeRefIdeal.τ).loc Cert.ExchangeRefIdeal.main_arg0))) →
    ∃ (v0 : Buf (Elt Ideal) (((0 : Dev Cert.ExchangeRefIdeal.nD).tc : Thread Cert.ExchangeRefIdeal.nD Cert.ExchangeRefIdeal.τ).loc Cert.ExchangeRefIdeal.main_v2)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.block ⟨3, ![8, 33856, 128]⟩ ⟨3, ![64, 33856, 128]⟩ 0 8 c v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v2) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![8, 33856, 128]⟩ ⟨3, ![64, 33856, 128]⟩ 0 8 c (m' (((0 : Dev Cert.ExchangeRef.nD).tc : Thread Cert.ExchangeRef.nD Cert.ExchangeRef.τ).loc Cert.ExchangeRef.main_arg0))) →
    ∃ (v0 : Buf (Elt Bits) (((0 : Dev Cert.ExchangeRef.nD).tc : Thread Cert.ExchangeRef.nD Cert.ExchangeRef.τ).loc Cert.ExchangeRef.main_v2)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1) = Layout.block ⟨3, ![8, 33856, 128]⟩ ⟨3, ![64, 33856, 128]⟩ 0 8 c v0
          ∧ r.2.mem ((c.tc : Thread Cert.Exchange.nD Cert.Exchange.τ).loc Cert.Exchange.main_arg0) = m ((c.tc : Thread Cert.Exchange.nD Cert.Exchange.τ).loc Cert.Exchange.main_arg0))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v2) = v0
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![40000, 128]⟩ ⟨2, ![320000, 128]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![40000, 128]⟩ ⟨2, ![320000, 128]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_GatherSmall_GatherSmallIdeal : Prop :=
  True

def algebraic_GatherSmallIdeal_GatherSmallRefIdeal [hGatherSmallIdeal : Cert.GatherSmallIdeal.Facts] [hGatherSmallRefIdeal : Cert.GatherSmallRefIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallRefIdeal.nD Cert.GatherSmallRefIdeal.τ Cert.GatherSmallRefIdeal.sig) → Buf (Elt Ideal) ℓ) (g' : Dev Cert.GatherSmallRefIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![40, 128]⟩ ⟨2, ![320, 128]⟩ 0 8 c (m' (((0 : Dev Cert.GatherSmallRefIdeal.nD).tc : Thread Cert.GatherSmallRefIdeal.nD Cert.GatherSmallRefIdeal.τ).loc Cert.GatherSmallRefIdeal.main_arg0))) →
    ∃ (v0 : Buf (Elt Ideal) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := Ideal)) (onTc (τ := Cert.GatherSmallRefIdeal.τ) (Cert.GatherSmallRefIdeal.main (F := Ideal))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0))

def bitexact_GatherSmall_GatherSmallRef [hGatherSmall : Cert.GatherSmall.Facts] [hGatherSmallRef : Cert.GatherSmallRef.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallRef.nD Cert.GatherSmallRef.τ Cert.GatherSmallRef.sig) → Buf (Elt Bits) ℓ) (g' : Dev Cert.GatherSmallRef.nD → PrngReg), Pre_GatherSmall m →
    (∀ c : Dev Cert.GatherSmall.nD,
      m ((c.tc : Thread Cert.GatherSmall.nD Cert.GatherSmall.τ).loc Cert.GatherSmall.main_arg0) = Layout.block ⟨2, ![40, 128]⟩ ⟨2, ![320, 128]⟩ 0 8 c (m' (((0 : Dev Cert.GatherSmallRef.nD).tc : Thread Cert.GatherSmallRef.nD Cert.GatherSmallRef.τ).loc Cert.GatherSmallRef.main_arg0))) →
    ∃ (v0 : Buf (Elt Bits) (((0 : Dev Cert.GatherSmallRef.nD).tc : Thread Cert.GatherSmallRef.nD Cert.GatherSmallRef.τ).loc Cert.GatherSmallRef.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallRef.defs (F := Bits)) (onTc (τ := Cert.GatherSmallRef.τ) (Cert.GatherSmallRef.main (F := Bits))) ⟨m', fun _ => 0, g'⟩ (fun r =>
          r.2.mem (((0 : Dev Cert.GatherSmallRef.nD).tc : Thread Cert.GatherSmallRef.nD Cert.GatherSmallRef.τ).loc Cert.GatherSmallRef.main_v0) = v0
          ∧ r.2.mem (((0 : Dev Cert.GatherSmallRef.nD).tc : Thread Cert.GatherSmallRef.nD Cert.GatherSmallRef.τ).loc Cert.GatherSmallRef.main_arg0) = m' (((0 : Dev Cert.GatherSmallRef.nD).tc : Thread Cert.GatherSmallRef.nD Cert.GatherSmallRef.τ).loc Cert.GatherSmallRef.main_arg0))

def preserves_GatherGrads_GatherGradsIdeal : Prop :=
  True

def algebraic_GatherGradsIdeal_GatherGradsRefIdeal [hGatherGradsIdeal : Cert.GatherGradsIdeal.Facts] [hGatherGradsRefIdeal : Cert.GatherGradsRefIdeal.Facts] : Prop :=
  ∀ (m : (ℓ : Loc Cert.GatherGradsIdeal.nD Cert.GatherGradsIdeal.τ Cert.GatherGradsIdeal.sig) → Buf (Elt Ideal) ℓ) (g : Dev Cert.GatherGradsIdeal.nD → PrngReg)
    (m' : (ℓ : Loc Cert.GatherGradsRefIdeal.nD Cert.GatherGradsRefIdeal.τ Cert.GatherGradsRefIdeal.sig) → Buf (Elt Ideal) ℓ) (g' : Dev Cert.GatherGradsRefIdeal.nD → PrngReg), Pre_GatherGradsIdeal m →
    (∀ c : Dev Cert.GatherGradsIdeal.nD,
      m ((c.tc : Thread Cert.GatherGradsIdeal.nD Cert.GatherGradsIdeal.τ).loc Cert.GatherGradsIdeal.main_arg0) = Layout.block ⟨2, ![592, 128]⟩ ⟨2, ![4736, 128]⟩ 0 8 c (m' (((0 : Dev Cert.GatherGradsRefIdeal.nD).tc : Thread Cert.GatherGradsRefIdeal.nD Cert.GatherGradsRefIdeal.τ).loc Cert.GatherGradsRefIdeal.main_arg0))) →
    ∃ (v0 : Buf (Elt Ideal) (((0 : Dev Cert.GatherGradsRefIdeal.nD).tc : Thread Cert.GatherGradsRefIdeal.nD Cert.GatherGradsRefIdeal.τ).loc Cert.GatherGradsRefIdeal.main_v0)),
      θ_run (Cert.GatherGradsIdeal.defs (F := Ideal)) (onTc (τ := Cert.GatherGradsIdeal.τ) (Cert.GatherGradsIdeal.main (F := Ideal))) ⟨m, fun _ => 0, g⟩ (fun r => ∀ c : Dev Cert.GatherGradsIdeal.nD,
          r.2.mem ((c.tc : Thread Cert.GatherGradsIdeal.nD Cert.GatherGradsIdeal.τ).loc Cert.GatherGradsIdeal.main_v1) = v0
          ∧ r.2.mem ((c.tc : Thread Cert.GatherGradsIdeal.nD Cert.GatherGradsIdeal.τ).loc Cert.GatherGradsIdeal.main_arg0) = m ((c.tc : Thread Cert.GatherGradsIdeal.nD Cert.GatherGradsIdeal.τ).loc Cert.GatherGradsIdeal.main_arg0))
      ∧ θ_run (Cert.GatherGradsRefIdeal.defs (F := Ideal)) (onTc (τ := Cert.GatherGradsRefIdeal.τ) (Cert.GatherGradsRefIdeal.main (F := Ideal))) ⟨m', fun _ => 0, g'⟩ (fun r =>
          r.2.mem (((0 : Dev Cert.GatherGradsRefIdeal.nD).tc : Thread Cert.GatherGradsRefIdeal.nD Cert.GatherGradsRefIdeal.τ).loc Cert.GatherGradsRefIdeal.main_v0) = v0
          ∧ r.2.mem (((0 : Dev Cert.GatherGradsRefIdeal.nD).tc : Thread Cert.GatherGradsRefIdeal.nD Cert.GatherGradsRefIdeal.τ).loc Cert.GatherGradsRefIdeal.main_arg0) = m' (((0 : Dev Cert.GatherGradsRefIdeal.nD).tc : Thread Cert.GatherGradsRefIdeal.nD Cert.GatherGradsRefIdeal.τ).loc Cert.GatherGradsRefIdeal.main_arg0))

def bitexact_GatherGrads_GatherGradsRef [hGatherGrads : Cert.GatherGrads.Facts] [hGatherGradsRef : Cert.GatherGradsRef.Facts] : Prop :=
  ∀ (m : (ℓ : Loc Cert.GatherGrads.nD Cert.GatherGrads.τ Cert.GatherGrads.sig) → Buf (Elt Bits) ℓ) (g : Dev Cert.GatherGrads.nD → PrngReg)
    (m' : (ℓ : Loc Cert.GatherGradsRef.nD Cert.GatherGradsRef.τ Cert.GatherGradsRef.sig) → Buf (Elt Bits) ℓ) (g' : Dev Cert.GatherGradsRef.nD → PrngReg), Pre_GatherGrads m →
    (∀ c : Dev Cert.GatherGrads.nD,
      m ((c.tc : Thread Cert.GatherGrads.nD Cert.GatherGrads.τ).loc Cert.GatherGrads.main_arg0) = Layout.block ⟨2, ![592, 128]⟩ ⟨2, ![4736, 128]⟩ 0 8 c (m' (((0 : Dev Cert.GatherGradsRef.nD).tc : Thread Cert.GatherGradsRef.nD Cert.GatherGradsRef.τ).loc Cert.GatherGradsRef.main_arg0))) →
    ∃ (v0 : Buf (Elt Bits) (((0 : Dev Cert.GatherGradsRef.nD).tc : Thread Cert.GatherGradsRef.nD Cert.GatherGradsRef.τ).loc Cert.GatherGradsRef.main_v0)),
      θ_run (Cert.GatherGrads.defs (F := Bits)) (onTc (τ := Cert.GatherGrads.τ) (Cert.GatherGrads.main (F := Bits))) ⟨m, fun _ => 0, g⟩ (fun r => ∀ c : Dev Cert.GatherGrads.nD,
          r.2.mem ((c.tc : Thread Cert.GatherGrads.nD Cert.GatherGrads.τ).loc Cert.GatherGrads.main_v1) = v0
          ∧ r.2.mem ((c.tc : Thread Cert.GatherGrads.nD Cert.GatherGrads.τ).loc Cert.GatherGrads.main_arg0) = m ((c.tc : Thread Cert.GatherGrads.nD Cert.GatherGrads.τ).loc Cert.GatherGrads.main_arg0))
      ∧ θ_run (Cert.GatherGradsRef.defs (F := Bits)) (onTc (τ := Cert.GatherGradsRef.τ) (Cert.GatherGradsRef.main (F := Bits))) ⟨m', fun _ => 0, g'⟩ (fun r =>
          r.2.mem (((0 : Dev Cert.GatherGradsRef.nD).tc : Thread Cert.GatherGradsRef.nD Cert.GatherGradsRef.τ).loc Cert.GatherGradsRef.main_v0) = v0
          ∧ r.2.mem (((0 : Dev Cert.GatherGradsRef.nD).tc : Thread Cert.GatherGradsRef.nD Cert.GatherGradsRef.τ).loc Cert.GatherGradsRef.main_arg0) = m' (((0 : Dev Cert.GatherGradsRef.nD).tc : Thread Cert.GatherGradsRef.nD Cert.GatherGradsRef.τ).loc Cert.GatherGradsRef.main_arg0))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v0_0)) (v1 : (c : Dev Cert.UpdateIdeal.nD) → Buf (Elt Ideal) ((c.tc : Thread Cert.UpdateIdeal.nD Cert.UpdateIdeal.τ).loc Cert.UpdateIdeal.main_v0_1)) (v2 : (c : Dev Cert.UpdateIdeal.nD) → Buf (Elt Ideal) ((c.tc : Thread Cert.UpdateIdeal.nD Cert.UpdateIdeal.τ).loc Cert.UpdateIdeal.main_v0_2)) (v3 : (c : Dev Cert.UpdateIdeal.nD) → Buf (Elt Ideal) ((c.tc : Thread Cert.UpdateIdeal.nD Cert.UpdateIdeal.τ).loc Cert.UpdateIdeal.main_v0_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v0_0) = v0 c
          ∧ r.2.mem ((c.tc : Thread Cert.UpdateIdeal.nD Cert.UpdateIdeal.τ).loc Cert.UpdateIdeal.main_v0_1) = v1 c
          ∧ r.2.mem ((c.tc : Thread Cert.UpdateIdeal.nD Cert.UpdateIdeal.τ).loc Cert.UpdateIdeal.main_v0_2) = v2 c
          ∧ r.2.mem ((c.tc : Thread Cert.UpdateIdeal.nD Cert.UpdateIdeal.τ).loc Cert.UpdateIdeal.main_v0_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v0) = v0 c
          ∧ r.2.mem ((c.tc : Thread Cert.UpdateRefIdeal.nD Cert.UpdateRefIdeal.τ).loc Cert.UpdateRefIdeal.main_v24) = v1 c
          ∧ r.2.mem ((c.tc : Thread Cert.UpdateRefIdeal.nD Cert.UpdateRefIdeal.τ).loc Cert.UpdateRefIdeal.main_v5) = v2 c
          ∧ r.2.mem ((c.tc : Thread Cert.UpdateRefIdeal.nD Cert.UpdateRefIdeal.τ).loc Cert.UpdateRefIdeal.main_v11) = v3 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3))

def preserves_Rep_RepIdeal : Prop :=
  True

def algebraic_RepIdeal_RepRefIdeal [hRepIdeal : Cert.RepIdeal.Facts] [hRepRefIdeal : Cert.RepRefIdeal.Facts] : Prop :=
  ∀ (m : (ℓ : Loc Cert.RepIdeal.nD Cert.RepIdeal.τ Cert.RepIdeal.sig) → Buf (Elt Ideal) ℓ) (g : Dev Cert.RepIdeal.nD → PrngReg)
    (m' : (ℓ : Loc Cert.RepRefIdeal.nD Cert.RepRefIdeal.τ Cert.RepRefIdeal.sig) → Buf (Elt Ideal) ℓ) (g' : Dev Cert.RepRefIdeal.nD → PrngReg), Pre_RepIdeal m →
    (∀ c : Dev Cert.RepIdeal.nD,
      m' ((c.tc : Thread Cert.RepRefIdeal.nD Cert.RepRefIdeal.τ).loc Cert.RepRefIdeal.main_arg0) = m ((c.tc : Thread Cert.RepIdeal.nD Cert.RepIdeal.τ).loc Cert.RepIdeal.main_arg0)
      ∧ m' ((c.tc : Thread Cert.RepRefIdeal.nD Cert.RepRefIdeal.τ).loc Cert.RepRefIdeal.main_arg1) = m ((c.tc : Thread Cert.RepIdeal.nD Cert.RepIdeal.τ).loc Cert.RepIdeal.main_arg1)
      ∧ m' ((c.tc : Thread Cert.RepRefIdeal.nD Cert.RepRefIdeal.τ).loc Cert.RepRefIdeal.main_arg2) = m ((c.tc : Thread Cert.RepIdeal.nD Cert.RepIdeal.τ).loc Cert.RepIdeal.main_arg2)
      ∧ m' ((c.tc : Thread Cert.RepRefIdeal.nD Cert.RepRefIdeal.τ).loc Cert.RepRefIdeal.main_arg3) = m ((c.tc : Thread Cert.RepIdeal.nD Cert.RepIdeal.τ).loc Cert.RepIdeal.main_arg3)) →
    ∃ (v0 : (c : Dev Cert.RepIdeal.nD) → Buf (Elt Ideal) ((c.tc : Thread Cert.RepIdeal.nD Cert.RepIdeal.τ).loc Cert.RepIdeal.main_v0_0)) (v1 : (c : Dev Cert.RepIdeal.nD) → Buf (Elt Ideal) ((c.tc : Thread Cert.RepIdeal.nD Cert.RepIdeal.τ).loc Cert.RepIdeal.main_v0_1)) (v2 : (c : Dev Cert.RepIdeal.nD) → Buf (Elt Ideal) ((c.tc : Thread Cert.RepIdeal.nD Cert.RepIdeal.τ).loc Cert.RepIdeal.main_v0_2)) (v3 : (c : Dev Cert.RepIdeal.nD) → Buf (Elt Ideal) ((c.tc : Thread Cert.RepIdeal.nD Cert.RepIdeal.τ).loc Cert.RepIdeal.main_v0_3)),
      θ_run (Cert.RepIdeal.defs (F := Ideal)) (onTc (τ := Cert.RepIdeal.τ) (Cert.RepIdeal.main (F := Ideal))) ⟨m, fun _ => 0, g⟩ (fun r => ∀ c : Dev Cert.RepIdeal.nD,
          r.2.mem ((c.tc : Thread Cert.RepIdeal.nD Cert.RepIdeal.τ).loc Cert.RepIdeal.main_v0_0) = v0 c
          ∧ r.2.mem ((c.tc : Thread Cert.RepIdeal.nD Cert.RepIdeal.τ).loc Cert.RepIdeal.main_v0_1) = v1 c
          ∧ r.2.mem ((c.tc : Thread Cert.RepIdeal.nD Cert.RepIdeal.τ).loc Cert.RepIdeal.main_v0_2) = v2 c
          ∧ r.2.mem ((c.tc : Thread Cert.RepIdeal.nD Cert.RepIdeal.τ).loc Cert.RepIdeal.main_v0_3) = v3 c
          ∧ r.2.mem ((c.tc : Thread Cert.RepIdeal.nD Cert.RepIdeal.τ).loc Cert.RepIdeal.main_arg0) = m ((c.tc : Thread Cert.RepIdeal.nD Cert.RepIdeal.τ).loc Cert.RepIdeal.main_arg0)
          ∧ r.2.mem ((c.tc : Thread Cert.RepIdeal.nD Cert.RepIdeal.τ).loc Cert.RepIdeal.main_arg1) = m ((c.tc : Thread Cert.RepIdeal.nD Cert.RepIdeal.τ).loc Cert.RepIdeal.main_arg1)
          ∧ r.2.mem ((c.tc : Thread Cert.RepIdeal.nD Cert.RepIdeal.τ).loc Cert.RepIdeal.main_arg2) = m ((c.tc : Thread Cert.RepIdeal.nD Cert.RepIdeal.τ).loc Cert.RepIdeal.main_arg2)
          ∧ r.2.mem ((c.tc : Thread Cert.RepIdeal.nD Cert.RepIdeal.τ).loc Cert.RepIdeal.main_arg3) = m ((c.tc : Thread Cert.RepIdeal.nD Cert.RepIdeal.τ).loc Cert.RepIdeal.main_arg3))
      ∧ θ_run (Cert.RepRefIdeal.defs (F := Ideal)) (onTc (τ := Cert.RepRefIdeal.τ) (Cert.RepRefIdeal.main (F := Ideal))) ⟨m', fun _ => 0, g'⟩ (fun r => ∀ c : Dev Cert.RepRefIdeal.nD,
          r.2.mem ((c.tc : Thread Cert.RepRefIdeal.nD Cert.RepRefIdeal.τ).loc Cert.RepRefIdeal.main_v0) = v0 c
          ∧ r.2.mem ((c.tc : Thread Cert.RepRefIdeal.nD Cert.RepRefIdeal.τ).loc Cert.RepRefIdeal.main_v24) = v1 c
          ∧ r.2.mem ((c.tc : Thread Cert.RepRefIdeal.nD Cert.RepRefIdeal.τ).loc Cert.RepRefIdeal.main_v5) = v2 c
          ∧ r.2.mem ((c.tc : Thread Cert.RepRefIdeal.nD Cert.RepRefIdeal.τ).loc Cert.RepRefIdeal.main_v11) = v3 c
          ∧ r.2.mem ((c.tc : Thread Cert.RepRefIdeal.nD Cert.RepRefIdeal.τ).loc Cert.RepRefIdeal.main_arg0) = m' ((c.tc : Thread Cert.RepRefIdeal.nD Cert.RepRefIdeal.τ).loc Cert.RepRefIdeal.main_arg0)
          ∧ r.2.mem ((c.tc : Thread Cert.RepRefIdeal.nD Cert.RepRefIdeal.τ).loc Cert.RepRefIdeal.main_arg1) = m' ((c.tc : Thread Cert.RepRefIdeal.nD Cert.RepRefIdeal.τ).loc Cert.RepRefIdeal.main_arg1)
          ∧ r.2.mem ((c.tc : Thread Cert.RepRefIdeal.nD Cert.RepRefIdeal.τ).loc Cert.RepRefIdeal.main_arg2) = m' ((c.tc : Thread Cert.RepRefIdeal.nD Cert.RepRefIdeal.τ).loc Cert.RepRefIdeal.main_arg2)
          ∧ r.2.mem ((c.tc : Thread Cert.RepRefIdeal.nD Cert.RepRefIdeal.τ).loc Cert.RepRefIdeal.main_arg3) = m' ((c.tc : Thread Cert.RepRefIdeal.nD Cert.RepRefIdeal.τ).loc Cert.RepRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)) (v2 : (c : Dev Cert.AdaIdeal.nD) → Buf (Elt Ideal) ((c.tc : Thread Cert.AdaIdeal.nD Cert.AdaIdeal.τ).loc Cert.AdaIdeal.main_v0_2)) (v3 : (c : Dev Cert.AdaIdeal.nD) → Buf (Elt Ideal) ((c.tc : Thread Cert.AdaIdeal.nD Cert.AdaIdeal.τ).loc Cert.AdaIdeal.main_v0_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_v0_2) = v2 c
          ∧ r.2.mem ((c.tc : Thread Cert.AdaIdeal.nD Cert.AdaIdeal.τ).loc Cert.AdaIdeal.main_v0_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v0) = v0 c
          ∧ r.2.mem ((c.tc : Thread Cert.AdaRefIdeal.nD Cert.AdaRefIdeal.τ).loc Cert.AdaRefIdeal.main_v24) = v1 c
          ∧ r.2.mem ((c.tc : Thread Cert.AdaRefIdeal.nD Cert.AdaRefIdeal.τ).loc Cert.AdaRefIdeal.main_v5) = v2 c
          ∧ r.2.mem ((c.tc : Thread Cert.AdaRefIdeal.nD Cert.AdaRefIdeal.τ).loc Cert.AdaRefIdeal.main_v11) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_DwAda_DwAdaIdeal : Prop :=
  True

def algebraic_DwAdaIdeal_DwAdaRefIdeal [hDwAdaIdeal : Cert.DwAdaIdeal.Facts] [hDwAdaRefIdeal : Cert.DwAdaRefIdeal.Facts] : Prop :=
  ∀ (m : (ℓ : Loc Cert.DwAdaIdeal.nD Cert.DwAdaIdeal.τ Cert.DwAdaIdeal.sig) → Buf (Elt Ideal) ℓ) (g : Dev Cert.DwAdaIdeal.nD → PrngReg)
    (m' : (ℓ : Loc Cert.DwAdaRefIdeal.nD Cert.DwAdaRefIdeal.τ Cert.DwAdaRefIdeal.sig) → Buf (Elt Ideal) ℓ) (g' : Dev Cert.DwAdaRefIdeal.nD → PrngReg), Pre_DwAdaIdeal m →
    (∀ c : Dev Cert.DwAdaIdeal.nD,
      m' ((c.tc : Thread Cert.DwAdaRefIdeal.nD Cert.DwAdaRefIdeal.τ).loc Cert.DwAdaRefIdeal.main_arg0) = m ((c.tc : Thread Cert.DwAdaIdeal.nD Cert.DwAdaIdeal.τ).loc Cert.DwAdaIdeal.main_arg0)
      ∧ m' ((c.tc : Thread Cert.DwAdaRefIdeal.nD Cert.DwAdaRefIdeal.τ).loc Cert.DwAdaRefIdeal.main_arg1) = m ((c.tc : Thread Cert.DwAdaIdeal.nD Cert.DwAdaIdeal.τ).loc Cert.DwAdaIdeal.main_arg1)) →
    ∃ (v0 : (c : Dev Cert.DwAdaIdeal.nD) → Buf (Elt Ideal) ((c.tc : Thread Cert.DwAdaIdeal.nD Cert.DwAdaIdeal.τ).loc Cert.DwAdaIdeal.main_v0)),
      θ_run (Cert.DwAdaIdeal.defs (F := Ideal)) (onTc (τ := Cert.DwAdaIdeal.τ) (Cert.DwAdaIdeal.main (F := Ideal))) ⟨m, fun _ => 0, g⟩ (fun r => ∀ c : Dev Cert.DwAdaIdeal.nD,
          r.2.mem ((c.tc : Thread Cert.DwAdaIdeal.nD Cert.DwAdaIdeal.τ).loc Cert.DwAdaIdeal.main_v0) = v0 c
          ∧ r.2.mem ((c.tc : Thread Cert.DwAdaIdeal.nD Cert.DwAdaIdeal.τ).loc Cert.DwAdaIdeal.main_arg0) = m ((c.tc : Thread Cert.DwAdaIdeal.nD Cert.DwAdaIdeal.τ).loc Cert.DwAdaIdeal.main_arg0)
          ∧ r.2.mem ((c.tc : Thread Cert.DwAdaIdeal.nD Cert.DwAdaIdeal.τ).loc Cert.DwAdaIdeal.main_arg1) = m ((c.tc : Thread Cert.DwAdaIdeal.nD Cert.DwAdaIdeal.τ).loc Cert.DwAdaIdeal.main_arg1))
      ∧ θ_run (Cert.DwAdaRefIdeal.defs (F := Ideal)) (onTc (τ := Cert.DwAdaRefIdeal.τ) (Cert.DwAdaRefIdeal.main (F := Ideal))) ⟨m', fun _ => 0, g'⟩ (fun r => ∀ c : Dev Cert.DwAdaRefIdeal.nD,
          r.2.mem ((c.tc : Thread Cert.DwAdaRefIdeal.nD Cert.DwAdaRefIdeal.τ).loc Cert.DwAdaRefIdeal.main_v1) = v0 c
          ∧ r.2.mem ((c.tc : Thread Cert.DwAdaRefIdeal.nD Cert.DwAdaRefIdeal.τ).loc Cert.DwAdaRefIdeal.main_arg0) = m' ((c.tc : Thread Cert.DwAdaRefIdeal.nD Cert.DwAdaRefIdeal.τ).loc Cert.DwAdaRefIdeal.main_arg0)
          ∧ r.2.mem ((c.tc : Thread Cert.DwAdaRefIdeal.nD Cert.DwAdaRefIdeal.τ).loc Cert.DwAdaRefIdeal.main_arg1) = m' ((c.tc : Thread Cert.DwAdaRefIdeal.nD Cert.DwAdaRefIdeal.τ).loc Cert.DwAdaRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v16) = v0 c
          ∧ r.2.mem ((c.tc : Thread Cert.LossRefIdeal.nD Cert.LossRefIdeal.τ).loc Cert.LossRefIdeal.main_v21) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)
      ∧ m' ((c.tc : Thread Cert.PrenormRefIdeal.nD Cert.PrenormRefIdeal.τ).loc Cert.PrenormRefIdeal.main_arg4) = m ((c.tc : Thread Cert.PrenormIdeal.nD Cert.PrenormIdeal.τ).loc Cert.PrenormIdeal.main_arg4)) →
    ∃ (v0 : (c : Dev Cert.PrenormIdeal.nD) → Buf (Elt Ideal) ((c.tc : Thread Cert.PrenormIdeal.nD Cert.PrenormIdeal.τ).loc Cert.PrenormIdeal.main_v0_0)) (v1 : (c : Dev Cert.PrenormIdeal.nD) → Buf (Elt Ideal) ((c.tc : Thread Cert.PrenormIdeal.nD Cert.PrenormIdeal.τ).loc Cert.PrenormIdeal.main_v0_1)) (v2 : (c : Dev Cert.PrenormIdeal.nD) → Buf (Elt Ideal) ((c.tc : Thread Cert.PrenormIdeal.nD Cert.PrenormIdeal.τ).loc Cert.PrenormIdeal.main_v0_2)) (v3 : (c : Dev Cert.PrenormIdeal.nD) → Buf (Elt Ideal) ((c.tc : Thread Cert.PrenormIdeal.nD Cert.PrenormIdeal.τ).loc Cert.PrenormIdeal.main_v0_3)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0_0) = v0 c
          ∧ r.2.mem ((c.tc : Thread Cert.PrenormIdeal.nD Cert.PrenormIdeal.τ).loc Cert.PrenormIdeal.main_v0_1) = v1 c
          ∧ r.2.mem ((c.tc : Thread Cert.PrenormIdeal.nD Cert.PrenormIdeal.τ).loc Cert.PrenormIdeal.main_v0_2) = v2 c
          ∧ r.2.mem ((c.tc : Thread Cert.PrenormIdeal.nD Cert.PrenormIdeal.τ).loc Cert.PrenormIdeal.main_v0_3) = v3 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
          ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v95) = v0 c
          ∧ r.2.mem ((c.tc : Thread Cert.PrenormRefIdeal.nD Cert.PrenormRefIdeal.τ).loc Cert.PrenormRefIdeal.main_v99) = v1 c
          ∧ r.2.mem ((c.tc : Thread Cert.PrenormRefIdeal.nD Cert.PrenormRefIdeal.τ).loc Cert.PrenormRefIdeal.main_v103) = v2 c
          ∧ r.2.mem ((c.tc : Thread Cert.PrenormRefIdeal.nD Cert.PrenormRefIdeal.τ).loc Cert.PrenormRefIdeal.main_v104) = v3 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3)
          ∧ r.2.mem ((c.tc : Thread Cert.PrenormRefIdeal.nD Cert.PrenormRefIdeal.τ).loc Cert.PrenormRefIdeal.main_arg4) = m' ((c.tc : Thread Cert.PrenormRefIdeal.nD Cert.PrenormRefIdeal.τ).loc Cert.PrenormRefIdeal.main_arg4))

def preserves_PrenormFwd_PrenormFwdIdeal : Prop :=
  True

def algebraic_PrenormFwdIdeal_PrenormFwdRefIdeal [hPrenormFwdIdeal : Cert.PrenormFwdIdeal.Facts] [hPrenormFwdRefIdeal : Cert.PrenormFwdRefIdeal.Facts] : Prop :=
  ∀ (m : (ℓ : Loc Cert.PrenormFwdIdeal.nD Cert.PrenormFwdIdeal.τ Cert.PrenormFwdIdeal.sig) → Buf (Elt Ideal) ℓ) (g : Dev Cert.PrenormFwdIdeal.nD → PrngReg)
    (m' : (ℓ : Loc Cert.PrenormFwdRefIdeal.nD Cert.PrenormFwdRefIdeal.τ Cert.PrenormFwdRefIdeal.sig) → Buf (Elt Ideal) ℓ) (g' : Dev Cert.PrenormFwdRefIdeal.nD → PrngReg), Pre_PrenormFwdIdeal m →
    (∀ c : Dev Cert.PrenormFwdIdeal.nD,
      m' ((c.tc : Thread Cert.PrenormFwdRefIdeal.nD Cert.PrenormFwdRefIdeal.τ).loc Cert.PrenormFwdRefIdeal.main_arg0) = m ((c.tc : Thread Cert.PrenormFwdIdeal.nD Cert.PrenormFwdIdeal.τ).loc Cert.PrenormFwdIdeal.main_arg0)
      ∧ m' ((c.tc : Thread Cert.PrenormFwdRefIdeal.nD Cert.PrenormFwdRefIdeal.τ).loc Cert.PrenormFwdRefIdeal.main_arg1) = m ((c.tc : Thread Cert.PrenormFwdIdeal.nD Cert.PrenormFwdIdeal.τ).loc Cert.PrenormFwdIdeal.main_arg1)
      ∧ m' ((c.tc : Thread Cert.PrenormFwdRefIdeal.nD Cert.PrenormFwdRefIdeal.τ).loc Cert.PrenormFwdRefIdeal.main_arg2) = m ((c.tc : Thread Cert.PrenormFwdIdeal.nD Cert.PrenormFwdIdeal.τ).loc Cert.PrenormFwdIdeal.main_arg2)) →
    ∃ (v0 : (c : Dev Cert.PrenormFwdIdeal.nD) → Buf (Elt Ideal) ((c.tc : Thread Cert.PrenormFwdIdeal.nD Cert.PrenormFwdIdeal.τ).loc Cert.PrenormFwdIdeal.main_v0)),
      θ_run (Cert.PrenormFwdIdeal.defs (F := Ideal)) (onTc (τ := Cert.PrenormFwdIdeal.τ) (Cert.PrenormFwdIdeal.main (F := Ideal))) ⟨m, fun _ => 0, g⟩ (fun r => ∀ c : Dev Cert.PrenormFwdIdeal.nD,
          r.2.mem ((c.tc : Thread Cert.PrenormFwdIdeal.nD Cert.PrenormFwdIdeal.τ).loc Cert.PrenormFwdIdeal.main_v0) = v0 c
          ∧ r.2.mem ((c.tc : Thread Cert.PrenormFwdIdeal.nD Cert.PrenormFwdIdeal.τ).loc Cert.PrenormFwdIdeal.main_arg0) = m ((c.tc : Thread Cert.PrenormFwdIdeal.nD Cert.PrenormFwdIdeal.τ).loc Cert.PrenormFwdIdeal.main_arg0)
          ∧ r.2.mem ((c.tc : Thread Cert.PrenormFwdIdeal.nD Cert.PrenormFwdIdeal.τ).loc Cert.PrenormFwdIdeal.main_arg1) = m ((c.tc : Thread Cert.PrenormFwdIdeal.nD Cert.PrenormFwdIdeal.τ).loc Cert.PrenormFwdIdeal.main_arg1)
          ∧ r.2.mem ((c.tc : Thread Cert.PrenormFwdIdeal.nD Cert.PrenormFwdIdeal.τ).loc Cert.PrenormFwdIdeal.main_arg2) = m ((c.tc : Thread Cert.PrenormFwdIdeal.nD Cert.PrenormFwdIdeal.τ).loc Cert.PrenormFwdIdeal.main_arg2))
      ∧ θ_run (Cert.PrenormFwdRefIdeal.defs (F := Ideal)) (onTc (τ := Cert.PrenormFwdRefIdeal.τ) (Cert.PrenormFwdRefIdeal.main (F := Ideal))) ⟨m', fun _ => 0, g'⟩ (fun r => ∀ c : Dev Cert.PrenormFwdRefIdeal.nD,
          r.2.mem ((c.tc : Thread Cert.PrenormFwdRefIdeal.nD Cert.PrenormFwdRefIdeal.τ).loc Cert.PrenormFwdRefIdeal.main_v51) = v0 c
          ∧ r.2.mem ((c.tc : Thread Cert.PrenormFwdRefIdeal.nD Cert.PrenormFwdRefIdeal.τ).loc Cert.PrenormFwdRefIdeal.main_arg0) = m' ((c.tc : Thread Cert.PrenormFwdRefIdeal.nD Cert.PrenormFwdRefIdeal.τ).loc Cert.PrenormFwdRefIdeal.main_arg0)
          ∧ r.2.mem ((c.tc : Thread Cert.PrenormFwdRefIdeal.nD Cert.PrenormFwdRefIdeal.τ).loc Cert.PrenormFwdRefIdeal.main_arg1) = m' ((c.tc : Thread Cert.PrenormFwdRefIdeal.nD Cert.PrenormFwdRefIdeal.τ).loc Cert.PrenormFwdRefIdeal.main_arg1)
          ∧ r.2.mem ((c.tc : Thread Cert.PrenormFwdRefIdeal.nD Cert.PrenormFwdRefIdeal.τ).loc Cert.PrenormFwdRefIdeal.main_arg2) = m' ((c.tc : Thread Cert.PrenormFwdRefIdeal.nD Cert.PrenormFwdRefIdeal.τ).loc Cert.PrenormFwdRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v49) = v0 c
          ∧ r.2.mem ((c.tc : Thread Cert.ConvRefIdeal.nD Cert.ConvRefIdeal.τ).loc Cert.ConvRefIdeal.main_v53) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Attn_AttnIdeal : Prop :=
  IdealRules.named_const.Statement Cert.AttnIdeal.κ "mask" .f32 0xF149F2CA#32 ⊥

def algebraic_AttnIdeal_AttnRefIdeal_pre_finite_heads [hAttnIdeal : Cert.AttnIdeal.Facts] [hAttnRefIdeal : Cert.AttnRefIdeal.Facts] [hPre_finite_heads : Cert.Pre_finite_heads.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_heads m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v46) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)) →
    ∃ (v0 : (c : Dev Cert.BranchIdeal.nD) → Buf (Elt Ideal) ((c.tc : Thread Cert.BranchIdeal.nD Cert.BranchIdeal.τ).loc Cert.BranchIdeal.main_v0_0)) (v1 : (c : Dev Cert.BranchIdeal.nD) → Buf (Elt Ideal) ((c.tc : Thread Cert.BranchIdeal.nD Cert.BranchIdeal.τ).loc Cert.BranchIdeal.main_v0_1)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0_0) = v0 c
          ∧ r.2.mem ((c.tc : Thread Cert.BranchIdeal.nD Cert.BranchIdeal.τ).loc Cert.BranchIdeal.main_v0_1) = v1 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v21) = v0 c
          ∧ r.2.mem ((c.tc : Thread Cert.BranchRefIdeal.nD Cert.BranchRefIdeal.τ).loc Cert.BranchRefIdeal.main_v24) = v1 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v25) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v3) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dm_DmIdeal : Prop :=
  True

def algebraic_DmIdeal_DmRefIdeal [hDmIdeal : Cert.DmIdeal.Facts] [hDmRefIdeal : Cert.DmRefIdeal.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.DmRefIdeal.nD Cert.DmRefIdeal.τ Cert.DmRefIdeal.sig) → Buf (Elt Ideal) ℓ) (g' : Dev Cert.DmRefIdeal.nD → PrngReg), Pre_DmIdeal m →
    (∀ c : Dev Cert.DmIdeal.nD,
      m' ((c.tc : Thread Cert.DmRefIdeal.nD Cert.DmRefIdeal.τ).loc Cert.DmRefIdeal.main_arg0) = m ((c.tc : Thread Cert.DmIdeal.nD Cert.DmIdeal.τ).loc Cert.DmIdeal.main_arg0)
      ∧ m' ((c.tc : Thread Cert.DmRefIdeal.nD Cert.DmRefIdeal.τ).loc Cert.DmRefIdeal.main_arg1) = m ((c.tc : Thread Cert.DmIdeal.nD Cert.DmIdeal.τ).loc Cert.DmIdeal.main_arg1)) →
    ∃ (v0 : (c : Dev Cert.DmIdeal.nD) → Buf (Elt Ideal) ((c.tc : Thread Cert.DmIdeal.nD Cert.DmIdeal.τ).loc Cert.DmIdeal.main_v0)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v0) = v0 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1))
      ∧ θ_run (Cert.DmRefIdeal.defs (F := Ideal)) (onTc (τ := Cert.DmRefIdeal.τ) (Cert.DmRefIdeal.main (F := Ideal))) ⟨m', fun _ => 0, g'⟩ (fun r => ∀ c : Dev Cert.DmRefIdeal.nD,
          r.2.mem ((c.tc : Thread Cert.DmRefIdeal.nD Cert.DmRefIdeal.τ).loc Cert.DmRefIdeal.main_v3) = v0 c
          ∧ r.2.mem ((c.tc : Thread Cert.DmRefIdeal.nD Cert.DmRefIdeal.τ).loc Cert.DmRefIdeal.main_arg0) = m' ((c.tc : Thread Cert.DmRefIdeal.nD Cert.DmRefIdeal.τ).loc Cert.DmRefIdeal.main_arg0)
          ∧ r.2.mem ((c.tc : Thread Cert.DmRefIdeal.nD Cert.DmRefIdeal.τ).loc Cert.DmRefIdeal.main_arg1) = m' ((c.tc : Thread Cert.DmRefIdeal.nD Cert.DmRefIdeal.τ).loc Cert.DmRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v3) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def Claim : Prop :=
  ∃ (hExchange : Cert.Exchange.Facts) (hExchangeIdeal : Cert.ExchangeIdeal.Facts) (hExchangeRefIdeal : Cert.ExchangeRefIdeal.Facts) (hExchangeRef : Cert.ExchangeRef.Facts) (hGather : Cert.Gather.Facts) (hGatherIdeal : Cert.GatherIdeal.Facts) (hGatherRefIdeal : Cert.GatherRefIdeal.Facts) (hGatherRef : Cert.GatherRef.Facts) (hGatherSmall : Cert.GatherSmall.Facts) (hGatherSmallIdeal : Cert.GatherSmallIdeal.Facts) (hGatherSmallRefIdeal : Cert.GatherSmallRefIdeal.Facts) (hGatherSmallRef : Cert.GatherSmallRef.Facts) (hGatherGrads : Cert.GatherGrads.Facts) (hGatherGradsIdeal : Cert.GatherGradsIdeal.Facts) (hGatherGradsRefIdeal : Cert.GatherGradsRefIdeal.Facts) (hGatherGradsRef : Cert.GatherGradsRef.Facts) (hUpdate : Cert.Update.Facts) (hUpdateIdeal : Cert.UpdateIdeal.Facts) (hUpdateRefIdeal : Cert.UpdateRefIdeal.Facts) (hRep : Cert.Rep.Facts) (hRepIdeal : Cert.RepIdeal.Facts) (hRepRefIdeal : Cert.RepRefIdeal.Facts) (hSmall : Cert.Small.Facts) (hSmallIdeal : Cert.SmallIdeal.Facts) (hSmallRefIdeal : Cert.SmallRefIdeal.Facts) (hAda : Cert.Ada.Facts) (hAdaIdeal : Cert.AdaIdeal.Facts) (hAdaRefIdeal : Cert.AdaRefIdeal.Facts) (hSum : Cert.Sum.Facts) (hSumIdeal : Cert.SumIdeal.Facts) (hSumRefIdeal : Cert.SumRefIdeal.Facts) (hDwAda : Cert.DwAda.Facts) (hDwAdaIdeal : Cert.DwAdaIdeal.Facts) (hDwAdaRefIdeal : Cert.DwAdaRefIdeal.Facts) (hLoss : Cert.Loss.Facts) (hLossIdeal : Cert.LossIdeal.Facts) (hLossRefIdeal : Cert.LossRefIdeal.Facts) (hPrenorm : Cert.Prenorm.Facts) (hPrenormIdeal : Cert.PrenormIdeal.Facts) (hPrenormRefIdeal : Cert.PrenormRefIdeal.Facts) (hPrenormFwd : Cert.PrenormFwd.Facts) (hPrenormFwdIdeal : Cert.PrenormFwdIdeal.Facts) (hPrenormFwdRefIdeal : Cert.PrenormFwdRefIdeal.Facts) (hProj : Cert.Proj.Facts) (hProjIdeal : Cert.ProjIdeal.Facts) (hProjRefIdeal : Cert.ProjRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hBranch : Cert.Branch.Facts) (hBranchIdeal : Cert.BranchIdeal.Facts) (hBranchRefIdeal : Cert.BranchRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hPost : Cert.Post.Facts) (hPostIdeal : Cert.PostIdeal.Facts) (hPostRefIdeal : Cert.PostRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDm : Cert.Dm.Facts) (hDmIdeal : Cert.DmIdeal.Facts) (hDmRefIdeal : Cert.DmRefIdeal.Facts) (hDh : Cert.Dh.Facts) (hDhIdeal : Cert.DhIdeal.Facts) (hDhRefIdeal : Cert.DhRefIdeal.Facts) (hPre_finite_heads : Cert.Pre_finite_heads.Facts),
    quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_GatherSmall (hGatherSmall := hGatherSmall)
    ∧ quiescent_GatherSmallIdeal (hGatherSmallIdeal := hGatherSmallIdeal)
    ∧ quiescent_GatherSmallRefIdeal (hGatherSmallRefIdeal := hGatherSmallRefIdeal)
    ∧ quiescent_GatherSmallRef (hGatherSmallRef := hGatherSmallRef)
    ∧ quiescent_GatherGrads (hGatherGrads := hGatherGrads)
    ∧ quiescent_GatherGradsIdeal (hGatherGradsIdeal := hGatherGradsIdeal)
    ∧ quiescent_GatherGradsRefIdeal (hGatherGradsRefIdeal := hGatherGradsRefIdeal)
    ∧ quiescent_GatherGradsRef (hGatherGradsRef := hGatherGradsRef)
    ∧ quiescent_Update (hUpdate := hUpdate)
    ∧ quiescent_UpdateIdeal (hUpdateIdeal := hUpdateIdeal)
    ∧ quiescent_UpdateRefIdeal (hUpdateRefIdeal := hUpdateRefIdeal)
    ∧ quiescent_Rep (hRep := hRep)
    ∧ quiescent_RepIdeal (hRepIdeal := hRepIdeal)
    ∧ quiescent_RepRefIdeal (hRepRefIdeal := hRepRefIdeal)
    ∧ quiescent_Small (hSmall := hSmall)
    ∧ quiescent_SmallIdeal (hSmallIdeal := hSmallIdeal)
    ∧ quiescent_SmallRefIdeal (hSmallRefIdeal := hSmallRefIdeal)
    ∧ quiescent_Ada (hAda := hAda)
    ∧ quiescent_AdaIdeal (hAdaIdeal := hAdaIdeal)
    ∧ quiescent_AdaRefIdeal (hAdaRefIdeal := hAdaRefIdeal)
    ∧ quiescent_Sum (hSum := hSum)
    ∧ quiescent_SumIdeal (hSumIdeal := hSumIdeal)
    ∧ quiescent_SumRefIdeal (hSumRefIdeal := hSumRefIdeal)
    ∧ quiescent_DwAda (hDwAda := hDwAda)
    ∧ quiescent_DwAdaIdeal (hDwAdaIdeal := hDwAdaIdeal)
    ∧ quiescent_DwAdaRefIdeal (hDwAdaRefIdeal := hDwAdaRefIdeal)
    ∧ quiescent_Loss (hLoss := hLoss)
    ∧ quiescent_LossIdeal (hLossIdeal := hLossIdeal)
    ∧ quiescent_LossRefIdeal (hLossRefIdeal := hLossRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_PrenormFwd (hPrenormFwd := hPrenormFwd)
    ∧ quiescent_PrenormFwdIdeal (hPrenormFwdIdeal := hPrenormFwdIdeal)
    ∧ quiescent_PrenormFwdRefIdeal (hPrenormFwdRefIdeal := hPrenormFwdRefIdeal)
    ∧ quiescent_Proj (hProj := hProj)
    ∧ quiescent_ProjIdeal (hProjIdeal := hProjIdeal)
    ∧ quiescent_ProjRefIdeal (hProjRefIdeal := hProjRefIdeal)
    ∧ quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnIdeal_pre_finite_heads (hAttnIdeal := hAttnIdeal) (hPre_finite_heads := hPre_finite_heads)
    ∧ quiescent_AttnRefIdeal (hAttnRefIdeal := hAttnRefIdeal)
    ∧ quiescent_AttnRefIdeal_pre_finite_heads (hAttnRefIdeal := hAttnRefIdeal) (hPre_finite_heads := hPre_finite_heads)
    ∧ quiescent_Branch (hBranch := hBranch)
    ∧ quiescent_BranchIdeal (hBranchIdeal := hBranchIdeal)
    ∧ quiescent_BranchRefIdeal (hBranchRefIdeal := hBranchRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Post (hPost := hPost)
    ∧ quiescent_PostIdeal (hPostIdeal := hPostIdeal)
    ∧ quiescent_PostRefIdeal (hPostRefIdeal := hPostRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dm (hDm := hDm)
    ∧ quiescent_DmIdeal (hDmIdeal := hDmIdeal)
    ∧ quiescent_DmRefIdeal (hDmRefIdeal := hDmRefIdeal)
    ∧ quiescent_Dh (hDh := hDh)
    ∧ quiescent_DhIdeal (hDhIdeal := hDhIdeal)
    ∧ quiescent_DhRefIdeal (hDhRefIdeal := hDhRefIdeal)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_GatherSmall_GatherSmallIdeal
    ∧ algebraic_GatherSmallIdeal_GatherSmallRefIdeal (hGatherSmallIdeal := hGatherSmallIdeal) (hGatherSmallRefIdeal := hGatherSmallRefIdeal)
    ∧ bitexact_GatherSmall_GatherSmallRef (hGatherSmall := hGatherSmall) (hGatherSmallRef := hGatherSmallRef)
    ∧ preserves_GatherGrads_GatherGradsIdeal
    ∧ algebraic_GatherGradsIdeal_GatherGradsRefIdeal (hGatherGradsIdeal := hGatherGradsIdeal) (hGatherGradsRefIdeal := hGatherGradsRefIdeal)
    ∧ bitexact_GatherGrads_GatherGradsRef (hGatherGrads := hGatherGrads) (hGatherGradsRef := hGatherGradsRef)
    ∧ preserves_Update_UpdateIdeal
    ∧ algebraic_UpdateIdeal_UpdateRefIdeal (hUpdateIdeal := hUpdateIdeal) (hUpdateRefIdeal := hUpdateRefIdeal)
    ∧ preserves_Rep_RepIdeal
    ∧ algebraic_RepIdeal_RepRefIdeal (hRepIdeal := hRepIdeal) (hRepRefIdeal := hRepRefIdeal)
    ∧ preserves_Small_SmallIdeal
    ∧ algebraic_SmallIdeal_SmallRefIdeal (hSmallIdeal := hSmallIdeal) (hSmallRefIdeal := hSmallRefIdeal)
    ∧ preserves_Ada_AdaIdeal
    ∧ algebraic_AdaIdeal_AdaRefIdeal (hAdaIdeal := hAdaIdeal) (hAdaRefIdeal := hAdaRefIdeal)
    ∧ preserves_Sum_SumIdeal
    ∧ algebraic_SumIdeal_SumRefIdeal (hSumIdeal := hSumIdeal) (hSumRefIdeal := hSumRefIdeal)
    ∧ preserves_DwAda_DwAdaIdeal
    ∧ algebraic_DwAdaIdeal_DwAdaRefIdeal (hDwAdaIdeal := hDwAdaIdeal) (hDwAdaRefIdeal := hDwAdaRefIdeal)
    ∧ preserves_Loss_LossIdeal
    ∧ algebraic_LossIdeal_LossRefIdeal (hLossIdeal := hLossIdeal) (hLossRefIdeal := hLossRefIdeal)
    ∧ preserves_Prenorm_PrenormIdeal
    ∧ algebraic_PrenormIdeal_PrenormRefIdeal (hPrenormIdeal := hPrenormIdeal) (hPrenormRefIdeal := hPrenormRefIdeal)
    ∧ preserves_PrenormFwd_PrenormFwdIdeal
    ∧ algebraic_PrenormFwdIdeal_PrenormFwdRefIdeal (hPrenormFwdIdeal := hPrenormFwdIdeal) (hPrenormFwdRefIdeal := hPrenormFwdRefIdeal)
    ∧ preserves_Proj_ProjIdeal
    ∧ algebraic_ProjIdeal_ProjRefIdeal (hProjIdeal := hProjIdeal) (hProjRefIdeal := hProjRefIdeal)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal_pre_finite_heads (hAttnIdeal := hAttnIdeal) (hAttnRefIdeal := hAttnRefIdeal) (hPre_finite_heads := hPre_finite_heads)
    ∧ preserves_Branch_BranchIdeal
    ∧ algebraic_BranchIdeal_BranchRefIdeal (hBranchIdeal := hBranchIdeal) (hBranchRefIdeal := hBranchRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Post_PostIdeal
    ∧ algebraic_PostIdeal_PostRefIdeal (hPostIdeal := hPostIdeal) (hPostRefIdeal := hPostRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_Dm_DmIdeal
    ∧ algebraic_DmIdeal_DmRefIdeal (hDmIdeal := hDmIdeal) (hDmRefIdeal := hDmRefIdeal)
    ∧ preserves_Dh_DhIdeal
    ∧ algebraic_DhIdeal_DhRefIdeal (hDhIdeal := hDhIdeal) (hDhRefIdeal := hDhRefIdeal)
-- ==== Pre_finite_heads.lean ====
abbrev S4352x1024 : Shape := ⟨2, ![4352, 1024]⟩
abbrev S4352x256 : Shape := ⟨2, ![4352, 256]⟩
abbrev S4352x13312 : Shape := ⟨2, ![4352, 13312]⟩
abbrev S_ : Shape := ⟨0, ![]⟩

class Facts : Prop where
  bcast_S_S4352x1024 : S_.BroadcastsInDim S4352x1024 (![] : Fin 0 → Fin S4352x1024.rank)
  bcast_S_S4352x256 : S_.BroadcastsInDim S4352x256 (![] : Fin 0 → Fin S4352x256.rank)

variable [Facts]

def fn {F : FTy → Type} [FloatOps F] (main_arg0 : FVec F S4352x1024 .bf16) (main_arg1 : FVec F S4352x256 .bf16) (main_arg2 : FVec F S4352x13312 .f32) : IVec S4352x1024 1 × IVec S4352x256 1 :=
  let main_v0 : FVec F S4352x1024 .bf16 := Host.absf main_arg0
  let main_cst : FVec F S_ .bf16 := constant S_ .bf16 0x7F80#16
  let main_v1 : FVec F S4352x1024 .bf16 := broadcastInDim S4352x1024 ![] bcast_S_S4352x1024 main_cst
  let main_v2 : IVec S4352x1024 1 := cmpf .olt main_v0 main_v1
  let main_v3 : FVec F S4352x256 .bf16 := Host.absf main_arg1
  let main_cst_0 : FVec F S_ .bf16 := constant S_ .bf16 0x7F80#16
  let main_v4 : FVec F S4352x256 .bf16 := broadcastInDim S4352x256 ![] bcast_S_S4352x256 main_cst_0
  let main_v5 : IVec S4352x256 1 := cmpf .olt main_v3 main_v4
  (main_v2, main_v5)
-- ==== Exchange.lean ====
abbrev S8x33856x128 : Shape := ⟨3, ![8, 33856, 128]⟩
abbrev S7 : Shape := ⟨1, ![7]⟩
abbrev S_ : Shape := ⟨0, ![]⟩
abbrev S1x33856x128 : Shape := ⟨3, ![1, 33856, 128]⟩
abbrev S33856x128 : Shape := ⟨2, ![33856, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x33856x128, .f32⟩
  | .hbm, ⟨1, _⟩ => ⟨S8x33856x128, .f32⟩
  | _, _ => ⟨S8x33856x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_42 : BitVec 32 := 0#32
  let c0_i32_43 : BitVec 32 := 0#32
  ![v21.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_39 : BitVec 32 := 1#32
  let v61 : BitVec 32 := Scalar.muli v17 c1_i32_39
  let v62 : BitVec 32 := Scalar.addi v60 v61
  v62.toNat
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_12 v2
  let c2_i32_13 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.muli c2_i32_13 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_52 : BitVec 32 := 0#32
  let c0_i32_53 : BitVec 32 := 0#32
  ![v26.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_48 : BitVec 32 := 2#32
  let v73 : BitVec 32 := Scalar.muli v22 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_16 v2
  let c2_i32_17 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v30 : BitVec 32 := Scalar.muli c2_i32_17 v27
  let v31 : BitVec 32 := Scalar.addi v29 v30
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v32 : BitVec 32 := Scalar.addi v31 v28
  let c0_i32_62 : BitVec 32 := 0#32
  let c0_i32_63 : BitVec 32 := 0#32
  ![v32.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_58 : BitVec 32 := 2#32
  let v87 : BitVec 32 := Scalar.muli v27 c2_i32_58
  let v88 : BitVec 32 := Scalar.addi v86 v87
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_59 : BitVec 32 := 1#32
  let v89 : BitVec 32 := Scalar.muli v28 c1_i32_59
  let v90 : BitVec 32 := Scalar.addi v88 v89
  v90.toNat
def k0_off5 (d0 : Dev nD) : Fin 3 → Nat :=
  let c4_i32_19 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.muli c4_i32_19 v33
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_71 : BitVec 32 := 0#32
  let c0_i32_72 : BitVec 32 := 0#32
  ![v37.toNat, 0, 0]
def k0_dev4 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let c4_i32_65 : BitVec 32 := 4#32
  let v99 : BitVec 32 := Scalar.muli v33 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_23 : BitVec 32 := 4#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let v40 : BitVec 32 := Scalar.muli c4_i32_23 v38
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_24 v5
  let v42 : BitVec 32 := Scalar.addi v40 v41
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let v43 : BitVec 32 := Scalar.addi v42 v39
  let c0_i32_81 : BitVec 32 := 0#32
  let c0_i32_82 : BitVec 32 := 0#32
  ![v43.toNat, 0, 0]
def k0_dev5 (d0 : Dev nD) : Nat :=
  let c0_i32_76 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let c4_i32_75 : BitVec 32 := 4#32
  let v113 : BitVec 32 := Scalar.muli v38 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let c1_i32_78 : BitVec 32 := 1#32
  let v117 : BitVec 32 := Scalar.muli v39 c1_i32_78
  let v118 : BitVec 32 := Scalar.addi v116 v117
  v118.toNat
def k0_off7 (d0 : Dev nD) : Fin 3 → Nat :=
  let c4_i32_27 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let v46 : BitVec 32 := Scalar.muli c4_i32_27 v44
  let c2_i32_28 : BitVec 32 := 2#32
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let v47 : BitVec 32 := Scalar.muli c2_i32_28 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_90 : BitVec 32 := 0#32
  let c0_i32_91 : BitVec 32 := 0#32
  ![v49.toNat, 0, 0]
def k0_dev6 (d0 : Dev nD) : Nat :=
  let c0_i32_85 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let c4_i32_84 : BitVec 32 := 4#32
  let v127 : BitVec 32 := Scalar.muli v44 c4_i32_84
  let v128 : BitVec 32 := Scalar.addi c0_i32_85 v127
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let c2_i32_86 : BitVec 32 := 2#32
  let v129 : BitVec 32 := Scalar.muli v45 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_32 : BitVec 32 := 4#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let v53 : BitVec 32 := Scalar.muli c4_i32_32 v50
  let c2_i32_33 : BitVec 32 := 2#32
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let v54 : BitVec 32 := Scalar.muli c2_i32_33 v51
  let v55 : BitVec 32 := Scalar.addi v53 v54
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let v56 : BitVec 32 := Scalar.addi v55 v52
  let c0_i32_99 : BitVec 32 := 0#32
  let c0_i32_100 : BitVec 32 := 0#32
  ![v56.toNat, 0, 0]
def k0_dev7 (d0 : Dev nD) : Nat :=
  let c0_i32_94 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let c4_i32_93 : BitVec 32 := 4#32
  let v141 : BitVec 32 := Scalar.muli v50 c4_i32_93
  let v142 : BitVec 32 := Scalar.addi c0_i32_94 v141
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let c2_i32_95 : BitVec 32 := 2#32
  let v143 : BitVec 32 := Scalar.muli v51 c2_i32_95
  let v144 : BitVec 32 := Scalar.addi v142 v143
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let c1_i32_96 : BitVec 32 := 1#32
  let v145 : BitVec 32 := Scalar.muli v52 c1_i32_96
  let v146 : BitVec 32 := Scalar.addi v144 v145
  v146.toNat
-- ==== ExchangeRef.lean ====
abbrev S64x33856x128 : Shape := ⟨3, ![64, 33856, 128]⟩
abbrev S8x8x33856x128 : Shape := ⟨4, ![8, 8, 33856, 128]⟩

abbrev nBuf : Space → Nat
  | .hbm => 4
  | .vmem => 0
  | .smem => 0
  | _ => 0

abbrev bufTy : (tb : Table) → Fin (tcTables nBuf tb) → BufTy
  | .hbm, ⟨0, _⟩ => ⟨S64x33856x128, .f32⟩
  | .hbm, ⟨1, _⟩ => ⟨S8x8x33856x128, .f32⟩
  | .hbm, ⟨2, _⟩ => ⟨S8x8x33856x128, .f32⟩
  | .hbm, ⟨3, _⟩ => ⟨S64x33856x128, .f32⟩
  | _, _ => ⟨S64x33856x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Gather.lean ====
abbrev S40000x128 : Shape := ⟨2, ![40000, 128]⟩
abbrev S8x40000x128 : Shape := ⟨3, ![8, 40000, 128]⟩
abbrev S7 : Shape := ⟨1, ![7]⟩
abbrev S_ : Shape := ⟨0, ![]⟩
abbrev S1x40000x128 : Shape := ⟨3, ![1, 40000, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S40000x128, .bf16⟩
  | .hbm, ⟨1, _⟩ => ⟨S8x40000x128, .bf16⟩
  | _, _ => ⟨S40000x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRef.lean ====
abbrev S320000x128 : Shape := ⟨2, ![320000, 128]⟩
abbrev S8x40000x128 : Shape := ⟨3, ![8, 40000, 128]⟩

abbrev nBuf : Space → Nat
  | .hbm => 2
  | .vmem => 0
  | .smem => 0
  | _ => 0

abbrev bufTy : (tb : Table) → Fin (tcTables nBuf tb) → BufTy
  | .hbm, ⟨0, _⟩ => ⟨S320000x128, .bf16⟩
  | .hbm, ⟨1, _⟩ => ⟨S8x40000x128, .bf16⟩
  | _, _ => ⟨S320000x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmall.lean ====
abbrev S40x128 : Shape := ⟨2, ![40, 128]⟩
abbrev S8x40x128 : Shape := ⟨3, ![8, 40, 128]⟩
abbrev S7 : Shape := ⟨1, ![7]⟩
abbrev S_ : Shape := ⟨0, ![]⟩
abbrev S1x40x128 : Shape := ⟨3, ![1, 40, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S40x128, .f32⟩
  | .hbm, ⟨1, _⟩ => ⟨S8x40x128, .f32⟩
  | _, _ => ⟨S40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherSmallRef.lean ====
abbrev S320x128 : Shape := ⟨2, ![320, 128]⟩
abbrev S8x40x128 : Shape := ⟨3, ![8, 40, 128]⟩

abbrev nBuf : Space → Nat
  | .hbm => 2
  | .vmem => 0
  | .smem => 0
  | _ => 0

abbrev bufTy : (tb : Table) → Fin (tcTables nBuf tb) → BufTy
  | .hbm, ⟨0, _⟩ => ⟨S320x128, .f32⟩
  | .hbm, ⟨1, _⟩ => ⟨S8x40x128, .f32⟩
  | _, _ => ⟨S320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherGrads.lean ====
abbrev S592x128 : Shape := ⟨2, ![592, 128]⟩
abbrev S8x592x128 : Shape := ⟨3, ![8, 592, 128]⟩
abbrev S7 : Shape := ⟨1, ![7]⟩
abbrev S_ : Shape := ⟨0, ![]⟩
abbrev S1x592x128 : Shape := ⟨3, ![1, 592, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S592x128, .f32⟩
  | .hbm, ⟨1, _⟩ => ⟨S8x592x128, .f32⟩
  | _, _ => ⟨S592x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherGradsRef.lean ====
abbrev S4736x128 : Shape := ⟨2, ![4736, 128]⟩
abbrev S8x592x128 : Shape := ⟨3, ![8, 592, 128]⟩

abbrev nBuf : Space → Nat
  | .hbm => 2
  | .vmem => 0
  | .smem => 0
  | _ => 0

abbrev bufTy : (tb : Table) → Fin (tcTables nBuf tb) → BufTy
  | .hbm, ⟨0, _⟩ => ⟨S4736x128, .f32⟩
  | .hbm, ⟨1, _⟩ => ⟨S8x592x128, .f32⟩
  | _, _ => ⟨S4736x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Update.lean ====
abbrev S8x33856x128 : Shape := ⟨3, ![8, 33856, 128]⟩
abbrev S33856x128 : Shape := ⟨2, ![33856, 128]⟩
abbrev S8x1472x128 : Shape := ⟨3, ![8, 1472, 128]⟩
abbrev S1472x128 : Shape := ⟨2, ![1472, 128]⟩
abbrev S1x1472x128 : Shape := ⟨3, ![1, 1472, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x33856x128, .f32⟩
  | .hbm, ⟨1, _⟩ => ⟨S33856x128, .f32⟩
  | .hbm, ⟨2, _⟩ => ⟨S33856x128, .f32⟩
  | .hbm, ⟨3, _⟩ => ⟨S33856x128, .f32⟩
  | .hbm, ⟨4, _⟩ => ⟨S33856x128, .f32⟩
  | .hbm, ⟨5, _⟩ => ⟨S33856x128, .f32⟩
  | .hbm, ⟨6, _⟩ => ⟨S33856x128, .f32⟩
  | .hbm, ⟨7, _⟩ => ⟨S33856x128, .f32⟩
  | .local _ .vmem, ⟨0, _⟩ => ⟨S8x1472x128, .f32⟩
  | .local _ .vmem, ⟨1, _⟩ => ⟨S8x1472x128, .f32⟩
  | .local _ .vmem, ⟨2, _⟩ => ⟨S1472x128, .f32⟩
  | .local _ .vmem, ⟨3, _⟩ => ⟨S1472x128, .f32⟩
  | .local _ .vmem, ⟨4, _⟩ => ⟨S1472x128, .f32⟩
  | .local _ .vmem, ⟨5, _⟩ => ⟨S1472x128, .f32⟩
  | .local _ .vmem, ⟨6, _⟩ => ⟨S1472x128, .f32⟩
  | .local _ .vmem, ⟨7, _⟩ => ⟨S1472x128, .f32⟩
  | .local _ .vmem, ⟨8, _⟩ => ⟨S1472x128, .f32⟩
  | .local _ .vmem, ⟨9, _⟩ => ⟨S1472x128, .f32⟩
  | .local _ .vmem, ⟨10, _⟩ => ⟨S1472x128, .f32⟩
  | .local _ .vmem, ⟨11, _⟩ => ⟨S1472x128, .f32⟩
  | .local _ .vmem, ⟨12, _⟩ => ⟨S1472x128, .f32⟩
  | .local _ .vmem, ⟨13, _⟩ => ⟨S1472x128, .f32⟩
  | .local _ .vmem, ⟨14, _⟩ => ⟨S1472x128, .f32⟩
  | .local _ .vmem, ⟨15, _⟩ => ⟨S1472x128, .f32⟩
  | _, _ => ⟨S8x33856x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1472x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1472x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1472x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1472x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1472x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1472x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1472x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1472x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateRefIdeal.lean ====
abbrev S8x33856x128 : Shape := ⟨3, ![8, 33856, 128]⟩
abbrev S33856x128 : Shape := ⟨2, ![33856, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x33856x128, .f32⟩
  | .hbm, ⟨1, _⟩ => ⟨S33856x128, .f32⟩
  | .hbm, ⟨2, _⟩ => ⟨S33856x128, .f32⟩
  | .hbm, ⟨3, _⟩ => ⟨S33856x128, .f32⟩
  | .hbm, ⟨4, _⟩ => ⟨S_, .f32⟩
  | .hbm, ⟨5, _⟩ => ⟨S33856x128, .f32⟩
  | .hbm, ⟨6, _⟩ => ⟨S_, .f32⟩
  | .hbm, ⟨7, _⟩ => ⟨S33856x128, .f32⟩
  | .hbm, ⟨8, _⟩ => ⟨S33856x128, .f32⟩
  | .hbm, ⟨9, _⟩ => ⟨S_, .f32⟩
  | .hbm, ⟨10, _⟩ => ⟨S33856x128, .f32⟩
  | .hbm, ⟨11, _⟩ => ⟨S33856x128, .f32⟩
  | .hbm, ⟨12, _⟩ => ⟨S33856x128, .f32⟩
  | .hbm, ⟨13, _⟩ => ⟨S_, .f32⟩
  | .hbm, ⟨14, _⟩ => ⟨S33856x128, .f32⟩
  | .hbm, ⟨15, _⟩ => ⟨S33856x128, .f32⟩
  | .hbm, ⟨16, _⟩ => ⟨S33856x128, .f32⟩
  | .hbm, ⟨17, _⟩ => ⟨S_, .f32⟩
  | .hbm, ⟨18, _⟩ => ⟨S33856x128, .f32⟩
  | .hbm, ⟨19, _⟩ => ⟨S33856x128, .f32⟩
  | .hbm, ⟨20, _⟩ => ⟨S33856x128, .f32⟩
  | .hbm, ⟨21, _⟩ => ⟨S_, .f32⟩
  | .hbm, ⟨22, _⟩ => ⟨S33856x128, .f32⟩
  | .hbm, ⟨23, _⟩ => ⟨S33856x128, .f32⟩
  | .hbm, ⟨24, _⟩ => ⟨S_, .f32⟩
  | .hbm, ⟨25, _⟩ => ⟨S33856x128, .f32⟩
  | .hbm, ⟨26, _⟩ => ⟨S33856x128, .f32⟩
  | .hbm, ⟨27, _⟩ => ⟨S33856x128, .f32⟩
  | .hbm, ⟨28, _⟩ => ⟨S_, .f32⟩
  | .hbm, ⟨29, _⟩ => ⟨S33856x128, .f32⟩
  | .hbm, ⟨30, _⟩ => ⟨S33856x128, .f32⟩
  | .hbm, ⟨31, _⟩ => ⟨S33856x128, .f32⟩
  | .hbm, ⟨32, _⟩ => ⟨S_, .f32⟩
  | .hbm, ⟨33, _⟩ => ⟨S33856x128, .f32⟩
  | .hbm, ⟨34, _⟩ => ⟨S33856x128, .f32⟩
  | .hbm, ⟨35, _⟩ => ⟨S33856x128, .f32⟩
  | .hbm, ⟨36, _⟩ => ⟨S_, .f32⟩
  | .hbm, ⟨37, _⟩ => ⟨S33856x128, .f32⟩
  | .hbm, ⟨38, _⟩ => ⟨S33856x128, .f32⟩
  | _, _ => ⟨S8x33856x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Rep.lean ====
abbrev S8x176x128 : Shape := ⟨3, ![8, 176, 128]⟩
abbrev S176x128 : Shape := ⟨2, ![176, 128]⟩
abbrev S1x176x128 : Shape := ⟨3, ![1, 176, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S176x128, .f32⟩
  | .hbm, ⟨5, _⟩ => ⟨S176x128, .f32⟩
  | .hbm, ⟨6, _⟩ => ⟨S176x128, .f32⟩
  | .hbm, ⟨7, _⟩ => ⟨S176x128, .f32⟩
  | .local _ .vmem, ⟨0, _⟩ => ⟨S8x176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | .local _ .vmem, ⟨7, _⟩ => ⟨S176x128, .f32⟩
  | _, _ => ⟨S8x176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RepRefIdeal.lean ====
abbrev S8x176x128 : Shape := ⟨3, ![8, 176, 128]⟩
abbrev S176x128 : Shape := ⟨2, ![176, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S_, .f32⟩
  | .hbm, ⟨5, _⟩ => ⟨S176x128, .f32⟩
  | .hbm, ⟨6, _⟩ => ⟨S_, .f32⟩
  | .hbm, ⟨7, _⟩ => ⟨S176x128, .f32⟩
  | .hbm, ⟨8, _⟩ => ⟨S176x128, .f32⟩
  | .hbm, ⟨9, _⟩ => ⟨S_, .f32⟩
  | .hbm, ⟨10, _⟩ => ⟨S176x128, .f32⟩
  | .hbm, ⟨11, _⟩ => ⟨S176x128, .f32⟩
  | .hbm, ⟨12, _⟩ => ⟨S176x128, .f32⟩
  | .hbm, ⟨13, _⟩ => ⟨S_, .f32⟩
  | .hbm, ⟨14, _⟩ => ⟨S176x128, .f32⟩
  | .hbm, ⟨15, _⟩ => ⟨S176x128, .f32⟩
  | .hbm, ⟨16, _⟩ => ⟨S176x128, .f32⟩
  | .hbm, ⟨17, _⟩ => ⟨S_, .f32⟩
  | .hbm, ⟨18, _⟩ => ⟨S176x128, .f32⟩
  | .hbm, ⟨19, _⟩ => ⟨S176x128, .f32⟩
  | .hbm, ⟨20, _⟩ => ⟨S176x128, .f32⟩
  | .hbm, ⟨21, _⟩ => ⟨S_, .f32⟩
  | .hbm, ⟨22, _⟩ => ⟨S176x128, .f32⟩
  | .hbm, ⟨23, _⟩ => ⟨S176x128, .f32⟩
  | .hbm, ⟨24, _⟩ => ⟨S_, .f32⟩
  | .hbm, ⟨25, _⟩ => ⟨S176x128, .f32⟩
  | .hbm, ⟨26, _⟩ => ⟨S176x128, .f32⟩
  | .hbm, ⟨27, _⟩ => ⟨S176x128, .f32⟩
  | .hbm, ⟨28, _⟩ => ⟨S_, .f32⟩
  | .hbm, ⟨29, _⟩ => ⟨S176x128, .f32⟩
  | .hbm, ⟨30, _⟩ => ⟨S176x128, .f32⟩
  | .hbm, ⟨31, _⟩ => ⟨S176x128, .f32⟩
  | .hbm, ⟨32, _⟩ => ⟨S_, .f32⟩
  | .hbm, ⟨33, _⟩ => ⟨S176x128, .f32⟩
  | .hbm, ⟨34, _⟩ => ⟨S176x128, .f32⟩
  | .hbm, ⟨35, _⟩ => ⟨S176x128, .f32⟩
  | .hbm, ⟨36, _⟩ => ⟨S_, .f32⟩
  | .hbm, ⟨37, _⟩ => ⟨S176x128, .f32⟩
  | .hbm, ⟨38, _⟩ => ⟨S176x128, .f32⟩
  | _, _ => ⟨S8x176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Small.lean ====
abbrev S1x40x128 : Shape := ⟨3, ![1, 40, 128]⟩
abbrev S40x128 : Shape := ⟨2, ![40, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S40x128, .f32⟩
  | .hbm, ⟨5, _⟩ => ⟨S40x128, .f32⟩
  | .hbm, ⟨6, _⟩ => ⟨S40x128, .f32⟩
  | .hbm, ⟨7, _⟩ => ⟨S40x128, .f32⟩
  | .local _ .vmem, ⟨0, _⟩ => ⟨S1x40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | .local _ .vmem, ⟨7, _⟩ => ⟨S40x128, .f32⟩
  | _, _ => ⟨S1x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallRefIdeal.lean ====
abbrev S1x40x128 : Shape := ⟨3, ![1, 40, 128]⟩
abbrev S40x128 : Shape := ⟨2, ![40, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S_, .f32⟩
  | .hbm, ⟨5, _⟩ => ⟨S40x128, .f32⟩
  | .hbm, ⟨6, _⟩ => ⟨S_, .f32⟩
  | .hbm, ⟨7, _⟩ => ⟨S40x128, .f32⟩
  | .hbm, ⟨8, _⟩ => ⟨S40x128, .f32⟩
  | .hbm, ⟨9, _⟩ => ⟨S_, .f32⟩
  | .hbm, ⟨10, _⟩ => ⟨S40x128, .f32⟩
  | .hbm, ⟨11, _⟩ => ⟨S40x128, .f32⟩
  | .hbm, ⟨12, _⟩ => ⟨S40x128, .f32⟩
  | .hbm, ⟨13, _⟩ => ⟨S_, .f32⟩
  | .hbm, ⟨14, _⟩ => ⟨S40x128, .f32⟩
  | .hbm, ⟨15, _⟩ => ⟨S40x128, .f32⟩
  | .hbm, ⟨16, _⟩ => ⟨S40x128, .f32⟩
  | .hbm, ⟨17, _⟩ => ⟨S_, .f32⟩
  | .hbm, ⟨18, _⟩ => ⟨S40x128, .f32⟩
  | .hbm, ⟨19, _⟩ => ⟨S40x128, .f32⟩
  | .hbm, ⟨20, _⟩ => ⟨S40x128, .f32⟩
  | .hbm, ⟨21, _⟩ => ⟨S_, .f32⟩
  | .hbm, ⟨22, _⟩ => ⟨S40x128, .f32⟩
  | .hbm, ⟨23, _⟩ => ⟨S40x128, .f32⟩
  | .hbm, ⟨24, _⟩ => ⟨S_, .f32⟩
  | .hbm, ⟨25, _⟩ => ⟨S40x128, .f32⟩
  | .hbm, ⟨26, _⟩ => ⟨S40x128, .f32⟩
  | .hbm, ⟨27, _⟩ => ⟨S40x128, .f32⟩
  | .hbm, ⟨28, _⟩ => ⟨S_, .f32⟩
  | .hbm, ⟨29, _⟩ => ⟨S40x128, .f32⟩
  | .hbm, ⟨30, _⟩ => ⟨S40x128, .f32⟩
  | .hbm, ⟨31, _⟩ => ⟨S40x128, .f32⟩
  | .hbm, ⟨32, _⟩ => ⟨S_, .f32⟩
  | .hbm, ⟨33, _⟩ => ⟨S40x128, .f32⟩
  | .hbm, ⟨34, _⟩ => ⟨S40x128, .f32⟩
  | .hbm, ⟨35, _⟩ => ⟨S40x128, .f32⟩
  | .hbm, ⟨36, _⟩ => ⟨S_, .f32⟩
  | .hbm, ⟨37, _⟩ => ⟨S40x128, .f32⟩
  | .hbm, ⟨38, _⟩ => ⟨S40x128, .f32⟩
  | _, _ => ⟨S1x40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Ada.lean ====
abbrev S1x6144x128 : Shape := ⟨3, ![1, 6144, 128]⟩
abbrev S6144x128 : Shape := ⟨2, ![6144, 128]⟩
abbrev S1x2048x128 : Shape := ⟨3, ![1, 2048, 128]⟩
abbrev S2048x128 : Shape := ⟨2, ![2048, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x6144x128, .f32⟩
  | .hbm, ⟨1, _⟩ => ⟨S6144x128, .f32⟩
  | .hbm, ⟨2, _⟩ => ⟨S6144x128, .f32⟩
  | .hbm, ⟨3, _⟩ => ⟨S6144x128, .f32⟩
  | .hbm, ⟨4, _⟩ => ⟨S6144x128, .f32⟩
  | .hbm, ⟨5, _⟩ => ⟨S6144x128, .f32⟩
  | .hbm, ⟨6, _⟩ => ⟨S6144x128, .f32⟩
  | .hbm, ⟨7, _⟩ => ⟨S6144x128, .f32⟩
  | .local _ .vmem, ⟨0, _⟩ => ⟨S1x2048x128, .f32⟩
  | .local _ .vmem, ⟨1, _⟩ => ⟨S1x2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S1x6144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdaRefIdeal.lean ====
abbrev S1x6144x128 : Shape := ⟨3, ![1, 6144, 128]⟩
abbrev S6144x128 : Shape := ⟨2, ![6144, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x6144x128, .f32⟩
  | .hbm, ⟨1, _⟩ => ⟨S6144x128, .f32⟩
  | .hbm, ⟨2, _⟩ => ⟨S6144x128, .f32⟩
  | .hbm, ⟨3, _⟩ => ⟨S6144x128, .f32⟩
  | .hbm, ⟨4, _⟩ => ⟨S_, .f32⟩
  | .hbm, ⟨5, _⟩ => ⟨S6144x128, .f32⟩
  | .hbm, ⟨6, _⟩ => ⟨S_, .f32⟩
  | .hbm, ⟨7, _⟩ => ⟨S6144x128, .f32⟩
  | .hbm, ⟨8, _⟩ => ⟨S6144x128, .f32⟩
  | .hbm, ⟨9, _⟩ => ⟨S_, .f32⟩
  | .hbm, ⟨10, _⟩ => ⟨S6144x128, .f32⟩
  | .hbm, ⟨11, _⟩ => ⟨S6144x128, .f32⟩
  | .hbm, ⟨12, _⟩ => ⟨S6144x128, .f32⟩
  | .hbm, ⟨13, _⟩ => ⟨S_, .f32⟩
  | .hbm, ⟨14, _⟩ => ⟨S6144x128, .f32⟩
  | .hbm, ⟨15, _⟩ => ⟨S6144x128, .f32⟩
  | .hbm, ⟨16, _⟩ => ⟨S6144x128, .f32⟩
  | .hbm, ⟨17, _⟩ => ⟨S_, .f32⟩
  | .hbm, ⟨18, _⟩ => ⟨S6144x128, .f32⟩
  | .hbm, ⟨19, _⟩ => ⟨S6144x128, .f32⟩
  | .hbm, ⟨20, _⟩ => ⟨S6144x128, .f32⟩
  | .hbm, ⟨21, _⟩ => ⟨S_, .f32⟩
  | .hbm, ⟨22, _⟩ => ⟨S6144x128, .f32⟩
  | .hbm, ⟨23, _⟩ => ⟨S6144x128, .f32⟩
  | .hbm, ⟨24, _⟩ => ⟨S_, .f32⟩
  | .hbm, ⟨25, _⟩ => ⟨S6144x128, .f32⟩
  | .hbm, ⟨26, _⟩ => ⟨S6144x128, .f32⟩
  | .hbm, ⟨27, _⟩ => ⟨S6144x128, .f32⟩
  | .hbm, ⟨28, _⟩ => ⟨S_, .f32⟩
  | .hbm, ⟨29, _⟩ => ⟨S6144x128, .f32⟩
  | .hbm, ⟨30, _⟩ => ⟨S6144x128, .f32⟩
  | .hbm, ⟨31, _⟩ => ⟨S6144x128, .f32⟩
  | .hbm, ⟨32, _⟩ => ⟨S_, .f32⟩
  | .hbm, ⟨33, _⟩ => ⟨S6144x128, .f32⟩
  | .hbm, ⟨34, _⟩ => ⟨S6144x128, .f32⟩
  | .hbm, ⟨35, _⟩ => ⟨S6144x128, .f32⟩
  | .hbm, ⟨36, _⟩ => ⟨S_, .f32⟩
  | .hbm, ⟨37, _⟩ => ⟨S6144x128, .f32⟩
  | .hbm, ⟨38, _⟩ => ⟨S6144x128, .f32⟩
  | _, _ => ⟨S1x6144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Sum.lean ====
abbrev S8x304x128 : Shape := ⟨3, ![8, 304, 128]⟩
abbrev S304x128 : Shape := ⟨2, ![304, 128]⟩
abbrev S1x304x128 : Shape := ⟨3, ![1, 304, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x304x128, .f32⟩
  | .hbm, ⟨1, _⟩ => ⟨S304x128, .f32⟩
  | .local _ .vmem, ⟨0, _⟩ => ⟨S8x304x128, .f32⟩
  | .local _ .vmem, ⟨1, _⟩ => ⟨S304x128, .f32⟩
  | _, _ => ⟨S8x304x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x304x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S304x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S8x304x128 : Shape := ⟨3, ![8, 304, 128]⟩
abbrev S_ : Shape := ⟨0, ![]⟩
abbrev S304x128 : Shape := ⟨2, ![304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x304x128, .f32⟩
  | .hbm, ⟨1, _⟩ => ⟨S_, .f32⟩
  | .hbm, ⟨2, _⟩ => ⟨S304x128, .f32⟩
  | _, _ => ⟨S8x304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwAda.lean ====
abbrev S16x1024 : Shape := ⟨2, ![16, 1024]⟩
abbrev S16x384 : Shape := ⟨2, ![16, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S1024x384, .f32⟩
  | .local _ .vmem, ⟨0, _⟩ => ⟨S16x1024, .f32⟩
  | .local _ .vmem, ⟨1, _⟩ => ⟨S16x384, .f32⟩
  | .local _ .vmem, ⟨2, _⟩ => ⟨S1024x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwAdaRefIdeal.lean ====
abbrev S16x1024 : Shape := ⟨2, ![16, 1024]⟩
abbrev S16x384 : Shape := ⟨2, ![16, 384]⟩
abbrev S1024x16 : Shape := ⟨2, ![1024, 16]⟩
abbrev S1024x384 : Shape := ⟨2, ![1024, 384]⟩

abbrev nBuf : Space → Nat
  | .hbm => 4
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S1024x16, .f32⟩
  | .hbm, ⟨3, _⟩ => ⟨S1024x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Loss.lean ====
abbrev S4352x1024 : Shape := ⟨2, ![4352, 1024]⟩
abbrev S4096x1024 : Shape := ⟨2, ![4096, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S4352x1024, .f32⟩
  | .hbm, ⟨3, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x128, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4352x1024 : Shape := ⟨2, ![4352, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 34
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4352x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S_, .f32⟩
  | .hbm, ⟨33, _⟩ => ⟨S8x128, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Prenorm.lean ====
abbrev S4352x1024 : Shape := ⟨2, ![4352, 1024]⟩
abbrev S1x1024 : Shape := ⟨2, ![1, 1024]⟩
abbrev S2x3x1024 : Shape := ⟨3, ![2, 3, 1024]⟩
abbrev S2x8x1024 : Shape := ⟨3, ![2, 8, 1024]⟩
abbrev S8x1024 : Shape := ⟨2, ![8, 1024]⟩
abbrev S256x1024 : Shape := ⟨2, ![256, 1024]⟩
abbrev S1x3x1024 : Shape := ⟨3, ![1, 3, 1024]⟩
abbrev S1x8x1024 : Shape := ⟨3, ![1, 8, 1024]⟩
abbrev S256 : Shape := ⟨1, ![256]⟩
abbrev S256x1 : Shape := ⟨2, ![256, 1]⟩
abbrev S1x1x1024 : Shape := ⟨3, ![1, 1, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .f32⟩
  | .hbm, ⟨3, _⟩ => ⟨S1x1024, .f32⟩
  | .hbm, ⟨4, _⟩ => ⟨S2x3x1024, .f32⟩
  | .hbm, ⟨5, _⟩ => ⟨S4352x1024, .f32⟩
  | .hbm, ⟨6, _⟩ => ⟨S2x8x1024, .f32⟩
  | .hbm, ⟨7, _⟩ => ⟨S2x8x1024, .f32⟩
  | .hbm, ⟨8, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x3x1024, .f32⟩
  | .local _ .vmem, ⟨8, _⟩ => ⟨S1x3x1024, .f32⟩
  | .local _ .vmem, ⟨9, _⟩ => ⟨S256x1024, .f32⟩
  | .local _ .vmem, ⟨10, _⟩ => ⟨S256x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x8x1024, .f32⟩
  | .local _ .vmem, ⟨15, _⟩ => ⟨S8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_7 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PrenormRefIdeal.lean ====
abbrev S4352x1024 : Shape := ⟨2, ![4352, 1024]⟩
abbrev S1x1024 : Shape := ⟨2, ![1, 1024]⟩
abbrev S2x3x1024 : Shape := ⟨3, ![2, 3, 1024]⟩
abbrev S_ : Shape := ⟨0, ![]⟩
abbrev S4352 : Shape := ⟨1, ![4352]⟩
abbrev S4352x1 : Shape := ⟨2, ![4352, 1]⟩
abbrev S256x1024 : Shape := ⟨2, ![256, 1024]⟩
abbrev S4096x1024 : Shape := ⟨2, ![4096, 1024]⟩
abbrev S1x1x1024 : Shape := ⟨3, ![1, 1, 1024]⟩
abbrev S1024 : Shape := ⟨1, ![1024]⟩
abbrev S2x1x1024 : Shape := ⟨3, ![2, 1, 1024]⟩
abbrev S2x1024 : Shape := ⟨2, ![2, 1024]⟩
abbrev S2x8x1024 : Shape := ⟨3, ![2, 8, 1024]⟩
abbrev S8x1024 : Shape := ⟨2, ![8, 1024]⟩

abbrev nBuf : Space → Nat
  | .hbm => 134
  | .vmem => 0
  | .smem => 0
  | _ => 0

abbrev hbmTy0_0 (i : Nat) : BufTy := match i % 128 with
  | 0 => ⟨S4352x1024, .f32⟩
  | 1 => ⟨S4352x1024, .f32⟩
  | 2 => ⟨S4352x1024, .f32⟩
  | 3 => ⟨S1x1024, .f32⟩
  | 4 => ⟨S2x3x1024, .f32⟩
  | 5 => ⟨S4352x1024, .f32⟩
  | 6 => ⟨S_, .f32⟩
  | 7 => ⟨S4352, .f32⟩
  | 8 => ⟨S4352x1, .f32⟩
  | 9 => ⟨S_, .f32⟩
  | 10 => ⟨S4352x1, .f32⟩
  | 11 => ⟨S4352x1, .f32⟩
  | 12 => ⟨S_, .f32⟩
  | 13 => ⟨S4352x1, .f32⟩
  | 14 => ⟨S4352x1, .f32⟩
  | 15 => ⟨S4352x1, .f32⟩
  | 16 => ⟨S4352x1, .f32⟩
  | 17 => ⟨S_, .f32⟩
  | 18 => ⟨S4352x1, .f32⟩
  | 19 => ⟨S4352x1, .f32⟩
  | 20 => ⟨S4352x1024, .f32⟩
  | 21 => ⟨S4352x1024, .f32⟩
  | 22 => ⟨S4352x1024, .f32⟩
  | 23 => ⟨S4352x1024, .f32⟩
  | 24 => ⟨S256x1024, .f32⟩
  | 25 => ⟨S4096x1024, .f32⟩
  | 26 => ⟨S1x1x1024, .f32⟩
  | 27 => ⟨S1024, .f32⟩
  | 28 => ⟨S_, .f32⟩
  | 29 => ⟨S1024, .f32⟩
  | 30 => ⟨S1024, .f32⟩
  | 31 => ⟨S1x1024, .f32⟩
  | 32 => ⟨S256x1024, .f32⟩
  | 33 => ⟨S256x1024, .f32⟩
  | 34 => ⟨S1x1x1024, .f32⟩
  | 35 => ⟨S1024, .f32⟩
  | 36 => ⟨S1x1024, .f32⟩
  | 37 => ⟨S256x1024, .f32⟩
  | 38 => ⟨S256x1024, .f32⟩
  | 39 => ⟨S1x1x1024, .f32⟩
  | 40 => ⟨S1024, .f32⟩
  | 41 => ⟨S_, .f32⟩
  | 42 => ⟨S1024, .f32⟩
  | 43 => ⟨S1024, .f32⟩
  | 44 => ⟨S1x1024, .f32⟩
  | 45 => ⟨S4096x1024, .f32⟩
  | 46 => ⟨S4096x1024, .f32⟩
  | 47 => ⟨S1x1x1024, .f32⟩
  | 48 => ⟨S1024, .f32⟩
  | 49 => ⟨S1x1024, .f32⟩
  | 50 => ⟨S4096x1024, .f32⟩
  | 51 => ⟨S4096x1024, .f32⟩
  | 52 => ⟨S4352x1024, .f32⟩
  | 53 => ⟨S256x1024, .f32⟩
  | 54 => ⟨S4096x1024, .f32⟩
  | 55 => ⟨S_, .f32⟩
  | 56 => ⟨S1024, .f32⟩
  | 57 => ⟨S1x1024, .f32⟩
  | 58 => ⟨S_, .f32⟩
  | 59 => ⟨S1024, .f32⟩
  | 60 => ⟨S1x1x1024, .f32⟩
  | 61 => ⟨S_, .f32⟩
  | 62 => ⟨S2x3x1024, .f32⟩
  | 63 => ⟨S4096x1024, .f32⟩
  | 64 => ⟨S_, .f32⟩
  | 65 => ⟨S1024, .f32⟩
  | 66 => ⟨S1x1024, .f32⟩
  | 67 => ⟨S4096x1024, .f32⟩
  | 68 => ⟨S4096x1024, .f32⟩
  | 69 => ⟨S_, .f32⟩
  | 70 => ⟨S1024, .f32⟩
  | 71 => ⟨S1x1x1024, .f32⟩
  | 72 => ⟨S_, .f32⟩
  | 73 => ⟨S2x3x1024, .f32⟩
  | 74 => ⟨S2x3x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S1x1x1024, .f32⟩
  | 81 => ⟨S_, .f32⟩
  | 82 => ⟨S2x3x1024, .f32⟩
  | 83 => ⟨S2x3x1024, .f32⟩
  | 84 => ⟨S256x1024, .f32⟩
  | 85 => ⟨S_, .f32⟩
  | 86 => ⟨S1024, .f32⟩
  | 87 => ⟨S1x1024, .f32⟩
  | 88 => ⟨S256x1024, .f32⟩
  | 89 => ⟨S256x1024, .f32⟩
  | 90 => ⟨S_, .f32⟩
  | 91 => ⟨S1024, .f32⟩
  | 92 => ⟨S1x1x1024, .f32⟩
  | 93 => ⟨S_, .f32⟩
  | 94 => ⟨S2x3x1024, .f32⟩
  | 95 => ⟨S2x3x1024, .f32⟩
  | 96 => ⟨S_, .f32⟩
  | 97 => ⟨S4352x1024, .f32⟩
  | 98 => ⟨S_, .f32⟩
  | 99 => ⟨S4352x1024, .f32⟩
  | 100 => ⟨S4352x1024, .f32⟩
  | 101 => ⟨S4352x1024, .f32⟩
  | 102 => ⟨S_, .f32⟩
  | 103 => ⟨S1024, .f32⟩
  | 104 => ⟨S1x1024, .f32⟩
  | 105 => ⟨S4352x1024, .f32⟩
  | 106 => ⟨S4352x1024, .f32⟩
  | 107 => ⟨S4352x1024, .f32⟩
  | 108 => ⟨S_, .f32⟩
  | 109 => ⟨S4352, .f32⟩
  | 110 => ⟨S4352x1, .f32⟩
  | 111 => ⟨S4352x1024, .f32⟩
  | 112 => ⟨S4352x1024, .f32⟩
  | 113 => ⟨S4352x1, .f32⟩
  | 114 => ⟨S_, .f32⟩
  | 115 => ⟨S4352x1, .f32⟩
  | 116 => ⟨S4352x1, .f32⟩
  | 117 => ⟨S_, .f32⟩
  | 118 => ⟨S4352, .f32⟩
  | 119 => ⟨S4352x1024, .f32⟩
  | 120 => ⟨S4352x1024, .f32⟩
  | 121 => ⟨S4352x1024, .f32⟩
  | 122 => ⟨S4352x1024, .f32⟩
  | 123 => ⟨S4352x1024, .f32⟩
  | 124 => ⟨S4352x1024, .f32⟩
  | 125 => ⟨S2x1x1024, .f32⟩
  | 126 => ⟨S2x1024, .f32⟩
  | 127 => ⟨S2x1x1024, .f32⟩
  | _ => ⟨S4352x1024, .f32⟩

abbrev hbmTy0_1 (i : Nat) : BufTy := match i % 128 with
  | 0 => ⟨S2x8x1024, .f32⟩
  | 1 => ⟨S2x1x1024, .f32⟩
  | 2 => ⟨S2x1024, .f32⟩
  | 3 => ⟨S2x1x1024, .f32⟩
  | 4 => ⟨S2x8x1024, .f32⟩
  | 5 => ⟨S8x1024, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_cst_17 : Ref sig .tc := ⟨.hbm, 96, rfl⟩
abbrev main_v73 : Ref sig .tc := ⟨.hbm, 97, rfl⟩
abbrev main_cst_18 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_19 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_20 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_21 : Ref sig .tc := ⟨.hbm, 114, rfl⟩
abbrev main_v87 : Ref sig .tc := ⟨.hbm, 115, rfl⟩
abbrev main_v88 : Ref sig .tc := ⟨.hbm, 116, rfl⟩
abbrev main_cst_22 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== PrenormFwd.lean ====
abbrev S4352x1024 : Shape := ⟨2, ![4352, 1024]⟩
abbrev S1x1024 : Shape := ⟨2, ![1, 1024]⟩
abbrev S2x3x1024 : Shape := ⟨3, ![2, 3, 1024]⟩
abbrev S256x1024 : Shape := ⟨2, ![256, 1024]⟩
abbrev S1x3x1024 : Shape := ⟨3, ![1, 3, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S2x3x1024, .f32⟩
  | .hbm, ⟨3, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x3x1024, .f32⟩
  | .local _ .vmem, ⟨4, _⟩ => ⟨S1x3x1024, .f32⟩
  | .local _ .vmem, ⟨5, _⟩ => ⟨S256x1024, .bf16⟩
  | .local _ .vmem, ⟨6, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrenormFwdRefIdeal.lean ====
abbrev S4352x1024 : Shape := ⟨2, ![4352, 1024]⟩
abbrev S1x1024 : Shape := ⟨2, ![1, 1024]⟩
abbrev S2x3x1024 : Shape := ⟨3, ![2, 3, 1024]⟩
abbrev S256x1024 : Shape := ⟨2, ![256, 1024]⟩
abbrev S1x1x1024 : Shape := ⟨3, ![1, 1, 1024]⟩
abbrev S1024 : Shape := ⟨1, ![1024]⟩
abbrev S_ : Shape := ⟨0, ![]⟩
abbrev S256 : Shape := ⟨1, ![256]⟩
abbrev S256x1 : Shape := ⟨2, ![256, 1]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S2x3x1024, .f32⟩
  | .hbm, ⟨3, _⟩ => ⟨S256x1024, .f32⟩
  | .hbm, ⟨4, _⟩ => ⟨S1x1x1024, .f32⟩
  | .hbm, ⟨5, _⟩ => ⟨S1024, .f32⟩
  | .hbm, ⟨6, _⟩ => ⟨S1x1x1024, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S4096x1024, .f32⟩
  | .hbm, ⟨33, _⟩ => ⟨S1x1x1024, .f32⟩
  | .hbm, ⟨34, _⟩ => ⟨S1024, .f32⟩
  | .hbm, ⟨35, _⟩ => ⟨S1x1x1024, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4352x1024, .f32⟩
  | .hbm, ⟨62, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Proj.lean ====
abbrev S4352x1024 : Shape := ⟨2, ![4352, 1024]⟩
abbrev S1024x13312 : Shape := ⟨2, ![1024, 13312]⟩
abbrev S4352x13312 : Shape := ⟨2, ![4352, 13312]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x13312, .bf16⟩
  | .hbm, ⟨2, _⟩ => ⟨S4352x13312, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4352x1024 : Shape := ⟨2, ![4352, 1024]⟩
abbrev S1024x13312 : Shape := ⟨2, ![1024, 13312]⟩
abbrev S4352x13312 : Shape := ⟨2, ![4352, 13312]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x13312, .bf16⟩
  | .hbm, ⟨2, _⟩ => ⟨S4352x1024, .f32⟩
  | .hbm, ⟨3, _⟩ => ⟨S1024x13312, .f32⟩
  | .hbm, ⟨4, _⟩ => ⟨S4352x13312, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Conv.lean ====
abbrev S4352x13312 : Shape := ⟨2, ![4352, 13312]⟩
abbrev S8x1024 : Shape := ⟨2, ![8, 1024]⟩
abbrev S4352x1024 : Shape := ⟨2, ![4352, 1024]⟩
abbrev S256x1024 : Shape := ⟨2, ![256, 1024]⟩
abbrev S1x1024 : Shape := ⟨2, ![1, 1024]⟩

abbrev nBuf : Space → Nat
  | .hbm => 4
  | .vmem => 21
  | .smem => 0
  | _ => 0

abbrev bufTy : (tb : Table) → Fin (tcTables nBuf tb) → BufTy
  | .hbm, ⟨0, _⟩ => ⟨S4352x13312, .f32⟩
  | .hbm, ⟨1, _⟩ => ⟨S8x1024, .f32⟩
  | .hbm, ⟨2, _⟩ => ⟨S4352x1024, .f32⟩
  | .hbm, ⟨3, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | _, _ => ⟨S4352x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c2_i32 : BitVec 32 := 2#32
  let c0_i32 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S4352x13312 : Shape := ⟨2, ![4352, 13312]⟩
abbrev S8x1024 : Shape := ⟨2, ![8, 1024]⟩
abbrev S4352x1024 : Shape := ⟨2, ![4352, 1024]⟩
abbrev S256x1024 : Shape := ⟨2, ![256, 1024]⟩
abbrev S_ : Shape := ⟨0, ![]⟩
abbrev S258x1024 : Shape := ⟨2, ![258, 1024]⟩
abbrev S1x1024 : Shape := ⟨2, ![1, 1024]⟩
abbrev S1024 : Shape := ⟨1, ![1024]⟩
abbrev S4096x1024 : Shape := ⟨2, ![4096, 1024]⟩
abbrev S4098x1024 : Shape := ⟨2, ![4098, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4352x13312, .f32⟩
  | .hbm, ⟨1, _⟩ => ⟨S8x1024, .f32⟩
  | .hbm, ⟨2, _⟩ => ⟨S4352x1024, .f32⟩
  | .hbm, ⟨3, _⟩ => ⟨S4352x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S256x1024, .f32⟩
  | .hbm, ⟨8, _⟩ => ⟨S_, .i32⟩
  | .hbm, ⟨9, _⟩ => ⟨S_, .f32⟩
  | .hbm, ⟨10, _⟩ => ⟨S258x1024, .f32⟩
  | .hbm, ⟨11, _⟩ => ⟨S1x1024, .f32⟩
  | .hbm, ⟨12, _⟩ => ⟨S1024, .f32⟩
  | .hbm, ⟨13, _⟩ => ⟨S256x1024, .f32⟩
  | .hbm, ⟨14, _⟩ => ⟨S1x1024, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S1x1024, .f32⟩
  | .hbm, ⟨25, _⟩ => ⟨S1024, .f32⟩
  | .hbm, ⟨26, _⟩ => ⟨S256x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S4096x1024, .f32⟩
  | .hbm, ⟨32, _⟩ => ⟨S_, .i32⟩
  | .hbm, ⟨33, _⟩ => ⟨S_, .f32⟩
  | .hbm, ⟨34, _⟩ => ⟨S4098x1024, .f32⟩
  | .hbm, ⟨35, _⟩ => ⟨S1x1024, .f32⟩
  | .hbm, ⟨36, _⟩ => ⟨S1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4352x1024, .f32⟩
  | .hbm, ⟨56, _⟩ => ⟨S4352x1024, .f32⟩
  | .hbm, ⟨57, _⟩ => ⟨S4352x1024, .f32⟩
  | .hbm, ⟨58, _⟩ => ⟨S4352x1024, .f32⟩
  | .hbm, ⟨59, _⟩ => ⟨S_, .f32⟩
  | .hbm, ⟨60, _⟩ => ⟨S4352x1024, .f32⟩
  | .hbm, ⟨61, _⟩ => ⟨S4352x1024, .f32⟩
  | .hbm, ⟨62, _⟩ => ⟨S_, .f32⟩
  | .hbm, ⟨63, _⟩ => ⟨S4352x1024, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .bf16⟩
  | _, _ => ⟨S4352x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_0 : Ref sig .tc := ⟨.hbm, 32, rfl⟩
abbrev main_call1_v0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Attn.lean ====
abbrev S4352x1024 : Shape := ⟨2, ![4352, 1024]⟩
abbrev S4352x256 : Shape := ⟨2, ![4352, 256]⟩
abbrev S4352x13312 : Shape := ⟨2, ![4352, 13312]⟩
abbrev S256x128 : Shape := ⟨2, ![256, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x13312, .f32⟩
  | .hbm, ⟨3, _⟩ => ⟨S4352x1024, .f32⟩
  | .local _ .vmem, ⟨0, _⟩ => ⟨S256x128, .bf16⟩
  | .local _ .vmem, ⟨1, _⟩ => ⟨S256x128, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .f32⟩
  | .local _ .vmem, ⟨5, _⟩ => ⟨S4352x128, .f32⟩
  | .local _ .vmem, ⟨6, _⟩ => ⟨S256x128, .f32⟩
  | .local _ .vmem, ⟨7, _⟩ => ⟨S256x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c98_i32 : BitVec 32 := 98#32
  let v17 : BitVec 32 := Scalar.addi c98_i32 v16
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S4352x1024 : Shape := ⟨2, ![4352, 1024]⟩
abbrev S4352x256 : Shape := ⟨2, ![4352, 256]⟩
abbrev S4352x13312 : Shape := ⟨2, ![4352, 13312]⟩
abbrev S4352x2x4x128 : Shape := ⟨4, ![4352, 2, 4, 128]⟩
abbrev S4352x2x128 : Shape := ⟨3, ![4352, 2, 128]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S256x1024 : Shape := ⟨2, ![256, 1024]⟩
abbrev S4096x2x4x128 : Shape := ⟨4, ![4096, 2, 4, 128]⟩
abbrev S2x4352x4096x4 : Shape := ⟨4, ![2, 4352, 4096, 4]⟩
abbrev S2x4x4096x4352 : Shape := ⟨4, ![2, 4, 4096, 4352]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x256, .bf16⟩
  | .hbm, ⟨2, _⟩ => ⟨S4352x13312, .f32⟩
  | .hbm, ⟨3, _⟩ => ⟨S4352x1024, .f32⟩
  | .hbm, ⟨4, _⟩ => ⟨S4352x2x4x128, .f32⟩
  | .hbm, ⟨5, _⟩ => ⟨S4352x256, .f32⟩
  | .hbm, ⟨6, _⟩ => ⟨S4352x2x128, .f32⟩
  | .hbm, ⟨7, _⟩ => ⟨S4352x256, .f32⟩
  | .hbm, ⟨8, _⟩ => ⟨S4352x2x128, .f32⟩
  | .hbm, ⟨9, _⟩ => ⟨S256x2x4x128, .f32⟩
  | .hbm, ⟨10, _⟩ => ⟨S256x2x128, .f32⟩
  | .hbm, ⟨11, _⟩ => ⟨S256x2x128, .f32⟩
  | .hbm, ⟨12, _⟩ => ⟨S2x256x256x4, .f32⟩
  | .hbm, ⟨13, _⟩ => ⟨S2x4x256x256, .f32⟩
  | .hbm, ⟨14, _⟩ => ⟨S_, .f32⟩
  | .hbm, ⟨15, _⟩ => ⟨S2x4x256x256, .f32⟩
  | .hbm, ⟨16, _⟩ => ⟨S2x4x256x256, .f32⟩
  | .hbm, ⟨17, _⟩ => ⟨S_, .f32⟩
  | .hbm, ⟨18, _⟩ => ⟨S2x4x256, .f32⟩
  | .hbm, ⟨19, _⟩ => ⟨S_, .f32⟩
  | .hbm, ⟨20, _⟩ => ⟨S2x4x256, .f32⟩
  | .hbm, ⟨21, _⟩ => ⟨S2x4x256, .f32⟩
  | .hbm, ⟨22, _⟩ => ⟨S2x4x256x1, .f32⟩
  | .hbm, ⟨23, _⟩ => ⟨S2x4x256x256, .f32⟩
  | .hbm, ⟨24, _⟩ => ⟨S2x4x256x256, .f32⟩
  | .hbm, ⟨25, _⟩ => ⟨S2x4x256x256, .f32⟩
  | .hbm, ⟨26, _⟩ => ⟨S_, .f32⟩
  | .hbm, ⟨27, _⟩ => ⟨S2x4x256, .f32⟩
  | .hbm, ⟨28, _⟩ => ⟨S2x4x256x1, .f32⟩
  | .hbm, ⟨29, _⟩ => ⟨S2x4x256x256, .f32⟩
  | .hbm, ⟨30, _⟩ => ⟨S2x4x256x256, .f32⟩
  | .hbm, ⟨31, _⟩ => ⟨S2x128x4x256, .f32⟩
  | .hbm, ⟨32, _⟩ => ⟨S256x2x4x128, .f32⟩
  | .hbm, ⟨33, _⟩ => ⟨S256x1024, .f32⟩
  | .hbm, ⟨34, _⟩ => ⟨S4096x2x4x128, .f32⟩
  | .hbm, ⟨35, _⟩ => ⟨S2x4352x4096x4, .f32⟩
  | .hbm, ⟨36, _⟩ => ⟨S2x4x4096x4352, .f32⟩
  | .hbm, ⟨37, _⟩ => ⟨S_, .f32⟩
  | .hbm, ⟨38, _⟩ => ⟨S2x4x4096x4352, .f32⟩
  | .hbm, ⟨39, _⟩ => ⟨S2x4x4096x4352, .f32⟩
  | .hbm, ⟨40, _⟩ => ⟨S_, .f32⟩
  | .hbm, ⟨41, _⟩ => ⟨S2x4x4096, .f32⟩
  | .hbm, ⟨42, _⟩ => ⟨S_, .f32⟩
  | .hbm, ⟨43, _⟩ => ⟨S2x4x4096, .f32⟩
  | .hbm, ⟨44, _⟩ => ⟨S2x4x4096, .f32⟩
  | .hbm, ⟨45, _⟩ => ⟨S2x4x4096x1, .f32⟩
  | .hbm, ⟨46, _⟩ => ⟨S2x4x4096x4352, .f32⟩
  | .hbm, ⟨47, _⟩ => ⟨S2x4x4096x4352, .f32⟩
  | .hbm, ⟨48, _⟩ => ⟨S2x4x4096x4352, .f32⟩
  | .hbm, ⟨49, _⟩ => ⟨S_, .f32⟩
  | .hbm, ⟨50, _⟩ => ⟨S2x4x4096, .f32⟩
  | .hbm, ⟨51, _⟩ => ⟨S2x4x4096x1, .f32⟩
  | .hbm, ⟨52, _⟩ => ⟨S2x4x4096x4352, .f32⟩
  | .hbm, ⟨53, _⟩ => ⟨S2x4x4096x4352, .f32⟩
  | .hbm, ⟨54, _⟩ => ⟨S2x128x4x4096, .f32⟩
  | .hbm, ⟨55, _⟩ => ⟨S4096x2x4x128, .f32⟩
  | .hbm, ⟨56, _⟩ => ⟨S4096x1024, .f32⟩
  | .hbm, ⟨57, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Branch.lean ====
abbrev S4352x1024 : Shape := ⟨2, ![4352, 1024]⟩
abbrev S4352x13312 : Shape := ⟨2, ![4352, 13312]⟩
abbrev S1x256 : Shape := ⟨2, ![1, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 15
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .f32⟩
  | .hbm, ⟨3, _⟩ => ⟨S4352x13312, .f32⟩
  | .hbm, ⟨4, _⟩ => ⟨S1x256, .f32⟩
  | .hbm, ⟨5, _⟩ => ⟨S4352x1024, .bf16⟩
  | .hbm, ⟨6, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BranchRefIdeal.lean ====
abbrev S4352x1024 : Shape := ⟨2, ![4352, 1024]⟩
abbrev S4352x13312 : Shape := ⟨2, ![4352, 13312]⟩
abbrev S1x256 : Shape := ⟨2, ![1, 256]⟩
abbrev S4352x4x256 : Shape := ⟨3, ![4352, 4, 256]⟩
abbrev S256 : Shape := ⟨1, ![256]⟩
abbrev S_ : Shape := ⟨0, ![]⟩
abbrev S4352x4 : Shape := ⟨2, ![4352, 4]⟩
abbrev S4352x4x1 : Shape := ⟨3, ![4352, 4, 1]⟩
abbrev S1x1x256 : Shape := ⟨3, ![1, 1, 256]⟩

abbrev nBuf : Space → Nat
  | .hbm => 49
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .f32⟩
  | .hbm, ⟨3, _⟩ => ⟨S4352x13312, .f32⟩
  | .hbm, ⟨4, _⟩ => ⟨S1x256, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x4x256, .f32⟩
  | .hbm, ⟨9, _⟩ => ⟨S256, .f32⟩
  | .hbm, ⟨10, _⟩ => ⟨S4352x4x256, .f32⟩
  | .hbm, ⟨11, _⟩ => ⟨S_, .f32⟩
  | .hbm, ⟨12, _⟩ => ⟨S4352x4, .f32⟩
  | .hbm, ⟨13, _⟩ => ⟨S4352x4x1, .f32⟩
  | .hbm, ⟨14, _⟩ => ⟨S_, .f32⟩
  | .hbm, ⟨15, _⟩ => ⟨S4352x4x1, .f32⟩
  | .hbm, ⟨16, _⟩ => ⟨S4352x4x1, .f32⟩
  | .hbm, ⟨17, _⟩ => ⟨S_, .f32⟩
  | .hbm, ⟨18, _⟩ => ⟨S4352x4x1, .f32⟩
  | .hbm, ⟨19, _⟩ => ⟨S4352x4x1, .f32⟩
  | .hbm, ⟨20, _⟩ => ⟨S4352x4x1, .f32⟩
  | .hbm, ⟨21, _⟩ => ⟨S4352x4x256, .f32⟩
  | .hbm, ⟨22, _⟩ => ⟨S4352x4x256, .f32⟩
  | .hbm, ⟨23, _⟩ => ⟨S1x1x256, .f32⟩
  | .hbm, ⟨24, _⟩ => ⟨S4352x4x256, .f32⟩
  | .hbm, ⟨25, _⟩ => ⟨S4352x4x256, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S_, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .bf16⟩
  | .hbm, ⟨38, _⟩ => ⟨S4352x1024, .f32⟩
  | .hbm, ⟨39, _⟩ => ⟨S4352x1024, .f32⟩
  | .hbm, ⟨40, _⟩ => ⟨S_, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Merge.lean ====
abbrev S4352x1024 : Shape := ⟨2, ![4352, 1024]⟩
abbrev S4352x13312 : Shape := ⟨2, ![4352, 13312]⟩
abbrev S1x3072 : Shape := ⟨2, ![1, 3072]⟩
abbrev S256x1024 : Shape := ⟨2, ![256, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .f32⟩
  | .hbm, ⟨3, _⟩ => ⟨S4352x13312, .f32⟩
  | .hbm, ⟨4, _⟩ => ⟨S1x3072, .f32⟩
  | .hbm, ⟨5, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x3072, .f32⟩
  | .local _ .vmem, ⟨13, _⟩ => ⟨S256x1024, .bf16⟩
  | .local _ .vmem, ⟨14, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S4352x1024 : Shape := ⟨2, ![4352, 1024]⟩
abbrev S4352x13312 : Shape := ⟨2, ![4352, 13312]⟩
abbrev S1x3072 : Shape := ⟨2, ![1, 3072]⟩
abbrev S4352x3072 : Shape := ⟨2, ![4352, 3072]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .f32⟩
  | .hbm, ⟨3, _⟩ => ⟨S4352x13312, .f32⟩
  | .hbm, ⟨4, _⟩ => ⟨S1x3072, .f32⟩
  | .hbm, ⟨5, _⟩ => ⟨S4352x3072, .f32⟩
  | .hbm, ⟨6, _⟩ => ⟨S4352x3072, .f32⟩
  | .hbm, ⟨7, _⟩ => ⟨S4352x3072, .f32⟩
  | .hbm, ⟨8, _⟩ => ⟨S4352x3072, .f32⟩
  | .hbm, ⟨9, _⟩ => ⟨S4352x3072, .f32⟩
  | .hbm, ⟨10, _⟩ => ⟨S_, .f32⟩
  | .hbm, ⟨11, _⟩ => ⟨S4352x3072, .f32⟩
  | .hbm, ⟨12, _⟩ => ⟨S4352x3072, .f32⟩
  | .hbm, ⟨13, _⟩ => ⟨S_, .f32⟩
  | .hbm, ⟨14, _⟩ => ⟨S4352x3072, .f32⟩
  | .hbm, ⟨15, _⟩ => ⟨S4352x3072, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Out.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Post.lean ====
abbrev S4352x1024 : Shape := ⟨2, ![4352, 1024]⟩
abbrev S1x1024 : Shape := ⟨2, ![1, 1024]⟩
abbrev S2x3x1024 : Shape := ⟨3, ![2, 3, 1024]⟩
abbrev S256x1024 : Shape := ⟨2, ![256, 1024]⟩
abbrev S1x3x1024 : Shape := ⟨3, ![1, 3, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S2x3x1024, .f32⟩
  | .hbm, ⟨4, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x3x1024, .f32⟩
  | .local _ .vmem, ⟨6, _⟩ => ⟨S1x3x1024, .f32⟩
  | .local _ .vmem, ⟨7, _⟩ => ⟨S256x1024, .f32⟩
  | .local _ .vmem, ⟨8, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostRefIdeal.lean ====
abbrev S4352x1024 : Shape := ⟨2, ![4352, 1024]⟩
abbrev S1x1024 : Shape := ⟨2, ![1, 1024]⟩
abbrev S2x3x1024 : Shape := ⟨3, ![2, 3, 1024]⟩
abbrev S_ : Shape := ⟨0, ![]⟩
abbrev S4352 : Shape := ⟨1, ![4352]⟩
abbrev S4352x1 : Shape := ⟨2, ![4352, 1]⟩
abbrev S1x1x1024 : Shape := ⟨3, ![1, 1, 1024]⟩
abbrev S1024 : Shape := ⟨1, ![1024]⟩
abbrev S256x1024 : Shape := ⟨2, ![256, 1024]⟩
abbrev S4096x1024 : Shape := ⟨2, ![4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S2x3x1024, .f32⟩
  | .hbm, ⟨4, _⟩ => ⟨S4352x1024, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1024, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S1x1x1024, .f32⟩
  | .hbm, ⟨20, _⟩ => ⟨S1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S1x1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4352x1024, .f32⟩
  | .hbm, ⟨32, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== DwOut.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .f32⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S4352x1024 : Shape := ⟨2, ![4352, 1024]⟩
abbrev S1024x4352 : Shape := ⟨2, ![1024, 4352]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .f32⟩
  | .hbm, ⟨3, _⟩ => ⟨S1024x4352, .f32⟩
  | .hbm, ⟨4, _⟩ => ⟨S4352x1024, .f32⟩
  | .hbm, ⟨5, _⟩ => ⟨S1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwIn.lean ====
abbrev S4352x1024 : Shape := ⟨2, ![4352, 1024]⟩
abbrev S4352x13312 : Shape := ⟨2, ![4352, 13312]⟩
abbrev S1024x13312 : Shape := ⟨2, ![1024, 13312]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x13312, .bf16⟩
  | .hbm, ⟨2, _⟩ => ⟨S1024x13312, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 13, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4352x1024 : Shape := ⟨2, ![4352, 1024]⟩
abbrev S4352x13312 : Shape := ⟨2, ![4352, 13312]⟩
abbrev S1024x4352 : Shape := ⟨2, ![1024, 4352]⟩
abbrev S1024x13312 : Shape := ⟨2, ![1024, 13312]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x13312, .bf16⟩
  | .hbm, ⟨2, _⟩ => ⟨S4352x1024, .f32⟩
  | .hbm, ⟨3, _⟩ => ⟨S1024x4352, .f32⟩
  | .hbm, ⟨4, _⟩ => ⟨S4352x13312, .f32⟩
  | .hbm, ⟨5, _⟩ => ⟨S1024x13312, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dm.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmRefIdeal.lean ====
abbrev S4352x1024 : Shape := ⟨2, ![4352, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S1024x1024, .f32⟩
  | .hbm, ⟨5, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dh.lean ====
abbrev S4352x13312 : Shape := ⟨2, ![4352, 13312]⟩
abbrev S1024x13312 : Shape := ⟨2, ![1024, 13312]⟩
abbrev S4352x1024 : Shape := ⟨2, ![4352, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x13312, .bf16⟩
  | .hbm, ⟨1, _⟩ => ⟨S1024x13312, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 13], ![false, false, false]⟩

def k0_cond3 (i : grid0.Coords) : BitVec 1 :=
  let arg2 : BitVec 32 := BitVec.ofNat 32 (i 2).val
  let c12_i32 : BitVec 32 := 12#32
  let v9 : BitVec 1 := Scalar.cmpi .eq arg2 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S4352x13312 : Shape := ⟨2, ![4352, 13312]⟩
abbrev S1024x13312 : Shape := ⟨2, ![1024, 13312]⟩
abbrev S13312x1024 : Shape := ⟨2, ![13312, 1024]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x13312, .bf16⟩
  | .hbm, ⟨1, _⟩ => ⟨S1024x13312, .bf16⟩
  | .hbm, ⟨2, _⟩ => ⟨S4352x13312, .f32⟩
  | .hbm, ⟨3, _⟩ => ⟨S1024x13312, .f32⟩
  | .hbm, ⟨4, _⟩ => ⟨S13312x1024, .f32⟩
  | .hbm, ⟨5, _⟩ => ⟨S4352x1024, .f32⟩
  | _, _ => ⟨S4352x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Adam.lean ====
/-
  One AdamW step on one element, as the update kernel spells it: the two new moments and the change of the weight, of the gradient and
  of the old weight and moments. The constants are the words of b₁, 1 − b₁, b₂, 1 − b₂, of the two bias corrections at step ten, of ε,
  of the weight decay and of the negated learning rate.
-/
module

public import Idealize.ShloMosaic.PureOps.Ideal
public import Idealize.ShloMosaic.PureOps
public import Idealize.ShloMosaic.Lib.Pointwise.Reduce

@[expose] public section

noncomputable section

namespace Cert.Adam

open Idealize.ShloMosaic

section Step

variable {F : FTy → Type} [FloatOps F]

/-- b₁ m + (1 − b₁) g. -/
def first (m g : F .f32) : F .f32 :=
  FloatOps.addf (FloatOps.mulf (Scalar.ofBits .f32 0x3F666666#32) m) (FloatOps.mulf (Scalar.ofBits .f32 0x3DCCCCCD#32) g)

/-- b₂ v + (1 − b₂) g². -/
def second (v g : F .f32) : F .f32 :=
  FloatOps.addf (FloatOps.mulf (Scalar.ofBits .f32 0x3F7FBE77#32) v) (FloatOps.mulf (Scalar.ofBits .f32 0x3A83126F#32) (FloatOps.mulf g g))

/-- − lr (m̂ / (√v̂ + ε) + decay · w), where m̂ and v̂ are the new moments over their bias corrections. -/
def change (w m v g : F .f32) : F .f32 :=
  FloatOps.mulf (Scalar.ofBits .f32 0xBA83126F#32)
    (FloatOps.addf
      (FloatOps.divf (FloatOps.divf (first m g) (Scalar.ofBits .f32 0x3F26BD02#32))
        (FloatOps.addf (FloatOps.sqrt (FloatOps.divf (second v g) (Scalar.ofBits .f32 0x3C231ACC#32))) (Scalar.ofBits .f32 0x322BCC77#32)))
      (FloatOps.mulf (Scalar.ofBits .f32 0x3C23D70A#32) w))

/-- Eight numbers, added one after the other. -/
def eight (s : Fin 8 → F .f32) : F .f32 :=
  FloatOps.addf (FloatOps.addf (FloatOps.addf (FloatOps.addf (FloatOps.addf (FloatOps.addf (FloatOps.addf (s 0) (s 1)) (s 2)) (s 3)) (s 4)) (s 5)) (s 6)) (s 7)

end Step

end Cert.Adam

end
-- ==== Proof.Rows.lean ====
/-
  Slots of rows: the element of a slot at a row and a lane, how the kernels of the weight update read it, and its sum along the slots. All
  for any number of slots, rows and lanes. Then AdamW's step over whole vectors, element by element.
-/
module

public import proofs.«01_k».proof.Proof.Adam
public import Idealize.ShloMosaic.Lib.IdealHost
public import Idealize.ShloMosaic.Lib.ViewIndex
public import Idealize.ShloMosaic.Lib.Pipeline.Value

@[expose] public section

noncomputable section

namespace Cert.Rows

open Idealize.ShloMosaic

variable {F : FTy → Type} [FloatOps F] {n r l : Nat}

/-- The shape of `n` slots of `r` rows of `l` lanes, and of one slot's rows. -/
abbrev Slots (n r l : Nat) : Shape := ⟨3, ![n, r, l]⟩
abbrev Flat (r l : Nat) : Shape := ⟨2, ![r, l]⟩

/-- The element of slot `k` at a row and a lane. -/
abbrev inSlot (k : Fin n) (i : (Flat r l).Idx) : (Slots n r l).Idx := ix3 k ⟨(i 0).val, (i 0).isLt⟩ ⟨(i 1).val, (i 1).isLt⟩

/-- The one slot of a vector, taken as rows. -/
theorem cast_slot (x : Vec F (Slots 1 r l) .f32) (h : (Slots 1 r l).ShapeCasts (Flat r l)) : shapeCast (Flat r l) x h = fun i : (Flat r l).Idx => x (inSlot 0 i) := by
  refine funext fun i : (Flat r l).Idx => shapeCast_apply x h i (inSlot 0 i) ?_
  rw [Shape.rowMajor_val_three, Shape.rowMajor_val_two]
  show (0 * r + (i 0).val) * l + (i 1).val = (i 0).val * l + (i 1).val
  rw [Nat.zero_mul, Nat.zero_add]

/-- Slot `k` of a vector of slots, loaded. -/
theorem load_slot (x : Vec F (Slots n r l) .f32) (k : Fin n) (h : ∀ a, (![k.val, 0, 0] : Fin 3 → Nat) a + (Slots 1 r l).size a ≤ (Slots n r l).size a) (i : (Flat r l).Idx) :
    View.ld x (Rect.unit (s := Slots n r l) ![k.val, 0, 0] (Slots 1 r l).size h) (inSlot 0 i) = x (inSlot k i) := by
  refine congrArg x (Shape.idx3_ext ?_ ?_ ?_)
  · show k.val + 1 * 0 = k.val; omega
  · show 0 + 1 * (i 0).val = (i 0).val; omega
  · show 0 + 1 * (i 1).val = (i 1).val; omega

/-- Over the extended reals the sum along the slots is the sum of the slots' elements. -/
theorem sum_slots {u : Shape} (x : FVec Ideal (Slots n r l) .f32) (h : (Slots n r l).ReducesTo [0] (Flat r l)) (hu : 0 < u.numel) :
    Host.reduceAdd x (constant u .f32 0x00000000#32) h hu = fun i : (Flat r l).Idx => (∑ k : Fin n, (x (inSlot k i) : EReal)) := by
  refine funext fun i : (Flat r l).Idx => ?_
  rw [Host.reduceAdd_apply, Ideal.hostReduceAdd_def, Ideal.hostReduceAdd_r3_a0]
  exact (congrArg (· + _) Ideal.ofBits_zero_f32).trans (zero_add _)

/-- Eight slots, added one after the other, -/
abbrev eight (x : Vec F (Slots 8 r l) .f32) : Vec F (Flat r l) .f32 := fun i => Adam.eight fun k => x (inSlot k i)

/-- as the kernels load and add them, -/
theorem eight_rows (x : Vec F (Slots 8 r l) .f32) (h : ∀ (k : Fin 8) (a : Fin 3), (![k.val, 0, 0] : Fin 3 → Nat) a + (Slots 1 r l).size a ≤ (Slots 8 r l).size a)
    (hc : (Slots 1 r l).ShapeCasts (Flat r l)) :
    let s (k : Fin 8) : FVec F (Flat r l) .f32 := shapeCast (Flat r l) (View.ld x (Rect.unit (s := Slots 8 r l) ![k.val, 0, 0] (Slots 1 r l).size (h k))) hc
    addf (addf (addf (addf (addf (addf (addf (s 0) (s 1)) (s 2)) (s 3)) (s 4)) (s 5)) (s 6)) (s 7) = eight x := by
  intro s
  have hs (k : Fin 8) : s k = fun i : (Flat r l).Idx => x (inSlot k i) := (cast_slot _ hc).trans (funext fun i => load_slot x k (h k) i)
  rw [hs 0, hs 1, hs 2, hs 3, hs 4, hs 5, hs 6, hs 7]
  rfl

/-- Every slot of eight lies inside. -/
theorem slot_inb (r l : Nat) (k : Fin 8) (a : Fin 3) : (![k.val, 0, 0] : Fin 3 → Nat) a + (Slots 1 r l).size a ≤ (Slots 8 r l).size a := by
  have hk := k.isLt
  fin_cases a
  · show k.val + 1 ≤ 8; omega
  · exact (Nat.zero_add r).le
  · exact (Nat.zero_add l).le

/-- which over the extended reals is the sum along the slots. -/
theorem sum_eight {u : Shape} (x : FVec Ideal (Slots 8 r l) .f32) (h : (Slots 8 r l).ReducesTo [0] (Flat r l)) (hu : 0 < u.numel) :
    Host.reduceAdd x (constant u .f32 0x00000000#32) h hu = eight (F := Ideal) x :=
  (sum_slots x h hu).trans (funext fun i => Fin.sum_univ_eight fun k => (x (inSlot k i) : EReal))

/-- One slot, and the sum along it. -/
abbrev one (x : Vec F (Slots 1 r l) .f32) : Vec F (Flat r l) .f32 := fun i => x (inSlot 0 i)

theorem sum_one {u : Shape} (x : FVec Ideal (Slots 1 r l) .f32) (h : (Slots 1 r l).ReducesTo [0] (Flat r l)) (hu : 0 < u.numel) :
    Host.reduceAdd x (constant u .f32 0x00000000#32) h hu = one (F := Ideal) x :=
  (sum_slots x h hu).trans (funext fun i => Fin.sum_univ_one fun k => (x (inSlot k i) : EReal))

/-- The row of a whole array that lies `t` blocks of `r` rows below row `y` of a block, in the same lane. -/
abbrev below {R : Nat} (t : Nat) (y : (Flat r l).Idx) (h : t * r + (y 0).val < R) : (Flat R l).Idx := ix2 ⟨t * r + (y 0).val, h⟩ ⟨(y 1).val, (y 1).isLt⟩

theorem eq_below {R : Nat} {t : Nat} {y : (Flat r l).Idx} (h : t * r + (y 0).val < R) (i : (Flat R l).Idx) (e : ∀ a, (i a).val = (![t, 0] : Fin 2 → Nat) a * (Flat r l).size a + (y a).val) : i = below t y h :=
  Shape.idx_ext₂ (e 0) ((e 1).trans ((congrArg (· + (y 1).val) (Nat.zero_mul l)).trans (Nat.zero_add _)))

/-- Every row of an array of `k` blocks of rows lies below a row of the first block. -/
theorem exists_below {k : Nat} (i : (Flat (k * r) l).Idx) : ∃ (t : Fin k) (y : (Flat r l).Idx) (h : t.val * r + (y 0).val < k * r), below t.val y h = i := by
  have h0 : (i 0).val < k * r := (i 0).isLt
  have hr : 0 < r := Nat.pos_of_ne_zero (Nat.ne_zero_of_mul_ne_zero_right ((Nat.zero_le _).trans_lt h0).ne')
  have e : (i 0).val / r * r + (i 0).val % r = (i 0).val := Nat.div_add_mod' _ _
  refine ⟨⟨(i 0).val / r, Nat.div_lt_of_lt_mul (h0.trans_eq (Nat.mul_comm k r))⟩, ix2 ⟨(i 0).val % r, Nat.mod_lt _ hr⟩ ⟨(i 1).val, (i 1).isLt⟩, e.trans_lt h0, Shape.idx_ext₂ e rfl⟩

theorem zero_zero : (![0, 0] : Fin 2 → Nat) = fun _ => 0 := funext fun a => by fin_cases a <;> rfl
theorem zero_zero_zero : (![0, 0, 0] : Fin 3 → Nat) = fun _ => 0 := funext fun a => by fin_cases a <;> rfl

/-- AdamW's new moments and change of the weights, element by element. -/
abbrev first {s : Shape} (m g : Vec F s .f32) : Vec F s .f32 := fun i => Adam.first (m i) (g i)
abbrev second {s : Shape} (v g : Vec F s .f32) : Vec F s .f32 := fun i => Adam.second (v i) (g i)
abbrev change {s : Shape} (w m v g : Vec F s .f32) : Vec F s .f32 := fun i => Adam.change (w i) (m i) (v i) (g i)

end Cert.Rows

end
-- ==== Proof.SlotSum.lean ====
/-
  The call that adds the eight devices' gradients of three small weights, and its reference, the sum along the slots.
-/
module

public import proofs.«01_k».proof.Proof.Rows
public import proofs.«01_k».proof.Proof.Gen.SumIdeal.Value
public import proofs.«01_k».proof.Proof.Gen.SumRefIdeal.Run

@[expose] public section

noncomputable section

namespace Cert.SumProof

open Idealize.ShloMosaic Idealize.ShloMosaic.TcCoe Idealize.SL.Sem

section Kernel

open Cert.SumIdeal Cert.SumIdeal.Gen

variable {F : FTy → Type} [FloatOps F]
variable (m : (ℓ : Loc nD τ sig) → Buf (Elt F) ℓ) (ρ : Dev nD → PrngReg)

/-- The call's run: the eight slots, added one after the other. -/
theorem run : θ_run defs (onTc (τ := τ) (main (F := F))) ⟨m, fun _ => 0, ρ⟩ fun r => ∀ c : Dev nD,
      r.2.mem ((c : Thread nD τ).loc main_v0) = (Rows.eight (m ((c : Thread nD τ).loc main_arg0)) : Vec F S304x128 .f32)
      ∧ r.2.mem ((c : Thread nD τ).loc main_arg0) = m ((c : Thread nD τ).loc main_arg0) :=
  (θ_run defs _ _).mono (fun _ h c => ⟨(h c).1.trans (Rows.eight_rows (m ((c : Thread nD τ).loc main_arg0)) (Rows.slot_inb 304 128) _), (h c).2⟩)
    (Value.run m ρ)

end Kernel

section Reference

open Cert.SumRefIdeal Cert.SumRefIdeal.Gen

variable (m : (ℓ : Loc nD τ sig) → Buf (Elt Ideal) ℓ) (ρ : Dev nD → PrngReg) (M : (ℓ : Loc Cert.SumIdeal.nD Cert.SumIdeal.τ Cert.SumIdeal.sig) → Buf (Elt Ideal) ℓ)

/-- The reference's run from the call's argument: over the extended reals the same function of it. -/
theorem run_ref (hm : ∀ c : Dev nD, m ((c.tc : Thread nD τ).loc main_arg0) = M ((c.tc : Thread nD τ).loc Cert.SumIdeal.main_arg0)) :
    θ_run defs (onTc (τ := τ) (main (F := Ideal))) ⟨m, fun _ => 0, ρ⟩ fun r => ∀ c : Dev nD,
      r.2.mem ((c.tc : Thread nD τ).loc main_v0) = (Rows.eight (M ((c.tc : Thread nD τ).loc Cert.SumIdeal.main_arg0)) : Vec Ideal S304x128 .f32)
      ∧ r.2.mem ((c.tc : Thread nD τ).loc main_arg0) = m ((c.tc : Thread nD τ).loc main_arg0) :=
  (θ_run defs _ _).mono (fun _ h c => ⟨(h c).1.trans ((congrArg (fun x => Host.reduceAdd x _ _ _) (hm c)).trans (Rows.sum_eight _ _ _)), (h c).2⟩)
    (Value.run m ρ)

end Reference

end Cert.SumProof

end
-- ==== Proof.DwAda.lean ====
/-
  The product that gives the gradient of a layer's share of w_ada, and its reference. Over the extended reals both are the sum, over the
  sixteen rows of conditions, of the activated condition times the modulation's gradient.
-/
module

public import proofs.«01_k».proof.Proof.Gen.DwAdaIdeal.Value
public import proofs.«01_k».proof.Proof.Gen.DwAdaRefIdeal.Run
public import Idealize.ShloMosaic.Lib.Pointwise

@[expose] public section

noncomputable section

namespace Cert.DwAdaProof

open Idealize.ShloMosaic Idealize.ShloMosaic.TcCoe Idealize.SL.Sem

/-- The call's result is the reference's, of the same arguments. -/
theorem product_eq (a : Vec Ideal DwAdaIdeal.S16x1024 .f32) (d : Vec Ideal DwAdaIdeal.S16x384 .f32) :
    DwAdaIdeal.Value.G2 a d = (Host.dotGeneral (F := Ideal) (φ₁ := .f32) (φ₂ := .f32) DwAdaRefIdeal.dot_S1024x16_S16x384_S1024x384_1_0_0_1_n_n none
      (transpose DwAdaRefIdeal.S1024x16 [1, 0] a DwAdaRefIdeal.Gen.transposes_S16x1024_S1024x16_1_0) d : FVec Ideal DwAdaRefIdeal.S1024x384 .f32) := by
  funext j
  pointwise [DwAdaIdeal.Value.G2, DwAdaIdeal.Gen.k0_pay1]

section Reference

open Cert.DwAdaRefIdeal Cert.DwAdaRefIdeal.Gen

variable (m : (ℓ : Loc nD τ sig) → Buf (Elt Ideal) ℓ) (ρ : Dev nD → PrngReg) (M : (ℓ : Loc Cert.DwAdaIdeal.nD Cert.DwAdaIdeal.τ Cert.DwAdaIdeal.sig) → Buf (Elt Ideal) ℓ)

/-- The reference's run from the call's arguments: the call's own result. -/
theorem run_ref (hm : ∀ c : Dev nD,
      m ((c.tc : Thread nD τ).loc main_arg0) = M ((c.tc : Thread nD τ).loc Cert.DwAdaIdeal.main_arg0)
      ∧ m ((c.tc : Thread nD τ).loc main_arg1) = M ((c.tc : Thread nD τ).loc Cert.DwAdaIdeal.main_arg1)) :
    θ_run defs (onTc (τ := τ) (main (F := Ideal))) ⟨m, fun _ => 0, ρ⟩ fun r => ∀ c : Dev nD,
      r.2.mem ((c.tc : Thread nD τ).loc main_v1) = DwAdaIdeal.Value.G2 (M ((c.tc : Thread nD τ).loc Cert.DwAdaIdeal.main_arg0)) (M ((c.tc : Thread nD τ).loc Cert.DwAdaIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e, hargs⟩ := h c
    rw [(hm c).1, (hm c).2, ← product_eq] at e
    exact ⟨e, hargs⟩) (Value.run m ρ)

end Reference

end Cert.DwAdaProof

end
-- ==== Proof.Loss.lean ====
/-
  The call that forms the loss's share and its gradient, and its reference. Point `t` of the grid reads rows `256 t … 256 t + 255` of the
  stream. Point 0's rows are the context's: the gradient there is zero, and the loss is cleared. Every later point reads the target's rows
  `256 (t - 1) … 256 (t - 1) + 255`, writes the gradient of its rows, and adds their squared errors to the loss, which is written back after
  the last point.
-/
module

public import proofs.«01_k».proof.Proof.Rows
public import proofs.«01_k».proof.Proof.Gen.LossIdeal.Value
public import proofs.«01_k».proof.Proof.Gen.LossRefIdeal.Run
public import Idealize.ShloMosaic.Lib.Pointwise

@[expose] public section

noncomputable section

namespace Cert.LossProof

open Idealize.ShloMosaic Idealize.ShloMosaic.TcCoe Idealize.SL.Sem

/-! ## The gradient and the loss, of the stream and the target -/

/-- The error of target row `r` at lane `l`: the stream's row stands 256 rows, the context's, further down. -/
abbrev err (y : Vec Ideal LossIdeal.S4352x1024 .f32) (g : Vec Ideal LossIdeal.S4096x1024 .f32) (r : Fin 4096) (l : Fin 1024) : EReal :=
  (y (ix2 ⟨256 + r.val, Nat.add_lt_add_left r.isLt 256⟩ l) : EReal) - g (ix2 r l)

/-- The number of lanes, as the programs write it. -/
abbrev lanes : EReal := Ideal.ofBits .f32 0x44800000#32

/-- The gradient: a target row's errors over the number of lanes, and zero on the context's rows. -/
abbrev gradient (y : Vec Ideal LossIdeal.S4352x1024 .f32) (g : Vec Ideal LossIdeal.S4096x1024 .f32) : Vec Ideal LossIdeal.S4352x1024 .f32 := fun i =>
  if h : 256 ≤ (i 0).val ∧ (i 0).val - 256 < 4096 then Ideal.div (err y g ⟨(i 0).val - 256, h.2⟩ ⟨(i 1).val, (i 1).isLt⟩) lanes else (0 : EReal)

theorem gradient_context (y : Vec Ideal LossIdeal.S4352x1024 .f32) (g : Vec Ideal LossIdeal.S4096x1024 .f32) (i : LossIdeal.S4352x1024.Idx)
    (h : ¬(256 ≤ (i 0).val ∧ (i 0).val - 256 < 4096)) : gradient y g i = (0 : EReal) := dif_neg h
theorem gradient_target (y : Vec Ideal LossIdeal.S4352x1024 .f32) (g : Vec Ideal LossIdeal.S4096x1024 .f32) (i : LossIdeal.S4352x1024.Idx)
    (h : 256 ≤ (i 0).val ∧ (i 0).val - 256 < 4096) : gradient y g i = Ideal.div (err y g ⟨(i 0).val - 256, h.2⟩ ⟨(i 1).val, (i 1).isLt⟩) lanes := dif_pos h

/-- The squared errors of target row `r`, and of the first `n` blocks of 256 target rows, added. -/
abbrev rowLoss (y : Vec Ideal LossIdeal.S4352x1024 .f32) (g : Vec Ideal LossIdeal.S4096x1024 .f32) (r : Nat) : EReal :=
  if h : r < 4096 then ∑ l : Fin 1024, err y g ⟨r, h⟩ l * err y g ⟨r, h⟩ l else 0
abbrev loss (y : Vec Ideal LossIdeal.S4352x1024 .f32) (g : Vec Ideal LossIdeal.S4096x1024 .f32) (n : Nat) : Vec Ideal LossIdeal.S8x128 .f32 := fun _ =>
  (∑ r ∈ Finset.range (n * 256), rowLoss y g r : EReal)

/-- The constants' values. -/
theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem lanes_eq : lanes = ((1024 : ℝ) : EReal) := by
  simp [lanes, Ideal.ofBits, Ideal.ieee, -EReal.coe_mul]; norm_num

/-- Half the reciprocal of the number of lanes, times twice an error, is the error over the number of lanes. -/
theorem scale_eq (e : EReal) : Ideal.div (Ideal.ofBits .f32 0x3F000000#32) lanes * (Ideal.ofBits .f32 0x40000000#32 * e) = Ideal.div e lanes := by
  have h0 : lanes ≠ 0 := by rw [lanes_eq]; exact_mod_cast (by norm_num : (1024 : ℝ) ≠ 0)
  have h1 : (((1 / 2 : ℝ) : EReal) * ((2 : ℝ) : EReal)) = 1 := by rw [← EReal.coe_mul]; norm_num
  unfold Ideal.div
  rw [if_neg h0, if_neg h0, half_eq, two_eq]
  calc (((1 / 2 : ℝ) : EReal) * lanes⁻¹) * (((2 : ℝ) : EReal) * e) = (((1 / 2 : ℝ) : EReal) * ((2 : ℝ) : EReal)) * (e * lanes⁻¹) := by ac_rfl
    _ = e * lanes⁻¹ := by rw [h1, one_mul]

section Kernel

open Cert.LossIdeal Cert.LossIdeal.Gen

variable (m : (ℓ : Loc nD τ sig) → Buf (Elt Ideal) ℓ) (ρ : Dev nD → PrngReg) (c : Dev nD)

abbrev stream : Vec Ideal S4352x1024 .f32 := m ((c : Thread nD τ).loc main_arg0)
abbrev target : Vec Ideal S4096x1024 .f32 := m ((c : Thread nD τ).loc main_arg1)

/-- The windows' blocks at point `t`, counted in blocks. -/
theorem row_facts : ∀ t : Fin cfg0.N, win0_0.index t = ![t.val, 0] ∧ win0_1.index t = ![t.val - 1, 0] ∧ win0_2.index t = ![t.val, 0] ∧ win0_3.index t = ![0, 0] :=
  (by decide +kernel : ∀ t : Fin grid0.N, _)

theorem inside (t : Fin cfg0.N) (y : S256x1024.Idx) : t.val * 256 + (y 0).val < 4352 := by
  have h : t.val < 17 := lt_of_lt_of_eq t.isLt N_0
  have hy : (y 0).val < 256 := (y 0).isLt
  omega
theorem inside' (t : Fin cfg0.N) (y : S256x1024.Idx) : (t.val - 1) * 256 + (y 0).val < 4096 := by
  have h : t.val < 17 := lt_of_lt_of_eq t.isLt N_0
  have hy : (y 0).val < 256 := (y 0).isLt
  omega

/-- Where element `y` of point `t`'s block lies in the stream, and in the target. -/
abbrev under (t : Fin cfg0.N) (y : S256x1024.Idx) : S4352x1024.Idx := Rows.below t.val y (inside t y)
abbrev under' (t : Fin cfg0.N) (y : S256x1024.Idx) : S4096x1024.Idx := Rows.below (t.val - 1) y (inside' t y)

theorem rows_eq {f : Fin 2 → Nat} (t : Fin cfg0.N) (y : S256x1024.Idx) (i : S4352x1024.Idx) (hf : f = ![t.val, 0]) (h : ∀ a, (i a).val = f a * S256x1024.size a + (y a).val) : i = under t y :=
  Rows.eq_below (inside t y) i fun a => (h a).trans (congrArg (fun f : Fin 2 → Nat => f a * S256x1024.size a + (y a).val) hf)
theorem rows_eq' {f : Fin 2 → Nat} (t : Fin cfg0.N) (y : S256x1024.Idx) (i : S4096x1024.Idx) (hf : f = ![t.val - 1, 0]) (h : ∀ a, (i a).val = f a * S256x1024.size a + (y a).val) : i = under' t y :=
  Rows.eq_below (inside' t y) i fun a => (h a).trans (congrArg (fun f : Fin 2 → Nat => f a * S256x1024.size a + (y a).val) hf)

theorem read0 (t : Fin cfg0.N) : iblk m c 0 t = fun y => stream m c (under t y) :=
  funext fun y => congrArg (stream m c) (rows_eq t y _ (row_facts t).1 fun a => Pipeline.Window.rect_emb_val win0_0 t y a)
theorem read1 (t : Fin cfg0.N) : iblk m c 1 t = fun y => target m c (under' t y) :=
  funext fun y => congrArg (target m c) (rows_eq' t y _ (row_facts t).2.1 fun a => Pipeline.Window.rect_emb_val win0_1 t y a)
theorem emb2 (t : Fin cfg0.N) (y : S256x1024.Idx) : ((cfg0.win 2).blk t).view.emb y = under t y :=
  rows_eq t y _ (row_facts t).2.2.1 fun a => Pipeline.Window.rect_emb_val win0_2 t y a

/-- From point 1 on the two blocks' difference is the errors of the point's target rows. -/
theorem err_eq (t : Fin cfg0.N) (ht : 1 ≤ t.val) (r : Fin 256) (l : Fin 1024) (h : (t.val - 1) * 256 + r.val < 4096) :
    (stream m c (under t (ix2 r l)) : EReal) - target m c (under' t (ix2 r l)) = err (stream m c) (target m c) ⟨(t.val - 1) * 256 + r.val, h⟩ l := by
  refine congrArg (· - _) (congrArg (stream m c) (Shape.idx_ext₂ ?_ rfl))
  show t.val * 256 + r.val = 256 + ((t.val - 1) * 256 + r.val)
  omega

/-- What the body leaves at point 0, -/
theorem outA_2 (i : grid0.Coords) (a1 h1 a2 h2 a3 h3 a4 h4 hc0 hc1 hc2) (x0 x1 : Vec Ideal S256x1024 .f32) :
    out0_A_2 (F := Ideal) c i a1 h1 a2 h2 a3 h3 a4 h4 hc0 hc1 hc2 x0 x1 = k0_pay2 (F := Ideal) := by
  unfold out0_A_2
  rw [View.read_writes_eq_canon _ _ _ (cover0_A_2 c i a1 h1 a2 h2 a3 h3 a4 h4 hc0 hc1 hc2 x0 x1)]
  unfold kernelRun0_A; dsimp only
  rw [View.canon_unit_zero Rows.zero_zero]
theorem outA_3 (i : grid0.Coords) (a1 h1 a2 h2 a3 h3 a4 h4 hc0 hc1 hc2) (x0 x1 : Vec Ideal S256x1024 .f32) :
    out0_A_3 (F := Ideal) c i a1 h1 a2 h2 a3 h3 a4 h4 hc0 hc1 hc2 x0 x1 = k0_pay1 (F := Ideal) := by
  unfold out0_A_3
  rw [View.read_writes_eq_canon _ _ _ (cover0_A_3 c i a1 h1 a2 h2 a3 h3 a4 h4 hc0 hc1 hc2 x0 x1)]
  unfold kernelRun0_A; dsimp only
  rw [View.canon_unit_zero Rows.zero_zero]
/-- and at a later point, where the loss so far is `xo`. -/
theorem outB_2 (i : grid0.Coords) (a1 h1 a2 h2 a3 h3 a4 h4 hc0 hc1 hc2) (x0 x1 : Vec Ideal S256x1024 .f32) (xo : Vec Ideal S8x128 .f32) :
    out0_B_2 (F := Ideal) c i a1 h1 a2 h2 a3 h3 a4 h4 hc0 hc1 hc2 x0 x1 xo = k0_pay4 x0 x1 := by
  unfold out0_B_2
  rw [View.read_writes_eq_canon _ _ _ (cover0_B_2 c i a1 h1 a2 h2 a3 h3 a4 h4 hc0 hc1 hc2 x0 x1 xo)]
  unfold kernelRun0_B; dsimp only
  rw [View.canon_unit_zero Rows.zero_zero]
  simp only [View.readAt_eq_ld, h1.read_unread, h2.read_unread, View.ld_unit_zero (S := S256x1024) Rows.zero_zero]
theorem outB_3 (i : grid0.Coords) (a1 h1 a2 h2 a3 h3 a4 h4 hc0 hc1 hc2) (x0 x1 : Vec Ideal S256x1024 .f32) (xo : Vec Ideal S8x128 .f32) :
    out0_B_3 (F := Ideal) c i a1 h1 a2 h2 a3 h3 a4 h4 hc0 hc1 hc2 x0 x1 xo = k0_pay5 x0 x1 xo := by
  unfold out0_B_3
  rw [View.read_writes_eq_canon _ _ _ (cover0_B_3 c i a1 h1 a2 h2 a3 h3 a4 h4 hc0 hc1 hc2 x0 x1 xo)]
  unfold kernelRun0_B; dsimp only
  rw [View.canon_unit_zero Rows.zero_zero]
  simp only [View.readAt_eq_ld, h1.read_unread, h2.read_unread, h4.read_unread, View.ld_unit_zero (S := S256x1024) Rows.zero_zero, View.ld_unit_zero (S := S8x128) Rows.zero_zero]

/-- A point's squared errors, added to the loss so far. -/
theorem add_eq (x0 x1 : Vec Ideal S256x1024 .f32) (xo : Vec Ideal S8x128 .f32) : k0_pay5 x0 x1 xo = fun i =>
    ((xo i : EReal) + ∑ r : Fin 256, ∑ l : Fin 1024, ((x0 (ix2 r l) : EReal) - x1 (ix2 r l)) * ((x0 (ix2 r l) : EReal) - x1 (ix2 r l)) : EReal) := by
  funext j
  pointwise [k0_pay5, k0_pay3]

/-- After point `n` the loss is that of the first `n` blocks of target rows. -/
theorem loss_eq : ∀ (n : ℕ) (h : n < cfg0.N), (outsAt0 m c n h).2 = loss (stream m c) (target m c) n
  | 0, h => by
    rw [outsAt0_A m c ⟨0, h⟩ rfl rfl (Nat.not_succ_le_zero 0)]
    dsimp only
    rw [outA_3]
    refine funext fun i : S8x128.Idx => ?_
    show Ideal.ofBits .f32 0x00000000#32 = _
    exact Ideal.ofBits_zero_f32
  | n + 1, h => by
    have hN : n + 1 < 17 := lt_of_lt_of_eq h N_0
    have hB : ¬(⟨n + 1, h⟩ : Fin cfg0.N).val % 17 = 0 := by dsimp only; omega
    rw [outsAt0_B m c ⟨n + 1, h⟩ hB hB (Nat.le_add_left 1 n)]
    dsimp only
    rw [outB_3, add_eq, read0, read1]
    refine funext fun i : S8x128.Idx => ?_
    show (((outsAt0 m c n _).2 i : EReal) + _) = (∑ r ∈ Finset.range ((n + 1) * 256), rowLoss (stream m c) (target m c) r : EReal)
    rw [loss_eq n, Nat.add_mul n 1 256, Nat.one_mul, Finset.sum_range_add, Finset.sum_range (n := 256)]
    refine congrArg (_ + ·) (Finset.sum_congr rfl fun r _ => ?_)
    have hr : n * 256 + r.val < 4096 := by have := r.isLt; omega
    rw [rowLoss, dif_pos hr]
    exact Finset.sum_congr rfl fun l _ => by rw [err_eq m c ⟨n + 1, h⟩ (Nat.le_add_left 1 n) r l hr]; rfl

/-- Each point writes the gradient of its rows, -/
theorem flushed2_eq (t : Fin cfg0.N) : (dats m 0 c).flushed 2 t = ((cfg0.win 2).blk t).view.read (Elt Ideal) (gradient (stream m c) (target m c)) := by
  have ht : t.val < 17 := lt_of_lt_of_eq t.isLt N_0
  refine Eq.trans ?_ (funext fun y => (congrArg (gradient (stream m c) (target m c)) (emb2 t y)).symm)
  by_cases h0 : t.val = 0
  · rw [Value.flushed2_A m c t (by omega) (by omega) (by omega), outA_2]
    refine funext fun y : S256x1024.Idx => ?_
    have hy : (y 0).val < 256 := (y 0).isLt
    show Ideal.ofBits .f32 0x00000000#32 = gradient _ _ (under t y)
    have hb : ¬(256 ≤ t.val * 256 + (y 0).val ∧ t.val * 256 + (y 0).val - 256 < 4096) := by omega
    exact Ideal.ofBits_zero_f32.trans (gradient_context _ _ _ hb).symm
  · rw [Value.flushed2_B m c t (by omega) (by omega) (by omega), outB_2, read0, read1]
    refine funext fun y : S256x1024.Idx => ?_
    have hy : (y 0).val < 256 := (y 0).isLt
    have hb : 256 ≤ t.val * 256 + (y 0).val ∧ t.val * 256 + (y 0).val - 256 < 4096 := by omega
    refine Eq.trans ?_ (gradient_target _ _ _ hb).symm
    show Ideal.div ((stream m c (under t y) : EReal) - target m c (under' t y)) lanes = _
    refine congrArg (Ideal.div · lanes) (congrArg₂ (fun a b : EReal => a - b) (congrArg (stream m c) (Shape.idx_ext₂ ?_ rfl)) (congrArg (target m c) (Shape.idx_ext₂ ?_ rfl)))
    · show t.val * 256 + (y 0).val = 256 + (t.val * 256 + (y 0).val - 256); omega
    · show (t.val - 1) * 256 + (y 0).val = t.val * 256 + (y 0).val - 256; omega

/-- and every row is some point's. -/
theorem final2 : (dats m 0 c).arrAt 2 cfg0.N = gradient (stream m c) (target m c) :=
  (dats m 0 c).arrAt_eq_of_cover 2 (gradient (stream m c) (target m c)) (fun t _ => flushed2_eq m c t) fun i => by
    obtain ⟨t, y, h, e⟩ := Rows.exists_below (k := 17) (r := 256) (l := 1024) i
    exact ⟨t.cast N_0.symm, flush0_2 _, Finset.mem_map.mpr ⟨y, Finset.mem_univ _, (emb2 _ y).trans e⟩⟩

/-- The loss is written back after the last point. -/
theorem emb3 (t : Fin cfg0.N) (y : S8x128.Idx) : ((cfg0.win 3).blk t).view.emb y = y := by
  refine Shape.idx_ext₂ ?_ ?_
  all_goals refine (Pipeline.Window.rect_emb_val win0_3 t y _).trans ?_; rw [(row_facts t).2.2.2]
  · exact (congrArg (· + (y 0).val) (Nat.zero_mul 8)).trans (Nat.zero_add _)
  · exact (congrArg (· + (y 1).val) (Nat.zero_mul 128)).trans (Nat.zero_add _)
theorem flushed3_eq (t : Fin cfg0.N) (hf : (cfg0.win 3).flush t = true) :
    (dats m 0 c).flushed 3 t = ((cfg0.win 3).blk t).view.read (Elt Ideal) (loss (stream m c) (target m c) 16) := by
  have h16 : t.val = 16 := by have h : t.val < 17 := lt_of_lt_of_eq t.isLt N_0; have := (flush0_3 t).mp hf; omega
  rw [Value.flushed3, loss_eq, h16]
  rfl
theorem final3 : (dats m 0 c).arrAt 3 cfg0.N = loss (stream m c) (target m c) 16 :=
  (dats m 0 c).arrAt_eq_of_cover 3 (loss (stream m c) (target m c) 16) (flushed3_eq m c) fun i => by
    have h : 16 < cfg0.N := lt_of_lt_of_eq (by decide) N_0.symm
    exact ⟨⟨16, h⟩, (flush0_3 ⟨16, h⟩).mpr rfl, Finset.mem_map.mpr ⟨i, Finset.mem_univ _, emb3 ⟨16, h⟩ i⟩⟩

omit c in
/-- The call's run: the gradient and the loss, the arguments unchanged. -/
theorem run : θ_run defs (onTc (τ := τ) (main (F := Ideal))) ⟨m, fun _ => 0, ρ⟩ fun r => ∀ c : Dev nD,
      r.2.mem ((c : Thread nD τ).loc main_v0_0) = gradient (stream m c) (target m c)
      ∧ r.2.mem ((c : Thread nD τ).loc main_v0_1) = loss (stream m c) (target m c) 16
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m ρ)

end Kernel

section Reference

open Cert.LossRefIdeal Cert.LossRefIdeal.Gen

/-- The reference's gradient, as automatic differentiation writes it, -/
theorem gradient_eq (y : Vec Ideal S4352x1024 .f32) (g : Vec Ideal S4096x1024 .f32) :
    pad S4352x1024 ![256, 0] ![0, 0] ![0, 0] (mulf (broadcastInDim S4096x1024 ![0] bcast_S4096_S4096x1024_0 (Host.divf (broadcastInDim S4096 ![] bcast_S_S4096 (mulf (constant (F := Ideal) S_ .f32 0x3F000000#32) (constant S_ .f32 0x3F800000#32))) (broadcastInDim S4096 ![] bcast_S_S4096 (constant S_ .f32 0x44800000#32))))
      (mulf (broadcastInDim S4096x1024 ![] bcast_S_S4096x1024 (constant S_ .f32 0x40000000#32)) (subf (extractStridedSlice S4096x1024 ![256, 0] y slices_S4352x1024_S4096x1024_256_0) g))) (constant S_ .f32 0x00000000#32) pads_S4096x1024_S4352x1024_25600_000 h_S_
    = gradient y g := by
  funext j
  pointwise [gradient]
  exact dite_congr rfl (fun _ => scale_eq _) fun _ => rfl

/-- and its loss. -/
theorem total_eq (y : Vec Ideal S4352x1024 .f32) (g : Vec Ideal S4096x1024 .f32) :
    broadcastInDim S8x128 ![] bcast_S_S8x128 (Host.reduceAdd (mulf (subf (extractStridedSlice S4096x1024 ![256, 0] y slices_S4352x1024_S4096x1024_256_0) g)
      (subf (extractStridedSlice S4096x1024 ![256, 0] y slices_S4352x1024_S4096x1024_256_0) g)) (constant (F := Ideal) S_ .f32 0x00000000#32) reducesTo_S4096x1024_S_d0_1 h_S_)
    = loss y g 16 := by
  funext j
  show _ = (∑ r ∈ Finset.range 4096, rowLoss y g r : EReal)
  rw [Finset.sum_range]
  refine Eq.trans ?_ (Finset.sum_congr rfl fun r _ => (dif_pos r.isLt).symm)
  pointwise [err]

variable (m : (ℓ : Loc nD τ sig) → Buf (Elt Ideal) ℓ) (ρ : Dev nD → PrngReg) (M : (ℓ : Loc Cert.LossIdeal.nD Cert.LossIdeal.τ Cert.LossIdeal.sig) → Buf (Elt Ideal) ℓ)

/-- The reference's run from the call's arguments: the same functions of them. -/
theorem run_ref (hm : ∀ c : Dev nD,
      m ((c.tc : Thread nD τ).loc main_arg0) = M ((c.tc : Thread nD τ).loc Cert.LossIdeal.main_arg0)
      ∧ m ((c.tc : Thread nD τ).loc main_arg1) = M ((c.tc : Thread nD τ).loc Cert.LossIdeal.main_arg1)) :
    θ_run defs (onTc (τ := τ) (main (F := Ideal))) ⟨m, fun _ => 0, ρ⟩ fun r => ∀ c : Dev nD,
      r.2.mem ((c.tc : Thread nD τ).loc main_v16) = gradient (stream M c) (target M c)
      ∧ r.2.mem ((c.tc : Thread nD τ).loc main_v21) = loss (stream M c) (target M c) 16
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e0, e1, hargs⟩ := h c
    rw [(hm c).1, (hm c).2, gradient_eq] at e0
    rw [(hm c).1, (hm c).2, total_eq] at e1
    exact ⟨e0, e1, hargs⟩) (Value.run m ρ)

end Reference

end Cert.LossProof

end
-- ==== Proof.PrenormAlgebra.lean ====
/-
  Two forms of a gradient of the root-mean-square norm, over the extended reals. `M` is the mean of a row's squares and the small constant
  added, `rsqrt M` what the row is scaled by, `A` the gradient of the scaled row's entries. One form takes the projection on the scaled row out
  of `A`; the other differentiates the scale, and adds twice what the squares contribute.
-/
module

public import Idealize.ShloMosaic.PureOps.Ideal

@[expose] public section

noncomputable section

namespace Cert.Prenorm

open Idealize.ShloMosaic

/-- The constants, as the programs write them, and their values. -/
abbrev lanes : EReal := Ideal.ofBits .f32 0x44800000#32
abbrev small : EReal := Ideal.ofBits .f32 0x358637BD#32
abbrev minusHalf : EReal := Ideal.ofBits .f32 0xBF000000#32

theorem lanes_eq : lanes = ((1024 : ℝ) : EReal) := by
  simp [lanes, Ideal.ofBits, Ideal.ieee, -EReal.coe_mul]; norm_num
theorem minusHalf_eq : minusHalf = ((-(1 / 2) : ℝ) : EReal) := by
  simp [minusHalf, Ideal.ofBits, Ideal.ieee, -EReal.coe_mul]; norm_num
theorem small_pos : (0 : EReal) < small := by
  simp [small, Ideal.ofBits, Ideal.ieee, -EReal.coe_mul]

theorem div_lanes (e : EReal) : Ideal.div e lanes = e * ((1024⁻¹ : ℝ) : EReal) := by
  have h : lanes ≠ 0 := by rw [lanes_eq]; exact_mod_cast (by norm_num : (1024 : ℝ) ≠ 0)
  unfold Ideal.div
  rw [if_neg h, lanes_eq, ← EReal.coe_inv]

theorem square_nonneg (a : EReal) : 0 ≤ a * a := by
  rcases le_total 0 a with h | h
  · exact mul_nonneg h h
  · have h' : 0 ≤ -a := EReal.neg_nonneg.mpr h
    have := mul_nonneg h' h'
    rwa [neg_mul, mul_neg, neg_neg] at this

/-- The mean of the squares and the small constant are positive together. -/
theorem mean_pos {n : Nat} (x : Fin n → EReal) : 0 < Ideal.div (∑ k, x k * x k) lanes + small := by
  rw [div_lanes]
  have h : (0 : EReal) ≤ (∑ k, x k * x k) * ((1024⁻¹ : ℝ) : EReal) :=
    mul_nonneg (Finset.sum_nonneg fun k _ => square_nonneg (x k)) (EReal.coe_nonneg.mpr (by norm_num))
  exact lt_of_lt_of_le small_pos (le_add_of_nonneg_left h)

/-- A nonnegative real factor comes out of a sum. -/
theorem sum_mul_real {n : Nat} (f : Fin n → EReal) {r : ℝ} (hr : 0 ≤ r) : ∑ k, f k * (r : EReal) = (∑ k, f k) * (r : EReal) := by
  induction n with
  | zero => simp
  | succ n ih =>
    rw [Fin.sum_univ_succ, Fin.sum_univ_succ, ih, EReal.right_distrib_of_nonneg_of_ne_top (EReal.coe_nonneg.mpr hr) (EReal.coe_ne_top r)]

theorem twice (a : EReal) : a + a = a * ((2 : ℝ) : EReal) := by
  have h : ((2 : ℝ) : EReal) = ((1 : ℝ) : EReal) + ((1 : ℝ) : EReal) := by rw [← EReal.coe_add]; norm_num
  rw [h, EReal.left_distrib_of_nonneg (EReal.coe_nonneg.mpr zero_le_one) (EReal.coe_nonneg.mpr zero_le_one), EReal.coe_one, mul_one]

/-- The two forms agree. -/
theorem forms_eq {n : Nat} (M : EReal) (hM : 0 < M) (x A : Fin n → EReal) (l : Fin n) :
    Ideal.rsqrt M * (A l - x l * Ideal.rsqrt M * Ideal.div (∑ k, A k * (x k * Ideal.rsqrt M)) lanes)
    = A l * Ideal.rsqrt M + x l * Ideal.div ((∑ k, x k * A k) * (minusHalf * Ideal.div (Ideal.rsqrt M) M)) lanes
      + Ideal.div ((∑ k, x k * A k) * (minusHalf * Ideal.div (Ideal.rsqrt M) M)) lanes * x l := by
  rw [div_lanes, div_lanes]
  induction M with
  | bot => exact absurd hM (by simp)
  | top =>
    have h : Ideal.div 0 ⊤ = 0 := by unfold Ideal.div; simp
    rw [Ideal.rsqrt_top, h]; simp
  | coe p =>
    have hp : 0 < p := by exact_mod_cast hM
    have hs : 0 < Real.sqrt p := Real.sqrt_pos.mpr hp
    obtain ⟨r, hr, er⟩ : ∃ r : ℝ, 0 < r ∧ (Real.sqrt p)⁻¹ = r := ⟨_, inv_pos.mpr hs, rfl⟩
    have hrr : p⁻¹ = r * r := by rw [← er, ← mul_inv, Real.mul_self_sqrt hp.le]
    have e1 : Ideal.rsqrt (p : EReal) = (r : EReal) := by rw [Ideal.rsqrt_coe, if_neg hp.not_gt, if_neg hp.ne', er]
    have e2 : Ideal.div (r : EReal) (p : EReal) = ((r * p⁻¹ : ℝ) : EReal) := by
      unfold Ideal.div
      rw [if_neg (by exact_mod_cast hp.ne'), ← EReal.coe_inv, ← EReal.coe_mul]
    have e3 : ∑ k, A k * (x k * (r : EReal)) = (∑ k, x k * A k) * (r : EReal) := by
      rw [← sum_mul_real _ hr.le]
      exact Finset.sum_congr rfl fun k _ => by rw [← mul_assoc, mul_comm (A k)]
    rw [e1, e2, e3, minusHalf_eq, hrr, ← EReal.coe_mul]
    generalize (∑ k, x k * A k) = S
    have e4 : x l * ((S * ((-(1 / 2) * (r * (r * r)) : ℝ) : EReal)) * ((1024⁻¹ : ℝ) : EReal)) = x l * S * ((-(1 / 2) * (r * (r * r)) * 1024⁻¹ : ℝ) : EReal) := by
      rw [EReal.coe_mul (_ * _) 1024⁻¹]; ac_rfl
    rw [mul_comm _ (x l), e4, add_assoc, twice, sub_eq_add_neg, EReal.left_distrib_of_nonneg_of_ne_top (EReal.coe_nonneg.mpr hr.le) (EReal.coe_ne_top r), mul_comm (r : EReal) (A l)]
    refine congrArg (A l * (r : EReal) + ·) ?_
    have e5 : x l * (r : EReal) * (S * (r : EReal) * ((1024⁻¹ : ℝ) : EReal)) = x l * S * ((r * r * 1024⁻¹ : ℝ) : EReal) := by
      rw [EReal.coe_mul, EReal.coe_mul]; ac_rfl
    rw [e5, mul_neg, mul_comm (r : EReal), mul_assoc (x l * S), mul_assoc (x l * S), ← EReal.coe_mul, ← EReal.coe_mul, ← mul_neg, ← EReal.coe_neg]
    exact congrArg (x l * S * ·) (congrArg _ (by ring))

end Cert.Prenorm

end
-- ==== Proof.PrenormRun.lean ====
/-
  The run of the call that takes the gradients of the modulated norm before a layer, over any float values. Every point of the grid reads 256
  rows of the gradient, of the stream and of the gradient beside the norm, writes the stream's gradient there, and adds the rows' sums to three
  buffers: the shift's and the scale's of the rows' segment, and the norm's weight's. Point 0 is the context's segment, the later points the
  latents': the segment's two buffers are cleared at points 0 and 1 and written back after points 0 and 16, the weight's is cleared at point 0
  and written back after point 16.
-/
module

public import proofs.«01_k».proof.Proof.Rows
public import proofs.«01_k».proof.Proof.Gen.PrenormIdeal.Frame
public import proofs.«01_k».proof.Proof.Gen.PrenormIdeal.Skeleton
public import Idealize.ShloMosaic.Lib.Pipeline.Value
public import Idealize.ShloMosaic.Lib.Claim

@[expose] public section

set_option maxRecDepth 16384

noncomputable section

namespace Cert.PrenormProof

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- A buffer whose last store covers it reads what was stored. -/
theorem read_stored {κ : Kind} {sp : Space} {s : Shape} {e : EltTy} (v : View sig κ sp s e) (f) {off : Fin s.rank → Nat} (h : off = fun _ => 0)
    (inb : ∀ a, off a + s.size a ≤ s.size a) (w : s.Idx → Elt F e) (L : List (View.Piece (Elt F) s e)) :
    v.read (Elt F) (v.writes (Elt F) f (⟨Rect.unit off s.size inb, w⟩ :: L)) = w := by
  rw [View.read_writes_eq_canon _ _ _ fun y => ⟨_, List.mem_cons_self, View.mem_set_unit_zero h inb y⟩, View.canon_cons_unit_zero h]

/-- A load of a whole buffer reads what it holds. -/
theorem load_whole {sp : Space} {s : Shape} {e : EltTy} {a : Memref sig .tc sp s e} (ha : a.IsWhole) (x : s.Idx → Elt F e) {off : Fin s.rank → Nat} (h : off = fun _ => 0)
    (inb : ∀ k, off k + s.size k ≤ s.size k) : a.view.readAt (Elt F) (Rect.unit off s.size inb).toLoadRect (ha.unread x) = x := by
  rw [View.readAt_eq_ld, ha.read_unread, View.ld_unit_zero h]

/-! ## The body -/

/-- Whether the body clears the segment's buffers, -/
abbrev Fresh (i : grid0.Coords) : Prop :=
  Scalar.cmpi .ne (Scalar.extui (Scalar.ori (Scalar.cmpi .eq (BitVec.ofNat 32 (i 0).val) 0#32) (Scalar.cmpi .eq (BitVec.ofNat 32 (i 0).val) 1#32)) : BitVec 32) 0#32 = 1#1
/-- and the weight's. -/
abbrev First (i : grid0.Coords) : Prop := Scalar.cmpi .ne (Scalar.extui (Scalar.cmpi .eq (BitVec.ofNat 32 (i 0).val) 0#32) : BitVec 32) 0#32 = 1#1

theorem fresh_iff : ∀ t : Fin cfg0.N, Fresh (grid0.coords t) ↔ t.val ≤ 1 := (by decide +kernel : ∀ t : Fin grid0.N, Fresh (grid0.coords t) ↔ t.val ≤ 1)
theorem first_iff : ∀ t : Fin cfg0.N, First (grid0.coords t) ↔ t.val = 0 := (by decide +kernel : ∀ t : Fin grid0.N, First (grid0.coords t) ↔ t.val = 0)

/-- The scale's row of the segment's modulation. -/
abbrev scaleRow (x4 : Vec F S1x3x1024 .f32) : Vec F S1x1x1024 .f32 := View.ld x4 (Rect.unit (s := S1x3x1024) ![0, 1, 0] S1x1x1024.size inb_S1x3x1024_S1x1x1024_0_1_0)

/-- What the body leaves in the four buffers it writes: `x0 … x4` the point's blocks, `d` what a buffer held. -/
abbrev left5 (x0 x1 x2 : Vec F S256x1024 .f32) (x3 : Vec F S1x1024 .f32) (x4 : Vec F S1x3x1024 .f32) : Vec F S256x1024 .f32 := k0_pay4 x1 x0 x3 (scaleRow x4) x2
abbrev left6 (i : grid0.Coords) (x0 : Vec F S256x1024 .f32) (d : Vec F S1x8x1024 .f32) : Vec F S1x8x1024 .f32 := k0_pay8 x0 (if Fresh i then k0_pay5 else d)
abbrev left7 (i : grid0.Coords) (x0 x1 : Vec F S256x1024 .f32) (x3 : Vec F S1x1024 .f32) (d : Vec F S1x8x1024 .f32) : Vec F S1x8x1024 .f32 :=
  k0_pay9 x0 x3 (k0_pay2 x1) (if Fresh i then k0_pay6 else d)
abbrev left8 (i : grid0.Coords) (x0 x1 : Vec F S256x1024 .f32) (x4 : Vec F S1x3x1024 .f32) (d : Vec F S8x1024 .f32) : Vec F S8x1024 .f32 :=
  k0_pay10 (k0_pay2 x1) (k0_pay3 x0 (scaleRow x4)) (if First i then k0_pay7 else d)

theorem left6_of {i : grid0.Coords} {u x0 : Vec F S256x1024 .f32} {e d : Vec F S1x8x1024 .f32} (hu : u = x0) (he : e = if Fresh i then k0_pay5 else d) :
    k0_pay8 u e = left6 i x0 d := by subst hu he; rfl
theorem left7_of {i : grid0.Coords} {u x0 v x1 : Vec F S256x1024 .f32} {w x3 : Vec F S1x1024 .f32} {e d : Vec F S1x8x1024 .f32} (hu : u = x0) (hv : v = x1) (hw : w = x3)
    (he : e = if Fresh i then k0_pay6 else d) : k0_pay9 u w (k0_pay2 v) e = left7 i x0 x1 x3 d := by subst hu hv hw he; rfl
theorem left8_of {i : grid0.Coords} {u x0 v x1 : Vec F S256x1024 .f32} {w : Vec F S1x1x1024 .f32} {x4 : Vec F S1x3x1024 .f32} {e d : Vec F S8x1024 .f32} (hu : u = x0) (hv : v = x1)
    (hw : w = scaleRow x4) (he : e = if First i then k0_pay7 else d) : k0_pay10 (k0_pay2 v) (k0_pay3 u w) e = left8 i x0 x1 x4 d := by subst hu hv hw he; rfl

set_option maxHeartbeats 1000000 in
theorem body_wp (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole)
    (a4 : Memref sig .tc .vmem S1x1024 .f32) (h4 : a4.IsWhole) (a5 : Memref sig .tc .vmem S1x3x1024 .f32) (h5 : a5.IsWhole) (a6 : Memref sig .tc .vmem S256x1024 .f32) (h6 : a6.IsWhole) (a7 : Memref sig .tc .vmem S1x8x1024 .f32) (h7 : a7.IsWhole)
    (a8 : Memref sig .tc .vmem S1x8x1024 .f32) (h8 : a8.IsWhole) (a9 : Memref sig .tc .vmem S8x1024 .f32) (h9 : a9.IsWhole)
    (x0 x1 x2 d5 : Vec F S256x1024 .f32) (x3 : Vec F S1x1024 .f32) (x4 : Vec F S1x3x1024 .f32) (d6 d7 : Vec F S1x8x1024 .f32) (d8 : Vec F S8x1024 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
        ∗ owns (c : Thread nD τ) a6 fullShare d5 ∗ owns (c : Thread nD τ) a7 fullShare d6 ∗ owns (c : Thread nD τ) a8 fullShare d7 ∗ owns (c : Thread nD τ) a9 fullShare d8
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
          ∗ owns (c : Thread nD τ) a6 fullShare (left5 x0 x1 x2 x3 x4) ∗ owns (c : Thread nD τ) a7 fullShare (left6 i x0 d6) ∗ owns (c : Thread nD τ) a8 fullShare (left7 i x0 x1 x3 d7) ∗ owns (c : Thread nD τ) a9 fullShare (left8 i x0 x1 x4 d8)) -∗ K ⟨⟩))
      ⊢ wp frame (wpE (defs₀ (F := F)) Variants.none c none) E (cc0_l0_b_prenorm i a1 h1 a2 h2 a3 h3 a4 h4 a5 h5 a6 h6 a7 h7 a8 h8 a9 h9) K := by
  rw [cc0_l0_b_prenorm_eq_skeleton]; unfold cc0_l0_b_prenorm_skel
  simp only [k0_part1_eq_skeleton, k0_part2_eq_skeleton]; unfold k0_part1_skel k0_part2_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  obtain rfl := h1.eq_unread e0; obtain rfl := h2.eq_unread e1; obtain rfl := h3.eq_unread e2; obtain rfl := h4.eq_unread e3; obtain rfl := h5.eq_unread e4
  obtain rfl := h6.eq_unread e5; obtain rfl := h7.eq_unread e6; obtain rfl := h8.eq_unread e7; obtain rfl := h9.eq_unread e8
  have z2 := Rows.zero_zero
  have z3 := Rows.zero_zero_zero
  have e4 (inb) : a5.view.readAt (Elt F) (Rect.unit (s := S1x3x1024) ![0, 1, 0] S1x1x1024.size inb).toLoadRect (h5.unread x4) = scaleRow x4 := by
    rw [View.readAt_eq_ld, h5.read_unread]
  by_cases hF : Fresh i <;> by_cases h0 : First i
  all_goals
    sl_exec (disch := first | sl_exact hF | sl_exact h0)
    sl_step
    iapply Hk
    isplitl [H0]; · iexists _; isplitr; swap; (iexact H0); ipureintro; exact h1.read_unread _
    isplitl [H1]; · iexists _; isplitr; swap; (iexact H1); ipureintro; exact h2.read_unread _
    isplitl [H2]; · iexists _; isplitr; swap; (iexact H2); ipureintro; exact h3.read_unread _
    isplitl [H3]; · iexists _; isplitr; swap; (iexact H3); ipureintro; exact h4.read_unread _
    isplitl [H4]; · iexists _; isplitr; swap; (iexact H4); ipureintro; exact h5.read_unread _
    isplitl [H5]
    · iexists _; isplitr; swap; (iexact H5); ipureintro
      rw [read_stored _ _ z2]
      simp only [load_whole h1 _ z2, load_whole h2 _ z2, load_whole h3 _ z2, load_whole h4 _ z2, e4]
    isplitl [H6]
    · iexists _; isplitr; swap; (iexact H6); ipureintro
      rw [read_stored _ _ z3]
      refine left6_of (load_whole h1 _ z2 _) ?_
      first
        | (rw [if_pos hF]; exact View.readCov_unit_zero _ z3 _ _)
        | (rw [if_neg hF]; exact load_whole h7 _ z3 _)
    isplitl [H7]
    · iexists _; isplitr; swap; (iexact H7); ipureintro
      rw [read_stored _ _ z3]
      dsimp only
      refine left7_of (load_whole h1 _ z2 _) (load_whole h2 _ z2 _) (load_whole h4 _ z2 _) ?_
      first
        | (rw [if_pos hF]; exact View.readCov_unit_zero _ z3 _ _)
        | (rw [if_neg hF]; exact load_whole h8 _ z3 _)
    · iexists _; isplitr; swap; (iexact H8); ipureintro
      rw [read_stored _ _ z2]
      dsimp only
      refine left8_of (load_whole h1 _ z2 _) (load_whole h2 _ z2 _) rfl ?_
      first
        | (rw [if_pos h0]; exact View.readCov_unit_zero _ z2 _ _)
        | (rw [if_neg h0]; exact load_whole h9 _ z2 _)

/-! ## The run -/

variable (m : (ℓ : Loc nD τ sig) → Buf (Elt F) ℓ) (ρ : Dev nD → PrngReg)

/-- What the three buffers the points add into hold once the first `n` points have run. -/
def held (c : Dev nD) : ℕ → Vec F S1x8x1024 .f32 × Vec F S1x8x1024 .f32 × Vec F S8x1024 .f32
  | 0 => (k0_pay5, k0_pay6, k0_pay7)
  | n + 1 =>
    if h : n < cfg0.N then
      (left6 (grid0.coords ⟨n, h⟩) (iblk m c 0 ⟨n, h⟩) (held c n).1,
        left7 (grid0.coords ⟨n, h⟩) (iblk m c 0 ⟨n, h⟩) (iblk m c 1 ⟨n, h⟩) (iblk m c 3 ⟨n, h⟩) (held c n).2.1,
        left8 (grid0.coords ⟨n, h⟩) (iblk m c 0 ⟨n, h⟩) (iblk m c 1 ⟨n, h⟩) (iblk m c 4 ⟨n, h⟩) (held c n).2.2)
    else held c n

theorem held_succ (c : Dev nD) (t : Fin cfg0.N) : held m c (t.val + 1) =
    (left6 (grid0.coords t) (iblk m c 0 t) (held m c t.val).1,
      left7 (grid0.coords t) (iblk m c 0 t) (iblk m c 1 t) (iblk m c 3 t) (held m c t.val).2.1,
      left8 (grid0.coords t) (iblk m c 0 t) (iblk m c 1 t) (iblk m c 4 t) (held m c t.val).2.2) := dif_pos t.isLt

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 (iblk m c 0 t) (iblk m c 1 t) (iblk m c 2 t) (iblk m c 3 t) (iblk m c 4 t)
    | ⟨6, _⟩ => (held m c (t.val + 1)).1
    | ⟨7, _⟩ => (held m c (t.val + 1)).2.1
    | ⟨8, _⟩ => (held m c (t.val + 1)).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after5 (c : Dev nD) (t : Fin cfg0.N) :
    (dats m 0 c).after 5 t = left5 (iblk m c 0 t) (iblk m c 1 t) (iblk m c 2 t) (iblk m c 3 t) (iblk m c 4 t) := by dsimp only [dats]
theorem after6 (c : Dev nD) (t : Fin cfg0.N) : (dats m 0 c).after 6 t = (held m c (t.val + 1)).1 := by dsimp only [dats]
theorem after7 (c : Dev nD) (t : Fin cfg0.N) : (dats m 0 c).after 7 t = (held m c (t.val + 1)).2.1 := by dsimp only [dats]
theorem after8 (c : Dev nD) (t : Fin cfg0.N) : (dats m 0 c).after 8 t = (held m c (t.val + 1)).2.2 := by dsimp only [dats]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d

/-- A segment's buffers are written back after points 0 and 16. -/
theorem flush6 : ∀ t : Fin cfg0.N, (cfg0.win 6).flush t = true ↔ t.val = 0 ∨ t.val = 16 := (by decide +kernel : ∀ t : Fin grid0.N, _)
theorem flush7 : ∀ t : Fin cfg0.N, (cfg0.win 7).flush t = true ↔ t.val = 0 ∨ t.val = 16 := (by decide +kernel : ∀ t : Fin grid0.N, _)

/-- Where the body does not clear a buffer it finds in it what the point before left; where it does, what it finds is overwritten. -/
theorem carry6 (c : Dev nD) (t : Fin cfg0.N) (d) : left6 (grid0.coords t) (iblk m c 0 t) ((dats m 0 c).before 6 t d) = (held m c (t.val + 1)).1 := by
  rw [held_succ]
  by_cases hF : Fresh (grid0.coords t)
  · unfold left6; rw [if_pos hF, if_pos hF]
  · have ht : ¬t.val ≤ 1 := fun h => hF ((fresh_iff t).mpr h)
    have hlt : t.val < 17 := lt_of_lt_of_eq t.isLt N_0
    rw [Dat.before_out_kept _ 6 rfl t (by omega) (Bool.eq_false_iff.mpr fun h => by have := (flush6 _).mp h; dsimp only at this; omega) (fun _ => rfl) (fun _ _ => rfl) d, after6,
      show t.val - 1 + 1 = t.val by omega]
theorem carry7 (c : Dev nD) (t : Fin cfg0.N) (d) : left7 (grid0.coords t) (iblk m c 0 t) (iblk m c 1 t) (iblk m c 3 t) ((dats m 0 c).before 7 t d) = (held m c (t.val + 1)).2.1 := by
  rw [held_succ]
  by_cases hF : Fresh (grid0.coords t)
  · unfold left7; rw [if_pos hF, if_pos hF]
  · have ht : ¬t.val ≤ 1 := fun h => hF ((fresh_iff t).mpr h)
    have hlt : t.val < 17 := lt_of_lt_of_eq t.isLt N_0
    rw [Dat.before_out_kept _ 7 rfl t (by omega) (Bool.eq_false_iff.mpr fun h => by have := (flush7 _).mp h; dsimp only at this; omega) (fun _ => rfl) (fun _ _ => rfl) d, after7,
      show t.val - 1 + 1 = t.val by omega]
theorem carry8 (c : Dev nD) (t : Fin cfg0.N) (d) : left8 (grid0.coords t) (iblk m c 0 t) (iblk m c 1 t) (iblk m c 4 t) ((dats m 0 c).before 8 t d) = (held m c (t.val + 1)).2.2 := by
  rw [held_succ]
  by_cases hF : First (grid0.coords t)
  · unfold left8; rw [if_pos hF, if_pos hF]
  · have ht : ¬t.val = 0 := fun h => hF ((first_iff t).mpr h)
    have hlt : t.val < 17 := lt_of_lt_of_eq t.isLt N_0
    rw [Dat.before_out_kept _ 8 rfl t ht (Bool.eq_false_iff.mpr fun h => by have := (flush0_8 _).mp h; dsimp only at this; omega) (fun _ => rfl) (fun _ _ => rfl) d, after8,
      show t.val - 1 + 1 = t.val by omega]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (dats m 0 c).leavesExact 5 t ∗ (dats m 0 c).leavesExact 6 t ∗ (dats m 0 c).leavesExact 7 t ∗ (dats m 0 c).leavesExact 8 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl, show (dats m 0 c).owesAt () t.succ = (dats m 0 c).owesAt () t.castSucc from rfl,
    show (dats m 0 c).leavesExact 0 t = owns (c : Thread nD τ) (st0_0 t) fullShare (iblk m c 0 t) from rfl, show (dats m 0 c).leavesExact 1 t = owns (c : Thread nD τ) (st0_1 t) fullShare (iblk m c 1 t) from rfl,
    show (dats m 0 c).leavesExact 2 t = owns (c : Thread nD τ) (st0_2 t) fullShare (iblk m c 2 t) from rfl, show (dats m 0 c).leavesExact 3 t = owns (c : Thread nD τ) (st0_3 t) fullShare (iblk m c 3 t) from rfl,
    show (dats m 0 c).leavesExact 4 t = owns (c : Thread nD τ) (st0_4 t) fullShare (iblk m c 4 t) from rfl,
    show (dats m 0 c).leavesExact 5 t = owns (c : Thread nD τ) (st0_5 t) fullShare (left5 (iblk m c 0 t) (iblk m c 1 t) (iblk m c 2 t) (iblk m c 3 t) (iblk m c 4 t)) from rfl,
    show (dats m 0 c).leavesExact 6 t = owns (c : Thread nD τ) (st0_6 t) fullShare (held m c (t.val + 1)).1 from rfl, show (dats m 0 c).leavesExact 7 t = owns (c : Thread nD τ) (st0_7 t) fullShare (held m c (t.val + 1)).2.1 from rfl,
    show (dats m 0 c).leavesExact 8 t = owns (c : Thread nD τ) (st0_8 t) fullShare (held m c (t.val + 1)).2.2 from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_wp c (grid0.coords t) _ _ _ _ _ _ _ _ _ _ _ _ _ _ _ _ _ _ (iblk m c 0 t) (iblk m c 1 t) (iblk m c 2 t) ((dats m 0 c).before 5 t d5) (iblk m c 3 t) (iblk m c 4 t)
    ((dats m 0 c).before 6 t d6) ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [carry6, carry7, carry8]
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch's implicit arguments are found by unifying its conclusion with this one, which takes unfolding plain definitions
set_option backward.isDefEq.respectTransparency.types false in
/-- Every execution ends, with the pipeline's arrays at what the points wrote back, and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- The frame, and the four results as the points wrote them back. -/
theorem run_arrays : θ_run defs (onTc (τ := τ) (main (F := F))) ⟨m, fun _ => 0, ρ⟩ (fun r => (∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.2.1 c).1 5, (h.2.1 c).1 6, (h.2.1 c).1 7, (h.2.1 c).1 8, h.1 c⟩, h.2.2⟩)
    (θ_run_and (unchanged m ρ) (run_main m ρ))

end Cert.PrenormProof

end
-- ==== Proof.Prenorm.lean ====
/-
  The call that carries a gradient back through a norm over the lanes, its weight and a segment's modulation, and its reference. Rows 0 … 255
  are the context's segment, the others the target's. Point `t` of the grid reads rows `256 t … 256 t + 255`, writes the rows' gradient, and
  adds the rows' shares of the modulation's gradients, kept by segment, and of the weight's.
-/
module

public import proofs.«01_k».proof.Proof.PrenormAlgebra
public import proofs.«01_k».proof.Proof.PrenormRun
public import proofs.«01_k».proof.Proof.Gen.PrenormRefIdeal.Run
public import Idealize.ShloMosaic.Lib.Pointwise
public import Idealize.ShloMosaic.Lib.KernelVsHost

@[expose] public section

noncomputable section

namespace Cert.PrenormProof

open Idealize.ShloMosaic Idealize.ShloMosaic.TcCoe Idealize.SL.Sem
open Cert.Prenorm

/-! ## The four results, of the arguments -/

abbrev Stream := Vec Ideal PrenormIdeal.S4352x1024 .f32
abbrev Weight := Vec Ideal PrenormIdeal.S1x1024 .f32
abbrev Modulation := Vec Ideal PrenormIdeal.S2x3x1024 .f32

/-- A row's segment. -/
abbrev segment (r : Nat) : Fin 2 := if r < 256 then 0 else 1

abbrev one : EReal := Ideal.ofBits .f32 0x3F800000#32

/-- What a row of the stream is scaled by, and the scaled row. -/
abbrev rate (x : Stream) (r : Fin 4352) : EReal := Ideal.rsqrt (Ideal.div (∑ k : Fin 1024, (x (ix2 r k) : EReal) * x (ix2 r k)) lanes + small)
abbrev scaled (x : Stream) (r : Fin 4352) (l : Fin 1024) : EReal := (x (ix2 r l) : EReal) * rate x r

/-- The gradient of the weighted rows, and of the scaled rows. -/
abbrev ofWeighted (dh : Stream) (md : Modulation) (r : Fin 4352) (l : Fin 1024) : EReal := (dh (ix2 r l) : EReal) * (one + md (ix3 (segment r.val) 1 l))
abbrev ofScaled (dh : Stream) (g : Weight) (md : Modulation) (r : Fin 4352) (l : Fin 1024) : EReal := ofWeighted dh md r l * g (ix2 0 l)

/-- The stream's gradient: what came past the norm, and what came through it. -/
abbrev gradient (dh x past : Stream) (g : Weight) (md : Modulation) : Stream := fun i =>
  let r : Fin 4352 := ⟨(i 0).val, (i 0).isLt⟩
  let l : Fin 1024 := ⟨(i 1).val, (i 1).isLt⟩
  (past (ix2 r l) : EReal) + rate x r * (ofScaled dh g md r l - scaled x r l * Ideal.div (∑ k, ofScaled dh g md r k * scaled x r k) lanes)

/-- A term of every row, added over a segment's rows. -/
abbrev over (s : Fin 2) (f : Fin 4352 → EReal) : EReal :=
  if s = 0 then ∑ r : Fin 256, f ⟨r.val, r.isLt.trans (by decide)⟩ else ∑ r : Fin 4096, f ⟨256 + r.val, Nat.add_lt_add_left r.isLt 256⟩

/-- The gradients of the shift, of the scale and of the weight, each on eight rows alike. -/
abbrev ofShift (dh : Stream) : Vec Ideal PrenormIdeal.S2x8x1024 .f32 := fun i =>
  over ⟨(i 0).val, (i 0).isLt⟩ fun r => dh (ix2 r ⟨(i 2).val, (i 2).isLt⟩)
abbrev ofScale (dh x : Stream) (g : Weight) : Vec Ideal PrenormIdeal.S2x8x1024 .f32 := fun i =>
  over ⟨(i 0).val, (i 0).isLt⟩ fun r => (dh (ix2 r ⟨(i 2).val, (i 2).isLt⟩) : EReal) * (scaled x r ⟨(i 2).val, (i 2).isLt⟩ * g (ix2 0 ⟨(i 2).val, (i 2).isLt⟩))
abbrev ofGain (dh x : Stream) (md : Modulation) : Vec Ideal PrenormIdeal.S8x1024 .f32 := fun i =>
  (∑ r : Fin 4352, ofWeighted dh md r ⟨(i 1).val, (i 1).isLt⟩ * scaled x r ⟨(i 1).val, (i 1).isLt⟩ : EReal)

section Kernel

open Cert.PrenormIdeal Cert.PrenormIdeal.Gen

/-! ## The body's values, element by element -/

/-- The same of one block's rows, under the modulation of the block's segment. -/
abbrev blockRate (x : Vec Ideal S256x1024 .f32) (r : Fin 256) : EReal := Ideal.rsqrt (Ideal.div (∑ k : Fin 1024, (x (ix2 r k) : EReal) * x (ix2 r k)) lanes + small)
abbrev blockScaled (x : Vec Ideal S256x1024 .f32) (r : Fin 256) (l : Fin 1024) : EReal := (x (ix2 r l) : EReal) * blockRate x r
abbrev blockWeighted (dh : Vec Ideal S256x1024 .f32) (md : Vec Ideal S1x3x1024 .f32) (r : Fin 256) (l : Fin 1024) : EReal := (dh (ix2 r l) : EReal) * (one + md (ix3 0 1 l))

theorem scale_at (md : Vec Ideal S1x3x1024 .f32) (l : Fin 1024) : scaleRow md (ix3 0 0 l) = md (ix3 0 1 l) :=
  congrArg md (Shape.idx3_ext rfl rfl (by show 0 + 1 * l.val = l.val; omega))

theorem left5_eq (dh x past : Vec Ideal S256x1024 .f32) (g : Vec Ideal S1x1024 .f32) (md : Vec Ideal S1x3x1024 .f32) (r : Fin 256) (l : Fin 1024) :
    left5 dh x past g md (ix2 r l) = (past (ix2 r l) : EReal) + blockRate x r * (blockWeighted dh md r l * g (ix2 0 l)
      - blockScaled x r l * Ideal.div (∑ k, blockWeighted dh md r k * g (ix2 0 k) * blockScaled x r k) lanes) := by
  show k0_pay4 (F := Ideal) x dh g (scaleRow md) past (ix2 r l) = _
  have h (l : Fin 1024) : md (ix3 0 1 l) = scaleRow md (ix3 0 0 l) := (scale_at md l).symm
  simp only [blockWeighted, h]
  generalize scaleRow md = sc
  pointwise [k0_pay1, k0_pay2, k0_pay3, k0_pay4]

/-- What a point adds to the shift's, the scale's and the weight's. -/
theorem left6_eq (i : grid0.Coords) (dh : Vec Ideal S256x1024 .f32) (d : Vec Ideal S1x8x1024 .f32) (j : Fin 8) (l : Fin 1024) :
    left6 i dh d (ix3 0 j l) = ((if Fresh i then (0 : EReal) else d (ix3 0 j l)) + ∑ r : Fin 256, (dh (ix2 r l) : EReal) : EReal) := by
  have h : (if Fresh i then k0_pay5 (F := Ideal) else d) (ix3 0 j l) = if Fresh i then (0 : EReal) else d (ix3 0 j l) := by
    split
    · pointwise [k0_pay5]
    · rfl
  rw [← h]
  show k0_pay8 (F := Ideal) dh _ (ix3 0 j l) = _
  generalize (if Fresh i then k0_pay5 (F := Ideal) else d) = e
  pointwise [k0_pay8]
theorem left7_eq (i : grid0.Coords) (dh x : Vec Ideal S256x1024 .f32) (g : Vec Ideal S1x1024 .f32) (d : Vec Ideal S1x8x1024 .f32) (j : Fin 8) (l : Fin 1024) :
    left7 i dh x g d (ix3 0 j l) = ((if Fresh i then (0 : EReal) else d (ix3 0 j l)) + ∑ r : Fin 256, (dh (ix2 r l) : EReal) * (blockScaled x r l * g (ix2 0 l)) : EReal) := by
  have h : (if Fresh i then k0_pay6 (F := Ideal) else d) (ix3 0 j l) = if Fresh i then (0 : EReal) else d (ix3 0 j l) := by
    split
    · pointwise [k0_pay6]
    · rfl
  rw [← h]
  show k0_pay9 (F := Ideal) dh g (k0_pay2 x) _ (ix3 0 j l) = _
  generalize (if Fresh i then k0_pay6 (F := Ideal) else d) = e
  pointwise [k0_pay9, k0_pay2, k0_pay1]
theorem left8_eq (i : grid0.Coords) (dh x : Vec Ideal S256x1024 .f32) (md : Vec Ideal S1x3x1024 .f32) (d : Vec Ideal S8x1024 .f32) (j : Fin 8) (l : Fin 1024) :
    left8 i dh x md d (ix2 j l) = ((if First i then (0 : EReal) else d (ix2 j l)) + ∑ r : Fin 256, blockWeighted dh md r l * blockScaled x r l : EReal) := by
  have h : (if First i then k0_pay7 (F := Ideal) else d) (ix2 j l) = if First i then (0 : EReal) else d (ix2 j l) := by
    split
    · pointwise [k0_pay7]
    · rfl
  rw [← h]
  show k0_pay10 (F := Ideal) (k0_pay2 x) (k0_pay3 dh (scaleRow md)) _ (ix2 j l) = _
  have h (l : Fin 1024) : md (ix3 0 1 l) = scaleRow md (ix3 0 0 l) := (scale_at md l).symm
  simp only [blockWeighted, h]
  generalize scaleRow md = sc
  generalize (if First i then k0_pay7 (F := Ideal) else d) = e
  pointwise [k0_pay10, k0_pay1, k0_pay2, k0_pay3]

/-! ## The blocks -/

variable (m : (ℓ : Loc nD τ sig) → Buf (Elt Ideal) ℓ) (ρ : Dev nD → PrngReg) (c : Dev nD)

abbrev dhOf : Stream := m ((c : Thread nD τ).loc main_arg0)
abbrev xOf : Stream := m ((c : Thread nD τ).loc main_arg1)
abbrev pastOf : Stream := m ((c : Thread nD τ).loc main_arg2)
abbrev gOf : Weight := m ((c : Thread nD τ).loc main_arg3)
abbrev mdOf : Modulation := m ((c : Thread nD τ).loc main_arg4)

/-- The segment of point `t`'s rows. -/
abbrev part (t : Fin cfg0.N) : Fin 2 := if t.val = 0 then 0 else 1

/-- The windows' blocks at point `t`, counted in blocks. -/
theorem row_facts : ∀ t : Fin cfg0.N, win0_0.index t = ![t.val, 0] ∧ win0_1.index t = ![t.val, 0] ∧ win0_2.index t = ![t.val, 0] ∧ win0_5.index t = ![t.val, 0] :=
  (by decide +kernel : ∀ t : Fin grid0.N, _)
theorem part_facts : ∀ t : Fin cfg0.N, win0_4.index t = ![(part t).val, 0, 0] ∧ win0_6.index t = ![(part t).val, 0, 0] ∧ win0_7.index t = ![(part t).val, 0, 0] :=
  (by decide +kernel : ∀ t : Fin grid0.N, win0_4.index t = ![(if t.val = 0 then 0 else 1 : Fin 2).val, 0, 0] ∧ win0_6.index t = ![(if t.val = 0 then 0 else 1 : Fin 2).val, 0, 0] ∧ win0_7.index t = ![(if t.val = 0 then 0 else 1 : Fin 2).val, 0, 0])
theorem whole_facts : ∀ t : Fin cfg0.N, win0_3.index t = ![0, 0] ∧ win0_8.index t = ![0, 0] := (by decide +kernel : ∀ t : Fin grid0.N, _)

theorem inside (t : Fin cfg0.N) (y : S256x1024.Idx) : t.val * 256 + (y 0).val < 4352 := by
  have h : t.val < 17 := lt_of_lt_of_eq t.isLt N_0
  have hy : (y 0).val < 256 := (y 0).isLt
  omega

/-- Row `r` of point `t`'s block, in the stream. -/
abbrev rowOf (t : Fin cfg0.N) (r : Fin 256) : Fin 4352 := ⟨t.val * 256 + r.val, inside t (ix2 r 0)⟩
abbrev under (t : Fin cfg0.N) (y : S256x1024.Idx) : S4352x1024.Idx := Rows.below t.val y (inside t y)

theorem rows_eq {f : Fin 2 → Nat} (t : Fin cfg0.N) (y : S256x1024.Idx) (i : S4352x1024.Idx) (hf : f = ![t.val, 0]) (h : ∀ a, (i a).val = f a * S256x1024.size a + (y a).val) : i = under t y :=
  Rows.eq_below (inside t y) i fun a => (h a).trans (congrArg (fun f : Fin 2 → Nat => f a * S256x1024.size a + (y a).val) hf)
theorem part_eq {f : Fin 3 → Nat} {k : Nat} (t : Fin cfg0.N) (y : (Rows.Slots 1 k 1024).Idx) (i : (Rows.Slots 2 k 1024).Idx) (hf : f = ![(part t).val, 0, 0])
    (h : ∀ a, (i a).val = f a * (Rows.Slots 1 k 1024).size a + (y a).val) : i = ix3 (part t) ⟨(y 1).val, (y 1).isLt⟩ ⟨(y 2).val, (y 2).isLt⟩ := by
  subst hf
  have h0 : (y 0).val = 0 := Nat.lt_one_iff.mp (y 0).isLt
  refine Shape.idx3_ext ((h 0).trans ?_) ((h 1).trans ?_) ((h 2).trans ?_)
  · show (part t).val * 1 + (y 0).val = (part t).val; omega
  · show 0 * k + (y 1).val = (y 1).val; omega
  · show 0 * 1024 + (y 2).val = (y 2).val; omega
theorem whole_eq {f : Fin 2 → Nat} {k : Nat} (y i : (Rows.Flat k 1024).Idx) (hf : f = ![0, 0]) (h : ∀ a, (i a).val = f a * (Rows.Flat k 1024).size a + (y a).val) : i = y := by
  subst hf
  refine Shape.idx_ext₂ ((h 0).trans ?_) ((h 1).trans ?_)
  · show 0 * k + (y 0).val = (y 0).val; omega
  · show 0 * 1024 + (y 1).val = (y 1).val; omega

theorem read0 (t : Fin cfg0.N) : iblk m c 0 t = fun y => dhOf m c (under t y) :=
  funext fun y => congrArg (dhOf m c) (rows_eq t y _ (row_facts t).1 fun a => Pipeline.Window.rect_emb_val win0_0 t y a)
theorem read1 (t : Fin cfg0.N) : iblk m c 1 t = fun y => xOf m c (under t y) :=
  funext fun y => congrArg (xOf m c) (rows_eq t y _ (row_facts t).2.1 fun a => Pipeline.Window.rect_emb_val win0_1 t y a)
theorem read2 (t : Fin cfg0.N) : iblk m c 2 t = fun y => pastOf m c (under t y) :=
  funext fun y => congrArg (pastOf m c) (rows_eq t y _ (row_facts t).2.2.1 fun a => Pipeline.Window.rect_emb_val win0_2 t y a)
theorem read3 (t : Fin cfg0.N) : iblk m c 3 t = gOf m c :=
  funext fun y => congrArg (gOf m c) (whole_eq (k := 1) y _ (whole_facts t).1 fun a => Pipeline.Window.rect_emb_val win0_3 t y a)
theorem read4 (t : Fin cfg0.N) : iblk m c 4 t = fun y : S1x3x1024.Idx => mdOf m c (ix3 (part t) ⟨(y 1).val, (y 1).isLt⟩ ⟨(y 2).val, (y 2).isLt⟩) :=
  funext fun y => congrArg (mdOf m c) (part_eq (k := 3) t y _ (part_facts t).1 fun a => Pipeline.Window.rect_emb_val win0_4 t y a)
theorem emb5 (t : Fin cfg0.N) (y : S256x1024.Idx) : ((cfg0.win 5).blk t).view.emb y = under t y :=
  rows_eq t y _ (row_facts t).2.2.2 fun a => Pipeline.Window.rect_emb_val win0_5 t y a
theorem emb6 (t : Fin cfg0.N) (y : S1x8x1024.Idx) : ((cfg0.win 6).blk t).view.emb y = ix3 (part t) ⟨(y 1).val, (y 1).isLt⟩ ⟨(y 2).val, (y 2).isLt⟩ :=
  part_eq (k := 8) t y _ (part_facts t).2.1 fun a => Pipeline.Window.rect_emb_val win0_6 t y a
theorem emb7 (t : Fin cfg0.N) (y : S1x8x1024.Idx) : ((cfg0.win 7).blk t).view.emb y = ix3 (part t) ⟨(y 1).val, (y 1).isLt⟩ ⟨(y 2).val, (y 2).isLt⟩ :=
  part_eq (k := 8) t y _ (part_facts t).2.2 fun a => Pipeline.Window.rect_emb_val win0_7 t y a
theorem emb8 (t : Fin cfg0.N) (y : S8x1024.Idx) : ((cfg0.win 8).blk t).view.emb y = y :=
  whole_eq (k := 8) y _ (whole_facts t).2 fun a => Pipeline.Window.rect_emb_val win0_8 t y a

theorem segment_rowOf (t : Fin cfg0.N) (r : Fin 256) : segment (rowOf t r).val = part t := by
  have hr := r.isLt
  by_cases h : t.val = 0
  · rw [part, if_pos h, segment, if_pos (by dsimp only; omega)]
  · rw [part, if_neg h, segment, if_neg (by dsimp only; omega)]

/-- A block's values are those of its rows. -/
theorem scaled_block (t : Fin cfg0.N) (r : Fin 256) (l : Fin 1024) : blockScaled (iblk m c 1 t) r l = scaled (xOf m c) (rowOf t r) l := by
  rw [read1]; rfl
theorem weighted_block (t : Fin cfg0.N) (r : Fin 256) (l : Fin 1024) : blockWeighted (iblk m c 0 t) (iblk m c 4 t) r l = ofWeighted (dhOf m c) (mdOf m c) (rowOf t r) l := by
  rw [read0, read4, ofWeighted, segment_rowOf]; rfl

/-! ## The final arrays -/

/-- Each point writes the gradient of its rows, -/
theorem flushed5_eq (t : Fin cfg0.N) :
    (dats m 0 c).flushed 5 t = ((cfg0.win 5).blk t).view.read (Elt Ideal) (gradient (dhOf m c) (xOf m c) (pastOf m c) (gOf m c) (mdOf m c)) := by
  refine Eq.trans ?_ (funext fun y => (congrArg (gradient (dhOf m c) (xOf m c) (pastOf m c) (gOf m c) (mdOf m c)) (emb5 t y)).symm)
  show (cfg0.win 5).cut (grid0.coords t) ((dats m 0 c).after 5 t) = _
  rw [after5]
  refine funext fun y : S256x1024.Idx => ?_
  obtain ⟨r, l, rfl⟩ : ∃ r l, y = ix2 r l := ⟨⟨(y 0).val, (y 0).isLt⟩, ⟨(y 1).val, (y 1).isLt⟩, Shape.idx_ext₂ rfl rfl⟩
  refine (left5_eq _ _ _ _ _ r l).trans ?_
  rw [read0, read1, read2, read3, read4, ← segment_rowOf t r]
  rfl

/-- and every row is some point's. -/
theorem final5 : (dats m 0 c).arrAt 5 cfg0.N = gradient (dhOf m c) (xOf m c) (pastOf m c) (gOf m c) (mdOf m c) :=
  (dats m 0 c).arrAt_eq_of_cover 5 (gradient (dhOf m c) (xOf m c) (pastOf m c) (gOf m c) (mdOf m c)) (fun t _ => flushed5_eq m c t) fun i => by
    obtain ⟨t, y, h, e⟩ := Rows.exists_below (k := 17) (r := 256) (l := 1024) i
    exact ⟨t.cast N_0.symm, flush0_5 _, Finset.mem_map.mpr ⟨y, Finset.mem_univ _, (emb5 _ y).trans e⟩⟩

/-! ### The sums over the rows -/

/-- A term of every row, by the row's number. -/
abbrev numbered (f : Fin 4352 → EReal) (r : Nat) : EReal := if h : r < 4352 then f ⟨r, h⟩ else 0

theorem block_sum (t : Fin cfg0.N) (f : Fin 4352 → EReal) : ∑ r : Fin 256, f (rowOf t r) = ∑ r : Fin 256, numbered f (t.val * 256 + r.val) :=
  Finset.sum_congr rfl fun r _ => by unfold numbered; rw [dif_pos (show t.val * 256 + r.val < 4352 from (rowOf t r).isLt)]

/-- A sum begun anew at point 0 is, after point `n`, over the first `n + 1` blocks' rows; -/
theorem all_rows (a f : Nat → EReal) (h : ∀ n < 17, a (n + 1) = (if n = 0 then 0 else a n) + ∑ r : Fin 256, f (n * 256 + r.val)) :
    ∀ n < 17, a (n + 1) = ∑ r ∈ Finset.range ((n + 1) * 256), f r
  | 0, hn => by
    rw [h 0 hn, if_pos rfl, zero_add, Finset.sum_range]
    exact Finset.sum_congr rfl fun r _ => congrArg f (by omega)
  | n + 1, hn => by
    rw [h (n + 1) hn, if_neg (Nat.succ_ne_zero n), all_rows a f h n (by omega), Nat.add_mul (n + 1) 1 256, Nat.one_mul, Finset.sum_range_add, Finset.sum_range (n := 256)]

/-- begun anew at points 0 and 1, it is over the first block's rows after point 0, and later over those of the blocks from block 1 on. -/
theorem part_rows (a f : Nat → EReal) (h : ∀ n < 17, a (n + 1) = (if n ≤ 1 then 0 else a n) + ∑ r : Fin 256, f (n * 256 + r.val)) :
    ∀ n < 17, a (n + 1) = if n = 0 then ∑ r : Fin 256, f r.val else ∑ r ∈ Finset.range (n * 256), f (256 + r)
  | 0, hn => by
    rw [h 0 hn, if_pos (Nat.zero_le 1), if_pos rfl, zero_add]
    exact Finset.sum_congr rfl fun r _ => congrArg f (by omega)
  | 1, hn => by
    rw [h 1 hn, if_pos le_rfl, if_neg Nat.one_ne_zero, zero_add, Finset.sum_range]
  | n + 2, hn => by
    rw [h (n + 2) hn, if_neg (by omega), part_rows a f h (n + 1) (by omega), if_neg (Nat.succ_ne_zero n), if_neg (by omega), Nat.add_mul (n + 1) 1 256, Nat.one_mul,
      Finset.sum_range_add, Finset.sum_range (n := 256)]
    refine congrArg (_ + ·) (Finset.sum_congr rfl fun r _ => congrArg f (by omega))

theorem over_zero (f : Fin 4352 → EReal) : ∑ r : Fin 256, numbered f r.val = over 0 f :=
  (Finset.sum_congr rfl fun r _ => dif_pos (r.isLt.trans (by decide))).trans (if_pos rfl).symm
theorem over_one (f : Fin 4352 → EReal) : ∑ r ∈ Finset.range (16 * 256), numbered f (256 + r) = over 1 f := by
  rw [Finset.sum_range]
  exact (Finset.sum_congr rfl fun r _ => dif_pos (Nat.add_lt_add_left r.isLt 256)).trans (if_neg (by decide)).symm
theorem over_all (f : Fin 4352 → EReal) : ∑ r ∈ Finset.range (17 * 256), numbered f r = ∑ r : Fin 4352, f r := by
  rw [Finset.sum_range]
  exact Finset.sum_congr rfl fun r _ => dif_pos r.isLt

/-- A buffer of the shift's or the scale's that adds a term of every row holds, when it is written back, the sum over the rows of the point's segment. -/
theorem part_sum (a : Nat → EReal) (f : Fin 4352 → EReal) (h : ∀ t : Fin cfg0.N, a (t.val + 1) = (if Fresh (grid0.coords t) then 0 else a t.val) + ∑ r : Fin 256, f (rowOf t r))
    (t : Fin cfg0.N) (ht : t.val = 0 ∨ t.val = 16) : a (t.val + 1) = over (part t) f := by
  have key := part_rows a (numbered f) fun n hn => by
    have hn' : n < cfg0.N := lt_of_lt_of_eq hn N_0.symm
    rw [h ⟨n, hn'⟩, block_sum]
    exact congrArg (· + _) (if_congr (fresh_iff ⟨n, hn'⟩) rfl rfl)
  rcases ht with e | e
  · rw [part, if_pos e, e, key 0 (by decide), if_pos rfl, over_zero]
  · rw [part, if_neg (by omega), e, key 16 (by decide), if_neg (by decide), over_one]

theorem held6 (j : Fin 8) (l : Fin 1024) (t : Fin cfg0.N) (ht : t.val = 0 ∨ t.val = 16) :
    (held m c (t.val + 1)).1 (ix3 0 j l) = over (part t) fun r => dhOf m c (ix2 r l) :=
  part_sum (fun n => (held m c n).1 (ix3 0 j l)) _ (fun t => by
    rw [held_succ]
    refine (left6_eq _ _ _ j l).trans ?_
    rw [read0]
    rfl) t ht
theorem held7 (j : Fin 8) (l : Fin 1024) (t : Fin cfg0.N) (ht : t.val = 0 ∨ t.val = 16) :
    (held m c (t.val + 1)).2.1 (ix3 0 j l) = over (part t) fun r => (dhOf m c (ix2 r l) : EReal) * (scaled (xOf m c) r l * gOf m c (ix2 0 l)) :=
  part_sum (fun n => (held m c n).2.1 (ix3 0 j l)) _ (fun t => by
    rw [held_succ]
    refine (left7_eq _ _ _ _ _ j l).trans ?_
    rw [read0, read1, read3]
    rfl) t ht
theorem held8 (j : Fin 8) (l : Fin 1024) (t : Fin cfg0.N) (ht : t.val = 16) :
    (held m c (t.val + 1)).2.2 (ix2 j l) = (∑ r, ofWeighted (dhOf m c) (mdOf m c) r l * scaled (xOf m c) r l : EReal) := by
  have key := all_rows (fun n => (held m c n).2.2 (ix2 j l)) (numbered fun r => ofWeighted (dhOf m c) (mdOf m c) r l * scaled (xOf m c) r l) fun n hn => by
    have hn' : n < cfg0.N := lt_of_lt_of_eq hn N_0.symm
    have e := held_succ m c ⟨n, hn'⟩
    dsimp only at e ⊢
    rw [e]
    refine (left8_eq _ _ _ _ _ j l).trans ?_
    rw [← block_sum ⟨n, hn'⟩]
    exact congrArg₂ (fun a b : EReal => a + b) (if_congr (first_iff ⟨n, hn'⟩) rfl rfl)
      (Finset.sum_congr rfl fun r _ => congrArg₂ (fun a b : EReal => a * b) (weighted_block m c ⟨n, hn'⟩ r l) (scaled_block m c ⟨n, hn'⟩ r l))
  rw [ht]
  exact (key 16 (by decide)).trans (over_all _)

theorem index3 (y : S1x8x1024.Idx) : ∃ j l, y = ix3 0 j l :=
  ⟨⟨(y 1).val, (y 1).isLt⟩, ⟨(y 2).val, (y 2).isLt⟩, Shape.idx3_ext (Nat.lt_one_iff.mp (y 0).isLt) rfl rfl⟩

/-- Every element of the shift's and of the scale's gradients is in the block of point 0 or of point 16. -/
theorem exists_part (i : S2x8x1024.Idx) : ∃ (t : Fin cfg0.N) (_ : t.val = 0 ∨ t.val = 16), ix3 (part t) ⟨(i 1).val, (i 1).isLt⟩ ⟨(i 2).val, (i 2).isLt⟩ = i := by
  have h2 : (i 0).val < 2 := (i 0).isLt
  by_cases h : (i 0).val = 0
  · exact ⟨⟨0, lt_of_lt_of_eq (by decide) N_0.symm⟩, .inl rfl, Shape.idx3_ext h.symm rfl rfl⟩
  · exact ⟨⟨16, lt_of_lt_of_eq (by decide) N_0.symm⟩, .inr rfl, Shape.idx3_ext (by show 1 = (i 0).val; omega) rfl rfl⟩

theorem final6 : (dats m 0 c).arrAt 6 cfg0.N = ofShift (dhOf m c) :=
  (dats m 0 c).arrAt_eq_of_cover 6 (ofShift (dhOf m c)) (fun t hf => by
    refine Eq.trans ?_ (funext fun y => (congrArg (ofShift (dhOf m c)) (emb6 t y)).symm)
    show (cfg0.win 6).cut (grid0.coords t) ((dats m 0 c).after 6 t) = _
    rw [after6]
    refine funext fun y : S1x8x1024.Idx => ?_
    obtain ⟨j, l, rfl⟩ := index3 y
    exact held6 m c j l t ((flush6 t).mp hf)) fun i => by
    obtain ⟨t, ht, e⟩ := exists_part i
    exact ⟨t, (flush6 t).mpr ht, Finset.mem_map.mpr ⟨ix3 0 ⟨(i 1).val, (i 1).isLt⟩ ⟨(i 2).val, (i 2).isLt⟩, Finset.mem_univ _, (emb6 t _).trans e⟩⟩
theorem final7 : (dats m 0 c).arrAt 7 cfg0.N = ofScale (dhOf m c) (xOf m c) (gOf m c) :=
  (dats m 0 c).arrAt_eq_of_cover 7 (ofScale (dhOf m c) (xOf m c) (gOf m c)) (fun t hf => by
    refine Eq.trans ?_ (funext fun y => (congrArg (ofScale (dhOf m c) (xOf m c) (gOf m c)) (emb7 t y)).symm)
    show (cfg0.win 7).cut (grid0.coords t) ((dats m 0 c).after 7 t) = _
    rw [after7]
    refine funext fun y : S1x8x1024.Idx => ?_
    obtain ⟨j, l, rfl⟩ := index3 y
    exact held7 m c j l t ((flush7 t).mp hf)) fun i => by
    obtain ⟨t, ht, e⟩ := exists_part i
    exact ⟨t, (flush7 t).mpr ht, Finset.mem_map.mpr ⟨ix3 0 ⟨(i 1).val, (i 1).isLt⟩ ⟨(i 2).val, (i 2).isLt⟩, Finset.mem_univ _, (emb7 t _).trans e⟩⟩
theorem final8 : (dats m 0 c).arrAt 8 cfg0.N = ofGain (dhOf m c) (xOf m c) (mdOf m c) :=
  (dats m 0 c).arrAt_eq_of_cover 8 (ofGain (dhOf m c) (xOf m c) (mdOf m c)) (fun t hf => by
    have h16 : t.val = 16 := by have h : t.val < 17 := lt_of_lt_of_eq t.isLt N_0; have := (flush0_8 t).mp hf; omega
    refine Eq.trans ?_ (funext fun y => (congrArg (ofGain (dhOf m c) (xOf m c) (mdOf m c)) (emb8 t y)).symm)
    show (cfg0.win 8).cut (grid0.coords t) ((dats m 0 c).after 8 t) = _
    rw [after8]
    refine funext fun y : S8x1024.Idx => ?_
    obtain ⟨j, l, rfl⟩ : ∃ j l, y = ix2 j l := ⟨⟨(y 0).val, (y 0).isLt⟩, ⟨(y 1).val, (y 1).isLt⟩, Shape.idx_ext₂ rfl rfl⟩
    exact held8 m c j l t h16) fun i => by
    have h : 16 < cfg0.N := lt_of_lt_of_eq (by decide) N_0.symm
    exact ⟨⟨16, h⟩, (flush0_8 ⟨16, h⟩).mpr rfl, Finset.mem_map.mpr ⟨i, Finset.mem_univ _, emb8 ⟨16, h⟩ i⟩⟩

omit c in
/-- The call's run: the four gradients, the arguments unchanged. -/
theorem run : θ_run defs (onTc (τ := τ) (main (F := Ideal))) ⟨m, fun _ => 0, ρ⟩ fun r => ∀ c : Dev nD,
      r.2.mem ((c : Thread nD τ).loc main_v0_0) = gradient (dhOf m c) (xOf m c) (pastOf m c) (gOf m c) (mdOf m c)
      ∧ r.2.mem ((c : Thread nD τ).loc main_v0_1) = ofShift (dhOf m c)
      ∧ r.2.mem ((c : Thread nD τ).loc main_v0_2) = ofScale (dhOf m c) (xOf m c) (gOf m c)
      ∧ r.2.mem ((c : Thread nD τ).loc main_v0_3) = ofGain (dhOf m c) (xOf m c) (mdOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨e0, e1, e2, e3, hargs⟩ := h.1 c
    exact ⟨e0.trans (final5 m c), e1.trans (final6 m c), e2.trans (final7 m c), e3.trans (final8 m c), hargs⟩) (run_arrays m ρ)

end Kernel

section Reference

open Cert.PrenormRefIdeal Cert.PrenormRefIdeal.Gen

/-! ## The reference, as automatic differentiation writes it -/

variable (dh x past : Vec Ideal S4352x1024 .f32) (g : Vec Ideal S1x1024 .f32) (md : Vec Ideal S2x3x1024 .f32)

/-- The gradient of the weighted rows: each segment's, on the other's rows zero. -/
abbrev wide : Vec Ideal S4352x1024 .f32 :=
  addf (pad S4352x1024 ![256, 0] ![0, 0] ![0, 0] (mulf (extractStridedSlice S4096x1024 ![256, 0] dh slices_S4352x1024_S4096x1024_256_0) (broadcastInDim S4096x1024 ![0, 1] bcast_S1x1024_S4096x1024_0_1 (broadcastInDim S1x1024 ![1] bcast_S1024_S1x1024_1
      (addf (broadcastInDim S1024 ![] bcast_S_S1024 (constant (F := Ideal) S_ .f32 0x3F800000#32)) (shapeCast _ (extractStridedSlice S1x1x1024 ![1, 1, 0] md slices_S2x3x1024_S1x1x1024_1_1_0) shapeCasts_S1x1x1024_S1024))))) (constant S_ .f32 0x00000000#32) pads_S4096x1024_S4352x1024_25600_000 h_S_)
    (pad S4352x1024 ![0, 0] ![4096, 0] ![0, 0] (mulf (extractStridedSlice S256x1024 ![0, 0] dh slices_S4352x1024_S256x1024_0_0) (broadcastInDim S256x1024 ![0, 1] bcast_S1x1024_S256x1024_0_1 (broadcastInDim S1x1024 ![1] bcast_S1024_S1x1024_1
      (addf (broadcastInDim S1024 ![] bcast_S_S1024 (constant (F := Ideal) S_ .f32 0x3F800000#32)) (shapeCast _ (extractStridedSlice S1x1x1024 ![0, 1, 0] md slices_S2x3x1024_S1x1x1024_0_1_0) shapeCasts_S1x1x1024_S1024))))) (constant S_ .f32 0x00000000#32) pads_S256x1024_S4352x1024_040960_000 h_S_)

/-- The mean of the rows' squares, and its reciprocal root. -/
abbrev means : Vec Ideal S4352x1 .f32 :=
  addf (Host.divf (broadcastInDim S4352x1 ![0] bcast_S4352_S4352x1_0 (Host.reduceAdd (mulf x x) (constant (F := Ideal) S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))
abbrev rates : Vec Ideal S4352x1 .f32 := Host.rsqrt (F := Ideal) (φ := .f32) (means x)

/-- What the gradient `v` of the scaled rows gives the square root's. -/
abbrev through (M : Vec Ideal S4352x1 .f32) (v : Vec Ideal S4352x1024 .f32) : Vec Ideal S4352x1024 .f32 :=
  broadcastInDim S4352x1024 ![0] bcast_S4352_S4352x1024_0 (Host.reduceAdd (Host.divf (mulf (shapeCast _ (Host.reduceAdd (mulf x v) (constant (F := Ideal) S_ .f32 0x00000000#32) reducesTo_S4352x1024_S4352_d1 h_S_) shapeCasts_S4352_S4352x1)
    (mulf (broadcastInDim S4352x1 ![] bcast_S_S4352x1 (constant S_ .f32 0xBF000000#32)) (Host.divf (Host.rsqrt M) M))) (broadcastInDim S4352x1 ![] bcast_S_S4352x1 (constant S_ .f32 0x44800000#32))) (constant S_ .f32 0x00000000#32) reducesTo_S4352x1_S4352_d1 h_S_)

theorem wide_at (r : Fin 4352) (l : Fin 1024) : wide dh md (ix2 r l) = ofWeighted dh md r l := by
  by_cases h : r.val < 256
  · have e : segment r.val = 0 := if_pos h
    rw [ofWeighted, e]
    pointwise [wide]
    rw [dif_neg (by omega), dif_pos h, zero_add]
  · have e : segment r.val = 1 := if_neg h
    rw [ofWeighted, e]
    pointwise [wide]
    have h' : 256 ≤ r.val ∧ r.val - 256 < 4096 := ⟨by omega, by omega⟩
    rw [dif_pos h', dif_neg h, add_zero]
    exact congrArg (fun q : Fin 4352 => (dh (ix2 q l) : EReal) * (1 + md (ix3 1 1 l))) (Fin.ext (by show 256 + (r.val - 256) = r.val; omega))

theorem means_at (r : Fin 4352) : means x (ix2 r 0) = (Ideal.div (∑ k : Fin 1024, (x (ix2 r k) : EReal) * x (ix2 r k)) lanes + small : EReal) := by
  pointwise [means]

theorem through_at (M : Vec Ideal S4352x1 .f32) (v : Vec Ideal S4352x1024 .f32) (r : Fin 4352) (l : Fin 1024) :
    through x M v (ix2 r l) = Ideal.div ((∑ k : Fin 1024, (x (ix2 r k) : EReal) * v (ix2 r k)) * (minusHalf * Ideal.div (Ideal.rsqrt (M (ix2 r 0))) (M (ix2 r 0)))) lanes := by
  pointwise [through]
  exact Fin.sum_univ_one _

/-- A row and a column, spread over the stream's shape. -/
abbrev rowed (w : Vec Ideal S1x1024 .f32) : Vec Ideal S4352x1024 .f32 := broadcastInDim S4352x1024 ![0, 1] bcast_S1x1024_S4352x1024_0_1 w
abbrev columned (w : Vec Ideal S4352x1 .f32) : Vec Ideal S4352x1024 .f32 := broadcastInDim S4352x1024 ![0, 1] bcast_S4352x1_S4352x1024_0_1 w
abbrev times (a b : Vec Ideal S4352x1024 .f32) : Vec Ideal S4352x1024 .f32 := mulf (F := Ideal) (φ := .f32) a b
abbrev plus (a b : Vec Ideal S4352x1024 .f32) : Vec Ideal S4352x1024 .f32 := addf (F := Ideal) (φ := .f32) a b

theorem rated_at (r : Fin 4352) (l : Fin 1024) : columned (rates x) (ix2 r l) = (rate x r : EReal) := by
  rw [rate, ← means_at, rates]
  generalize means x = M
  pointwise [columned]
theorem weighed_at (w : Vec Ideal S4352x1024 .f32) (r : Fin 4352) (l : Fin 1024) : times w (rowed g) (ix2 r l) = ((w (ix2 r l) : EReal) * g (ix2 0 l) : EReal) := by
  pointwise [times, rowed]

/-- The stream's gradient. -/
theorem gradient_eq : plus past (plus (plus (times (times (wide dh md) (rowed g)) (columned (rates x))) (times x (through x (means x) (times (wide dh md) (rowed g)))))
      (times (through x (means x) (times (wide dh md) (rowed g))) x)) = gradient dh x past g md := by
  refine funext fun i : S4352x1024.Idx => ?_
  obtain ⟨r, l, rfl⟩ : ∃ r l, i = ix2 r l := ⟨⟨(i 0).val, (i 0).isLt⟩, ⟨(i 1).val, (i 1).isLt⟩, Shape.idx_ext₂ rfl rfl⟩
  have hv (k : Fin 1024) : times (wide dh md) (rowed g) (ix2 r k) = (ofScaled dh g md r k : EReal) :=
    (weighed_at g _ r k).trans (congrArg (· * (g (ix2 0 k) : EReal)) (wide_at dh md r k))
  have ht := (through_at x (means x) (times (wide dh md) (rowed g)) r l).trans
    (congrArg₂ (fun a b : EReal => Ideal.div (a * (minusHalf * Ideal.div (Ideal.rsqrt b) b)) lanes) (Finset.sum_congr rfl fun k _ => congrArg ((x (ix2 r k) : EReal) * ·) (hv k)) (means_at x r))
  refine Eq.trans ?_ (congrArg ((past (ix2 r l) : EReal) + ·) (forms_eq _ (mean_pos fun k => x (ix2 r k)) (fun k => x (ix2 r k)) (ofScaled dh g md r) l).symm)
  exact congrArg ((past (ix2 r l) : EReal) + ·) (congrArg₂ (fun a b : EReal => a + b) (congrArg₂ (fun a b : EReal => a + b) (congrArg₂ (fun a b : EReal => a * b) (hv l) (rated_at x r l))
    (congrArg ((x (ix2 r l) : EReal) * ·) ht)) (congrArg (· * (x (ix2 r l) : EReal)) ht))

/-- The sum of the rows of either segment, as one row of a modulation. -/
abbrev upper (w : Vec Ideal S4096x1024 .f32) : Vec Ideal S1x1x1024 .f32 :=
  broadcastInDim S1x1x1024 ![2] bcast_S1024_S1x1x1024_2 (Host.reduceAdd (shapeCast _ (Host.reduceAdd w (constant (F := Ideal) S_ .f32 0x00000000#32) reducesTo_S4096x1024_S1024_d0 h_S_) shapeCasts_S1024_S1x1024) (constant S_ .f32 0x00000000#32) reducesTo_S1x1024_S1024_d0 h_S_)
abbrev lower (w : Vec Ideal S256x1024 .f32) : Vec Ideal S1x1x1024 .f32 :=
  broadcastInDim S1x1x1024 ![2] bcast_S1024_S1x1x1024_2 (Host.reduceAdd (shapeCast _ (Host.reduceAdd w (constant (F := Ideal) S_ .f32 0x00000000#32) reducesTo_S256x1024_S1024_d0 h_S_) shapeCasts_S1024_S1x1024) (constant S_ .f32 0x00000000#32) reducesTo_S1x1024_S1024_d0 h_S_)

theorem upper_at (w : Vec Ideal S4096x1024 .f32) (l : Fin 1024) : upper w (ix3 0 0 l) = (∑ r, w (ix2 r l) : EReal) := by
  pointwise [upper]
  exact Fin.sum_univ_one _
theorem lower_at (w : Vec Ideal S256x1024 .f32) (l : Fin 1024) : lower w (ix3 0 0 l) = (∑ r, w (ix2 r l) : EReal) := by
  pointwise [lower]
  exact Fin.sum_univ_one _

/-- A modulation of one row `v` among zeros. -/
theorem placed (a b : Nat) (hi : Fin 3 → Nat) (v : Vec Ideal S1x1x1024 .f32) (h : S1x1x1024.Pads ![a, b, 0] hi ![0, 0, 0] S2x3x1024) (s : Fin 2) (j : Fin 3) (l : Fin 1024) :
    pad S2x3x1024 ![a, b, 0] hi ![0, 0, 0] v (constant (F := Ideal) S_ .f32 0x00000000#32) h h_S_ (ix3 s j l) = if s.val = a ∧ j.val = b then (v (ix3 0 0 l) : EReal) else 0 := by
  split
  · next e =>
    exact pad_apply_of_inside _ _ _ _ _ _ _ _ (ix3 0 0 l) (Fin.forall_fin_succ.mpr ⟨by show s.val = a + 0 * (0 + 1); omega, Fin.forall_fin_two.mpr ⟨by show j.val = b + 0 * (0 + 1); omega, by show l.val = 0 + l.val * (0 + 1); omega⟩⟩)
  · next e =>
    refine Eq.trans ?_ Ideal.ofBits_zero_f32
    by_cases ha : s.val = a
    · exact pad_apply_of_not_inside _ _ _ _ _ _ _ _ (1 : Fin 3) (by show ¬(b ≤ j.val ∧ (j.val - b) % (0 + 1) = 0 ∧ (j.val - b) / (0 + 1) < 1); omega)
    · exact pad_apply_of_not_inside _ _ _ _ _ _ _ _ (0 : Fin 3) (by show ¬(a ≤ s.val ∧ (s.val - a) % (0 + 1) = 0 ∧ (s.val - a) / (0 + 1) < 1); omega)

/-- The sums over the rows of either segment, of the shift's terms and of the scale's, each at its place. -/
abbrev sums (y : Vec Ideal S4352x1024 .f32) : Vec Ideal S2x3x1024 .f32 :=
  addf (addf (addf (pad S2x3x1024 ![1, 0, 0] ![0, 2, 0] ![0, 0, 0] (upper (extractStridedSlice S4096x1024 ![256, 0] dh slices_S4352x1024_S4096x1024_256_0)) (constant (F := Ideal) S_ .f32 0x00000000#32) pads_S1x1x1024_S2x3x1024_100_020_000 h_S_)
    (pad S2x3x1024 ![1, 1, 0] ![0, 1, 0] ![0, 0, 0] (upper (mulf (F := Ideal) (φ := .f32) (extractStridedSlice S4096x1024 ![256, 0] y slices_S4352x1024_S4096x1024_256_0) (extractStridedSlice S4096x1024 ![256, 0] dh slices_S4352x1024_S4096x1024_256_0))) (constant S_ .f32 0x00000000#32) pads_S1x1x1024_S2x3x1024_100_110_000 h_S_))
    (pad S2x3x1024 ![0, 0, 0] ![1, 2, 0] ![0, 0, 0] (lower (extractStridedSlice S256x1024 ![0, 0] dh slices_S4352x1024_S256x1024_0_0)) (constant S_ .f32 0x00000000#32) pads_S1x1x1024_S2x3x1024_010_020_000 h_S_))
    (pad S2x3x1024 ![0, 1, 0] ![1, 1, 0] ![0, 0, 0] (lower (mulf (F := Ideal) (φ := .f32) (extractStridedSlice S256x1024 ![0, 0] y slices_S4352x1024_S256x1024_0_0) (extractStridedSlice S256x1024 ![0, 0] dh slices_S4352x1024_S256x1024_0_0))) (constant S_ .f32 0x00000000#32) pads_S1x1x1024_S2x3x1024_010_110_000 h_S_)

theorem sums_at (y : Vec Ideal S4352x1024 .f32) (s : Fin 2) (j : Fin 3) (l : Fin 1024) :
    sums dh y (ix3 s j l) = (((if s.val = 1 ∧ j.val = 0 then over 1 fun r => dh (ix2 r l) else 0) + (if s.val = 1 ∧ j.val = 1 then over 1 fun r => (y (ix2 r l) : EReal) * dh (ix2 r l) else 0)
      + (if s.val = 0 ∧ j.val = 0 then over 0 fun r => dh (ix2 r l) else 0) + (if s.val = 0 ∧ j.val = 1 then over 0 fun r => (y (ix2 r l) : EReal) * dh (ix2 r l) else 0) : EReal)) := by
  refine congrArg₂ (fun a b : EReal => a + b) (congrArg₂ (fun a b : EReal => a + b) (congrArg₂ (fun a b : EReal => a + b)
    ((placed 1 0 _ _ _ s j l).trans (if_congr Iff.rfl ((upper_at _ l).trans ?_) rfl)) ((placed 1 1 _ _ _ s j l).trans (if_congr Iff.rfl ((upper_at _ l).trans ?_) rfl)))
    ((placed 0 0 _ _ _ s j l).trans (if_congr Iff.rfl ((lower_at _ l).trans ?_) rfl))) ((placed 0 1 _ _ _ s j l).trans (if_congr Iff.rfl ((lower_at _ l).trans ?_) rfl))
  · refine Eq.trans ?_ (if_neg (by decide)).symm
    pointwise []
  · refine Eq.trans ?_ (if_neg (by decide)).symm
    pointwise []
  · refine Eq.trans ?_ (if_pos rfl).symm
    pointwise []
  · refine Eq.trans ?_ (if_pos rfl).symm
    pointwise []

theorem sums_shift (y : Vec Ideal S4352x1024 .f32) (s : Fin 2) (l : Fin 1024) : sums dh y (ix3 s 0 l) = over s fun r => dh (ix2 r l) := by
  rw [sums_at]
  fin_cases s <;> simp
theorem sums_scale (y : Vec Ideal S4352x1024 .f32) (s : Fin 2) (l : Fin 1024) : sums dh y (ix3 s 1 l) = over s fun r => (y (ix2 r l) : EReal) * dh (ix2 r l) := by
  rw [sums_at]
  fin_cases s <;> simp

/-- The shift's gradient, the scale's and the weight's. -/
theorem shift_eq (y : Vec Ideal S4352x1024 .f32) :
    broadcastInDim S2x8x1024 ![0, 1, 2] bcast_S2x1x1024_S2x8x1024_0_1_2 (broadcastInDim S2x1x1024 ![0, 2] bcast_S2x1024_S2x1x1024_0_2 (shapeCast _ (extractStridedSlice S2x1x1024 ![0, 0, 0] (sums dh y) slices_S2x3x1024_S2x1x1024_0_0_0) shapeCasts_S2x1x1024_S2x1024))
    = ofShift dh := by
  refine funext fun i : S2x8x1024.Idx => ?_
  refine Eq.trans ?_ (sums_shift dh y ⟨(i 0).val, (i 0).isLt⟩ ⟨(i 2).val, (i 2).isLt⟩)
  generalize sums dh y = w
  pointwise []
theorem scale_eq :
    broadcastInDim S2x8x1024 ![0, 1, 2] bcast_S2x1x1024_S2x8x1024_0_1_2 (broadcastInDim S2x1x1024 ![0, 2] bcast_S2x1024_S2x1x1024_0_2 (shapeCast _ (extractStridedSlice S2x1x1024 ![0, 1, 0]
      (sums dh (times (times x (columned (rates x))) (rowed g))) slices_S2x3x1024_S2x1x1024_0_1_0) shapeCasts_S2x1x1024_S2x1024))
    = ofScale dh x g := by
  refine funext fun i : S2x8x1024.Idx => ?_
  have h (r : Fin 4352) (l : Fin 1024) : times (times x (columned (rates x))) (rowed g) (ix2 r l) = (scaled x r l * g (ix2 0 l) : EReal) :=
    (weighed_at g _ r l).trans (congrArg (fun q : EReal => (x (ix2 r l) : EReal) * q * g (ix2 0 l)) (rated_at x r l))
  refine Eq.trans ?_ ((sums_scale dh _ ⟨(i 0).val, (i 0).isLt⟩ ⟨(i 2).val, (i 2).isLt⟩).trans
    (congrArg (over ⟨(i 0).val, (i 0).isLt⟩) (funext fun r => (mul_comm _ _).trans (congrArg ((dh (ix2 r ⟨(i 2).val, (i 2).isLt⟩) : EReal) * ·) (h r ⟨(i 2).val, (i 2).isLt⟩)))))
  generalize sums dh _ = w
  pointwise []
theorem gain_eq :
    broadcastInDim S8x1024 ![0, 1] bcast_S1x1024_S8x1024_0_1 (shapeCast _ (Host.reduceAdd (times (times x (columned (rates x))) (wide dh md)) (constant (F := Ideal) S_ .f32 0x00000000#32) reducesTo_S4352x1024_S1024_d0 h_S_) shapeCasts_S1024_S1x1024)
    = ofGain dh x md := by
  refine funext fun i : S8x1024.Idx => ?_
  refine Eq.trans ?_ (Finset.sum_congr rfl fun r _ => (mul_comm _ _).trans (congrArg₂ (fun a b : EReal => a * b) (wide_at dh md r ⟨(i 1).val, (i 1).isLt⟩)
    (congrArg ((x (ix2 r ⟨(i 1).val, (i 1).isLt⟩) : EReal) * ·) (rated_at x r ⟨(i 1).val, (i 1).isLt⟩))))
  generalize wide dh md = w
  generalize columned (rates x) = y
  pointwise [times]

variable (m : (ℓ : Loc nD τ sig) → Buf (Elt Ideal) ℓ) (ρ : Dev nD → PrngReg) (M : (ℓ : Loc Cert.PrenormIdeal.nD Cert.PrenormIdeal.τ Cert.PrenormIdeal.sig) → Buf (Elt Ideal) ℓ)

/-- The reference's run from the call's arguments: the same functions of them. -/
theorem run_ref (hm : ∀ c : Dev nD,
      m ((c.tc : Thread nD τ).loc main_arg0) = M ((c.tc : Thread nD τ).loc Cert.PrenormIdeal.main_arg0)
      ∧ m ((c.tc : Thread nD τ).loc main_arg1) = M ((c.tc : Thread nD τ).loc Cert.PrenormIdeal.main_arg1)
      ∧ m ((c.tc : Thread nD τ).loc main_arg2) = M ((c.tc : Thread nD τ).loc Cert.PrenormIdeal.main_arg2)
      ∧ m ((c.tc : Thread nD τ).loc main_arg3) = M ((c.tc : Thread nD τ).loc Cert.PrenormIdeal.main_arg3)
      ∧ m ((c.tc : Thread nD τ).loc main_arg4) = M ((c.tc : Thread nD τ).loc Cert.PrenormIdeal.main_arg4)) :
    θ_run defs (onTc (τ := τ) (main (F := Ideal))) ⟨m, fun _ => 0, ρ⟩ fun r => ∀ c : Dev nD,
      r.2.mem ((c.tc : Thread nD τ).loc main_v95) = gradient (dhOf M c) (xOf M c) (pastOf M c) (gOf M c) (mdOf M c)
      ∧ r.2.mem ((c.tc : Thread nD τ).loc main_v99) = ofShift (dhOf M c)
      ∧ r.2.mem ((c.tc : Thread nD τ).loc main_v103) = ofScale (dhOf M c) (xOf M c) (gOf M c)
      ∧ r.2.mem ((c.tc : Thread nD τ).loc main_v104) = ofGain (dhOf M c) (xOf M c) (mdOf M c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨e0, e1, e2, e3, hargs⟩ := h c
    obtain ⟨h0, h1, h2, h3, h4⟩ := hm c
    rw [Value.res_main_v95, h0, h1, h2, h3, h4] at e0
    rw [h0, h1, h3] at e1 e2
    rw [h0, h1, h4] at e3
    exact ⟨e0.trans (gradient_eq _ _ _ _ _), e1.trans (shift_eq _ _), e2.trans (scale_eq _ _ _), e3.trans (gain_eq _ _ _), hargs⟩) (Value.run m ρ)

end Reference

end Cert.PrenormProof

end
-- ==== Proof.Tiles.lean ====
/-
  Blocks of a two-dimensional array: where an element of block `(a, b)` lies, that a window's block is that, and that the blocks cover the
  array.
-/
module

public import proofs.«01_k».proof.Proof.Rows

@[expose] public section

namespace Cert.Tiles

open Idealize.ShloMosaic Cert.Rows

variable {r s R C : Nat}

/-- Element `y` of block `(a, b)`, in the array. -/
abbrev tile (a b : Nat) (y : (Flat r s).Idx) (h : a * r + r ≤ R) (h' : b * s + s ≤ C) : (Flat R C).Idx :=
  ix2 ⟨a * r + (y 0).val, (Nat.add_lt_add_left (y 0).isLt _).trans_le h⟩ ⟨b * s + (y 1).val, (Nat.add_lt_add_left (y 1).isLt _).trans_le h'⟩

theorem eq_tile {a b : Nat} {f : Fin 2 → Nat} (y : (Flat r s).Idx) (i : (Flat R C).Idx) (h : a * r + r ≤ R) (h' : b * s + s ≤ C) (hf : f = ![a, b])
    (e : ∀ k, (i k).val = f k * (Flat r s).size k + (y k).val) : i = tile a b y h h' := by
  subst hf
  exact Shape.idx_ext₂ (e 0) (e 1)

/-- Every element lies in one of `p` by `q` blocks, numbered row by row. -/
theorem exists_point {p q : Nat} (hr : 0 < r) (hs : 0 < s) (hR : R = p * r) (hC : C = q * s) (i : (Flat R C).Idx) :
    ∃ (t : Fin (p * q)) (y : (Flat r s).Idx), t.val / q * r + (y 0).val = (i 0).val ∧ t.val % q * s + (y 1).val = (i 1).val := by
  have h0 : (i 0).val / r < p := Nat.div_lt_of_lt_mul ((i 0).isLt.trans_eq (hR.trans (Nat.mul_comm p r)))
  have h1 : (i 1).val / s < q := Nat.div_lt_of_lt_mul ((i 1).isLt.trans_eq (hC.trans (Nat.mul_comm q s)))
  refine ⟨⟨(i 0).val / r * q + (i 1).val / s, ?_⟩, ix2 ⟨(i 0).val % r, Nat.mod_lt _ hr⟩ ⟨(i 1).val % s, Nat.mod_lt _ hs⟩, ?_, ?_⟩
  · calc (i 0).val / r * q + (i 1).val / s < (i 0).val / r * q + q := Nat.add_lt_add_left h1 _
      _ = ((i 0).val / r + 1) * q := (Nat.succ_mul _ _).symm
      _ ≤ p * q := Nat.mul_le_mul_right q h0
  · show ((i 0).val / r * q + (i 1).val / s) / q * r + (i 0).val % r = _
    rw [Nat.add_comm (_ * q), Nat.add_mul_div_right _ _ ((Nat.zero_le _).trans_lt h1), Nat.div_eq_of_lt h1, Nat.zero_add]
    exact Nat.div_add_mod' _ _
  · show ((i 0).val / r * q + (i 1).val / s) % q * s + (i 1).val % s = _
    rw [Nat.add_comm (_ * q), Nat.add_mul_mod_self_right, Nat.mod_eq_of_lt h1]
    exact Nat.div_add_mod' _ _

theorem tile_eq (i : (Flat R C).Idx) (y : (Flat r s).Idx) {a b : Nat} (h h') (e0 : a * r + (y 0).val = (i 0).val) (e1 : b * s + (y 1).val = (i 1).val) : tile a b y h h' = i :=
  Shape.idx_ext₂ e0 e1

/-- An index of two coordinates. -/
theorem exists_ix2 (y : (Flat r s).Idx) : ∃ (a : Fin r) (b : Fin s), y = ix2 a b := ⟨⟨(y 0).val, (y 0).isLt⟩, ⟨(y 1).val, (y 1).isLt⟩, Shape.idx_ext₂ rfl rfl⟩

/-- Element `y` of band `a`, rows `a r` on, all columns. -/
abbrev band (a : Nat) (y : (Flat r C).Idx) (h : a * r + r ≤ R) : (Flat R C).Idx :=
  ix2 ⟨a * r + (y 0).val, (Nat.add_lt_add_left (y 0).isLt _).trans_le h⟩ ⟨(y 1).val, (y 1).isLt⟩

theorem eq_band {a : Nat} {f : Fin 2 → Nat} (y : (Flat r C).Idx) (i : (Flat R C).Idx) (h : a * r + r ≤ R) (hf : f = ![a, 0])
    (e : ∀ k, (i k).val = f k * (Flat r C).size k + (y k).val) : i = band a y h := by
  subst hf
  exact Shape.idx_ext₂ (e 0) ((e 1).trans ((congrArg (· + (y 1).val) (Nat.zero_mul C)).trans (Nat.zero_add _)))

theorem eq_whole {f : Fin 2 → Nat} (y i : (Flat r s).Idx) (hf : f = ![0, 0]) (e : ∀ k, (i k).val = f k * (Flat r s).size k + (y k).val) : i = y := by
  subst hf
  exact Shape.idx_ext₂ ((e 0).trans ((congrArg (· + (y 0).val) (Nat.zero_mul r)).trans (Nat.zero_add _)))
    ((e 1).trans ((congrArg (· + (y 1).val) (Nat.zero_mul s)).trans (Nat.zero_add _)))

theorem exists_band {p : Nat} (hr : 0 < r) (hR : R = p * r) (i : (Flat R C).Idx) (h : ∀ t : Fin p, t.val * r + r ≤ R) :
    ∃ (t : Fin p) (y : (Flat r C).Idx), band t.val y (h t) = i := by
  have h0 : (i 0).val / r < p := Nat.div_lt_of_lt_mul ((i 0).isLt.trans_eq (hR.trans (Nat.mul_comm p r)))
  exact ⟨⟨(i 0).val / r, h0⟩, ix2 ⟨(i 0).val % r, Nat.mod_lt _ hr⟩ ⟨(i 1).val, (i 1).isLt⟩, Shape.idx_ext₂ (Nat.div_add_mod' _ _) rfl⟩

/-- Slab `a` of a three-dimensional array, whole otherwise. -/
theorem eq_slab {n d : Nat} {a : Nat} {f : Fin 3 → Nat} (y : (⟨3, ![1, d, s]⟩ : Shape).Idx) (i : (⟨3, ![n, d, s]⟩ : Shape).Idx) (h : a < n) (hf : f = ![a, 0, 0])
    (e : ∀ k, (i k).val = f k * (⟨3, ![1, d, s]⟩ : Shape).size k + (y k).val) : i = ix3 ⟨a, h⟩ ⟨(y 1).val, (y 1).isLt⟩ ⟨(y 2).val, (y 2).isLt⟩ := by
  subst hf
  refine Shape.idx3_ext ((e 0).trans ?_) ((e 1).trans ((congrArg (· + (y 1).val) (Nat.zero_mul d)).trans (Nat.zero_add _)))
    ((e 2).trans ((congrArg (· + (y 2).val) (Nat.zero_mul s)).trans (Nat.zero_add _)))
  have hy : (y 0).val = 0 := Nat.lt_one_iff.mp (y 0).isLt
  show a * 1 + (y 0).val = a
  rw [hy]; omega

variable {F : FTy → Type} [FloatOps F] [Named F]

/-- Row `k` of a slab, loaded. -/
theorem load_row {d : Nat} {φ : EltTy} (x : Vec F ⟨3, ![1, d, s]⟩ φ) (k : Fin d) (h : ∀ a, (![0, k.val, 0] : Fin 3 → Nat) a + (⟨3, ![1, 1, s]⟩ : Shape).size a ≤ (⟨3, ![1, d, s]⟩ : Shape).size a) (l : Fin s) :
    View.ld x (Rect.unit (s := ⟨3, ![1, d, s]⟩) ![0, k.val, 0] (⟨3, ![1, 1, s]⟩ : Shape).size h) (ix3 0 0 l) = x (ix3 0 k l) := by
  refine congrArg x (Shape.idx3_ext ?_ ?_ ?_)
  · rfl
  · show k.val + 1 * 0 = k.val; omega
  · show 0 + 1 * l.val = l.val; omega

/-- Columns `k` on, loaded. -/
theorem load_columns {φ : EltTy} (x : Vec F (Flat r C) φ) (k : Nat) (h : ∀ a, (![0, k] : Fin 2 → Nat) a + (Flat r s).size a ≤ (Flat r C).size a) (i : Fin r) (l : Fin s) :
    View.ld x (Rect.unit (s := Flat r C) ![0, k] (Flat r s).size h) (ix2 i l) = x (ix2 i ⟨k + l.val, (Nat.add_lt_add_left l.isLt k).trans_le (h 1)⟩) := by
  refine congrArg x (Shape.idx_ext₂ ?_ ?_)
  · show 0 + 1 * i.val = i.val; omega
  · show k + 1 * l.val = k + l.val; omega

/-- A row divided by the root of its mean square, of `w` elements: the value at `l`. -/
noncomputable abbrev normed {n : Nat} (w : BitVec 32) (f : Fin n → EReal) (l : Fin n) : EReal :=
  f l * Ideal.rsqrt (Ideal.div (∑ k, f k * f k) (Ideal.ofBits .f32 w) + Ideal.ofBits .f32 0x358637BD#32)

/-- The logistic function. -/
noncomputable abbrev sigmoid (x : EReal) : EReal := Ideal.div 1 (1 + Ideal.exp (-x))

/-- `x` times its logistic. -/
noncomputable abbrev silu (x : EReal) : EReal := x * sigmoid x

/-- The segment of a token: the context's rows are the first 256. -/
abbrev seg (r : Fin 4352) : Fin 2 := if r.val < 256 then 0 else 1

theorem row_le (t : Fin 17) : t.val * 256 + 256 ≤ 4352 := by omega

theorem seg_band (t : Nat) (r : Fin 256) (h : t * 256 + r.val < 4352) : seg ⟨t * 256 + r.val, h⟩ = if t = 0 then 0 else 1 := by
  have := r.isLt
  by_cases ht : t = 0
  · rw [if_pos ht]; exact if_pos (show t * 256 + r.val < 256 by omega)
  · rw [if_neg ht]; exact if_neg (show ¬ t * 256 + r.val < 256 by omega)

theorem latent_row (r : Fin 4352) (hr : ¬ r.val < 256) (h : 256 + (r.val - 256) < 4352) : (⟨256 + (r.val - 256), h⟩ : Fin 4352) = r :=
  Fin.ext (Nat.add_sub_of_le (Nat.le_of_not_lt hr))

end Cert.Tiles

end
-- ==== Proof.PrenormFwd.lean ====
/-
  The normalisation before the projection and its reference. Point `a` of the grid writes rows `256 a … 256 a + 255`, with the shift and
  the scale of the context for `a = 0` and of the latent tokens after it.
-/
module

public import proofs.«01_k».proof.Proof.Tiles
public import proofs.«01_k».proof.Proof.Gen.PrenormFwdIdeal.Value
public import proofs.«01_k».proof.Proof.Gen.PrenormFwdRefIdeal.Run
public import Idealize.ShloMosaic.Lib.Pointwise

@[expose] public section

noncomputable section

namespace Cert.PrenormFwdProof

open Idealize.ShloMosaic Idealize.ShloMosaic.TcCoe Idealize.SL.Sem
open Cert.Tiles

/-- The normalised stream, element by element. -/
abbrev value (x : Vec Ideal PrenormFwdIdeal.S4352x1024 .f32) (g : Vec Ideal PrenormFwdIdeal.S1x1024 .f32) (d : Vec Ideal PrenormFwdIdeal.S2x3x1024 .f32)
    (r : Fin 4352) (l : Fin 1024) : EReal :=
  normed 0x44800000#32 (fun k => x (ix2 r k)) l * g (ix2 0 l) * (1 + d (ix3 (seg r) 1 l)) + d (ix3 (seg r) 0 l)
abbrev prenorm (x : Vec Ideal PrenormFwdIdeal.S4352x1024 .f32) (g : Vec Ideal PrenormFwdIdeal.S1x1024 .f32) (d : Vec Ideal PrenormFwdIdeal.S2x3x1024 .f32) :
    Vec Ideal PrenormFwdIdeal.S4352x1024 .bf16 := fun i => value x g d ⟨(i 0).val, (i 0).isLt⟩ ⟨(i 1).val, (i 1).isLt⟩

section Kernel

open Cert.PrenormFwdIdeal Cert.PrenormFwdIdeal.Gen

variable (m : (ℓ : Loc nD τ sig) → Buf (Elt Ideal) ℓ) (ρ : Dev nD → PrngReg) (c : Dev nD)

theorem pay_eq (x : Vec Ideal S256x1024 .f32) (g : Vec Ideal S1x1024 .f32) (u v : Vec Ideal S1x1x1024 .f32) (r : Fin 256) (l : Fin 1024) :
    k0_pay1 (F := Ideal) x g u v (ix2 r l) = normed 0x44800000#32 (fun k => x (ix2 r k)) l * g (ix2 0 l) * (1 + u (ix3 0 0 l)) + v (ix3 0 0 l) := by
  pointwise [k0_pay1]

theorem out_eq (x : Vec Ideal S256x1024 .f32) (g : Vec Ideal S1x1024 .f32) (d : Vec Ideal S1x3x1024 .f32) (r : Fin 256) (l : Fin 1024) :
    out0_3 (F := Ideal) x g d (ix2 r l) = normed 0x44800000#32 (fun k => x (ix2 r k)) l * g (ix2 0 l) * (1 + d (ix3 0 1 l)) + d (ix3 0 0 l) := by
  unfold out0_3
  rw [View.canon_unit_zero Rows.zero_zero, View.ld_unit_zero Rows.zero_zero _ x, View.ld_unit_zero Rows.zero_zero _ g]
  refine (pay_eq x g _ _ r l).trans ?_
  exact congrArg₂ (fun a b : EReal => normed 0x44800000#32 (fun k => x (ix2 r k)) l * g (ix2 0 l) * (1 + a) + b) (load_row d 1 _ l) (load_row d 0 _ l)

theorem facts : ∀ t : Fin cfg0.N, win0_0.index t = ![t.val, 0] ∧ win0_1.index t = ![0, 0] ∧ win0_2.index t = ![(if t.val = 0 then 0 else 1 : Fin 2).val, 0, 0] ∧ win0_3.index t = ![t.val, 0] :=
  (by decide +kernel : ∀ t : Fin grid0.N, _)

theorem read0 (t : Fin cfg0.N) : iblk m c 0 t = fun y => m ((c : Thread nD τ).loc main_arg0) (band t.val y (row_le (t.cast N_0))) :=
  funext fun y => congrArg (m ((c : Thread nD τ).loc main_arg0)) (eq_band y _ (row_le (t.cast N_0)) (facts t).1 fun a => Pipeline.Window.rect_emb_val win0_0 t y a)
theorem read1 (t : Fin cfg0.N) : iblk m c 1 t = m ((c : Thread nD τ).loc main_arg1) :=
  funext fun y => congrArg (m ((c : Thread nD τ).loc main_arg1)) (eq_whole y _ (facts t).2.1 fun a => Pipeline.Window.rect_emb_val win0_1 t y a)
theorem read2 (t : Fin cfg0.N) : iblk m c 2 t = fun y => m ((c : Thread nD τ).loc main_arg2) (ix3 (if t.val = 0 then 0 else 1) ⟨(y 1).val, (y 1).isLt⟩ ⟨(y 2).val, (y 2).isLt⟩) :=
  funext fun y => congrArg (m ((c : Thread nD τ).loc main_arg2)) (eq_slab y _ (if t.val = 0 then 0 else 1 : Fin 2).isLt (facts t).2.2.1 fun a => Pipeline.Window.rect_emb_val win0_2 t y a)
theorem emb (t : Fin cfg0.N) (y : S256x1024.Idx) : ((cfg0.win 3).blk t).view.emb y = band t.val y (row_le (t.cast N_0)) :=
  eq_band y _ (row_le (t.cast N_0)) (facts t).2.2.2 fun a => Pipeline.Window.rect_emb_val win0_3 t y a

abbrev result : Vec Ideal S4352x1024 .bf16 := prenorm (m ((c : Thread nD τ).loc main_arg0)) (m ((c : Thread nD τ).loc main_arg1)) (m ((c : Thread nD τ).loc main_arg2))

theorem flushed_eq (t : Fin cfg0.N) : (dats m 0 c).flushed 3 t = ((cfg0.win 3).blk t).view.read (Elt Ideal) (result m c) := by
  refine Eq.trans ?_ (funext fun y => (congrArg (result m c) (emb t y)).symm)
  rw [Value.flushed3]
  refine funext fun y : S256x1024.Idx => ?_
  obtain ⟨r, l, rfl⟩ := exists_ix2 y
  refine (out_eq _ _ _ r l).trans ?_
  rw [read0, read1, read2]
  show _ = value _ _ _ ⟨t.val * 256 + r.val, _⟩ l
  unfold value
  rw [seg_band t.val r (Nat.lt_of_lt_of_le (Nat.add_lt_add_left r.isLt _) (row_le (t.cast N_0)))]
  rfl

theorem final : (dats m 0 c).arrAt 3 cfg0.N = result m c :=
  (dats m 0 c).arrAt_eq_of_cover 3 (result m c) (fun t _ => flushed_eq m c t) fun i => by
    obtain ⟨t, y, e⟩ := exists_band (p := 17) (r := 256) (by decide) rfl i row_le
    exact ⟨t.cast N_0.symm, flush0_3 _, Finset.mem_map.mpr ⟨y, Finset.mem_univ _, (emb _ y).trans e⟩⟩

omit c in
/-- The call's run: the normalised stream, the arguments unchanged. -/
theorem run : θ_run defs (onTc (τ := τ) (main (F := Ideal))) ⟨m, fun _ => 0, ρ⟩ fun r => ∀ c : Dev nD,
      r.2.mem ((c : Thread nD τ).loc main_v0) = prenorm (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Kernel

section Reference

open Cert.PrenormFwdRefIdeal Cert.PrenormFwdRefIdeal.Gen

variable (m : (ℓ : Loc nD τ sig) → Buf (Elt Ideal) ℓ) (ρ : Dev nD → PrngReg) (M : (ℓ : Loc Cert.PrenormFwdIdeal.nD Cert.PrenormFwdIdeal.τ Cert.PrenormFwdIdeal.sig) → Buf (Elt Ideal) ℓ)

/-- The reference's run from the call's arguments: the same stream. -/
theorem run_ref (hm : ∀ c : Dev nD,
      m ((c.tc : Thread nD τ).loc main_arg0) = M ((c.tc : Thread nD τ).loc Cert.PrenormFwdIdeal.main_arg0)
      ∧ m ((c.tc : Thread nD τ).loc main_arg1) = M ((c.tc : Thread nD τ).loc Cert.PrenormFwdIdeal.main_arg1)
      ∧ m ((c.tc : Thread nD τ).loc main_arg2) = M ((c.tc : Thread nD τ).loc Cert.PrenormFwdIdeal.main_arg2)) :
    θ_run defs (onTc (τ := τ) (main (F := Ideal))) ⟨m, fun _ => 0, ρ⟩ fun r => ∀ c : Dev nD,
      r.2.mem ((c.tc : Thread nD τ).loc main_v51) = prenorm (M ((c.tc : Thread nD τ).loc Cert.PrenormFwdIdeal.main_arg0)) (M ((c.tc : Thread nD τ).loc Cert.PrenormFwdIdeal.main_arg1)) (M ((c.tc : Thread nD τ).loc Cert.PrenormFwdIdeal.main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  rw [(hm c).1, (hm c).2.1, (hm c).2.2]
  generalize M ((c.tc : Thread nD τ).loc Cert.PrenormFwdIdeal.main_arg0) = x
  generalize M ((c.tc : Thread nD τ).loc Cert.PrenormFwdIdeal.main_arg1) = g
  generalize M ((c.tc : Thread nD τ).loc Cert.PrenormFwdIdeal.main_arg2) = d
  refine funext fun j : S4352x1024.Idx => ?_
  obtain ⟨r, l, rfl⟩ := exists_ix2 j
  show _ = value x g d r l
  unfold value
  by_cases hr : r.val < 256
  · rw [show seg r = 0 from if_pos hr]
    pointwise [hr]
  · rw [show seg r = 1 from if_neg hr]
    pointwise [hr]
    exact congrArg (fun r : Fin 4352 => normed 0x44800000#32 (fun k => x (ix2 r k)) l * g (ix2 0 l) * (1 + d (ix3 1 1 l)) + d (ix3 1 0 l)) (latent_row r hr (by omega))

end Reference

end Cert.PrenormFwdProof

end
-- ==== Proof.Proj.lean ====
/-
  The combined input projection and its reference. Point `13 a + b` of the grid writes rows `1088 a … 1088 a + 1087` and columns
  `1024 b … 1024 b + 1023` of the product.
-/
module

public import proofs.«01_k».proof.Proof.Tiles
public import proofs.«01_k».proof.Proof.Gen.ProjIdeal.Value
public import proofs.«01_k».proof.Proof.Gen.ProjRefIdeal.Run
public import Idealize.ShloMosaic.Lib.Pointwise

@[expose] public section

noncomputable section

namespace Cert.ProjProof

open Idealize.ShloMosaic Idealize.ShloMosaic.TcCoe Idealize.SL.Sem
open Cert.Tiles

/-- The product, element by element. -/
abbrev product (h : Vec Ideal ProjIdeal.S4352x1024 .bf16) (w : Vec Ideal ProjIdeal.S1024x13312 .bf16) : Vec Ideal ProjIdeal.S4352x13312 .f32 := fun i =>
  (∑ k : Fin 1024, (h (ix2 ⟨(i 0).val, (i 0).isLt⟩ k) : EReal) * w (ix2 k ⟨(i 1).val, (i 1).isLt⟩) : EReal)

section Kernel

open Cert.ProjIdeal Cert.ProjIdeal.Gen

variable (m : (ℓ : Loc nD τ sig) → Buf (Elt Ideal) ℓ) (ρ : Dev nD → PrngReg) (c : Dev nD)

theorem out_eq (x0 : Vec Ideal S1088x1024 .bf16) (x1 : Vec Ideal S1024x1024 .bf16) (r : Fin 1088) (l : Fin 1024) :
    out0_2 (F := Ideal) x0 x1 (ix2 r l) = (∑ k : Fin 1024, (x0 (ix2 r k) : EReal) * x1 (ix2 k l) : EReal) := by
  unfold out0_2
  rw [View.canon_unit_zero Rows.zero_zero, View.ld_unit_zero Rows.zero_zero _ x0, View.ld_unit_zero Rows.zero_zero _ x1]
  pointwise [k0_pay1]

theorem facts : ∀ t : Fin cfg0.N, win0_0.index t = ![t.val / 13, 0] ∧ win0_1.index t = ![0, t.val % 13] ∧ win0_2.index t = ![t.val / 13, t.val % 13] :=
  (by decide +kernel : ∀ t : Fin grid0.N, _)

theorem row (t : Fin cfg0.N) : t.val / 13 * 1088 + 1088 ≤ 4352 := by
  have h : t.val < 52 := lt_of_lt_of_eq t.isLt N_0
  omega
theorem col (t : Fin cfg0.N) : t.val % 13 * 1024 + 1024 ≤ 13312 := by omega

theorem read0 (t : Fin cfg0.N) : iblk m c 0 t = fun y => m ((c : Thread nD τ).loc main_arg0) (tile (t.val / 13) 0 y (row t) le_rfl) :=
  funext fun y => congrArg (m ((c : Thread nD τ).loc main_arg0)) (eq_tile y _ (row t) le_rfl (facts t).1 fun a => Pipeline.Window.rect_emb_val win0_0 t y a)
theorem read1 (t : Fin cfg0.N) : iblk m c 1 t = fun y => m ((c : Thread nD τ).loc main_arg1) (tile 0 (t.val % 13) y le_rfl (col t)) :=
  funext fun y => congrArg (m ((c : Thread nD τ).loc main_arg1)) (eq_tile y _ le_rfl (col t) (facts t).2.1 fun a => Pipeline.Window.rect_emb_val win0_1 t y a)
theorem emb (t : Fin cfg0.N) (y : S1088x1024.Idx) : ((cfg0.win 2).blk t).view.emb y = tile (t.val / 13) (t.val % 13) y (row t) (col t) :=
  eq_tile y _ (row t) (col t) (facts t).2.2 fun a => Pipeline.Window.rect_emb_val win0_2 t y a

abbrev result : Vec Ideal S4352x13312 .f32 := product (m ((c : Thread nD τ).loc main_arg0)) (m ((c : Thread nD τ).loc main_arg1))

theorem flushed_eq (t : Fin cfg0.N) : (dats m 0 c).flushed 2 t = ((cfg0.win 2).blk t).view.read (Elt Ideal) (result m c) := by
  refine Eq.trans ?_ (funext fun y => (congrArg (result m c) (emb t y)).symm)
  rw [Value.flushed2]
  refine funext fun y : S1088x1024.Idx => ?_
  obtain ⟨r, l, rfl⟩ := exists_ix2 y
  refine (out_eq _ _ r l).trans ?_
  rw [read0, read1]
  refine Finset.sum_congr rfl fun k _ => congrArg₂ (fun a b : EReal => a * b) (congrArg _ (Shape.idx_ext₂ rfl ?_)) (congrArg _ (Shape.idx_ext₂ ?_ rfl))
  all_goals exact (congrArg (· + k.val) (Nat.zero_mul 1024)).trans (Nat.zero_add _)

theorem final : (dats m 0 c).arrAt 2 cfg0.N = result m c :=
  (dats m 0 c).arrAt_eq_of_cover 2 (result m c) (fun t _ => flushed_eq m c t) fun i => by
    obtain ⟨t, y, e0, e1⟩ := exists_point (p := 4) (q := 13) (r := 1088) (s := 1024) (by decide) (by decide) rfl rfl i
    exact ⟨t.cast N_0.symm, flush0_2 _, Finset.mem_map.mpr ⟨y, Finset.mem_univ _, (emb _ y).trans (tile_eq i y _ _ e0 e1)⟩⟩

omit c in
/-- The call's run: the product, the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Kernel

section Reference

open Cert.ProjRefIdeal Cert.ProjRefIdeal.Gen

theorem ref_eq (h : Vec Ideal S4352x1024 .bf16) (w : Vec Ideal S1024x13312 .bf16) :
    (Host.dotGeneral (F := Ideal) (φ₁ := .f32) (φ₂ := .f32) dot_S4352x1024_S1024x13312_S4352x13312_1_0_0_1_n_n none (extf .f32 h bitsLt_bf16_f32) (extf .f32 w bitsLt_bf16_f32) : FVec Ideal S4352x13312 .f32) = product h w := by
  funext j
  pointwise [product]

variable (m : (ℓ : Loc nD τ sig) → Buf (Elt Ideal) ℓ) (ρ : Dev nD → PrngReg) (M : (ℓ : Loc Cert.ProjIdeal.nD Cert.ProjIdeal.τ Cert.ProjIdeal.sig) → Buf (Elt Ideal) ℓ)

/-- The reference's run from the call's arguments: the same product. -/
theorem run_ref (hm : ∀ c : Dev nD,
      m ((c.tc : Thread nD τ).loc main_arg0) = M ((c.tc : Thread nD τ).loc Cert.ProjIdeal.main_arg0)
      ∧ m ((c.tc : Thread nD τ).loc main_arg1) = M ((c.tc : Thread nD τ).loc Cert.ProjIdeal.main_arg1)) :
    θ_run defs (onTc (τ := τ) (main (F := Ideal))) ⟨m, fun _ => 0, ρ⟩ fun r => ∀ c : Dev nD,
      r.2.mem ((c.tc : Thread nD τ).loc main_v2) = product (M ((c.tc : Thread nD τ).loc Cert.ProjIdeal.main_arg0)) (M ((c.tc : Thread nD τ).loc Cert.ProjIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e, hargs⟩ := h c
    rw [(hm c).1, (hm c).2, ref_eq] at e
    exact ⟨e, hargs⟩) (Value.run m ρ)

end Reference

end Cert.ProjProof

end
-- ==== Proof.Conv.lean ====
/-
  The short gated convolution with its gate path, and their reference. Point `t` of the grid writes rows `256 t … 256 t + 255` of both
  results; the row before a block and the row after it come out of blocks of eight rows. The context's rows, the first 256, and the others
  are two sequences: beyond the ends of either there are zeros.
-/
module

public import proofs.«01_k».proof.Proof.Tiles
public import proofs.«01_k».proof.Proof.Gen.ConvIdeal.Value
public import proofs.«01_k».proof.Proof.Gen.ConvRefIdeal.Run
public import Idealize.ShloMosaic.Lib.Pointwise
public import Idealize.ShloMosaic.Lib.WordCmp

@[expose] public section

noncomputable section

namespace Cert.ConvProof

open Idealize.ShloMosaic Idealize.ShloMosaic.TcCoe Idealize.SL.Sem
open Cert.Tiles

/-- The convolution's input at row `r`, and on the rows before and after, which a sequence's ends cut off. -/
abbrev gate (p : Vec Ideal ConvIdeal.S4352x13312 .f32) (r : Fin 4352) (l : Fin 1024) : EReal :=
  (p (ix2 r ⟨1024 + l.val, by omega⟩) : EReal) * p (ix2 r ⟨2048 + l.val, by omega⟩)
theorem gate_congr (p : Vec Ideal ConvIdeal.S4352x13312 .f32) {r r' : Fin 4352} (l : Fin 1024) (h : r.val = r'.val) : gate p r l = gate p r' l :=
  congrArg (fun r => gate p r l) (Fin.ext h)
abbrev before (p : Vec Ideal ConvIdeal.S4352x13312 .f32) (r : Fin 4352) (l : Fin 1024) : EReal :=
  if r.val = 0 ∨ r.val = 256 then 0 else gate p ⟨r.val - 1, by omega⟩ l
abbrev after (p : Vec Ideal ConvIdeal.S4352x13312 .f32) (r : Fin 4352) (l : Fin 1024) : EReal :=
  if h : r.val = 255 ∨ r.val = 4351 then 0 else gate p ⟨r.val + 1, by omega⟩ l

theorem after_end (p : Vec Ideal ConvIdeal.S4352x13312 .f32) (r : Fin 4352) (l : Fin 1024) (e : r.val = 255 ∨ r.val = 4351) : after p r l = 0 := dif_pos e
theorem after_next (p : Vec Ideal ConvIdeal.S4352x13312 .f32) (r : Fin 4352) (l : Fin 1024) (e : ¬ (r.val = 255 ∨ r.val = 4351)) : after p r l = gate p ⟨r.val + 1, by omega⟩ l :=
  dif_neg e

/-- The three rows weighted, -/
abbrev weigh (w : Vec Ideal ConvIdeal.S8x1024 .f32) (l : Fin 1024) (x y z : EReal) : EReal :=
  (w (ix2 0 l) : EReal) * x + w (ix2 1 l) * y + w (ix2 2 l) * z
theorem weigh_congr (w : Vec Ideal ConvIdeal.S8x1024 .f32) (l : Fin 1024) {x x' y y' z z' : EReal} (hx : x = x') (hy : y = y') (hz : z = z') : weigh w l x y z = weigh w l x' y' z' := by
  rw [hx, hy, hz]
/-- and what the gate path makes of their sum `x`. -/
abbrev path (p : Vec Ideal ConvIdeal.S4352x13312 .f32) (r : Fin 4352) (l : Fin 1024) (x : EReal) : EReal :=
  (p (ix2 r ⟨l.val, by omega⟩) : EReal) * x * silu (p (ix2 r ⟨3072 + l.val, by omega⟩))

abbrev conv (p : Vec Ideal ConvIdeal.S4352x13312 .f32) (w : Vec Ideal ConvIdeal.S8x1024 .f32) (r : Fin 4352) (l : Fin 1024) : EReal :=
  weigh w l (before p r l) (gate p r l) (after p r l)

abbrev first (p : Vec Ideal ConvIdeal.S4352x13312 .f32) (w : Vec Ideal ConvIdeal.S8x1024 .f32) : Vec Ideal ConvIdeal.S4352x1024 .f32 :=
  fun i => conv p w ⟨(i 0).val, (i 0).isLt⟩ ⟨(i 1).val, (i 1).isLt⟩
abbrev second (p : Vec Ideal ConvIdeal.S4352x13312 .f32) (w : Vec Ideal ConvIdeal.S8x1024 .f32) : Vec Ideal ConvIdeal.S4352x1024 .bf16 :=
  fun i => path p ⟨(i 0).val, (i 0).isLt⟩ ⟨(i 1).val, (i 1).isLt⟩ (conv p w ⟨(i 0).val, (i 0).isLt⟩ ⟨(i 1).val, (i 1).isLt⟩)

section Kernel

open Cert.ConvIdeal Cert.ConvIdeal.Gen

variable (m : (ℓ : Loc nD τ sig) → Buf (Elt Ideal) ℓ) (ρ : Dev nD → PrngReg) (c : Dev nD)

theorem select_eq {k n : Nat} (hk : k < 2 ^ 32) (hn : n < 2 ^ 32) (x y : EReal) :
    Scalar.select (IntOp.cmpi .eq (BitVec.ofNat 32 k) (BitVec.ofNat 32 n)) x y = if k = n then x else y := by
  rw [WordCmp.cmpi_eq_ofNat hk hn, WordCmp.select_ofBool]
  exact if_congr decide_eq_true_iff rfl rfl
theorem select_or_eq {k a b : Nat} (hk : k < 2 ^ 32) (ha : a < 2 ^ 32) (hb : b < 2 ^ 32) (x y : EReal) :
    Scalar.select (Scalar.ori (Scalar.cmpi .eq (BitVec.ofNat 32 k) (BitVec.ofNat 32 a)) (Scalar.cmpi .eq (BitVec.ofNat 32 k) (BitVec.ofNat 32 b))) x y
      = if k = a ∨ k = b then x else y := by
  show Scalar.select (IntOp.ori (IntOp.cmpi .eq _ _) (IntOp.cmpi .eq _ _)) x y = _
  rw [WordCmp.cmpi_eq_ofNat hk ha, WordCmp.cmpi_eq_ofNat hk hb, WordCmp.ori_ofBool, WordCmp.select_ofBool]
  exact if_congr (by simp) rfl rfl

/-- The rows before and after row `r` of a block of 256, at point `t`: `x` and `y` are rows of neighbouring blocks. -/
abbrev above (t : Nat) (u : Fin 256 → EReal) (x : EReal) (r : Fin 256) : EReal :=
  if r.val = 0 then (if t = 0 ∨ t = 1 then 0 else x) else u ⟨(r.val + 256 - 1) % 256, Nat.mod_lt _ (by decide)⟩
abbrev below (t : Nat) (u : Fin 256 → EReal) (y : EReal) (r : Fin 256) : EReal :=
  if r.val = 255 then (if t = 0 ∨ t = 16 then 0 else y) else u ⟨(r.val + 256 - 255) % 256, Nat.mod_lt _ (by decide)⟩

theorem pay_eq (i : grid0.Coords) (x1 x2 : Vec Ideal S256x1024 .f32) (a b d e w0 w1 w2 : Vec Ideal S1x1024 .f32) (r : Fin 256) (l : Fin 1024) :
    k0_pay1 (k0_pay3 x1 x2) (k0_pay4 i x1 x2 a b) (k0_pay5 i x1 x2 d e) w0 w1 w2 (ix2 r l)
      = (w0 (ix2 0 l) : EReal) * above (i 0).val (fun r => x1 (ix2 r l) * x2 (ix2 r l)) (a (ix2 0 l) * b (ix2 0 l)) r + w1 (ix2 0 l) * (x1 (ix2 r l) * x2 (ix2 r l))
        + w2 (ix2 0 l) * below (i 0).val (fun r => x1 (ix2 r l) * x2 (ix2 r l)) (d (ix2 0 l) * e (ix2 0 l)) r := by
  have hi : (i 0).val < 17 := (i 0).isLt
  have hr := r.isLt
  pointwise [k0_pay1, k0_pay3, k0_pay4, k0_pay5]
  rw [select_eq (by omega) (by decide), select_eq (by omega) (by decide), select_or_eq (by omega) (by decide) (by decide), select_or_eq (by omega) (by decide) (by decide)]

theorem path_eq (v2 v27 v33 : FVec Ideal S256x1024 .f32) (w0 w1 w2 : Vec Ideal S1x1024 .f32) (x3 x0 : Vec Ideal S256x1024 .f32) (r : Fin 256) (l : Fin 1024) :
    k0_pay2 v2 v27 v33 w0 w1 w2 x3 x0 (ix2 r l) = (x0 (ix2 r l) : EReal) * k0_pay1 v2 v27 v33 w0 w1 w2 (ix2 r l) * silu (x3 (ix2 r l)) := by
  pointwise [k0_pay2, zero_sub]

/-- Row `k` of a block of eight, loaded. -/
theorem load_eq (x : Vec Ideal S8x1024 .f32) (k : Fin 8) (h : ∀ a, (![k.val, 0] : Fin 2 → Nat) a + S1x1024.size a ≤ S8x1024.size a) (l : Fin 1024) :
    View.ld x (Rect.unit (s := S8x1024) ![k.val, 0] S1x1024.size h) (ix2 0 l) = x (ix2 k l) :=
  congrArg x (Shape.idx_ext₂ (show k.val + 1 * 0 = k.val by omega) (show 0 + 1 * l.val = l.val by omega))

/-- What the body leaves of its blocks. -/
abbrev mixed (t : Nat) (x1 x2 : Vec Ideal S256x1024 .f32) (x4 x5 x6 x7 x8 : Vec Ideal S8x1024 .f32) (r : Fin 256) (l : Fin 1024) : EReal :=
  weigh x8 l (above t (fun r => (x1 (ix2 r l) : EReal) * x2 (ix2 r l)) ((x4 (ix2 7 l) : EReal) * x5 (ix2 7 l)) r) ((x1 (ix2 r l) : EReal) * x2 (ix2 r l))
    (below t (fun r => (x1 (ix2 r l) : EReal) * x2 (ix2 r l)) ((x6 (ix2 0 l) : EReal) * x7 (ix2 0 l)) r)

theorem sum_eq (i : grid0.Coords) (x1 x2 : Vec Ideal S256x1024 .f32) (x4 x5 x6 x7 x8 : Vec Ideal S8x1024 .f32) (r : Fin 256) (l : Fin 1024) :
    k0_pay1 (k0_pay3 x1 x2) (k0_pay4 i x1 x2 (View.ld x4 r0_1) (View.ld x5 r0_1)) (k0_pay5 i x1 x2 (View.ld x6 r0_2) (View.ld x7 r0_2)) (View.ld x8 r0_2) (View.ld x8 r0_3) (View.ld x8 r0_4) (ix2 r l)
      = mixed (i 0).val x1 x2 x4 x5 x6 x7 x8 r l := by
  refine (pay_eq i x1 x2 _ _ _ _ _ _ _ r l).trans ?_
  rw [show View.ld x4 r0_1 (ix2 0 l) = x4 (ix2 7 l) from load_eq x4 7 _ l, show View.ld x5 r0_1 (ix2 0 l) = x5 (ix2 7 l) from load_eq x5 7 _ l,
    show View.ld x6 r0_2 (ix2 0 l) = x6 (ix2 0 l) from load_eq x6 0 _ l, show View.ld x7 r0_2 (ix2 0 l) = x7 (ix2 0 l) from load_eq x7 0 _ l,
    show View.ld x8 r0_2 (ix2 0 l) = x8 (ix2 0 l) from load_eq x8 0 _ l, show View.ld x8 r0_3 (ix2 0 l) = x8 (ix2 1 l) from load_eq x8 1 _ l,
    show View.ld x8 r0_4 (ix2 0 l) = x8 (ix2 2 l) from load_eq x8 2 _ l]

theorem out9_eq (i : grid0.Coords) (x0 x1 x2 x3 : Vec Ideal S256x1024 .f32) (x4 x5 x6 x7 x8 : Vec Ideal S8x1024 .f32) (r : Fin 256) (l : Fin 1024) :
    out0_9 (F := Ideal) i x0 x1 x2 x3 x4 x5 x6 x7 x8 (ix2 r l) = mixed (i 0).val x1 x2 x4 x5 x6 x7 x8 r l := by
  unfold out0_9 k0_pay6 k0_pay7 k0_pay8
  rw [View.canon_unit_zero Rows.zero_zero, View.ld_unit_zero Rows.zero_zero _ x1, View.ld_unit_zero Rows.zero_zero _ x2]
  exact sum_eq i x1 x2 x4 x5 x6 x7 x8 r l
theorem out10_eq (i : grid0.Coords) (x0 x1 x2 x3 : Vec Ideal S256x1024 .f32) (x4 x5 x6 x7 x8 : Vec Ideal S8x1024 .f32) (r : Fin 256) (l : Fin 1024) :
    out0_10 (F := Ideal) i x0 x1 x2 x3 x4 x5 x6 x7 x8 (ix2 r l) = (x0 (ix2 r l) : EReal) * mixed (i 0).val x1 x2 x4 x5 x6 x7 x8 r l * silu (x3 (ix2 r l)) := by
  unfold out0_10 k0_pay6 k0_pay7 k0_pay8
  rw [View.canon_unit_zero Rows.zero_zero, View.ld_unit_zero Rows.zero_zero _ x0, View.ld_unit_zero Rows.zero_zero _ x1, View.ld_unit_zero Rows.zero_zero _ x2, View.ld_unit_zero Rows.zero_zero _ x3]
  refine (path_eq _ _ _ _ _ _ _ _ r l).trans ?_
  rw [sum_eq]

theorem facts : ∀ t : Fin cfg0.N, ((grid0.coords t 0).val = t.val ∧ win0_0.index t = ![t.val, 0] ∧ win0_1.index t = ![t.val, 1] ∧ win0_2.index t = ![t.val, 2] ∧ win0_3.index t = ![t.val, 3])
    ∧ (win0_4.index t = ![t.val * 32 - 1, 1] ∧ win0_5.index t = ![t.val * 32 - 1, 2]) ∧ (win0_6.index t = ![min (t.val * 32 + 32) 543, 1] ∧ win0_7.index t = ![min (t.val * 32 + 32) 543, 2])
    ∧ win0_8.index t = ![0, 0] ∧ win0_9.index t = ![t.val, 0] ∧ win0_10.index t = ![t.val, 0] :=
  (by decide +kernel : ∀ t : Fin grid0.N, _)

theorem up_le (t : Fin 17) : (t.val * 32 - 1) * 8 + 8 ≤ 4352 := by omega
theorem down_le (t : Fin 17) : min (t.val * 32 + 32) 543 * 8 + 8 ≤ 4352 := by omega

theorem read0 (t : Fin cfg0.N) : iblk m c 0 t = fun y => m ((c : Thread nD τ).loc main_arg0) (tile t.val 0 y (row_le (t.cast N_0)) (by decide)) :=
  funext fun y => congrArg (m ((c : Thread nD τ).loc main_arg0)) (eq_tile y _ (row_le (t.cast N_0)) (by decide) (facts t).1.2.1 fun a => Pipeline.Window.rect_emb_val win0_0 t y a)
theorem read1 (t : Fin cfg0.N) : iblk m c 1 t = fun y => m ((c : Thread nD τ).loc main_arg0) (tile t.val 1 y (row_le (t.cast N_0)) (by decide)) :=
  funext fun y => congrArg (m ((c : Thread nD τ).loc main_arg0)) (eq_tile y _ (row_le (t.cast N_0)) (by decide) (facts t).1.2.2.1 fun a => Pipeline.Window.rect_emb_val win0_1 t y a)
theorem read2 (t : Fin cfg0.N) : iblk m c 2 t = fun y => m ((c : Thread nD τ).loc main_arg0) (tile t.val 2 y (row_le (t.cast N_0)) (by decide)) :=
  funext fun y => congrArg (m ((c : Thread nD τ).loc main_arg0)) (eq_tile y _ (row_le (t.cast N_0)) (by decide) (facts t).1.2.2.2.1 fun a => Pipeline.Window.rect_emb_val win0_2 t y a)
theorem read3 (t : Fin cfg0.N) : iblk m c 3 t = fun y => m ((c : Thread nD τ).loc main_arg0) (tile t.val 3 y (row_le (t.cast N_0)) (by decide)) :=
  funext fun y => congrArg (m ((c : Thread nD τ).loc main_arg0)) (eq_tile y _ (row_le (t.cast N_0)) (by decide) (facts t).1.2.2.2.2 fun a => Pipeline.Window.rect_emb_val win0_3 t y a)
theorem read4 (t : Fin cfg0.N) : iblk m c 4 t = fun y => m ((c : Thread nD τ).loc main_arg0) (tile (t.val * 32 - 1) 1 y (up_le (t.cast N_0)) (by decide)) :=
  funext fun y => congrArg (m ((c : Thread nD τ).loc main_arg0)) (eq_tile y _ (up_le (t.cast N_0)) (by decide) (facts t).2.1.1 fun a => Pipeline.Window.rect_emb_val win0_4 t y a)
theorem read5 (t : Fin cfg0.N) : iblk m c 5 t = fun y => m ((c : Thread nD τ).loc main_arg0) (tile (t.val * 32 - 1) 2 y (up_le (t.cast N_0)) (by decide)) :=
  funext fun y => congrArg (m ((c : Thread nD τ).loc main_arg0)) (eq_tile y _ (up_le (t.cast N_0)) (by decide) (facts t).2.1.2 fun a => Pipeline.Window.rect_emb_val win0_5 t y a)
theorem read6 (t : Fin cfg0.N) : iblk m c 6 t = fun y => m ((c : Thread nD τ).loc main_arg0) (tile (min (t.val * 32 + 32) 543) 1 y (down_le (t.cast N_0)) (by decide)) :=
  funext fun y => congrArg (m ((c : Thread nD τ).loc main_arg0)) (eq_tile y _ (down_le (t.cast N_0)) (by decide) (facts t).2.2.1.1 fun a => Pipeline.Window.rect_emb_val win0_6 t y a)
theorem read7 (t : Fin cfg0.N) : iblk m c 7 t = fun y => m ((c : Thread nD τ).loc main_arg0) (tile (min (t.val * 32 + 32) 543) 2 y (down_le (t.cast N_0)) (by decide)) :=
  funext fun y => congrArg (m ((c : Thread nD τ).loc main_arg0)) (eq_tile y _ (down_le (t.cast N_0)) (by decide) (facts t).2.2.1.2 fun a => Pipeline.Window.rect_emb_val win0_7 t y a)
theorem read8 (t : Fin cfg0.N) : iblk m c 8 t = m ((c : Thread nD τ).loc main_arg1) :=
  funext fun y => congrArg (m ((c : Thread nD τ).loc main_arg1)) (eq_whole y _ (facts t).2.2.2.1 fun a => Pipeline.Window.rect_emb_val win0_8 t y a)
theorem emb9 (t : Fin cfg0.N) (y : S256x1024.Idx) : ((cfg0.win 9).blk t).view.emb y = band t.val y (row_le (t.cast N_0)) :=
  eq_band y _ (row_le (t.cast N_0)) (facts t).2.2.2.2.1 fun a => Pipeline.Window.rect_emb_val win0_9 t y a
theorem emb10 (t : Fin cfg0.N) (y : S256x1024.Idx) : ((cfg0.win 10).blk t).view.emb y = band t.val y (row_le (t.cast N_0)) :=
  eq_band y _ (row_le (t.cast N_0)) (facts t).2.2.2.2.2 fun a => Pipeline.Window.rect_emb_val win0_10 t y a

/-- The rows beside row `r` of block `t` are the array's. -/
theorem above_eq (p : Vec Ideal S4352x13312 .f32) (t : Fin 17) (r : Fin 256) (l : Fin 1024) :
    above t.val (fun r => gate p ⟨t.val * 256 + r.val, by omega⟩ l) (gate p ⟨(t.val * 32 - 1) * 8 + 7, by omega⟩ l) r = before p ⟨t.val * 256 + r.val, by omega⟩ l := by
  unfold above before
  split_ifs <;> first | rfl | omega | (exfalso; dsimp only at *; omega) | (refine gate_congr p l ?_; dsimp only at *; omega)
theorem below_eq (p : Vec Ideal S4352x13312 .f32) (t : Fin 17) (r : Fin 256) (l : Fin 1024) :
    below t.val (fun r => gate p ⟨t.val * 256 + r.val, by omega⟩ l) (gate p ⟨min (t.val * 32 + 32) 543 * 8 + 0, by omega⟩ l) r = after p ⟨t.val * 256 + r.val, by omega⟩ l := by
  unfold below after
  split_ifs <;> first | rfl | omega | (exfalso; dsimp only at *; omega) | (refine gate_congr p l ?_; dsimp only at *; omega)

theorem mixed_eq (t : Fin cfg0.N) (r : Fin 256) (l : Fin 1024) :
    mixed (grid0.coords t 0).val (iblk m c 1 t) (iblk m c 2 t) (iblk m c 4 t) (iblk m c 5 t) (iblk m c 6 t) (iblk m c 7 t) (iblk m c 8 t) r l
      = conv (m ((c : Thread nD τ).loc main_arg0)) (m ((c : Thread nD τ).loc main_arg1)) ⟨t.val * 256 + r.val, (Nat.add_lt_add_left r.isLt _).trans_le (row_le (t.cast N_0))⟩ l := by
  rw [(facts t).1.1, read1, read2, read4, read5, read6, read7, read8]
  exact weigh_congr _ l (above_eq (m ((c : Thread nD τ).loc main_arg0)) (t.cast N_0) r l) rfl (below_eq (m ((c : Thread nD τ).loc main_arg0)) (t.cast N_0) r l)

abbrev result9 : Vec Ideal S4352x1024 .f32 := first (m ((c : Thread nD τ).loc main_arg0)) (m ((c : Thread nD τ).loc main_arg1))
abbrev result10 : Vec Ideal S4352x1024 .bf16 := second (m ((c : Thread nD τ).loc main_arg0)) (m ((c : Thread nD τ).loc main_arg1))

theorem flushed9_eq (t : Fin cfg0.N) : (dats m 0 c).flushed 9 t = ((cfg0.win 9).blk t).view.read (Elt Ideal) (result9 m c) := by
  refine Eq.trans ?_ (funext fun y => (congrArg (result9 m c) (emb9 t y)).symm)
  rw [Value.flushed9]
  refine funext fun y : S256x1024.Idx => ?_
  obtain ⟨r, l, rfl⟩ := exists_ix2 y
  exact (out9_eq _ _ _ _ _ _ _ _ _ _ r l).trans (mixed_eq m c t r l)
theorem flushed10_eq (t : Fin cfg0.N) : (dats m 0 c).flushed 10 t = ((cfg0.win 10).blk t).view.read (Elt Ideal) (result10 m c) := by
  refine Eq.trans ?_ (funext fun y => (congrArg (result10 m c) (emb10 t y)).symm)
  rw [Value.flushed10]
  refine funext fun y : S256x1024.Idx => ?_
  obtain ⟨r, l, rfl⟩ := exists_ix2 y
  refine (out10_eq _ _ _ _ _ _ _ _ _ _ r l).trans ?_
  rw [mixed_eq, read0, read3]
  refine congrArg (· * silu _) (congrArg (fun x : EReal => x * _) (congrArg (m ((c : Thread nD τ).loc main_arg0)) (Shape.idx_ext₂ rfl ?_)))
  exact (congrArg (· + l.val) (Nat.zero_mul 1024)).trans (Nat.zero_add _)

theorem final9 : (dats m 0 c).arrAt 9 cfg0.N = result9 m c :=
  (dats m 0 c).arrAt_eq_of_cover 9 (result9 m c) (fun t _ => flushed9_eq m c t) fun i => by
    obtain ⟨t, y, e⟩ := exists_band (p := 17) (r := 256) (by decide) rfl i row_le
    exact ⟨t.cast N_0.symm, flush0_9 _, Finset.mem_map.mpr ⟨y, Finset.mem_univ _, (emb9 _ y).trans e⟩⟩
theorem final10 : (dats m 0 c).arrAt 10 cfg0.N = result10 m c :=
  (dats m 0 c).arrAt_eq_of_cover 10 (result10 m c) (fun t _ => flushed10_eq m c t) fun i => by
    obtain ⟨t, y, e⟩ := exists_band (p := 17) (r := 256) (by decide) rfl i row_le
    exact ⟨t.cast N_0.symm, flush0_10 _, Finset.mem_map.mpr ⟨y, Finset.mem_univ _, (emb10 _ y).trans e⟩⟩

omit c in
/-- The call's run: the convolution and its gate path, the arguments unchanged. -/
theorem run : θ_run defs (onTc (τ := τ) (main (F := Ideal))) ⟨m, fun _ => 0, ρ⟩ fun r => ∀ c : Dev nD,
      r.2.mem ((c : Thread nD τ).loc main_v0_0) = first (m ((c : Thread nD τ).loc main_arg0)) (m ((c : Thread nD τ).loc main_arg1))
      ∧ r.2.mem ((c : Thread nD τ).loc main_v0_1) = second (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final9 m c), (h c).2.1.trans (final10 m c), (h c).2.2⟩) (Value.run_blocks m ρ)

end Kernel

section Reference

open Cert.ConvRefIdeal Cert.ConvRefIdeal.Gen

variable (m : (ℓ : Loc nD τ sig) → Buf (Elt Ideal) ℓ) (ρ : Dev nD → PrngReg) (M : (ℓ : Loc Cert.ConvIdeal.nD Cert.ConvIdeal.τ Cert.ConvIdeal.sig) → Buf (Elt Ideal) ℓ)

abbrev zero : EReal := FloatOps.sitofp (F := Ideal) FTy.f32 (0#32)
theorem zero_eq : zero = 0 := by
  show (((0#32).toInt : ℝ) : EReal) = 0
  simp

/-- The reference's rows of either sequence, each cut off by its own padding. -/
theorem context_eq (p : Vec Ideal S4352x13312 .f32) (w : Vec Ideal S8x1024 .f32) (r : Fin 4352) (l : Fin 1024) (hr : r.val < 256) :
    weigh w l (if h : 1 ≤ r.val ∧ r.val - 1 < 256 then gate p ⟨r.val - 1, by omega⟩ l else zero) (if h : r.val < 256 then gate p r l else zero)
      (if h : 1 ≤ 2 + r.val ∧ 2 + r.val - 1 < 256 then gate p ⟨2 + r.val - 1, by omega⟩ l else zero) = conv p w r l := by
  refine weigh_congr w l ?_ (dif_pos hr) ?_
  · by_cases e : r.val = 0 ∨ r.val = 256
    · exact (dif_neg (by omega)).trans (zero_eq.trans (if_pos e).symm)
    · exact (dif_pos (by omega)).trans (if_neg e).symm
  · by_cases e : r.val = 255 ∨ r.val = 4351
    · exact (dif_neg (by omega)).trans (zero_eq.trans (after_end p r l e).symm)
    · exact (dif_pos (by omega)).trans ((gate_congr p l (show 2 + r.val - 1 = r.val + 1 by omega)).trans (after_next p r l e).symm)
theorem latent_eq (p : Vec Ideal S4352x13312 .f32) (w : Vec Ideal S8x1024 .f32) (r : Fin 4352) (l : Fin 1024) (hr : ¬ r.val < 256) :
    weigh w l (if h : 1 ≤ r.val - 256 ∧ r.val - 256 - 1 < 4096 then gate p ⟨256 + (r.val - 256 - 1), by omega⟩ l else zero)
      (if h : r.val - 256 < 4096 then gate p ⟨256 + (r.val - 256), by omega⟩ l else zero)
      (if h : 1 ≤ 2 + (r.val - 256) ∧ 2 + (r.val - 256) - 1 < 4096 then gate p ⟨256 + (2 + (r.val - 256) - 1), by omega⟩ l else zero) = conv p w r l := by
  have hl := r.isLt
  refine weigh_congr w l ?_ ((dif_pos (by omega)).trans (gate_congr p l (show 256 + (r.val - 256) = r.val by omega))) ?_
  · by_cases e : r.val = 0 ∨ r.val = 256
    · exact (dif_neg (by omega)).trans (zero_eq.trans (if_pos e).symm)
    · exact (dif_pos (by omega)).trans ((gate_congr p l (show 256 + (r.val - 256 - 1) = r.val - 1 by omega)).trans (if_neg e).symm)
  · by_cases e : r.val = 255 ∨ r.val = 4351
    · exact (dif_neg (by omega)).trans (zero_eq.trans (after_end p r l e).symm)
    · exact (dif_pos (by omega)).trans ((gate_congr p l (show 256 + (2 + (r.val - 256) - 1) = r.val + 1 by omega)).trans (after_next p r l e).symm)

/-- The reference's run from the call's arguments: the same values. -/
theorem run_ref (hm : ∀ c : Dev nD,
      m ((c.tc : Thread nD τ).loc main_arg0) = M ((c.tc : Thread nD τ).loc Cert.ConvIdeal.main_arg0)
      ∧ m ((c.tc : Thread nD τ).loc main_arg1) = M ((c.tc : Thread nD τ).loc Cert.ConvIdeal.main_arg1)) :
    θ_run defs (onTc (τ := τ) (main (F := Ideal))) ⟨m, fun _ => 0, ρ⟩ fun r => ∀ c : Dev nD,
      r.2.mem ((c.tc : Thread nD τ).loc main_v49) = first (M ((c.tc : Thread nD τ).loc Cert.ConvIdeal.main_arg0)) (M ((c.tc : Thread nD τ).loc Cert.ConvIdeal.main_arg1))
      ∧ r.2.mem ((c.tc : Thread nD τ).loc main_v53) = second (M ((c.tc : Thread nD τ).loc Cert.ConvIdeal.main_arg0)) (M ((c.tc : Thread nD τ).loc Cert.ConvIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2.1.trans ?_, (h c).2.2⟩) (Value.run m ρ)
  on_goal 1 => unfold Value.res_main_v49
  on_goal 2 => unfold Value.res_main_v53
  all_goals
    rw [(hm c).1, (hm c).2]
    generalize M ((c.tc : Thread nD τ).loc Cert.ConvIdeal.main_arg0) = p
    generalize M ((c.tc : Thread nD τ).loc Cert.ConvIdeal.main_arg1) = w
    refine funext fun j : S4352x1024.Idx => ?_
    obtain ⟨r, l, rfl⟩ := exists_ix2 j
  on_goal 1 => show _ = conv p w r l
  on_goal 2 => show _ = path p r l (conv p w r l)
  all_goals pointwise []
  on_goal 2 => refine congrArg (path p r l) ?_
  all_goals
    by_cases hr : r.val < 256
    · exact (dif_pos hr).trans (context_eq p w r l hr)
    · exact (dif_neg hr).trans (latent_eq p w r l hr)

end Reference

end Cert.ConvProof

end
-- ==== Proof.Softmax.lean ====
/-
  Sums weighted by the softmax of finitely many scores, over the extended reals: scores of −∞ take no part, if all others are real.
  And the attention of eight heads over two heads of keys, the first 256 tokens those of the context: they read each other only.
-/
module

public import Idealize.ShloMosaic.Lib.Pointwise
public import Idealize.ShloMosaic.Lib.IdealHost

@[expose] public section

noncomputable section

namespace Cert.Softmax

open Idealize.ShloMosaic

/-! Real values among the extended reals. -/

def IsReal (x : EReal) : Prop := ∃ r : ℝ, x = r

theorem real_of {x : EReal} (hb : x ≠ ⊥) (ht : x ≠ ⊤) : IsReal x := ⟨x.toReal, (EReal.coe_toReal ht hb).symm⟩

theorem IsReal.ne_bot {x : EReal} : IsReal x → x ≠ ⊥ := fun ⟨r, e⟩ => e ▸ EReal.coe_ne_bot r
theorem IsReal.ne_top {x : EReal} : IsReal x → x ≠ ⊤ := fun ⟨r, e⟩ => e ▸ EReal.coe_ne_top r
theorem IsReal.mul {x y : EReal} : IsReal x → IsReal y → IsReal (x * y) := fun ⟨a, e⟩ ⟨b, f⟩ => ⟨a * b, by rw [e, f, EReal.coe_mul]⟩
theorem IsReal.add {x y : EReal} : IsReal x → IsReal y → IsReal (x + y) := fun ⟨a, e⟩ ⟨b, f⟩ => ⟨a + b, by rw [e, f, EReal.coe_add]⟩
theorem IsReal.sum {ι : Type} [Fintype ι] {f : ι → EReal} (h : ∀ x, IsReal (f x)) : IsReal (∑ x, f x) :=
  Finset.sum_induction f IsReal (fun _ _ => IsReal.add) ⟨0, rfl⟩ fun x _ => h x

/-- What is below +∞ in absolute value is real. -/
theorem real_of_abs {x : EReal} (h : max x (-x) < ⊤) : IsReal x := by
  refine real_of (fun e => ?_) fun e => ?_
  · rw [e, EReal.neg_bot] at h; exact (lt_irrefl _ ((le_max_right _ _).trans_lt h))
  · rw [e] at h; exact (lt_irrefl _ ((le_max_left _ _).trans_lt h))

abbrev low : EReal := Ideal.ofBits .f32 0xFF800000#32

theorem low_eq : low = ⊥ := by simp [low, Ideal.ofBits, Ideal.ieee]

variable {ι : Type} [Fintype ι]

/-- The largest score. -/
abbrev largest (f : ι → EReal) : EReal := Finset.univ.fold max low f

/-- A score's exponential, the largest score taken off. -/
abbrev weight (f : ι → EReal) (x : ι) : EReal := Ideal.exp (f x - largest f)

/-- The values' sum, weighted by the softmax of the scores. -/
abbrev weighted (f v : ι → EReal) : EReal := ∑ x, Ideal.div (weight f x) (∑ y, weight f y) * v x

theorem largest_eq (f : ι → EReal) : largest f = Finset.univ.sup f := by
  show Finset.fold max low f Finset.univ = _
  rw [low_eq]; rfl

theorem low_max_largest (f : ι → EReal) : max low (largest f) = largest f := by
  rw [low_eq]; exact max_eq_right bot_le

theorem exp_nonneg (x : EReal) : 0 ≤ Ideal.exp x := by
  induction x with
  | bot => exact le_refl _
  | top => exact le_top
  | coe r => exact EReal.coe_nonneg.mpr (Real.exp_pos r).le

/-- The largest score's weight is one: with real scores the weights' sum isn't zero. -/
theorem sum_ne_zero [Nonempty ι] (f : ι → EReal) (h : ∀ x, IsReal (f x)) : ∑ y, weight f y ≠ 0 := by
  obtain ⟨x, _, hx⟩ := Finset.exists_mem_eq_sup Finset.univ Finset.univ_nonempty f
  have e : weight f x = 1 := by
    show Ideal.exp (f x - largest f) = 1
    rw [largest_eq, hx, EReal.sub_self (h x).ne_top (h x).ne_bot, ← EReal.coe_zero, Ideal.exp_coe, Real.exp_zero, EReal.coe_one]
  exact (zero_lt_one.trans_le (e.symm.trans_le (Finset.single_le_sum (f := weight f) (fun y _ => exp_nonneg _) (Finset.mem_univ x)))).ne'

/-- With the scores after the first `n` at −∞, only the first `n` take part. -/
theorem weighted_of_masked {n k : Nat} [NeZero n] (f v : Fin (n + k) → EReal) (hf : ∀ x : Fin n, IsReal (f (Fin.castAdd k x))) (hm : ∀ x : Fin k, f (Fin.natAdd n x) = ⊥) :
    weighted f v = weighted (fun x => f (Fin.castAdd k x)) (fun x => v (Fin.castAdd k x)) := by
  have big : largest f = largest fun x => f (Fin.castAdd k x) := by
    rw [largest_eq, largest_eq]
    refine le_antisymm (Finset.sup_le fun x _ => ?_) (Finset.sup_le fun x _ => Finset.le_sup (f := f) (Finset.mem_univ _))
    refine Fin.addCases (motive := fun x => f x ≤ _) (fun a => ?_) (fun b => (hm b).trans_le bot_le) x
    exact Finset.le_sup (f := fun x => f (Fin.castAdd k x)) (Finset.mem_univ a)
  have hw : ∀ x, weight f (Fin.castAdd k x) = weight (fun x => f (Fin.castAdd k x)) x := fun x => by
    show Ideal.exp (_ - largest f) = _
    rw [big]
  have hz : ∀ x, weight f (Fin.natAdd n x) = 0 := fun x => by
    show Ideal.exp (f (Fin.natAdd n x) - largest f) = 0
    rw [hm, EReal.bot_sub]; rfl
  have hs : ∑ y, weight f y = ∑ y, weight (fun x => f (Fin.castAdd k x)) y := by
    rw [Fin.sum_univ_add, Finset.sum_congr rfl (fun x _ => hw x), Finset.sum_eq_zero (fun x _ => hz x), add_zero]
  have h0 := sum_ne_zero (fun x => f (Fin.castAdd k x)) hf
  show ∑ x, Ideal.div (weight f x) (∑ y, weight f y) * v x = _
  rw [hs, Fin.sum_univ_add]
  exact (congrArg₂ (· + ·) (Finset.sum_congr rfl fun x _ => by rw [hw]) (Finset.sum_eq_zero fun x _ => by rw [hz, Ideal.zero_div h0, zero_mul])).trans (add_zero _)

/-! The attention. -/

/-- Two-dimensional arrays. -/
abbrev Mat (r c : Nat) : Shape := ⟨2, ![r, c]⟩

abbrev scale : EReal := Ideal.ofBits .f32 0x3DB504F3#32

theorem scale_real : IsReal scale := real_of (by simp [scale, Ideal.ofBits, Ideal.ieee, -EReal.coe_mul]) (by simp [scale, Ideal.ofBits, Ideal.ieee, -EReal.coe_mul])

theorem column_lt (h : Fin 8) (x : Fin 128) : h.val * 128 + x.val < 1024 := by omega
theorem group_lt (h : Fin 8) (x : Fin 128) : h.val / 4 * 128 + x.val < 256 := by omega
theorem value_lt (h : Fin 8) (x : Fin 128) : (98 + h.val / 4) * 128 + x.val < 13312 := by omega

/-- Head `h`'s score of token `s` for token `r`. -/
abbrev score (q : Vec Ideal (Mat 4352 1024) .bf16) (k : Vec Ideal (Mat 4352 256) .bf16) (h : Fin 8) (r s : Fin 4352) : EReal :=
  (∑ x : Fin 128, (q (ix2 r ⟨h.val * 128 + x.val, column_lt h x⟩) : EReal) * k (ix2 s ⟨h.val / 4 * 128 + x.val, group_lt h x⟩)) * scale

/-- Element `l` of head `h`'s value of token `s`. -/
abbrev value (v : Vec Ideal (Mat 4352 13312) .f32) (h : Fin 8) (l : Fin 128) (s : Fin 4352) : EReal := v (ix2 s ⟨(98 + h.val / 4) * 128 + l.val, value_lt h l⟩)

/-- A token of the context. -/
abbrev ctx (s : Fin 256) : Fin 4352 := ⟨s.val, Nat.lt_of_lt_of_le s.isLt (by decide)⟩

/-- Element `l` of head `h`'s result for token `r`. -/
def attendAt (q : Vec Ideal (Mat 4352 1024) .bf16) (k : Vec Ideal (Mat 4352 256) .bf16) (v : Vec Ideal (Mat 4352 13312) .f32) (h : Fin 8) (r : Fin 4352) (l : Fin 128) : EReal :=
  if r.val < 256 then weighted (fun s => score q k h r (ctx s)) (fun s => value v h l (ctx s)) else weighted (score q k h r) (value v h l)

abbrev headOf (l : Fin 1024) : Fin 8 := ⟨l.val / 128, by omega⟩
abbrev lane (l : Fin 1024) : Fin 128 := ⟨l.val % 128, by omega⟩

/-- The heads' results side by side. -/
abbrev attend (q : Vec Ideal (Mat 4352 1024) .bf16) (k : Vec Ideal (Mat 4352 256) .bf16) (v : Vec Ideal (Mat 4352 13312) .f32) : Vec Ideal (Mat 4352 1024) .f32 := fun i =>
  attendAt q k v (headOf ⟨(i 1).val, (i 1).isLt⟩) ⟨(i 0).val, (i 0).isLt⟩ (lane ⟨(i 1).val, (i 1).isLt⟩)

theorem score_real {q : Vec Ideal (Mat 4352 1024) .bf16} {k : Vec Ideal (Mat 4352 256) .bf16} (hq : ∀ i, IsReal (q i)) (hk : ∀ i, IsReal (k i)) (h : Fin 8) (r s : Fin 4352) :
    IsReal (score q k h r s) := IsReal.mul (IsReal.sum fun _ => IsReal.mul (hq _) (hk _)) scale_real

/-- Scores with those of the latent tokens masked for the tokens of band 0, the context's. -/
abbrev masked (b : Nat) (f : Fin 4352 → EReal) : Fin 4352 → EReal := fun s => if b < 1 ∧ 256 ≤ s.val then ⊥ else f s

theorem weighted_masked (b : Nat) (f v : Fin 4352 → EReal) (hf : ∀ s, IsReal (f s)) :
    weighted (masked b f) v = if b = 0 then weighted (fun s => f (ctx s)) (fun s => v (ctx s)) else weighted f v := by
  by_cases hb : b = 0
  · rw [if_pos hb]
    have e : ∀ s : Fin 256, masked b f (Fin.castAdd 4096 s) = f (ctx s) := fun s => if_neg (show ¬ (b < 1 ∧ 256 ≤ s.val) by omega)
    refine (weighted_of_masked (n := 256) (k := 4096) (masked b f) v (fun s => ?_) fun s => if_pos (show b < 1 ∧ 256 ≤ 256 + s.val by omega)).trans ?_
    · rw [e]; exact hf _
    · exact congrArg₂ weighted (funext e) rfl
  · rw [if_neg hb]
    exact congrArg₂ weighted (funext fun s => if_neg (show ¬ (b < 1 ∧ 256 ≤ s.val) by omega)) rfl

theorem weighted_score (q : Vec Ideal (Mat 4352 1024) .bf16) (k : Vec Ideal (Mat 4352 256) .bf16) (v : Vec Ideal (Mat 4352 13312) .f32) (hq : ∀ i, IsReal (q i)) (hk : ∀ i, IsReal (k i))
    (h : Fin 8) (b : Nat) (r : Fin 256) (hr : b * 256 + r.val < 4352) (l : Fin 128) :
    weighted (masked b (score q k h ⟨b * 256 + r.val, hr⟩)) (value v h l) = attendAt q k v h ⟨b * 256 + r.val, hr⟩ l :=
  (weighted_masked b _ _ fun s => score_real hq hk h _ s).trans (if_congr (show b = 0 ↔ b * 256 + r.val < 256 by omega) rfl rfl)

end Cert.Softmax

end
-- ==== Proof.AttnRef.lean ====
/-
  The attention's reference, in two parts: the context's tokens over each other, the latent tokens over all. Each part's scores,
  the scores with their largest taken off, and the values' sum are read at an index.
-/
module

public import proofs.«01_k».proof.Proof.Tiles
public import proofs.«01_k».proof.Proof.Softmax
public import proofs.«01_k».proof.Proof.Gen.AttnIdeal
public import proofs.«01_k».proof.Proof.Gen.AttnRefIdeal.Run
public import Idealize.ShloMosaic.Lib.Pointwise

@[expose] public section

noncomputable section

namespace Cert.AttnProof

open Idealize.ShloMosaic Idealize.ShloMosaic.TcCoe Idealize.SL.Sem
open Cert.Tiles Cert.Softmax
open Cert.AttnRefIdeal Cert.AttnRefIdeal.Gen

/-- The largest score over the last axis. -/
theorem reduce_eq {p n : Nat} (f : FVec Ideal ⟨4, ![2, 4, p, n]⟩ .f32) (h : (⟨4, ![2, 4, p, n]⟩ : Shape).ReducesTo [3] ⟨3, ![2, 4, p]⟩) (hu : 0 < (⟨0, ![]⟩ : Shape).numel)
    (a : Fin 2) (b : Fin 4) (r : Fin p) :
    Host.reduce FloatOps.maximumf f (constant ⟨0, ![]⟩ .f32 0xFF800000#32) h hu (ix3 a b r) = largest fun s => f (ix4 a b r s) := by
  pointwise []

theorem term_eq (q : Vec Ideal S4352x1024 .bf16) (k : Vec Ideal S4352x256 .bf16) (a : Fin 2) (b : Fin 4) (r s : Fin 4352) (x : Fin 128) (h h1 h2) :
    (k (ix2 s ⟨a.val * 128 + x.val, h1⟩) : EReal) * q (ix2 r ⟨a.val * 512 + b.val * 128 + x.val, h2⟩)
      = q (ix2 r ⟨(⟨a.val * 4 + b.val, h⟩ : Fin 8).val * 128 + x.val, column_lt _ x⟩) * k (ix2 s ⟨(⟨a.val * 4 + b.val, h⟩ : Fin 8).val / 4 * 128 + x.val, group_lt _ x⟩) := by
  refine (mul_comm _ _).trans (congrArg₂ (fun x y : EReal => x * y) (congrArg q (Shape.idx_ext₂ rfl ?_)) (congrArg k (Shape.idx_ext₂ rfl ?_)))
  · show a.val * 512 + b.val * 128 + x.val = (a.val * 4 + b.val) * 128 + x.val; omega
  · show a.val * 128 + x.val = (a.val * 4 + b.val) / 4 * 128 + x.val; omega

/-- A sum whose weights are written after the values. -/
theorem weighted_eq {n : Nat} (f g v : Fin n → EReal) (h : ∀ x, g x = f x - max low (largest f)) :
    ∑ x, v x * Ideal.div (Ideal.exp (g x)) (∑ y, Ideal.exp (g y)) = weighted f v := by
  have e : ∀ x, Ideal.exp (g x) = weight f x := fun x => by rw [h, low_max_largest]
  rw [Finset.sum_congr rfl fun x _ => e x]
  exact Finset.sum_congr rfl fun x _ => by rw [e, mul_comm]

def scoresA (q : Vec Ideal S4352x1024 .bf16) (k : Vec Ideal S4352x256 .bf16) : Vec Ideal S2x4x256x256 .f32 :=
  mulf (F := Ideal) (φ := .f32) (transpose S2x4x256x256 [0, 3, 2, 1] (Host.dotGeneral (F := Ideal) (φ₁ := .f32) (φ₂ := .f32) dot_S256x2x128_S256x2x4x128_S2x256x256x4_2_3_0_02_1_1 none (extractStridedSlice S256x2x128 ![0, 0, 0] (shapeCast S4352x2x128 (extf .f32 k bitsLt_bf16_f32) shapeCasts_S4352x256_S4352x2x128) slices_S4352x2x128_S256x2x128_0_0_0) (extractStridedSlice S256x2x4x128 ![0, 0, 0, 0] (shapeCast S4352x2x4x128 (extf .f32 q bitsLt_bf16_f32) shapeCasts_S4352x1024_S4352x2x4x128) slices_S4352x2x4x128_S256x2x4x128_0_0_0_0)) transposes_S2x256x256x4_S2x4x256x256_0_3_2_1) (broadcastInDim S2x4x256x256 ![] bcast_S_S2x4x256x256 (constant S_ .f32 0x3DB504F3#32))

def heldA (s : Vec Ideal S2x4x256x256 .f32) : Vec Ideal S2x4x256x256 .f32 :=
  subf (F := Ideal) (φ := .f32) s (broadcastInDim S2x4x256x256 ![0, 1, 2, 3] bcast_S2x4x256x1_S2x4x256x256_0_1_2_3 (broadcastInDim S2x4x256x1 ![0, 1, 2] bcast_S2x4x256_S2x4x256x1_0_1_2 (maximumf (F := Ideal) (φ := .f32) (broadcastInDim S2x4x256 ![] bcast_S_S2x4x256 (constant S_ .f32 0xFF800000#32)) (Host.reduce FloatOps.maximumf s (constant S_ .f32 0xFF800000#32) reducesTo_S2x4x256x256_S2x4x256_d3 h_S_))))

def mixedA (s : Vec Ideal S2x4x256x256 .f32) (v : Vec Ideal S4352x13312 .f32) : Vec Ideal S256x1024 .f32 :=
  shapeCast S256x1024 (transpose S256x2x4x128 [3, 0, 2, 1] (Host.dotGeneral (F := Ideal) (φ₁ := .f32) (φ₂ := .f32) dot_S256x2x128_S2x4x256x256_S2x128x4x256_0_3_2_12_1_0 none (extractStridedSlice S256x2x128 ![0, 0, 0] (shapeCast S4352x2x128 (extractStridedSlice S4352x256 ![0, 12544] v slices_S4352x13312_S4352x256_0_12544) shapeCasts_S4352x256_S4352x2x128) slices_S4352x2x128_S256x2x128_0_0_0) (Host.divf (F := Ideal) (φ := .f32) (Host.exp (F := Ideal) (φ := .f32) s) (broadcastInDim S2x4x256x256 ![0, 1, 2, 3] bcast_S2x4x256x1_S2x4x256x256_0_1_2_3 (broadcastInDim S2x4x256x1 ![0, 1, 2] bcast_S2x4x256_S2x4x256x1_0_1_2 (Host.reduceAdd (F := Ideal) (φ := .f32) (Host.exp s) (constant S_ .f32 0x00000000#32) reducesTo_S2x4x256x256_S2x4x256_d3 h_S_))))) transposes_S2x128x4x256_S256x2x4x128_3_0_2_1) shapeCasts_S256x2x4x128_S256x1024

def scoresB (q : Vec Ideal S4352x1024 .bf16) (k : Vec Ideal S4352x256 .bf16) : Vec Ideal S2x4x4096x4352 .f32 :=
  mulf (F := Ideal) (φ := .f32) (transpose S2x4x4096x4352 [0, 3, 2, 1] (Host.dotGeneral (F := Ideal) (φ₁ := .f32) (φ₂ := .f32) dot_S4352x2x128_S4096x2x4x128_S2x4352x4096x4_2_3_0_02_1_1 none (shapeCast S4352x2x128 (extf .f32 k bitsLt_bf16_f32) shapeCasts_S4352x256_S4352x2x128) (extractStridedSlice S4096x2x4x128 ![256, 0, 0, 0] (shapeCast S4352x2x4x128 (extf .f32 q bitsLt_bf16_f32) shapeCasts_S4352x1024_S4352x2x4x128) slices_S4352x2x4x128_S4096x2x4x128_256_0_0_0)) transposes_S2x4352x4096x4_S2x4x4096x4352_0_3_2_1) (broadcastInDim S2x4x4096x4352 ![] bcast_S_S2x4x4096x4352 (constant S_ .f32 0x3DB504F3#32))

def heldB (s : Vec Ideal S2x4x4096x4352 .f32) : Vec Ideal S2x4x4096x4352 .f32 :=
  subf (F := Ideal) (φ := .f32) s (broadcastInDim S2x4x4096x4352 ![0, 1, 2, 3] bcast_S2x4x4096x1_S2x4x4096x4352_0_1_2_3 (broadcastInDim S2x4x4096x1 ![0, 1, 2] bcast_S2x4x4096_S2x4x4096x1_0_1_2 (maximumf (F := Ideal) (φ := .f32) (broadcastInDim S2x4x4096 ![] bcast_S_S2x4x4096 (constant S_ .f32 0xFF800000#32)) (Host.reduce FloatOps.maximumf s (constant S_ .f32 0xFF800000#32) reducesTo_S2x4x4096x4352_S2x4x4096_d3 h_S_))))

def mixedB (s : Vec Ideal S2x4x4096x4352 .f32) (v : Vec Ideal S4352x13312 .f32) : Vec Ideal S4096x1024 .f32 :=
  shapeCast S4096x1024 (transpose S4096x2x4x128 [3, 0, 2, 1] (Host.dotGeneral (F := Ideal) (φ₁ := .f32) (φ₂ := .f32) dot_S4352x2x128_S2x4x4096x4352_S2x128x4x4096_0_3_2_12_1_0 none (shapeCast S4352x2x128 (extractStridedSlice S4352x256 ![0, 12544] v slices_S4352x13312_S4352x256_0_12544) shapeCasts_S4352x256_S4352x2x128) (Host.divf (F := Ideal) (φ := .f32) (Host.exp (F := Ideal) (φ := .f32) s) (broadcastInDim S2x4x4096x4352 ![0, 1, 2, 3] bcast_S2x4x4096x1_S2x4x4096x4352_0_1_2_3 (broadcastInDim S2x4x4096x1 ![0, 1, 2] bcast_S2x4x4096_S2x4x4096x1_0_1_2 (Host.reduceAdd (F := Ideal) (φ := .f32) (Host.exp s) (constant S_ .f32 0x00000000#32) reducesTo_S2x4x4096x4352_S2x4x4096_d3 h_S_))))) transposes_S2x128x4x4096_S4096x2x4x128_3_0_2_1) shapeCasts_S4096x2x4x128_S4096x1024

theorem head_lt (a : Fin 2) (b : Fin 4) : a.val * 4 + b.val < 8 := by omega

abbrev head (a : Fin 2) (b : Fin 4) : Fin 8 := ⟨a.val * 4 + b.val, head_lt a b⟩
abbrev latent (r : Fin 4096) : Fin 4352 := ⟨256 + r.val, by omega⟩

theorem scoresA_eq (q : Vec Ideal S4352x1024 .bf16) (k : Vec Ideal S4352x256 .bf16) (a : Fin 2) (b : Fin 4) (r s : Fin 256) :
    scoresA q k (ix4 a b r s) = score q k (head a b) (ctx r) (ctx s) := by
  pointwise [scoresA]
  exact congrArg (fun x : EReal => x * scale) (Finset.sum_congr rfl fun x _ => term_eq q k a b (ctx r) (ctx s) x _ _ _)

theorem scoresB_eq (q : Vec Ideal S4352x1024 .bf16) (k : Vec Ideal S4352x256 .bf16) (a : Fin 2) (b : Fin 4) (r : Fin 4096) (s : Fin 4352) :
    scoresB q k (ix4 a b r s) = score q k (head a b) (latent r) s := by
  pointwise [scoresB]
  exact congrArg (fun x : EReal => x * scale) (Finset.sum_congr rfl fun x _ => term_eq q k a b (latent r) s x _ _ _)

theorem lessA_eq (f : Vec Ideal S2x4x256x256 .f32) (g : Vec Ideal S2x4x256 .f32) (a : Fin 2) (b : Fin 4) (r s : Fin 256) :
    subf (F := Ideal) (φ := .f32) f (broadcastInDim S2x4x256x256 ![0, 1, 2, 3] bcast_S2x4x256x1_S2x4x256x256_0_1_2_3 (broadcastInDim S2x4x256x1 ![0, 1, 2] bcast_S2x4x256_S2x4x256x1_0_1_2 (maximumf (F := Ideal) (φ := .f32) (broadcastInDim S2x4x256 ![] bcast_S_S2x4x256 (constant S_ .f32 0xFF800000#32)) g))) (ix4 a b r s)
      = (f (ix4 a b r s) : EReal) - max low (g (ix3 a b r)) := by
  pointwise []

theorem heldA_eq (f : Vec Ideal S2x4x256x256 .f32) (a : Fin 2) (b : Fin 4) (r s : Fin 256) :
    heldA f (ix4 a b r s) = (f (ix4 a b r s) : EReal) - max low (largest fun s => f (ix4 a b r s)) :=
  (lessA_eq f _ a b r s).trans (congrArg (fun x : EReal => (f (ix4 a b r s) : EReal) - max low x) (reduce_eq f reducesTo_S2x4x256x256_S2x4x256_d3 h_S_ a b r))

theorem lessB_eq (f : Vec Ideal S2x4x4096x4352 .f32) (g : Vec Ideal S2x4x4096 .f32) (a : Fin 2) (b : Fin 4) (r : Fin 4096) (s : Fin 4352) :
    subf (F := Ideal) (φ := .f32) f (broadcastInDim S2x4x4096x4352 ![0, 1, 2, 3] bcast_S2x4x4096x1_S2x4x4096x4352_0_1_2_3 (broadcastInDim S2x4x4096x1 ![0, 1, 2] bcast_S2x4x4096_S2x4x4096x1_0_1_2 (maximumf (F := Ideal) (φ := .f32) (broadcastInDim S2x4x4096 ![] bcast_S_S2x4x4096 (constant S_ .f32 0xFF800000#32)) g))) (ix4 a b r s)
      = (f (ix4 a b r s) : EReal) - max low (g (ix3 a b r)) := by
  pointwise []

theorem heldB_eq (f : Vec Ideal S2x4x4096x4352 .f32) (a : Fin 2) (b : Fin 4) (r : Fin 4096) (s : Fin 4352) :
    heldB f (ix4 a b r s) = (f (ix4 a b r s) : EReal) - max low (largest fun s => f (ix4 a b r s)) :=
  (lessB_eq f _ a b r s).trans (congrArg (fun x : EReal => (f (ix4 a b r s) : EReal) - max low x) (reduce_eq f reducesTo_S2x4x4096x4352_S2x4x4096_d3 h_S_ a b r))

theorem group_lt' (l : Fin 1024) : l.val / 512 < 2 := by omega
theorem inner_lt (l : Fin 1024) : l.val / 128 % 4 < 4 := by omega

theorem head_eq (l : Fin 1024) : head ⟨l.val / 512, group_lt' l⟩ ⟨l.val / 128 % 4, inner_lt l⟩ = headOf l :=
  Fin.ext (show l.val / 512 * 4 + l.val / 128 % 4 = l.val / 128 by omega)

theorem value_eq (v : Vec Ideal S4352x13312 .f32) (l : Fin 1024) (s : Fin 4352) (h) : v (ix2 s ⟨12544 + (l.val / 512 * 128 + l.val % 128), h⟩) = value v (headOf l) (lane l) s :=
  congrArg v (Shape.idx_ext₂ rfl (show 12544 + (l.val / 512 * 128 + l.val % 128) = (98 + l.val / 128 / 4) * 128 + l.val % 128 by omega))

theorem mixedA_eq (q : Vec Ideal S4352x1024 .bf16) (k : Vec Ideal S4352x256 .bf16) (v : Vec Ideal S4352x13312 .f32) (r : Fin 256) (l : Fin 1024) :
    mixedA (heldA (scoresA q k)) v (ix2 r l) = weighted (fun s => score q k (headOf l) (ctx r) (ctx s)) (fun s => value v (headOf l) (lane l) (ctx s)) := by
  have e := fun s => heldA_eq (scoresA q k) ⟨l.val / 512, group_lt' l⟩ ⟨l.val / 128 % 4, inner_lt l⟩ r s
  simp only [scoresA_eq, head_eq] at e
  generalize heldA (scoresA q k) = g at e ⊢
  pointwise [mixedA]
  simp only [value_eq]
  exact weighted_eq _ _ _ e

theorem mixedB_eq (q : Vec Ideal S4352x1024 .bf16) (k : Vec Ideal S4352x256 .bf16) (v : Vec Ideal S4352x13312 .f32) (r : Fin 4096) (l : Fin 1024) :
    mixedB (heldB (scoresB q k)) v (ix2 r l) = weighted (score q k (headOf l) (latent r)) (value v (headOf l) (lane l)) := by
  have e := fun s => heldB_eq (scoresB q k) ⟨l.val / 512, group_lt' l⟩ ⟨l.val / 128 % 4, inner_lt l⟩ r s
  simp only [scoresB_eq, head_eq] at e
  generalize heldB (scoresB q k) = g at e ⊢
  pointwise [mixedB]
  simp only [value_eq]
  exact weighted_eq _ _ _ e

/-- The parts below each other are the attention. -/
theorem ref_eq (q : Vec Ideal S4352x1024 .bf16) (k : Vec Ideal S4352x256 .bf16) (v : Vec Ideal S4352x13312 .f32) (x : Vec Ideal S256x1024 .f32) (y : Vec Ideal S4096x1024 .f32)
    (hx : x = mixedA (heldA (scoresA q k)) v) (hy : y = mixedB (heldB (scoresB q k)) v) :
    (concatenate S4352x1024 0 [⟨S256x1024, x⟩, ⟨S4096x1024, y⟩] concatenates_S256x1024_S4096x1024_S4352x1024_d0 : Vec Ideal S4352x1024 .f32) = attend q k v := by
  refine funext fun j : S4352x1024.Idx => ?_
  obtain ⟨r, l, rfl⟩ := exists_ix2 j
  pointwise []
  by_cases h : r.val < 256
  · rw [dif_pos h, hx, mixedA_eq]
    exact (if_pos h).symm
  · rw [dif_neg h, hy, mixedB_eq, show latent ⟨r.val - 256, by omega⟩ = r from latent_row r h _]
    exact (if_neg h).symm

variable (m : (ℓ : Loc nD τ sig) → Buf (Elt Ideal) ℓ) (ρ : Dev nD → PrngReg) (M : (ℓ : Loc Cert.AttnIdeal.nD Cert.AttnIdeal.τ Cert.AttnIdeal.sig) → Buf (Elt Ideal) ℓ)

theorem res_eq (c : Dev nD) : Value.res_main_v46 (F := Ideal) m c
    = attend (m ((c.tc : Thread nD τ).loc main_arg0)) (m ((c.tc : Thread nD τ).loc main_arg1)) (m ((c.tc : Thread nD τ).loc main_arg2)) := by
  unfold Value.res_main_v46
  exact ref_eq _ _ _ _ _ rfl rfl

/-- The reference's run from the call's arguments: the attention. -/
theorem run_ref (hm : ∀ c : Dev nD,
      m ((c.tc : Thread nD τ).loc main_arg0) = M ((c.tc : Thread nD τ).loc Cert.AttnIdeal.main_arg0)
      ∧ m ((c.tc : Thread nD τ).loc main_arg1) = M ((c.tc : Thread nD τ).loc Cert.AttnIdeal.main_arg1)
      ∧ m ((c.tc : Thread nD τ).loc main_arg2) = M ((c.tc : Thread nD τ).loc Cert.AttnIdeal.main_arg2)) :
    θ_run defs (onTc (τ := τ) (main (F := Ideal))) ⟨m, fun _ => 0, ρ⟩ fun r => ∀ c : Dev nD,
      r.2.mem ((c.tc : Thread nD τ).loc main_v46)
        = attend (M ((c.tc : Thread nD τ).loc Cert.AttnIdeal.main_arg0)) (M ((c.tc : Thread nD τ).loc Cert.AttnIdeal.main_arg1)) (M ((c.tc : Thread nD τ).loc Cert.AttnIdeal.main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨e, hargs⟩ := h c
    rw [res_eq, (hm c).1, (hm c).2.1, (hm c).2.2] at e
    exact ⟨e, hargs⟩) (Value.run m ρ)

end Cert.AttnProof

end
-- ==== Proof.Attn.lean ====
/-
  The attention's call and its value. Point `t` of the grid, of 8 by 17, writes head `t / 17`'s result for the 256 tokens from `256 (t mod 17)`
  on: of the scores of a block of context tokens those after the first 256 are masked, by a constant that stands for −∞.
-/
module

public import proofs.«01_k».proof.Proof.AttnRef
public import proofs.«01_k».proof.Proof.Gen.AttnIdeal.Value
public import proofs.«01_k».proof.Proof.Gen.Pre_finite_heads
public import Idealize.ShloMosaic.Lib.WordCmp
public import Idealize.ShloMosaic.Lib.Pointwise

@[expose] public section

noncomputable section

namespace Cert.AttnProof

open Idealize.ShloMosaic Idealize.ShloMosaic.TcCoe Idealize.SL.Sem
open Cert.Tiles Cert.Softmax

section Kernel

open Cert.AttnIdeal Cert.AttnIdeal.Gen

variable (m : (ℓ : Loc nD τ sig) → Buf (Elt Ideal) ℓ) (ρ : Dev nD → PrngReg) (c : Dev nD)

theorem mask_eq {b : Nat} (hb : b < 17) (s : Fin 4352) (x : EReal) :
    Scalar.select (IntOp.andi (Scalar.cmpi .slt (BitVec.ofNat 32 b) 1#32) (IntOp.cmpi .sge (BitVec.ofNat 32 s.val) 256#32)) (Named.named (F := Ideal) (φ := .f32) κ "mask" 0xF149F2CA#32) x
      = if b < 1 ∧ 256 ≤ s.val then ⊥ else x := by
  have hs := s.isLt
  rw [IdealRules.named_const.ideal_named_scalar κ "mask" (φ := .f32) 0xF149F2CA#32 ⊥ rfl]
  show Scalar.select (IntOp.andi (IntOp.cmpi .slt (BitVec.ofNat 32 b) (BitVec.ofNat 32 1)) (IntOp.cmpi .sge (BitVec.ofNat 32 s.val) (BitVec.ofNat 32 256))) (⊥ : EReal) x = _
  rw [WordCmp.cmpi_slt_ofNat (by omega) (by decide), WordCmp.cmpi_sge_ofNat (by omega) (by decide), WordCmp.andi_ofBool, WordCmp.select_ofBool]
  exact if_congr (by simp) rfl rfl

theorem pay_eq (i : grid0.Coords) (q : Vec Ideal S256x128 .bf16) (k : Vec Ideal S4352x128 .bf16) (v : Vec Ideal S4352x128 .f32) (r : Fin 256) (l : Fin 128) :
    k0_pay1 (F := Ideal) i q k v (ix2 r l) = weighted (masked (i 1).val fun s => (∑ x : Fin 128, (q (ix2 r x) : EReal) * k (ix2 s x)) * scale) fun s => v (ix2 s l) := by
  have hi : (i 1).val < 17 := (i 1).isLt
  pointwise [k0_pay1]
  simp only [mask_eq hi]

theorem out_eq (i : grid0.Coords) (x0 : Vec Ideal S256x128 .bf16) (x1 : Vec Ideal S4352x128 .bf16) (x2 : Vec Ideal S4352x128 .f32) (r : Fin 256) (l : Fin 128) :
    out0_3 (F := Ideal) i x0 x1 x2 (ix2 r l) = weighted (masked (i 1).val fun s => (∑ x : Fin 128, (x0 (ix2 r x) : EReal) * x1 (ix2 s x)) * scale) fun s => x2 (ix2 s l) := by
  unfold out0_3
  rw [View.canon_unit_zero Rows.zero_zero, View.ld_unit_zero Rows.zero_zero _ x0, View.ld_unit_zero Rows.zero_zero _ x1, View.ld_unit_zero Rows.zero_zero _ x2]
  exact pay_eq i x0 x1 x2 r l

theorem facts : ∀ t : Fin cfg0.N, win0_0.index t = ![t.val % 17, t.val / 17] ∧ win0_1.index t = ![0, t.val / 17 / 4] ∧ win0_2.index t = ![0, 98 + t.val / 17 / 4]
    ∧ win0_3.index t = ![t.val % 17, t.val / 17] ∧ (grid0.coords t 1).val = t.val % 17 :=
  (by decide +kernel : ∀ t : Fin grid0.N, _)

theorem rows (t : Fin 136) : t.val % 17 * 256 + 256 ≤ 4352 := by omega
theorem head_le (t : Fin 136) : t.val / 17 * 128 + 128 ≤ 1024 := by omega
theorem group_le (t : Fin 136) : t.val / 17 / 4 * 128 + 128 ≤ 256 := by omega
theorem value_le (t : Fin 136) : (98 + t.val / 17 / 4) * 128 + 128 ≤ 13312 := by omega
theorem all_le : 0 * 4352 + 4352 ≤ 4352 := by decide
theorem head_lt8 (t : Fin 136) : t.val / 17 < 8 := by omega

theorem read0 (t : Fin cfg0.N) : iblk m c 0 t = fun y => m ((c : Thread nD τ).loc main_arg0) (tile (t.val % 17) (t.val / 17) y (rows (t.cast N_0)) (head_le (t.cast N_0))) :=
  funext fun y => congrArg (m ((c : Thread nD τ).loc main_arg0)) (eq_tile y _ (rows (t.cast N_0)) (head_le (t.cast N_0)) (facts t).1 fun a => Pipeline.Window.rect_emb_val win0_0 t y a)
theorem read1 (t : Fin cfg0.N) : iblk m c 1 t = fun y => m ((c : Thread nD τ).loc main_arg1) (tile 0 (t.val / 17 / 4) y all_le (group_le (t.cast N_0))) :=
  funext fun y => congrArg (m ((c : Thread nD τ).loc main_arg1)) (eq_tile y _ all_le (group_le (t.cast N_0)) (facts t).2.1 fun a => Pipeline.Window.rect_emb_val win0_1 t y a)
theorem read2 (t : Fin cfg0.N) : iblk m c 2 t = fun y => m ((c : Thread nD τ).loc main_arg2) (tile 0 (98 + t.val / 17 / 4) y all_le (value_le (t.cast N_0))) :=
  funext fun y => congrArg (m ((c : Thread nD τ).loc main_arg2)) (eq_tile y _ all_le (value_le (t.cast N_0)) (facts t).2.2.1 fun a => Pipeline.Window.rect_emb_val win0_2 t y a)
theorem emb (t : Fin cfg0.N) (y : S256x128.Idx) : ((cfg0.win 3).blk t).view.emb y = tile (t.val % 17) (t.val / 17) y (rows (t.cast N_0)) (head_le (t.cast N_0)) :=
  eq_tile y _ (rows (t.cast N_0)) (head_le (t.cast N_0)) (facts t).2.2.2.1 fun a => Pipeline.Window.rect_emb_val win0_3 t y a

abbrev result : Vec Ideal S4352x1024 .f32 := attend (m ((c : Thread nD τ).loc main_arg0)) (m ((c : Thread nD τ).loc main_arg1)) (m ((c : Thread nD τ).loc main_arg2))

theorem attend_tile (q : Vec Ideal S4352x1024 .bf16) (k : Vec Ideal S4352x256 .bf16) (v : Vec Ideal S4352x13312 .f32) (t : Fin 136) (r : Fin 256) (l : Fin 128) (hr : t.val % 17 * 256 + r.val < 4352) :
    attendAt q k v ⟨t.val / 17, head_lt8 t⟩ ⟨t.val % 17 * 256 + r.val, hr⟩ l = attend q k v (tile (t.val % 17) (t.val / 17) (ix2 r l : S256x128.Idx) (rows t) (head_le t)) := by
  have h : t.val / 17 * 128 + l.val < 1024 := by omega
  have e1 : headOf ⟨t.val / 17 * 128 + l.val, h⟩ = ⟨t.val / 17, head_lt8 t⟩ := Fin.ext (show (t.val / 17 * 128 + l.val) / 128 = t.val / 17 by omega)
  have e2 : lane ⟨t.val / 17 * 128 + l.val, h⟩ = l := Fin.ext (show (t.val / 17 * 128 + l.val) % 128 = l.val by omega)
  show _ = attendAt q k v (headOf ⟨t.val / 17 * 128 + l.val, h⟩) ⟨t.val % 17 * 256 + r.val, hr⟩ (lane ⟨t.val / 17 * 128 + l.val, h⟩)
  rw [e1, e2]

/-- A point's block of scores and values, weighted: the block of the attention. -/
theorem block_eq (q : Vec Ideal S4352x1024 .bf16) (k : Vec Ideal S4352x256 .bf16) (v : Vec Ideal S4352x13312 .f32) (hq : ∀ i, IsReal (q i)) (hk : ∀ i, IsReal (k i)) (t : Fin 136) (r : Fin 256) (l : Fin 128) :
    weighted (masked (t.val % 17) fun s => (∑ x : Fin 128, (q (tile (t.val % 17) (t.val / 17) (ix2 r x : S256x128.Idx) (rows t) (head_le t)) : EReal)
        * k (tile 0 (t.val / 17 / 4) (ix2 s x : S4352x128.Idx) all_le (group_le t))) * scale) (fun s => v (tile 0 (98 + t.val / 17 / 4) (ix2 s l : S4352x128.Idx) all_le (value_le t)))
      = attend q k v (tile (t.val % 17) (t.val / 17) (ix2 r l : S256x128.Idx) (rows t) (head_le t)) := by
  have hr : t.val % 17 * 256 + r.val < 4352 := by omega
  refine Eq.trans ?_ ((weighted_score q k v hq hk ⟨t.val / 17, head_lt8 t⟩ (t.val % 17) r hr l).trans (attend_tile q k v t r l hr))
  refine congrArg₂ weighted (congrArg (masked _) (funext fun s => ?_)) (funext fun s => ?_)
  · exact congrArg (fun x : EReal => x * scale) (Finset.sum_congr rfl fun x _ => congrArg (fun y : EReal => (q _ : EReal) * y) (congrArg k (Shape.idx_ext₂ (show 0 * 4352 + s.val = s.val by omega) rfl)))
  · exact congrArg v (Shape.idx_ext₂ (show 0 * 4352 + s.val = s.val by omega) rfl)

/-- What the precondition says of an array: every element is real. -/
theorem real_of_pre {s : Shape} (x : FVec Ideal s .bf16) (hb : (⟨0, ![]⟩ : Shape).BroadcastsInDim s (![] : Fin 0 → Fin s.rank))
    (e : cmpf .olt (Host.absf x) (broadcastInDim s ![] hb (constant (F := Ideal) ⟨0, ![]⟩ .bf16 0x7F80#16)) = fun _ => 1#1) (i : s.Idx) : IsReal (x i) := by
  have h : Ideal.cmp .olt (max (x i) (-(x i))) (Ideal.ofBits .bf16 0x7F80#16) = 1#1 := congrFun e i
  rw [show Ideal.ofBits .bf16 0x7F80#16 = ⊤ by simp [Ideal.ofBits, Ideal.ieee]] at h
  refine real_of_abs ?_
  by_contra hn
  simp [Ideal.cmp, hn] at h

/-- The precondition, on every device. -/
abbrev Pre : Prop := ∀ c : Dev nD,
  (Pre_finite_heads.fn (F := Ideal) (m ((c : Thread nD τ).loc main_arg0)) (m ((c : Thread nD τ).loc main_arg1)) (m ((c : Thread nD τ).loc main_arg2))).1 = (fun _ => 1#1)
  ∧ (Pre_finite_heads.fn (F := Ideal) (m ((c : Thread nD τ).loc main_arg0)) (m ((c : Thread nD τ).loc main_arg1)) (m ((c : Thread nD τ).loc main_arg2))).2 = (fun _ => 1#1)

variable (hp : Pre m)
include hp

theorem flushed_eq (t : Fin cfg0.N) : (dats m 0 c).flushed 3 t = ((cfg0.win 3).blk t).view.read (Elt Ideal) (result m c) := by
  refine Eq.trans ?_ (funext fun y => (congrArg (result m c) (emb t y)).symm)
  rw [Value.flushed3]
  refine funext fun y : S256x128.Idx => ?_
  obtain ⟨r, l, rfl⟩ := exists_ix2 y
  refine (out_eq (grid0.coords t) _ _ _ r l).trans ?_
  rw [(facts t).2.2.2.2, read0, read1, read2]
  exact block_eq _ _ _ (real_of_pre _ _ (hp c).1) (real_of_pre _ _ (hp c).2) (t.cast N_0) r l

theorem final : (dats m 0 c).arrAt 3 cfg0.N = result m c :=
  (dats m 0 c).arrAt_eq_of_cover 3 (result m c) (fun t _ => flushed_eq m c hp t) fun i : S4352x1024.Idx => by
    have h0 : (i 0).val < 4352 := (i 0).isLt
    have h1 : (i 1).val < 1024 := (i 1).isLt
    let t : Fin 136 := ⟨(i 1).val / 128 * 17 + (i 0).val / 256, by omega⟩
    let y : S256x128.Idx := ix2 ⟨(i 0).val % 256, Nat.mod_lt _ (by decide)⟩ ⟨(i 1).val % 128, Nat.mod_lt _ (by decide)⟩
    have e : tile (t.val % 17) (t.val / 17) y (rows t) (head_le t) = i :=
      tile_eq i y _ _ (show ((i 1).val / 128 * 17 + (i 0).val / 256) % 17 * 256 + (i 0).val % 256 = (i 0).val by omega)
        (show ((i 1).val / 128 * 17 + (i 0).val / 256) / 17 * 128 + (i 1).val % 128 = (i 1).val by omega)
    exact ⟨t.cast N_0.symm, flush0_3 _, Finset.mem_map.mpr ⟨y, Finset.mem_univ _, (emb _ y).trans e⟩⟩

omit c in
/-- The call's run: the attention, the arguments unchanged. -/
theorem run : θ_run defs (onTc (τ := τ) (main (F := Ideal))) ⟨m, fun _ => 0, ρ⟩ fun r => ∀ c : Dev nD,
      r.2.mem ((c : Thread nD τ).loc main_v0) = attend (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c hp), (h c).2⟩) (Value.run_blocks m ρ)

end Kernel

end Cert.AttnProof

end
-- ==== Proof.Branch.lean ====
/-
  The gate paths of the attention and of the gated linear attention, and their reference. Point `a` of the grid writes rows
  `256 a … 256 a + 255` of both results; the second's four heads, of 256 columns each, are normalised one by one.
-/
module

public import proofs.«01_k».proof.Proof.Tiles
public import proofs.«01_k».proof.Proof.Gen.BranchIdeal.Value
public import proofs.«01_k».proof.Proof.Gen.BranchRefIdeal.Run
public import Idealize.ShloMosaic.Lib.Pointwise
public import Idealize.ShloMosaic.Lib.Pipeline.ValueKit.Tiles

@[expose] public section

noncomputable section

namespace Cert.BranchProof

open Idealize.ShloMosaic Idealize.ShloMosaic.TcCoe Idealize.SL.Sem
open Cert.Tiles

/-- The gated attention, element by element. -/
abbrev gated (x : Vec Ideal BranchIdeal.S4352x1024 .f32) (p : Vec Ideal BranchIdeal.S4352x13312 .f32) (r : Fin 4352) (l : Fin 1024) : EReal :=
  x (ix2 r l) * silu (p (ix2 r ⟨5120 + l.val, by omega⟩))

/-- Of a row `u + v`: its element `t`, where `f` lists its head's columns, normalised, scaled by the weight's element `q` and gated by `z`. -/
abbrev headed (u v : Fin 1024 → EReal) (g : Fin 256 → EReal) (z : EReal) (f : Fin 256 → Fin 1024) (q : Fin 256) (t : Fin 1024) : EReal :=
  (u t + v t) * Ideal.rsqrt (Ideal.div (∑ k, (u (f k) + v (f k)) * (u (f k) + v (f k))) (Ideal.ofBits .f32 0x43800000#32) + Ideal.ofBits .f32 0x358637BD#32) * g q * silu z
/-- The columns of column `l`'s head, and `l`'s place among them. -/
abbrev head (l : Fin 1024) (k : Fin 256) : Fin 1024 := ⟨l.val / 256 * 256 + k.val, by omega⟩
abbrev place (l : Fin 1024) : Fin 256 := ⟨l.val % 256, Nat.mod_lt _ (by decide)⟩

/-- The normalised and gated heads, element by element. -/
abbrev heads (x y : Vec Ideal BranchIdeal.S4352x1024 .f32) (p : Vec Ideal BranchIdeal.S4352x13312 .f32) (g : Vec Ideal BranchIdeal.S1x256 .f32) (r : Fin 4352) (l : Fin 1024) : EReal :=
  headed (fun k => x (ix2 r k)) (fun k => y (ix2 r k)) (fun k => g (ix2 0 k)) (p (ix2 r ⟨7168 + l.val, by omega⟩)) (head l) (place l) l

abbrev first (x : Vec Ideal BranchIdeal.S4352x1024 .f32) (p : Vec Ideal BranchIdeal.S4352x13312 .f32) : Vec Ideal BranchIdeal.S4352x1024 .bf16 :=
  fun i => gated x p ⟨(i 0).val, (i 0).isLt⟩ ⟨(i 1).val, (i 1).isLt⟩
abbrev second (x y : Vec Ideal BranchIdeal.S4352x1024 .f32) (p : Vec Ideal BranchIdeal.S4352x13312 .f32) (g : Vec Ideal BranchIdeal.S1x256 .f32) : Vec Ideal BranchIdeal.S4352x1024 .bf16 :=
  fun i => heads x y p g ⟨(i 0).val, (i 0).isLt⟩ ⟨(i 1).val, (i 1).isLt⟩

section Kernel

open Cert.BranchIdeal Cert.BranchIdeal.Gen

variable (m : (ℓ : Loc nD τ sig) → Buf (Elt Ideal) ℓ) (ρ : Dev nD → PrngReg) (c : Dev nD)

theorem out6_eq (x0 x1 x2 x3 x4 : Vec Ideal S256x1024 .f32) (x5 : Vec Ideal S1x256 .f32) (r : Fin 256) (l : Fin 1024) :
    out0_6 (F := Ideal) x0 x1 x2 x3 x4 x5 (ix2 r l) = x0 (ix2 r l) * silu (x3 (ix2 r l)) := by
  unfold out0_6
  rw [View.canon_unit_zero Rows.zero_zero, View.ld_unit_zero Rows.zero_zero _ x0, View.ld_unit_zero Rows.zero_zero _ x3]
  pointwise [k0_pay2, zero_sub]

/-- One head as the body computes it. -/
abbrev one (u v z : Vec Ideal S256x256 .f32) (g : Vec Ideal S1x256 .f32) (r l : Fin 256) : EReal :=
  normed 0x43800000#32 (fun k => u (ix2 r k) + v (ix2 r k)) l * g (ix2 0 l) * silu (z (ix2 r l))

theorem pay0_eq (u v z : Vec Ideal S256x256 .f32) (g : Vec Ideal S1x256 .f32) (r l : Fin 256) :
    k0_pay5 (F := Ideal) (k0_pay3 u v g) z (k0_pay4 z) (Scalar.ofBits .f32 0x3F800000#32) (ix2 r l) = one u v z g r l := by
  pointwise [k0_pay3, k0_pay4, k0_pay5, zero_sub]
theorem pay1_eq (u v z : Vec Ideal S256x256 .f32) (g : Vec Ideal S1x256 .f32) (r l : Fin 256) : k0_pay6 (F := Ideal) u v g z (ix2 r l) = one u v z g r l := by
  pointwise [k0_pay6, zero_sub]
theorem pay2_eq (u v z : Vec Ideal S256x256 .f32) (g : Vec Ideal S1x256 .f32) (r l : Fin 256) : k0_pay7 (F := Ideal) u v g z (ix2 r l) = one u v z g r l := by
  pointwise [k0_pay7, zero_sub]
theorem pay3_eq (u v z : Vec Ideal S256x256 .f32) (g : Vec Ideal S1x256 .f32) (r l : Fin 256) : k0_pay1 (F := Ideal) (k0_pay8 u v) g z (ix2 r l) = one u v z g r l := by
  pointwise [k0_pay1, k0_pay8, zero_sub]

/-- A head of the columns `k` on, where `k` is a multiple of 256. -/
theorem head_eq (u v z : Vec Ideal S256x1024 .f32) (g : Vec Ideal S1x256 .f32) (k : Nat) (hk : k % 256 = 0) (h : ∀ a, (![0, k] : Fin 2 → Nat) a + S256x256.size a ≤ S256x1024.size a)
    (y : S256x1024.Idx) (x : S256x256.Idx) (hx : ∀ a, (y a).val = (![0, k] : Fin 2 → Nat) a + (x a).val) :
    one (View.ld u (Rect.unit (s := S256x1024) ![0, k] S256x256.size h)) (View.ld v (Rect.unit (s := S256x1024) ![0, k] S256x256.size h))
        (View.ld z (Rect.unit (s := S256x1024) ![0, k] S256x256.size h)) g ⟨(x 0).val, (x 0).isLt⟩ ⟨(x 1).val, (x 1).isLt⟩
      = headed (fun k => u (ix2 ⟨(y 0).val, (y 0).isLt⟩ k)) (fun k => v (ix2 ⟨(y 0).val, (y 0).isLt⟩ k)) (fun k => g (ix2 0 k)) (z y) (head ⟨(y 1).val, (y 1).isLt⟩) (place ⟨(y 1).val, (y 1).isLt⟩) ⟨(y 1).val, (y 1).isLt⟩ := by
  obtain ⟨r, l, rfl⟩ := exists_ix2 x
  obtain ⟨r', l', rfl⟩ := exists_ix2 y
  have e0 : r'.val = 0 + r.val := hx 0
  have e1 : l'.val = k + l.val := hx 1
  have h1 : k + 256 ≤ 1024 := h 1
  obtain rfl : r' = r := Fin.ext (e0.trans (Nat.zero_add _))
  have el : l' = ⟨k + l.val, (Nat.add_lt_add_left l.isLt k).trans_le h1⟩ := Fin.ext e1
  have hf : (fun c : Fin 256 => (⟨k + c.val, (Nat.add_lt_add_left c.isLt k).trans_le h1⟩ : Fin 1024)) = head l' := funext fun c => Fin.ext (show k + c.val = l'.val / 256 * 256 + c.val by omega)
  have hq : l = place l' := Fin.ext (show l.val = l'.val % 256 by omega)
  show one _ _ _ g r' l = headed (fun k => u (ix2 r' k)) (fun k => v (ix2 r' k)) (fun k => g (ix2 0 k)) (z (ix2 r' l')) (head l') (place l') l'
  rw [← hf, ← hq, el]
  exact congr (congr (congrArg (fun (a b : Fin 256 → EReal) (z : EReal) => normed 0x43800000#32 (fun k => a k + b k) l * g (ix2 0 l) * silu z)
    (funext fun c => load_columns u k h r' c)) (funext fun c => load_columns v k h r' c)) (load_columns z k h r' l)

theorem out7_eq (x0 x1 x2 x3 x4 : Vec Ideal S256x1024 .f32) (x5 : Vec Ideal S1x256 .f32) (r : Fin 256) (l : Fin 1024) :
    out0_7 (F := Ideal) x0 x1 x2 x3 x4 x5 (ix2 r l)
      = headed (fun k => x1 (ix2 r k)) (fun k => x2 (ix2 r k)) (fun k => x5 (ix2 0 k)) (x4 (ix2 r l)) (head l) (place l) l := by
  refine View.canon_eq_of_allAt _ _ _ (cover0_7 _ _ _ _ _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    rw [View.ld_unit_zero Rows.zero_zero _ x5]
    obtain ⟨a, b, rfl⟩ := exists_ix2 (r := 256) (s := 256) x
  · exact (pay3_eq _ _ _ _ a b).trans (head_eq x1 x2 x4 x5 768 rfl inb_S256x1024_S256x256_0_768 (ix2 r l) (ix2 a b) hx)
  · exact (pay2_eq _ _ _ _ a b).trans (head_eq x1 x2 x4 x5 512 rfl inb_S256x1024_S256x256_0_512 (ix2 r l) (ix2 a b) hx)
  · exact (pay1_eq _ _ _ _ a b).trans (head_eq x1 x2 x4 x5 256 rfl inb_S256x1024_S256x256_0_256 (ix2 r l) (ix2 a b) hx)
  · exact (pay0_eq _ _ _ _ a b).trans (head_eq x1 x2 x4 x5 0 rfl inb_S256x1024_S256x256_0_0 (ix2 r l) (ix2 a b) hx)

theorem facts : ∀ t : Fin cfg0.N, (win0_0.index t = ![t.val, 0] ∧ win0_1.index t = ![t.val, 0] ∧ win0_2.index t = ![t.val, 0])
    ∧ (win0_3.index t = ![t.val, 5] ∧ win0_4.index t = ![t.val, 7]) ∧ win0_5.index t = ![0, 0] ∧ win0_6.index t = ![t.val, 0] ∧ win0_7.index t = ![t.val, 0] :=
  (by decide +kernel : ∀ t : Fin grid0.N, _)

theorem read0 (t : Fin cfg0.N) : iblk m c 0 t = fun y => m ((c : Thread nD τ).loc main_arg0) (band t.val y (row_le (t.cast N_0))) :=
  funext fun y => congrArg (m ((c : Thread nD τ).loc main_arg0)) (eq_band y _ (row_le (t.cast N_0)) (facts t).1.1 fun a => Pipeline.Window.rect_emb_val win0_0 t y a)
theorem read1 (t : Fin cfg0.N) : iblk m c 1 t = fun y => m ((c : Thread nD τ).loc main_arg1) (band t.val y (row_le (t.cast N_0))) :=
  funext fun y => congrArg (m ((c : Thread nD τ).loc main_arg1)) (eq_band y _ (row_le (t.cast N_0)) (facts t).1.2.1 fun a => Pipeline.Window.rect_emb_val win0_1 t y a)
theorem read2 (t : Fin cfg0.N) : iblk m c 2 t = fun y => m ((c : Thread nD τ).loc main_arg2) (band t.val y (row_le (t.cast N_0))) :=
  funext fun y => congrArg (m ((c : Thread nD τ).loc main_arg2)) (eq_band y _ (row_le (t.cast N_0)) (facts t).1.2.2 fun a => Pipeline.Window.rect_emb_val win0_2 t y a)
theorem read3 (t : Fin cfg0.N) : iblk m c 3 t = fun y => m ((c : Thread nD τ).loc main_arg3) (tile t.val 5 y (row_le (t.cast N_0)) (by decide)) :=
  funext fun y => congrArg (m ((c : Thread nD τ).loc main_arg3)) (eq_tile y _ (row_le (t.cast N_0)) (by decide) (facts t).2.1.1 fun a => Pipeline.Window.rect_emb_val win0_3 t y a)
theorem read4 (t : Fin cfg0.N) : iblk m c 4 t = fun y => m ((c : Thread nD τ).loc main_arg3) (tile t.val 7 y (row_le (t.cast N_0)) (by decide)) :=
  funext fun y => congrArg (m ((c : Thread nD τ).loc main_arg3)) (eq_tile y _ (row_le (t.cast N_0)) (by decide) (facts t).2.1.2 fun a => Pipeline.Window.rect_emb_val win0_4 t y a)
theorem read5 (t : Fin cfg0.N) : iblk m c 5 t = m ((c : Thread nD τ).loc main_arg4) :=
  funext fun y => congrArg (m ((c : Thread nD τ).loc main_arg4)) (eq_whole y _ (facts t).2.2.1 fun a => Pipeline.Window.rect_emb_val win0_5 t y a)
theorem emb6 (t : Fin cfg0.N) (y : S256x1024.Idx) : ((cfg0.win 6).blk t).view.emb y = band t.val y (row_le (t.cast N_0)) :=
  eq_band y _ (row_le (t.cast N_0)) (facts t).2.2.2.1 fun a => Pipeline.Window.rect_emb_val win0_6 t y a
theorem emb7 (t : Fin cfg0.N) (y : S256x1024.Idx) : ((cfg0.win 7).blk t).view.emb y = band t.val y (row_le (t.cast N_0)) :=
  eq_band y _ (row_le (t.cast N_0)) (facts t).2.2.2.2 fun a => Pipeline.Window.rect_emb_val win0_7 t y a

abbrev result6 : Vec Ideal S4352x1024 .bf16 := first (m ((c : Thread nD τ).loc main_arg0)) (m ((c : Thread nD τ).loc main_arg3))
abbrev result7 : Vec Ideal S4352x1024 .bf16 :=
  second (m ((c : Thread nD τ).loc main_arg1)) (m ((c : Thread nD τ).loc main_arg2)) (m ((c : Thread nD τ).loc main_arg3)) (m ((c : Thread nD τ).loc main_arg4))

theorem flushed6_eq (t : Fin cfg0.N) : (dats m 0 c).flushed 6 t = ((cfg0.win 6).blk t).view.read (Elt Ideal) (result6 m c) := by
  refine Eq.trans ?_ (funext fun y => (congrArg (result6 m c) (emb6 t y)).symm)
  rw [Value.flushed6]
  refine funext fun y : S256x1024.Idx => ?_
  obtain ⟨r, l, rfl⟩ := exists_ix2 y
  refine (out6_eq _ _ _ _ _ _ r l).trans ?_
  rw [read0, read3]
  rfl
theorem flushed7_eq (t : Fin cfg0.N) : (dats m 0 c).flushed 7 t = ((cfg0.win 7).blk t).view.read (Elt Ideal) (result7 m c) := by
  refine Eq.trans ?_ (funext fun y => (congrArg (result7 m c) (emb7 t y)).symm)
  rw [Value.flushed7]
  refine funext fun y : S256x1024.Idx => ?_
  obtain ⟨r, l, rfl⟩ := exists_ix2 y
  refine (out7_eq _ _ _ _ _ _ r l).trans ?_
  rw [read1, read2, read4, read5]
  rfl

theorem final6 : (dats m 0 c).arrAt 6 cfg0.N = result6 m c :=
  (dats m 0 c).arrAt_eq_of_cover 6 (result6 m c) (fun t _ => flushed6_eq m c t) fun i => by
    obtain ⟨t, y, e⟩ := exists_band (p := 17) (r := 256) (by decide) rfl i row_le
    exact ⟨t.cast N_0.symm, flush0_6 _, Finset.mem_map.mpr ⟨y, Finset.mem_univ _, (emb6 _ y).trans e⟩⟩
theorem final7 : (dats m 0 c).arrAt 7 cfg0.N = result7 m c :=
  (dats m 0 c).arrAt_eq_of_cover 7 (result7 m c) (fun t _ => flushed7_eq m c t) fun i => by
    obtain ⟨t, y, e⟩ := exists_band (p := 17) (r := 256) (by decide) rfl i row_le
    exact ⟨t.cast N_0.symm, flush0_7 _, Finset.mem_map.mpr ⟨y, Finset.mem_univ _, (emb7 _ y).trans e⟩⟩

omit c in
/-- The call's run: the two gate paths, the arguments unchanged. -/
theorem run : θ_run defs (onTc (τ := τ) (main (F := Ideal))) ⟨m, fun _ => 0, ρ⟩ fun r => ∀ c : Dev nD,
      r.2.mem ((c : Thread nD τ).loc main_v0_0) = first (m ((c : Thread nD τ).loc main_arg0)) (m ((c : Thread nD τ).loc main_arg3))
      ∧ r.2.mem ((c : Thread nD τ).loc main_v0_1)
        = second (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final6 m c), (h c).2.1.trans (final7 m c), (h c).2.2⟩) (Value.run_blocks m ρ)

end Kernel

section Reference

open Cert.BranchRefIdeal Cert.BranchRefIdeal.Gen

variable (m : (ℓ : Loc nD τ sig) → Buf (Elt Ideal) ℓ) (ρ : Dev nD → PrngReg) (M : (ℓ : Loc Cert.BranchIdeal.nD Cert.BranchIdeal.τ Cert.BranchIdeal.sig) → Buf (Elt Ideal) ℓ)

/-- The reference's run from the call's arguments: the same values. -/
theorem run_ref (hm : ∀ c : Dev nD,
      m ((c.tc : Thread nD τ).loc main_arg0) = M ((c.tc : Thread nD τ).loc Cert.BranchIdeal.main_arg0)
      ∧ m ((c.tc : Thread nD τ).loc main_arg1) = M ((c.tc : Thread nD τ).loc Cert.BranchIdeal.main_arg1)
      ∧ m ((c.tc : Thread nD τ).loc main_arg2) = M ((c.tc : Thread nD τ).loc Cert.BranchIdeal.main_arg2)
      ∧ m ((c.tc : Thread nD τ).loc main_arg3) = M ((c.tc : Thread nD τ).loc Cert.BranchIdeal.main_arg3)
      ∧ m ((c.tc : Thread nD τ).loc main_arg4) = M ((c.tc : Thread nD τ).loc Cert.BranchIdeal.main_arg4)) :
    θ_run defs (onTc (τ := τ) (main (F := Ideal))) ⟨m, fun _ => 0, ρ⟩ fun r => ∀ c : Dev nD,
      r.2.mem ((c.tc : Thread nD τ).loc main_v21) = first (M ((c.tc : Thread nD τ).loc Cert.BranchIdeal.main_arg0)) (M ((c.tc : Thread nD τ).loc Cert.BranchIdeal.main_arg3))
      ∧ r.2.mem ((c.tc : Thread nD τ).loc main_v24)
        = second (M ((c.tc : Thread nD τ).loc Cert.BranchIdeal.main_arg1)) (M ((c.tc : Thread nD τ).loc Cert.BranchIdeal.main_arg2)) (M ((c.tc : Thread nD τ).loc Cert.BranchIdeal.main_arg3))
            (M ((c.tc : Thread nD τ).loc Cert.BranchIdeal.main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Value.run m ρ)
  all_goals rw [(hm c).2.2.2.1]
  on_goal 1 => rw [(hm c).1]
  on_goal 2 => rw [(hm c).2.1, (hm c).2.2.1, (hm c).2.2.2.2]
  all_goals
    generalize M ((c.tc : Thread nD τ).loc Cert.BranchIdeal.main_arg3) = p
    refine funext fun j : S4352x1024.Idx => ?_
    obtain ⟨r, l, rfl⟩ := exists_ix2 j
  · generalize M ((c.tc : Thread nD τ).loc Cert.BranchIdeal.main_arg0) = x
    show _ = gated x p r l
    unfold gated
    pointwise []
  · generalize M ((c.tc : Thread nD τ).loc Cert.BranchIdeal.main_arg1) = x
    generalize M ((c.tc : Thread nD τ).loc Cert.BranchIdeal.main_arg2) = y
    generalize M ((c.tc : Thread nD τ).loc Cert.BranchIdeal.main_arg4) = g
    show _ = heads x y p g r l
    unfold heads headed head
    pointwise []

end Reference

end Cert.BranchProof

end
-- ==== Proof.Merge.lean ====
/-
  The merge of the three branches and its reference. Point `a` of the grid writes rows `256 a … 256 a + 255`; the three gates are read from
  the combined projection, columns 8192 to 11263.
-/
module

public import proofs.«01_k».proof.Proof.Tiles
public import proofs.«01_k».proof.Proof.Gen.MergeIdeal.Value
public import proofs.«01_k».proof.Proof.Gen.MergeRefIdeal.Run
public import Idealize.ShloMosaic.Lib.Pointwise

@[expose] public section

noncomputable section

namespace Cert.MergeProof

open Idealize.ShloMosaic Idealize.ShloMosaic.TcCoe Idealize.SL.Sem
open Cert.Tiles

/-- The gated sum of the branches, element by element. -/
abbrev entry (x y z : Vec Ideal MergeIdeal.S4352x1024 .f32) (p : Vec Ideal MergeIdeal.S4352x13312 .f32) (g : Vec Ideal MergeIdeal.S1x3072 .f32) (r : Fin 4352) (l : Fin 1024) (i j k : Fin 13312) : EReal :=
  sigmoid (p (ix2 r i) + g (ix2 0 ⟨0 + l.val, by omega⟩)) * x (ix2 r l) + sigmoid (p (ix2 r j) + g (ix2 0 ⟨1024 + l.val, by omega⟩)) * y (ix2 r l)
    + sigmoid (p (ix2 r k) + g (ix2 0 ⟨2048 + l.val, by omega⟩)) * z (ix2 r l)
abbrev value (x y z : Vec Ideal MergeIdeal.S4352x1024 .f32) (p : Vec Ideal MergeIdeal.S4352x13312 .f32) (g : Vec Ideal MergeIdeal.S1x3072 .f32) (r : Fin 4352) (l : Fin 1024) : EReal :=
  entry x y z p g r l ⟨8192 + l.val, by omega⟩ ⟨9216 + l.val, by omega⟩ ⟨10240 + l.val, by omega⟩
abbrev merge (x y z : Vec Ideal MergeIdeal.S4352x1024 .f32) (p : Vec Ideal MergeIdeal.S4352x13312 .f32) (g : Vec Ideal MergeIdeal.S1x3072 .f32) : Vec Ideal MergeIdeal.S4352x1024 .bf16 :=
  fun i => value x y z p g ⟨(i 0).val, (i 0).isLt⟩ ⟨(i 1).val, (i 1).isLt⟩

section Kernel

open Cert.MergeIdeal Cert.MergeIdeal.Gen

variable (m : (ℓ : Loc nD τ sig) → Buf (Elt Ideal) ℓ) (ρ : Dev nD → PrngReg) (c : Dev nD)

theorem pay_eq (x y z p q s : Vec Ideal S256x1024 .f32) (u v w : Vec Ideal S1x1024 .f32) (r : Fin 256) (l : Fin 1024) :
    k0_pay1 (k0_pay2 p u x q v y) (k0_pay3 s w) (k0_pay4 (F := Ideal)) z (ix2 r l)
      = sigmoid (p (ix2 r l) + u (ix2 0 l)) * x (ix2 r l) + sigmoid (q (ix2 r l) + v (ix2 0 l)) * y (ix2 r l) + sigmoid (s (ix2 r l) + w (ix2 0 l)) * z (ix2 r l) := by
  pointwise [k0_pay1, k0_pay2, k0_pay3, k0_pay4, zero_sub]

theorem out_eq (x y z p q s : Vec Ideal S256x1024 .f32) (g : Vec Ideal S1x3072 .f32) (r : Fin 256) (l : Fin 1024) :
    out0_7 (F := Ideal) x y z p q s g (ix2 r l)
      = sigmoid (p (ix2 r l) + g (ix2 0 ⟨0 + l.val, by omega⟩)) * x (ix2 r l) + sigmoid (q (ix2 r l) + g (ix2 0 ⟨1024 + l.val, by omega⟩)) * y (ix2 r l)
        + sigmoid (s (ix2 r l) + g (ix2 0 ⟨2048 + l.val, by omega⟩)) * z (ix2 r l) := by
  unfold out0_7
  rw [View.canon_unit_zero Rows.zero_zero, View.ld_unit_zero Rows.zero_zero _ x, View.ld_unit_zero Rows.zero_zero _ y, View.ld_unit_zero Rows.zero_zero _ z,
    View.ld_unit_zero Rows.zero_zero _ p, View.ld_unit_zero Rows.zero_zero _ q, View.ld_unit_zero Rows.zero_zero _ s]
  refine (pay_eq x y z p q s _ _ _ r l).trans ?_
  rw [load_columns g 0, load_columns g 1024, load_columns g 2048]

theorem facts : ∀ t : Fin cfg0.N, (win0_0.index t = ![t.val, 0] ∧ win0_1.index t = ![t.val, 0] ∧ win0_2.index t = ![t.val, 0])
    ∧ (win0_3.index t = ![t.val, 8] ∧ win0_4.index t = ![t.val, 9] ∧ win0_5.index t = ![t.val, 10]) ∧ win0_6.index t = ![0, 0] ∧ win0_7.index t = ![t.val, 0] :=
  (by decide +kernel : ∀ t : Fin grid0.N, _)

theorem read0 (t : Fin cfg0.N) : iblk m c 0 t = fun y => m ((c : Thread nD τ).loc main_arg0) (band t.val y (row_le (t.cast N_0))) :=
  funext fun y => congrArg (m ((c : Thread nD τ).loc main_arg0)) (eq_band y _ (row_le (t.cast N_0)) (facts t).1.1 fun a => Pipeline.Window.rect_emb_val win0_0 t y a)
theorem read1 (t : Fin cfg0.N) : iblk m c 1 t = fun y => m ((c : Thread nD τ).loc main_arg1) (band t.val y (row_le (t.cast N_0))) :=
  funext fun y => congrArg (m ((c : Thread nD τ).loc main_arg1)) (eq_band y _ (row_le (t.cast N_0)) (facts t).1.2.1 fun a => Pipeline.Window.rect_emb_val win0_1 t y a)
theorem read2 (t : Fin cfg0.N) : iblk m c 2 t = fun y => m ((c : Thread nD τ).loc main_arg2) (band t.val y (row_le (t.cast N_0))) :=
  funext fun y => congrArg (m ((c : Thread nD τ).loc main_arg2)) (eq_band y _ (row_le (t.cast N_0)) (facts t).1.2.2 fun a => Pipeline.Window.rect_emb_val win0_2 t y a)
theorem read3 (t : Fin cfg0.N) : iblk m c 3 t = fun y => m ((c : Thread nD τ).loc main_arg3) (tile t.val 8 y (row_le (t.cast N_0)) (by decide)) :=
  funext fun y => congrArg (m ((c : Thread nD τ).loc main_arg3)) (eq_tile y _ (row_le (t.cast N_0)) (by decide) (facts t).2.1.1 fun a => Pipeline.Window.rect_emb_val win0_3 t y a)
theorem read4 (t : Fin cfg0.N) : iblk m c 4 t = fun y => m ((c : Thread nD τ).loc main_arg3) (tile t.val 9 y (row_le (t.cast N_0)) (by decide)) :=
  funext fun y => congrArg (m ((c : Thread nD τ).loc main_arg3)) (eq_tile y _ (row_le (t.cast N_0)) (by decide) (facts t).2.1.2.1 fun a => Pipeline.Window.rect_emb_val win0_4 t y a)
theorem read5 (t : Fin cfg0.N) : iblk m c 5 t = fun y => m ((c : Thread nD τ).loc main_arg3) (tile t.val 10 y (row_le (t.cast N_0)) (by decide)) :=
  funext fun y => congrArg (m ((c : Thread nD τ).loc main_arg3)) (eq_tile y _ (row_le (t.cast N_0)) (by decide) (facts t).2.1.2.2 fun a => Pipeline.Window.rect_emb_val win0_5 t y a)
theorem read6 (t : Fin cfg0.N) : iblk m c 6 t = m ((c : Thread nD τ).loc main_arg4) :=
  funext fun y => congrArg (m ((c : Thread nD τ).loc main_arg4)) (eq_whole y _ (facts t).2.2.1 fun a => Pipeline.Window.rect_emb_val win0_6 t y a)
theorem emb (t : Fin cfg0.N) (y : S256x1024.Idx) : ((cfg0.win 7).blk t).view.emb y = band t.val y (row_le (t.cast N_0)) :=
  eq_band y _ (row_le (t.cast N_0)) (facts t).2.2.2 fun a => Pipeline.Window.rect_emb_val win0_7 t y a

abbrev result : Vec Ideal S4352x1024 .bf16 :=
  merge (m ((c : Thread nD τ).loc main_arg0)) (m ((c : Thread nD τ).loc main_arg1)) (m ((c : Thread nD τ).loc main_arg2)) (m ((c : Thread nD τ).loc main_arg3)) (m ((c : Thread nD τ).loc main_arg4))

theorem flushed_eq (t : Fin cfg0.N) : (dats m 0 c).flushed 7 t = ((cfg0.win 7).blk t).view.read (Elt Ideal) (result m c) := by
  refine Eq.trans ?_ (funext fun y => (congrArg (result m c) (emb t y)).symm)
  rw [Value.flushed7]
  refine funext fun y : S256x1024.Idx => ?_
  obtain ⟨r, l, rfl⟩ := exists_ix2 y
  refine (out_eq _ _ _ _ _ _ _ r l).trans ?_
  rw [read0, read1, read2, read3, read4, read5, read6]
  rfl

theorem final : (dats m 0 c).arrAt 7 cfg0.N = result m c :=
  (dats m 0 c).arrAt_eq_of_cover 7 (result m c) (fun t _ => flushed_eq m c t) fun i => by
    obtain ⟨t, y, e⟩ := exists_band (p := 17) (r := 256) (by decide) rfl i row_le
    exact ⟨t.cast N_0.symm, flush0_7 _, Finset.mem_map.mpr ⟨y, Finset.mem_univ _, (emb _ y).trans e⟩⟩

omit c in
/-- The call's run: the merged branches, the arguments unchanged. -/
theorem run : θ_run defs (onTc (τ := τ) (main (F := Ideal))) ⟨m, fun _ => 0, ρ⟩ fun r => ∀ c : Dev nD,
      r.2.mem ((c : Thread nD τ).loc main_v0)
        = merge (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Kernel

section Reference

open Cert.MergeRefIdeal Cert.MergeRefIdeal.Gen

variable (m : (ℓ : Loc nD τ sig) → Buf (Elt Ideal) ℓ) (ρ : Dev nD → PrngReg) (M : (ℓ : Loc Cert.MergeIdeal.nD Cert.MergeIdeal.τ Cert.MergeIdeal.sig) → Buf (Elt Ideal) ℓ)

/-- The reference's run from the call's arguments: the same values. -/
theorem run_ref (hm : ∀ c : Dev nD,
      m ((c.tc : Thread nD τ).loc main_arg0) = M ((c.tc : Thread nD τ).loc Cert.MergeIdeal.main_arg0)
      ∧ m ((c.tc : Thread nD τ).loc main_arg1) = M ((c.tc : Thread nD τ).loc Cert.MergeIdeal.main_arg1)
      ∧ m ((c.tc : Thread nD τ).loc main_arg2) = M ((c.tc : Thread nD τ).loc Cert.MergeIdeal.main_arg2)
      ∧ m ((c.tc : Thread nD τ).loc main_arg3) = M ((c.tc : Thread nD τ).loc Cert.MergeIdeal.main_arg3)
      ∧ m ((c.tc : Thread nD τ).loc main_arg4) = M ((c.tc : Thread nD τ).loc Cert.MergeIdeal.main_arg4)) :
    θ_run defs (onTc (τ := τ) (main (F := Ideal))) ⟨m, fun _ => 0, ρ⟩ fun r => ∀ c : Dev nD,
      r.2.mem ((c.tc : Thread nD τ).loc main_v17)
        = merge (M ((c.tc : Thread nD τ).loc Cert.MergeIdeal.main_arg0)) (M ((c.tc : Thread nD τ).loc Cert.MergeIdeal.main_arg1)) (M ((c.tc : Thread nD τ).loc Cert.MergeIdeal.main_arg2))
            (M ((c.tc : Thread nD τ).loc Cert.MergeIdeal.main_arg3)) (M ((c.tc : Thread nD τ).loc Cert.MergeIdeal.main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run m ρ)
  rw [(hm c).1, (hm c).2.1, (hm c).2.2.1, (hm c).2.2.2.1, (hm c).2.2.2.2]
  generalize M ((c.tc : Thread nD τ).loc Cert.MergeIdeal.main_arg0) = x
  generalize M ((c.tc : Thread nD τ).loc Cert.MergeIdeal.main_arg1) = y
  generalize M ((c.tc : Thread nD τ).loc Cert.MergeIdeal.main_arg2) = z
  generalize M ((c.tc : Thread nD τ).loc Cert.MergeIdeal.main_arg3) = p
  generalize M ((c.tc : Thread nD τ).loc Cert.MergeIdeal.main_arg4) = g
  refine funext fun j : S4352x1024.Idx => ?_
  obtain ⟨r, l, rfl⟩ := exists_ix2 j
  show _ = value x y z p g r l
  refine Eq.trans (b := entry x y z p g r l ⟨8192 + l.val, by omega⟩ ⟨8192 + (1024 + l.val), by omega⟩ ⟨8192 + (2048 + l.val), by omega⟩) ?_
    (congrArg₂ (entry x y z p g r l _) (Fin.ext (Nat.add_assoc 8192 1024 l.val).symm) (Fin.ext (Nat.add_assoc 8192 2048 l.val).symm))
  unfold entry
  pointwise []

end Reference

end Cert.MergeProof

end
-- ==== Proof.Out.lean ====
/-
  The products of a branch and of the merged branches by their weights, and their reference. Point `a` of the grid writes rows
  `1088 a … 1088 a + 1087` of the product.
-/
module

public import proofs.«01_k».proof.Proof.Tiles
public import proofs.«01_k».proof.Proof.Gen.OutIdeal.Value
public import proofs.«01_k».proof.Proof.Gen.OutRefIdeal.Run
public import Idealize.ShloMosaic.Lib.Pointwise

@[expose] public section

noncomputable section

namespace Cert.OutProof

open Idealize.ShloMosaic Idealize.ShloMosaic.TcCoe Idealize.SL.Sem
open Cert.Tiles

/-- The product, element by element. -/
abbrev product (h : Vec Ideal OutIdeal.S4352x1024 .bf16) (w : Vec Ideal OutIdeal.S1024x1024 .bf16) : Vec Ideal OutIdeal.S4352x1024 .f32 := fun i =>
  (∑ k : Fin 1024, (h (ix2 ⟨(i 0).val, (i 0).isLt⟩ k) : EReal) * w (ix2 k ⟨(i 1).val, (i 1).isLt⟩) : EReal)

section Kernel

open Cert.OutIdeal Cert.OutIdeal.Gen

variable (m : (ℓ : Loc nD τ sig) → Buf (Elt Ideal) ℓ) (ρ : Dev nD → PrngReg) (c : Dev nD)

theorem out_eq (x0 : Vec Ideal S1088x1024 .bf16) (x1 : Vec Ideal S1024x1024 .bf16) (r : Fin 1088) (l : Fin 1024) :
    out0_2 (F := Ideal) x0 x1 (ix2 r l) = (∑ k : Fin 1024, (x0 (ix2 r k) : EReal) * x1 (ix2 k l) : EReal) := by
  unfold out0_2
  rw [View.canon_unit_zero Rows.zero_zero, View.ld_unit_zero Rows.zero_zero _ x0, View.ld_unit_zero Rows.zero_zero _ x1]
  pointwise [k0_pay1]

theorem facts : ∀ t : Fin cfg0.N, win0_0.index t = ![t.val, 0] ∧ win0_1.index t = ![0, 0] ∧ win0_2.index t = ![t.val, 0] :=
  (by decide +kernel : ∀ t : Fin grid0.N, _)

theorem row (t : Fin 4) : t.val * 1088 + 1088 ≤ 4352 := by omega

theorem read0 (t : Fin cfg0.N) : iblk m c 0 t = fun y => m ((c : Thread nD τ).loc main_arg0) (band t.val y (row (t.cast N_0))) :=
  funext fun y => congrArg (m ((c : Thread nD τ).loc main_arg0)) (eq_band y _ (row (t.cast N_0)) (facts t).1 fun a => Pipeline.Window.rect_emb_val win0_0 t y a)
theorem read1 (t : Fin cfg0.N) : iblk m c 1 t = m ((c : Thread nD τ).loc main_arg1) :=
  funext fun y => congrArg (m ((c : Thread nD τ).loc main_arg1)) (eq_whole y _ (facts t).2.1 fun a => Pipeline.Window.rect_emb_val win0_1 t y a)
theorem emb (t : Fin cfg0.N) (y : S1088x1024.Idx) : ((cfg0.win 2).blk t).view.emb y = band t.val y (row (t.cast N_0)) :=
  eq_band y _ (row (t.cast N_0)) (facts t).2.2 fun a => Pipeline.Window.rect_emb_val win0_2 t y a

abbrev result : Vec Ideal S4352x1024 .f32 := product (m ((c : Thread nD τ).loc main_arg0)) (m ((c : Thread nD τ).loc main_arg1))

theorem flushed_eq (t : Fin cfg0.N) : (dats m 0 c).flushed 2 t = ((cfg0.win 2).blk t).view.read (Elt Ideal) (result m c) := by
  refine Eq.trans ?_ (funext fun y => (congrArg (result m c) (emb t y)).symm)
  rw [Value.flushed2]
  refine funext fun y : S1088x1024.Idx => ?_
  obtain ⟨r, l, rfl⟩ := exists_ix2 y
  refine (out_eq _ _ r l).trans ?_
  rw [read0, read1]
  rfl

theorem final : (dats m 0 c).arrAt 2 cfg0.N = result m c :=
  (dats m 0 c).arrAt_eq_of_cover 2 (result m c) (fun t _ => flushed_eq m c t) fun i => by
    obtain ⟨t, y, e⟩ := exists_band (p := 4) (r := 1088) (by decide) rfl i row
    exact ⟨t.cast N_0.symm, flush0_2 _, Finset.mem_map.mpr ⟨y, Finset.mem_univ _, (emb _ y).trans e⟩⟩

omit c in
/-- The call's run: the product, the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Kernel

section Reference

open Cert.OutRefIdeal Cert.OutRefIdeal.Gen

theorem ref_eq (h : Vec Ideal S4352x1024 .bf16) (w : Vec Ideal S1024x1024 .bf16) :
    (Host.dotGeneral (F := Ideal) (φ₁ := .f32) (φ₂ := .f32) dot_S4352x1024_S1024x1024_S4352x1024_1_0_0_1_n_n none (extf .f32 h bitsLt_bf16_f32) (extf .f32 w bitsLt_bf16_f32) : FVec Ideal S4352x1024 .f32) = product h w := by
  funext j
  pointwise [product]

variable (m : (ℓ : Loc nD τ sig) → Buf (Elt Ideal) ℓ) (ρ : Dev nD → PrngReg) (M : (ℓ : Loc Cert.OutIdeal.nD Cert.OutIdeal.τ Cert.OutIdeal.sig) → Buf (Elt Ideal) ℓ)

/-- The reference's run from the call's arguments: the same product. -/
theorem run_ref (hm : ∀ c : Dev nD,
      m ((c.tc : Thread nD τ).loc main_arg0) = M ((c.tc : Thread nD τ).loc Cert.OutIdeal.main_arg0)
      ∧ m ((c.tc : Thread nD τ).loc main_arg1) = M ((c.tc : Thread nD τ).loc Cert.OutIdeal.main_arg1)) :
    θ_run defs (onTc (τ := τ) (main (F := Ideal))) ⟨m, fun _ => 0, ρ⟩ fun r => ∀ c : Dev nD,
      r.2.mem ((c.tc : Thread nD τ).loc main_v2) = product (M ((c.tc : Thread nD τ).loc Cert.OutIdeal.main_arg0)) (M ((c.tc : Thread nD τ).loc Cert.OutIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e, hargs⟩ := h c
    rw [(hm c).1, (hm c).2, ref_eq] at e
    exact ⟨e, hargs⟩) (Value.run m ρ)

end Reference

end Cert.OutProof

end
-- ==== Proof.Post.lean ====
/-
  The stream's update and its reference. Point `a` of the grid writes rows `256 a … 256 a + 255`, with the gate of the context for `a = 0`
  and of the latent tokens after it.
-/
module

public import proofs.«01_k».proof.Proof.Tiles
public import proofs.«01_k».proof.Proof.Gen.PostIdeal.Value
public import proofs.«01_k».proof.Proof.Gen.PostRefIdeal.Run
public import Idealize.ShloMosaic.Lib.Pointwise

@[expose] public section

noncomputable section

namespace Cert.PostProof

open Idealize.ShloMosaic Idealize.ShloMosaic.TcCoe Idealize.SL.Sem
open Cert.Tiles

/-- The updated stream, element by element. -/
abbrev entry (x o : Vec Ideal PostIdeal.S4352x1024 .f32) (g : Vec Ideal PostIdeal.S1x1024 .f32) (d : Vec Ideal PostIdeal.S2x3x1024 .f32) (s : Fin 2) (r q : Fin 4352) (l : Fin 1024) : EReal :=
  x (ix2 r l) + d (ix3 s 2 l) * (normed 0x44800000#32 (fun k => o (ix2 q k)) l * g (ix2 0 l))
abbrev value (x o : Vec Ideal PostIdeal.S4352x1024 .f32) (g : Vec Ideal PostIdeal.S1x1024 .f32) (d : Vec Ideal PostIdeal.S2x3x1024 .f32) (r : Fin 4352) (l : Fin 1024) : EReal :=
  entry x o g d (seg r) r r l
abbrev post (x o : Vec Ideal PostIdeal.S4352x1024 .f32) (g : Vec Ideal PostIdeal.S1x1024 .f32) (d : Vec Ideal PostIdeal.S2x3x1024 .f32) : Vec Ideal PostIdeal.S4352x1024 .f32 :=
  fun i => value x o g d ⟨(i 0).val, (i 0).isLt⟩ ⟨(i 1).val, (i 1).isLt⟩

section Kernel

open Cert.PostIdeal Cert.PostIdeal.Gen

variable (m : (ℓ : Loc nD τ sig) → Buf (Elt Ideal) ℓ) (ρ : Dev nD → PrngReg) (c : Dev nD)

theorem pay_eq (x o : Vec Ideal S256x1024 .f32) (g : Vec Ideal S1x1024 .f32) (u : Vec Ideal S1x1x1024 .f32) (r : Fin 256) (l : Fin 1024) :
    k0_pay1 (F := Ideal) o x u g (ix2 r l) = x (ix2 r l) + u (ix3 0 0 l) * (normed 0x44800000#32 (fun k => o (ix2 r k)) l * g (ix2 0 l)) := by
  pointwise [k0_pay1]

theorem out_eq (x o : Vec Ideal S256x1024 .f32) (g : Vec Ideal S1x1024 .f32) (d : Vec Ideal S1x3x1024 .f32) (r : Fin 256) (l : Fin 1024) :
    out0_4 (F := Ideal) x o g d (ix2 r l) = x (ix2 r l) + d (ix3 0 2 l) * (normed 0x44800000#32 (fun k => o (ix2 r k)) l * g (ix2 0 l)) := by
  unfold out0_4
  rw [View.canon_unit_zero Rows.zero_zero, View.ld_unit_zero Rows.zero_zero _ x, View.ld_unit_zero Rows.zero_zero _ o, View.ld_unit_zero Rows.zero_zero _ g]
  refine (pay_eq x o g _ r l).trans ?_
  exact congrArg (fun a : EReal => x (ix2 r l) + a * (normed 0x44800000#32 (fun k => o (ix2 r k)) l * g (ix2 0 l))) (load_row d 2 _ l)

theorem facts : ∀ t : Fin cfg0.N, win0_0.index t = ![t.val, 0] ∧ win0_1.index t = ![t.val, 0] ∧ win0_2.index t = ![0, 0]
    ∧ win0_3.index t = ![(if t.val = 0 then 0 else 1 : Fin 2).val, 0, 0] ∧ win0_4.index t = ![t.val, 0] :=
  (by decide +kernel : ∀ t : Fin grid0.N, _)

theorem read0 (t : Fin cfg0.N) : iblk m c 0 t = fun y => m ((c : Thread nD τ).loc main_arg0) (band t.val y (row_le (t.cast N_0))) :=
  funext fun y => congrArg (m ((c : Thread nD τ).loc main_arg0)) (eq_band y _ (row_le (t.cast N_0)) (facts t).1 fun a => Pipeline.Window.rect_emb_val win0_0 t y a)
theorem read1 (t : Fin cfg0.N) : iblk m c 1 t = fun y => m ((c : Thread nD τ).loc main_arg1) (band t.val y (row_le (t.cast N_0))) :=
  funext fun y => congrArg (m ((c : Thread nD τ).loc main_arg1)) (eq_band y _ (row_le (t.cast N_0)) (facts t).2.1 fun a => Pipeline.Window.rect_emb_val win0_1 t y a)
theorem read2 (t : Fin cfg0.N) : iblk m c 2 t = m ((c : Thread nD τ).loc main_arg2) :=
  funext fun y => congrArg (m ((c : Thread nD τ).loc main_arg2)) (eq_whole y _ (facts t).2.2.1 fun a => Pipeline.Window.rect_emb_val win0_2 t y a)
theorem read3 (t : Fin cfg0.N) : iblk m c 3 t = fun y => m ((c : Thread nD τ).loc main_arg3) (ix3 (if t.val = 0 then 0 else 1) ⟨(y 1).val, (y 1).isLt⟩ ⟨(y 2).val, (y 2).isLt⟩) :=
  funext fun y => congrArg (m ((c : Thread nD τ).loc main_arg3)) (eq_slab y _ (if t.val = 0 then 0 else 1 : Fin 2).isLt (facts t).2.2.2.1 fun a => Pipeline.Window.rect_emb_val win0_3 t y a)
theorem emb (t : Fin cfg0.N) (y : S256x1024.Idx) : ((cfg0.win 4).blk t).view.emb y = band t.val y (row_le (t.cast N_0)) :=
  eq_band y _ (row_le (t.cast N_0)) (facts t).2.2.2.2 fun a => Pipeline.Window.rect_emb_val win0_4 t y a

abbrev result : Vec Ideal S4352x1024 .f32 := post (m ((c : Thread nD τ).loc main_arg0)) (m ((c : Thread nD τ).loc main_arg1)) (m ((c : Thread nD τ).loc main_arg2)) (m ((c : Thread nD τ).loc main_arg3))

theorem flushed_eq (t : Fin cfg0.N) : (dats m 0 c).flushed 4 t = ((cfg0.win 4).blk t).view.read (Elt Ideal) (result m c) := by
  refine Eq.trans ?_ (funext fun y => (congrArg (result m c) (emb t y)).symm)
  rw [Value.flushed4]
  refine funext fun y : S256x1024.Idx => ?_
  obtain ⟨r, l, rfl⟩ := exists_ix2 y
  refine (out_eq _ _ _ _ r l).trans ?_
  rw [read0, read1, read2, read3]
  show _ = value _ _ _ _ ⟨t.val * 256 + r.val, _⟩ l
  unfold value
  rw [seg_band t.val r (Nat.lt_of_lt_of_le (Nat.add_lt_add_left r.isLt _) (row_le (t.cast N_0)))]
  rfl

theorem final : (dats m 0 c).arrAt 4 cfg0.N = result m c :=
  (dats m 0 c).arrAt_eq_of_cover 4 (result m c) (fun t _ => flushed_eq m c t) fun i => by
    obtain ⟨t, y, e⟩ := exists_band (p := 17) (r := 256) (by decide) rfl i row_le
    exact ⟨t.cast N_0.symm, flush0_4 _, Finset.mem_map.mpr ⟨y, Finset.mem_univ _, (emb _ y).trans e⟩⟩

omit c in
/-- The call's run: the updated stream, the arguments unchanged. -/
theorem run : θ_run defs (onTc (τ := τ) (main (F := Ideal))) ⟨m, fun _ => 0, ρ⟩ fun r => ∀ c : Dev nD,
      r.2.mem ((c : Thread nD τ).loc main_v0) = post (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Kernel

section Reference

open Cert.PostRefIdeal Cert.PostRefIdeal.Gen

variable (m : (ℓ : Loc nD τ sig) → Buf (Elt Ideal) ℓ) (ρ : Dev nD → PrngReg) (M : (ℓ : Loc Cert.PostIdeal.nD Cert.PostIdeal.τ Cert.PostIdeal.sig) → Buf (Elt Ideal) ℓ)

/-- The reference's run from the call's arguments: the same stream. -/
theorem run_ref (hm : ∀ c : Dev nD,
      m ((c.tc : Thread nD τ).loc main_arg0) = M ((c.tc : Thread nD τ).loc Cert.PostIdeal.main_arg0)
      ∧ m ((c.tc : Thread nD τ).loc main_arg1) = M ((c.tc : Thread nD τ).loc Cert.PostIdeal.main_arg1)
      ∧ m ((c.tc : Thread nD τ).loc main_arg2) = M ((c.tc : Thread nD τ).loc Cert.PostIdeal.main_arg2)
      ∧ m ((c.tc : Thread nD τ).loc main_arg3) = M ((c.tc : Thread nD τ).loc Cert.PostIdeal.main_arg3)) :
    θ_run defs (onTc (τ := τ) (main (F := Ideal))) ⟨m, fun _ => 0, ρ⟩ fun r => ∀ c : Dev nD,
      r.2.mem ((c.tc : Thread nD τ).loc main_v25) = post (M ((c.tc : Thread nD τ).loc Cert.PostIdeal.main_arg0)) (M ((c.tc : Thread nD τ).loc Cert.PostIdeal.main_arg1)) (M ((c.tc : Thread nD τ).loc Cert.PostIdeal.main_arg2)) (M ((c.tc : Thread nD τ).loc Cert.PostIdeal.main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  rw [(hm c).1, (hm c).2.1, (hm c).2.2.1, (hm c).2.2.2]
  generalize M ((c.tc : Thread nD τ).loc Cert.PostIdeal.main_arg0) = x
  generalize M ((c.tc : Thread nD τ).loc Cert.PostIdeal.main_arg1) = o
  generalize M ((c.tc : Thread nD τ).loc Cert.PostIdeal.main_arg2) = g
  generalize M ((c.tc : Thread nD τ).loc Cert.PostIdeal.main_arg3) = d
  refine funext fun j : S4352x1024.Idx => ?_
  obtain ⟨r, l, rfl⟩ := exists_ix2 j
  show _ = value x o g d r l
  unfold value
  by_cases hr : r.val < 256
  · rw [show seg r = 0 from if_pos hr]
    pointwise [hr]
  · rw [show seg r = 1 from if_neg hr]
    pointwise [hr]
    exact congrArg (fun q => entry x o g d 1 r q l) (latent_row r hr (by omega))

end Reference

end Cert.PostProof

end
-- ==== Proof.DwOut.lean ====
/-
  The product that gives the gradient of a layer's output weights, and its reference. Point `k` of the grid adds, to the running sum, what
  rows `1088 k … 1088 k + 1087` of the two factors contribute; the sum is begun at `k = 0` and written back at `k = 3`.
-/
module

public import proofs.«01_k».proof.Proof.Tiles
public import proofs.«01_k».proof.Proof.Gen.DwOutIdeal.Value
public import proofs.«01_k».proof.Proof.Gen.DwOutRefIdeal.Run
public import Idealize.ShloMosaic.Lib.Pointwise
public import Idealize.ShloMosaic.Lib.Pipeline.ValueKit.Acc

@[expose] public section

noncomputable section

namespace Cert.DwOutProof

open Idealize.ShloMosaic Idealize.ShloMosaic.TcCoe Idealize.SL.Sem
open Cert.Tiles

/-- What row `k` of the two factors contributes to element `(r, l)`. -/
abbrev term (h : Vec Ideal DwOutIdeal.S4352x1024 .bf16) (d : Vec Ideal DwOutIdeal.S4352x1024 .bf16) (k : Fin 4352) (r : Fin 1024) (l : Fin 1024) : EReal :=
  (h (ix2 k r) : EReal) * d (ix2 k l)

/-- The product, element by element. -/
abbrev product (h : Vec Ideal DwOutIdeal.S4352x1024 .bf16) (d : Vec Ideal DwOutIdeal.S4352x1024 .bf16) : Vec Ideal DwOutIdeal.S1024x1024 .f32 := fun i =>
  (∑ k : Fin 4352, term h d k ⟨(i 0).val, (i 0).isLt⟩ ⟨(i 1).val, (i 1).isLt⟩ : EReal)

section Kernel

open Cert.DwOutIdeal Cert.DwOutIdeal.Gen

variable (m : (ℓ : Loc nD τ sig) → Buf (Elt Ideal) ℓ) (ρ : Dev nD → PrngReg) (c : Dev nD)

/-- What one pair of blocks contributes. -/
abbrev part (x0 : Vec Ideal S1088x1024 .bf16) (x1 : Vec Ideal S1088x1024 .bf16) (i : S1024x1024.Idx) : EReal :=
  ∑ k : Fin 1088, (x0 (ix2 k ⟨(i 0).val, (i 0).isLt⟩) : EReal) * x1 (ix2 k ⟨(i 1).val, (i 1).isLt⟩)

theorem begin_eq (x0 : Vec Ideal S1088x1024 .bf16) (x1 : Vec Ideal S1088x1024 .bf16) (i : S1024x1024.Idx) : (k0_pay2 x0 x1 i : EReal) = 0 + part x0 x1 i := by
  obtain ⟨r, l, rfl⟩ := exists_ix2 i
  pointwise [k0_pay2, k0_pay1, part, zero_add]
theorem add_eq (x0 : Vec Ideal S1088x1024 .bf16) (x1 : Vec Ideal S1088x1024 .bf16) (a : Vec Ideal S1024x1024 .f32) (i : S1024x1024.Idx) :
    (k0_pay3 x0 x1 a i : EReal) = a i + part x0 x1 i := by
  obtain ⟨r, l, rfl⟩ := exists_ix2 i
  pointwise [k0_pay3, k0_pay1, part, zero_add]

/-- At the last point the running sum has the four contributions, -/
theorem sum_eq (t : Fin cfg0.N) (ht : t.val % 4 = 3) (i : S1024x1024.Idx) :
    ((outsAt0 m c t.val t.isLt).2 i : EReal) = ∑ p : Fin cfg0.N, part (iblk m c 0 p) (iblk m c 1 p) i := by
  have hl : ∀ t : Fin cfg0.N, t.val < 4 := fun t => lt_of_lt_of_eq t.isLt N_0
  have e := Pipeline.eq_sum_fin_of_reset_step_apply_last (M := EReal) (fun n h => (outsAt0 m c n h).2) 4 (fun _ => 0)
    (fun t => part (iblk m c 0 t) (iblk m c 1 t))
    (fun t h j => by have := hl t; rw [outsAt0_A m c t h (by omega) (by omega)]; frame_out; exact begin_eq _ _ j)
    (fun t h j => by
      by_cases h3 : t.val % 4 = 3
      · rw [outsAt0_C m c t h (by omega) h3]; frame_out; exact (add_eq _ _ _ j).trans (congrArg (fun x : EReal => x + _) (congrFun ((Memref.isWhole_whole cc0_scratch0).read_unread _) j))
      · rw [outsAt0_B m c t h (by omega) h3]; frame_out; exact (add_eq _ _ _ j).trans (congrArg (fun x : EReal => x + _) (congrFun ((Memref.isWhole_whole cc0_scratch0).read_unread _) j))) (le_of_eq N_0) t
    ((by have := hl t; omega : t.val + 1 = 4).trans N_0.symm) i
  rwa [zero_add] at e

/-- and it is what the point writes back. -/
theorem out_eq (t : Fin cfg0.N) (ht : t.val % 4 = 3) : (outsAt0 m c t.val t.isLt).1 = (outsAt0 m c t.val t.isLt).2 := by
  rw [outsAt0_C m c t (by omega) (by omega) ht]; frame_out

theorem facts : ∀ t : Fin cfg0.N, win0_0.index t = ![t.val, 0] ∧ win0_1.index t = ![t.val, 0] ∧ win0_2.index t = ![0, 0] :=
  (by decide +kernel : ∀ t : Fin grid0.N, _)

theorem row (t : Fin cfg0.N) : t.val * 1088 + 1088 ≤ 4352 := by
  have h : t.val < 4 := lt_of_lt_of_eq t.isLt N_0
  omega

theorem read0 (t : Fin cfg0.N) : iblk m c 0 t = fun y => m ((c : Thread nD τ).loc main_arg0) (band t.val y (row t)) :=
  funext fun y => congrArg (m ((c : Thread nD τ).loc main_arg0)) (eq_band y _ (row t) (facts t).1 fun a => Pipeline.Window.rect_emb_val win0_0 t y a)
theorem read1 (t : Fin cfg0.N) : iblk m c 1 t = fun y => m ((c : Thread nD τ).loc main_arg1) (band t.val y (row t)) :=
  funext fun y => congrArg (m ((c : Thread nD τ).loc main_arg1)) (eq_band y _ (row t) (facts t).2.1 fun a => Pipeline.Window.rect_emb_val win0_1 t y a)
theorem emb (t : Fin cfg0.N) (y : S1024x1024.Idx) : ((cfg0.win 2).blk t).view.emb y = y :=
  eq_whole y _ (facts t).2.2 fun a => Pipeline.Window.rect_emb_val win0_2 t y a

abbrev result : Vec Ideal S1024x1024 .f32 := product (m ((c : Thread nD τ).loc main_arg0)) (m ((c : Thread nD τ).loc main_arg1))

/-- What one point contributes, of the arrays. -/
theorem part_eq (t : Fin 4) (r l : Fin 1024) : part (iblk m c 0 (t.cast N_0.symm)) (iblk m c 1 (t.cast N_0.symm)) (ix2 r l)
    = ∑ k : Fin 1088, term (m ((c : Thread nD τ).loc main_arg0)) (m ((c : Thread nD τ).loc main_arg1)) ⟨t.val * 1088 + k.val, by omega⟩ r l := by
  rw [read0, read1]
  rfl

theorem flushed_eq (t : Fin cfg0.N) (hf : (cfg0.win 2).flush t = true) : (dats m 0 c).flushed 2 t = ((cfg0.win 2).blk t).view.read (Elt Ideal) (result m c) := by
  have ht : t.val % 4 = 3 := (flush0_2 t).mp hf
  refine Eq.trans ?_ (funext fun y => (congrArg (result m c) (emb t y)).symm)
  rw [Value.flushed2, out_eq m c t ht]
  refine funext fun y : S1024x1024.Idx => ?_
  refine (sum_eq m c t ht y).trans ?_
  obtain ⟨r, l, rfl⟩ := exists_ix2 y
  refine (Equiv.sum_comp (finCongr N_0.symm) _).symm.trans ?_
  refine (Finset.sum_congr rfl fun s _ => part_eq m c s r l).trans ?_
  exact (Fin.sum_univ_tiles 4 1088 rfl fun k : Fin 4352 => term (m ((c : Thread nD τ).loc main_arg0)) (m ((c : Thread nD τ).loc main_arg1)) k r l).symm

theorem final : (dats m 0 c).arrAt 2 cfg0.N = result m c :=
  (dats m 0 c).arrAt_eq_of_cover 2 (result m c) (flushed_eq m c) fun i => (Value.covered_iff2 i).2 ⟨Nat.zero_le _, (i 0).isLt, Nat.zero_le _, (i 1).isLt⟩

omit c in
/-- The call's run: the product, the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((Value.final2 m c).symm.trans (final m c)), (h c).2⟩) (Value.run m ρ)

end Kernel

section Reference

open Cert.DwOutRefIdeal Cert.DwOutRefIdeal.Gen

theorem ref_eq (h : Vec Ideal S4352x1024 .bf16) (d : Vec Ideal S4352x1024 .bf16) :
    (Host.dotGeneral (F := Ideal) (φ₁ := .f32) (φ₂ := .f32) dot_S1024x4352_S4352x1024_S1024x1024_1_0_0_1_n_n none
      (transpose S1024x4352 [1, 0] (extf .f32 h bitsLt_bf16_f32) transposes_S4352x1024_S1024x4352_1_0) (extf .f32 d bitsLt_bf16_f32) : FVec Ideal S1024x1024 .f32) = product h d := by
  funext j
  pointwise [product, term]

variable (m : (ℓ : Loc nD τ sig) → Buf (Elt Ideal) ℓ) (ρ : Dev nD → PrngReg) (M : (ℓ : Loc Cert.DwOutIdeal.nD Cert.DwOutIdeal.τ Cert.DwOutIdeal.sig) → Buf (Elt Ideal) ℓ)

/-- The reference's run from the call's arguments: the same product. -/
theorem run_ref (hm : ∀ c : Dev nD,
      m ((c.tc : Thread nD τ).loc main_arg0) = M ((c.tc : Thread nD τ).loc Cert.DwOutIdeal.main_arg0)
      ∧ m ((c.tc : Thread nD τ).loc main_arg1) = M ((c.tc : Thread nD τ).loc Cert.DwOutIdeal.main_arg1)) :
    θ_run defs (onTc (τ := τ) (main (F := Ideal))) ⟨m, fun _ => 0, ρ⟩ fun r => ∀ c : Dev nD,
      r.2.mem ((c.tc : Thread nD τ).loc main_v3) = product (M ((c.tc : Thread nD τ).loc Cert.DwOutIdeal.main_arg0)) (M ((c.tc : Thread nD τ).loc Cert.DwOutIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e, hargs⟩ := h c
    rw [(hm c).1, (hm c).2, ref_eq] at e
    exact ⟨e, hargs⟩) (Value.run m ρ)

end Reference

end Cert.DwOutProof

end
-- ==== Proof.DwIn.lean ====
/-
  The product that gives the gradient of a layer's combined input weights, and its reference. Point `4 b + k` of the grid adds, to the
  running sum of columns `1024 b … 1024 b + 1023`, what rows `1088 k … 1088 k + 1087` of the two factors contribute; the sum is begun at
  `k = 0` and written back at `k = 3`.
-/
module

public import proofs.«01_k».proof.Proof.Tiles
public import proofs.«01_k».proof.Proof.Gen.DwInIdeal.Value
public import proofs.«01_k».proof.Proof.Gen.DwInRefIdeal.Run
public import Idealize.ShloMosaic.Lib.Pointwise
public import Idealize.ShloMosaic.Lib.Pipeline.ValueKit.Acc

@[expose] public section

noncomputable section

namespace Cert.DwInProof

open Idealize.ShloMosaic Idealize.ShloMosaic.TcCoe Idealize.SL.Sem
open Cert.Tiles

/-- What row `k` of the two factors contributes to element `(r, l)`. -/
abbrev term (h : Vec Ideal DwInIdeal.S4352x1024 .bf16) (d : Vec Ideal DwInIdeal.S4352x13312 .bf16) (k : Fin 4352) (r : Fin 1024) (l : Fin 13312) : EReal :=
  (h (ix2 k r) : EReal) * d (ix2 k l)

/-- The product, element by element. -/
abbrev product (h : Vec Ideal DwInIdeal.S4352x1024 .bf16) (d : Vec Ideal DwInIdeal.S4352x13312 .bf16) : Vec Ideal DwInIdeal.S1024x13312 .f32 := fun i =>
  (∑ k : Fin 4352, term h d k ⟨(i 0).val, (i 0).isLt⟩ ⟨(i 1).val, (i 1).isLt⟩ : EReal)

section Kernel

open Cert.DwInIdeal Cert.DwInIdeal.Gen

variable (m : (ℓ : Loc nD τ sig) → Buf (Elt Ideal) ℓ) (ρ : Dev nD → PrngReg) (c : Dev nD)

/-- What one pair of blocks contributes. -/
abbrev part (x0 : Vec Ideal S1088x1024 .bf16) (x1 : Vec Ideal S1088x1024 .bf16) (i : S1024x1024.Idx) : EReal :=
  ∑ k : Fin 1088, (x0 (ix2 k ⟨(i 0).val, (i 0).isLt⟩) : EReal) * x1 (ix2 k ⟨(i 1).val, (i 1).isLt⟩)

theorem begin_eq (x0 : Vec Ideal S1088x1024 .bf16) (x1 : Vec Ideal S1088x1024 .bf16) (i : S1024x1024.Idx) : (k0_pay2 x0 x1 i : EReal) = 0 + part x0 x1 i := by
  obtain ⟨r, l, rfl⟩ := exists_ix2 i
  pointwise [k0_pay2, k0_pay1, part, zero_add]
theorem add_eq (x0 : Vec Ideal S1088x1024 .bf16) (x1 : Vec Ideal S1088x1024 .bf16) (a : Vec Ideal S1024x1024 .f32) (i : S1024x1024.Idx) :
    (k0_pay3 x0 x1 a i : EReal) = a i + part x0 x1 i := by
  obtain ⟨r, l, rfl⟩ := exists_ix2 i
  pointwise [k0_pay3, k0_pay1, part, zero_add]

/-- The point at place `s` of point `t`'s run of four. -/
abbrev place (t : Fin cfg0.N) (s : Fin 4) : Fin cfg0.N := ⟨4 * (t.val / 4) + s.val, by have h : t.val < 52 := lt_of_lt_of_eq t.isLt N_0; exact lt_of_lt_of_eq (by omega) N_0.symm⟩

/-- At the last point of a run the running sum has the run's four contributions, -/
theorem sum_eq (t : Fin cfg0.N) (ht : t.val % 4 = 3) (i : S1024x1024.Idx) :
    ((outsAt0 m c t.val t.isLt).2 i : EReal) = ∑ s : Fin 4, part (iblk m c 0 (place t s)) (iblk m c 1 (place t s)) i := by
  have e := Pipeline.eq_sum_fin_of_reset_step_apply_of_flush (M := EReal) (fun n h => (outsAt0 m c n h).2) 4 (fun _ => 0)
    (fun t => part (iblk m c 0 t) (iblk m c 1 t))
    (fun t h j => by rw [outsAt0_A m c t h (by omega) (by omega)]; frame_out; exact begin_eq _ _ j)
    (fun t h j => by
      by_cases h3 : t.val % 4 = 3
      · rw [outsAt0_C m c t h (by omega) h3]; frame_out; exact (add_eq _ _ _ j).trans (congrArg (fun x : EReal => x + _) (congrFun ((Memref.isWhole_whole cc0_scratch0).read_unread _) j))
      · rw [outsAt0_B m c t h (by omega) h3]; frame_out; exact (add_eq _ _ _ j).trans (congrArg (fun x : EReal => x + _) (congrFun ((Memref.isWhole_whole cc0_scratch0).read_unread _) j))) t ht i
  rwa [zero_add] at e

/-- and it is what the point writes back. -/
theorem out_eq (t : Fin cfg0.N) (ht : t.val % 4 = 3) : (outsAt0 m c t.val t.isLt).1 = (outsAt0 m c t.val t.isLt).2 := by
  rw [outsAt0_C m c t (by omega) (by omega) ht]; frame_out

theorem facts : ∀ t : Fin cfg0.N, win0_0.index t = ![t.val % 4, 0] ∧ win0_1.index t = ![t.val % 4, t.val / 4] ∧ win0_2.index t = ![0, t.val / 4] :=
  (by decide +kernel : ∀ t : Fin grid0.N, _)

theorem row (t : Fin cfg0.N) : t.val % 4 * 1088 + 1088 ≤ 4352 := by omega
theorem col (t : Fin cfg0.N) : t.val / 4 * 1024 + 1024 ≤ 13312 := by
  have h : t.val < 52 := lt_of_lt_of_eq t.isLt N_0
  omega

theorem read0 (t : Fin cfg0.N) : iblk m c 0 t = fun y => m ((c : Thread nD τ).loc main_arg0) (tile (t.val % 4) 0 y (row t) le_rfl) :=
  funext fun y => congrArg (m ((c : Thread nD τ).loc main_arg0)) (eq_tile y _ (row t) le_rfl (facts t).1 fun a => Pipeline.Window.rect_emb_val win0_0 t y a)
theorem read1 (t : Fin cfg0.N) : iblk m c 1 t = fun y => m ((c : Thread nD τ).loc main_arg1) (tile (t.val % 4) (t.val / 4) y (row t) (col t)) :=
  funext fun y => congrArg (m ((c : Thread nD τ).loc main_arg1)) (eq_tile y _ (row t) (col t) (facts t).2.1 fun a => Pipeline.Window.rect_emb_val win0_1 t y a)
theorem emb (t : Fin cfg0.N) (y : S1024x1024.Idx) : ((cfg0.win 2).blk t).view.emb y = tile 0 (t.val / 4) y le_rfl (col t) :=
  eq_tile y _ le_rfl (col t) (facts t).2.2 fun a => Pipeline.Window.rect_emb_val win0_2 t y a

abbrev result : Vec Ideal S1024x13312 .f32 := product (m ((c : Thread nD τ).loc main_arg0)) (m ((c : Thread nD τ).loc main_arg1))

/-- What one point of a run contributes, of the arrays. -/
theorem part_eq (t : Fin cfg0.N) (s : Fin 4) (r l : Fin 1024) : part (iblk m c 0 (place t s)) (iblk m c 1 (place t s)) (ix2 r l)
    = ∑ k : Fin 1088, term (m ((c : Thread nD τ).loc main_arg0)) (m ((c : Thread nD τ).loc main_arg1)) ⟨s.val * 1088 + k.val, by omega⟩ r ⟨t.val / 4 * 1024 + l.val, by have := col t; omega⟩ := by
  have hm : (4 * (t.val / 4) + s.val) % 4 = s.val := by omega
  have hd : (4 * (t.val / 4) + s.val) / 4 = t.val / 4 := by omega
  rw [read0, read1]
  refine Finset.sum_congr rfl fun k _ => congrArg₂ (fun a b : EReal => a * b) (congrArg _ (Shape.idx_ext₂ ?_ ?_)) (congrArg _ (Shape.idx_ext₂ ?_ ?_))
  · exact congrArg (· * 1088 + k.val) hm
  · exact (congrArg (· + r.val) (Nat.zero_mul 1024)).trans (Nat.zero_add _)
  · exact congrArg (· * 1088 + k.val) hm
  · exact congrArg (· * 1024 + l.val) hd

theorem flushed_eq (t : Fin cfg0.N) (hf : (cfg0.win 2).flush t = true) : (dats m 0 c).flushed 2 t = ((cfg0.win 2).blk t).view.read (Elt Ideal) (result m c) := by
  have ht : t.val % 4 = 3 := (flush0_2 t).mp hf
  refine Eq.trans ?_ (funext fun y => (congrArg (result m c) (emb t y)).symm)
  rw [Value.flushed2, out_eq m c t ht]
  refine funext fun y : S1024x1024.Idx => ?_
  refine (sum_eq m c t ht y).trans ?_
  obtain ⟨r, l, rfl⟩ := exists_ix2 y
  refine (Finset.sum_congr rfl fun s _ => part_eq m c t s r l).trans ?_
  refine (Fin.sum_univ_tiles 4 1088 rfl fun k : Fin 4352 => term (m ((c : Thread nD τ).loc main_arg0)) (m ((c : Thread nD τ).loc main_arg1)) k r ⟨t.val / 4 * 1024 + l.val, by have := col t; omega⟩).symm.trans ?_
  refine Finset.sum_congr rfl fun k _ => congrArg₂ (fun a b : EReal => a * b) (congrArg _ (Shape.idx_ext₂ rfl ?_)) rfl
  exact ((congrArg (· + r.val) (Nat.zero_mul 1024)).trans (Nat.zero_add _)).symm

theorem final : (dats m 0 c).arrAt 2 cfg0.N = result m c :=
  (dats m 0 c).arrAt_eq_of_cover 2 (result m c) (flushed_eq m c) fun i => (Value.covered_iff2 i).2 ⟨Nat.zero_le _, (i 0).isLt, Nat.zero_le _, (i 1).isLt⟩

omit c in
/-- The call's run: the product, the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((Value.final2 m c).symm.trans (final m c)), (h c).2⟩) (Value.run m ρ)

end Kernel

section Reference

open Cert.DwInRefIdeal Cert.DwInRefIdeal.Gen

theorem ref_eq (h : Vec Ideal S4352x1024 .bf16) (d : Vec Ideal S4352x13312 .bf16) :
    (Host.dotGeneral (F := Ideal) (φ₁ := .f32) (φ₂ := .f32) dot_S1024x4352_S4352x13312_S1024x13312_1_0_0_1_n_n none
      (transpose S1024x4352 [1, 0] (extf .f32 h bitsLt_bf16_f32) transposes_S4352x1024_S1024x4352_1_0) (extf .f32 d bitsLt_bf16_f32) : FVec Ideal S1024x13312 .f32) = product h d := by
  funext j
  pointwise [product, term]

variable (m : (ℓ : Loc nD τ sig) → Buf (Elt Ideal) ℓ) (ρ : Dev nD → PrngReg) (M : (ℓ : Loc Cert.DwInIdeal.nD Cert.DwInIdeal.τ Cert.DwInIdeal.sig) → Buf (Elt Ideal) ℓ)

/-- The reference's run from the call's arguments: the same product. -/
theorem run_ref (hm : ∀ c : Dev nD,
      m ((c.tc : Thread nD τ).loc main_arg0) = M ((c.tc : Thread nD τ).loc Cert.DwInIdeal.main_arg0)
      ∧ m ((c.tc : Thread nD τ).loc main_arg1) = M ((c.tc : Thread nD τ).loc Cert.DwInIdeal.main_arg1)) :
    θ_run defs (onTc (τ := τ) (main (F := Ideal))) ⟨m, fun _ => 0, ρ⟩ fun r => ∀ c : Dev nD,
      r.2.mem ((c.tc : Thread nD τ).loc main_v3) = product (M ((c.tc : Thread nD τ).loc Cert.DwInIdeal.main_arg0)) (M ((c.tc : Thread nD τ).loc Cert.DwInIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e, hargs⟩ := h c
    rw [(hm c).1, (hm c).2, ref_eq] at e
    exact ⟨e, hargs⟩) (Value.run m ρ)

end Reference

end Cert.DwInProof

end
-- ==== Proof.Dm.lean ====
/-
  The gradient of the merged branches, a product by the transposed weight, and its reference. Point `a` of the grid writes rows
  `1088 a … 1088 a + 1087` of the product.
-/
module

public import proofs.«01_k».proof.Proof.Tiles
public import proofs.«01_k».proof.Proof.Gen.DmIdeal.Value
public import proofs.«01_k».proof.Proof.Gen.DmRefIdeal.Run
public import Idealize.ShloMosaic.Lib.Pointwise

@[expose] public section

noncomputable section

namespace Cert.DmProof

open Idealize.ShloMosaic Idealize.ShloMosaic.TcCoe Idealize.SL.Sem
open Cert.Tiles

/-- The product by the transposed weight, element by element. -/
abbrev product (h : Vec Ideal DmIdeal.S4352x1024 .bf16) (w : Vec Ideal DmIdeal.S1024x1024 .bf16) : Vec Ideal DmIdeal.S4352x1024 .f32 := fun i =>
  (∑ k : Fin 1024, (h (ix2 ⟨(i 0).val, (i 0).isLt⟩ k) : EReal) * w (ix2 ⟨(i 1).val, (i 1).isLt⟩ k) : EReal)

section Kernel

open Cert.DmIdeal Cert.DmIdeal.Gen

variable (m : (ℓ : Loc nD τ sig) → Buf (Elt Ideal) ℓ) (ρ : Dev nD → PrngReg) (c : Dev nD)

theorem out_eq (x0 : Vec Ideal S1088x1024 .bf16) (x1 : Vec Ideal S1024x1024 .bf16) (r : Fin 1088) (l : Fin 1024) :
    out0_2 (F := Ideal) x0 x1 (ix2 r l) = (∑ k : Fin 1024, (x0 (ix2 r k) : EReal) * x1 (ix2 l k) : EReal) := by
  unfold out0_2
  rw [View.canon_unit_zero Rows.zero_zero, View.ld_unit_zero Rows.zero_zero _ x0, View.ld_unit_zero Rows.zero_zero _ x1]
  pointwise [k0_pay1]

theorem facts : ∀ t : Fin cfg0.N, win0_0.index t = ![t.val, 0] ∧ win0_1.index t = ![0, 0] ∧ win0_2.index t = ![t.val, 0] :=
  (by decide +kernel : ∀ t : Fin grid0.N, _)

theorem row (t : Fin 4) : t.val * 1088 + 1088 ≤ 4352 := by omega

theorem read0 (t : Fin cfg0.N) : iblk m c 0 t = fun y => m ((c : Thread nD τ).loc main_arg0) (band t.val y (row (t.cast N_0))) :=
  funext fun y => congrArg (m ((c : Thread nD τ).loc main_arg0)) (eq_band y _ (row (t.cast N_0)) (facts t).1 fun a => Pipeline.Window.rect_emb_val win0_0 t y a)
theorem read1 (t : Fin cfg0.N) : iblk m c 1 t = m ((c : Thread nD τ).loc main_arg1) :=
  funext fun y => congrArg (m ((c : Thread nD τ).loc main_arg1)) (eq_whole y _ (facts t).2.1 fun a => Pipeline.Window.rect_emb_val win0_1 t y a)
theorem emb (t : Fin cfg0.N) (y : S1088x1024.Idx) : ((cfg0.win 2).blk t).view.emb y = band t.val y (row (t.cast N_0)) :=
  eq_band y _ (row (t.cast N_0)) (facts t).2.2 fun a => Pipeline.Window.rect_emb_val win0_2 t y a

abbrev result : Vec Ideal S4352x1024 .f32 := product (m ((c : Thread nD τ).loc main_arg0)) (m ((c : Thread nD τ).loc main_arg1))

theorem flushed_eq (t : Fin cfg0.N) : (dats m 0 c).flushed 2 t = ((cfg0.win 2).blk t).view.read (Elt Ideal) (result m c) := by
  refine Eq.trans ?_ (funext fun y => (congrArg (result m c) (emb t y)).symm)
  rw [Value.flushed2]
  refine funext fun y : S1088x1024.Idx => ?_
  obtain ⟨r, l, rfl⟩ := exists_ix2 y
  refine (out_eq _ _ r l).trans ?_
  rw [read0, read1]
  rfl

theorem final : (dats m 0 c).arrAt 2 cfg0.N = result m c :=
  (dats m 0 c).arrAt_eq_of_cover 2 (result m c) (fun t _ => flushed_eq m c t) fun i => by
    obtain ⟨t, y, e⟩ := exists_band (p := 4) (r := 1088) (by decide) rfl i row
    exact ⟨t.cast N_0.symm, flush0_2 _, Finset.mem_map.mpr ⟨y, Finset.mem_univ _, (emb _ y).trans e⟩⟩

omit c in
/-- The call's run: the product, the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Kernel

section Reference

open Cert.DmRefIdeal Cert.DmRefIdeal.Gen

theorem ref_eq (h : Vec Ideal S4352x1024 .bf16) (w : Vec Ideal S1024x1024 .bf16) :
    (Host.dotGeneral (F := Ideal) (φ₁ := .f32) (φ₂ := .f32) dot_S4352x1024_S1024x1024_S4352x1024_1_0_0_1_n_n none (extf .f32 h bitsLt_bf16_f32) (transpose S1024x1024 [1, 0] (extf .f32 w bitsLt_bf16_f32) transposes_S1024x1024_S1024x1024_1_0) : FVec Ideal S4352x1024 .f32) = product h w := by
  funext j
  pointwise [product]

variable (m : (ℓ : Loc nD τ sig) → Buf (Elt Ideal) ℓ) (ρ : Dev nD → PrngReg) (M : (ℓ : Loc Cert.DmIdeal.nD Cert.DmIdeal.τ Cert.DmIdeal.sig) → Buf (Elt Ideal) ℓ)

/-- The reference's run from the call's arguments: the same product. -/
theorem run_ref (hm : ∀ c : Dev nD,
      m ((c.tc : Thread nD τ).loc main_arg0) = M ((c.tc : Thread nD τ).loc Cert.DmIdeal.main_arg0)
      ∧ m ((c.tc : Thread nD τ).loc main_arg1) = M ((c.tc : Thread nD τ).loc Cert.DmIdeal.main_arg1)) :
    θ_run defs (onTc (τ := τ) (main (F := Ideal))) ⟨m, fun _ => 0, ρ⟩ fun r => ∀ c : Dev nD,
      r.2.mem ((c.tc : Thread nD τ).loc main_v3) = product (M ((c.tc : Thread nD τ).loc Cert.DmIdeal.main_arg0)) (M ((c.tc : Thread nD τ).loc Cert.DmIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e, hargs⟩ := h c
    rw [(hm c).1, (hm c).2, ref_eq] at e
    exact ⟨e, hargs⟩) (Value.run m ρ)

end Reference

end Cert.DmProof

end
-- ==== Proof.Dh.lean ====
/-
  The product that takes the combined gradient back through the input weights, and its reference. Point `13 a + k` of the grid adds, to the
  running sum of rows `1088 a … 1088 a + 1087`, what columns `1024 k … 1024 k + 1023` of the two factors contribute; the sum is begun at
  `k = 0` and written back at `k = 12`.
-/
module

public import proofs.«01_k».proof.Proof.Tiles
public import proofs.«01_k».proof.Proof.Gen.DhIdeal.Value
public import proofs.«01_k».proof.Proof.Gen.DhRefIdeal.Run
public import Idealize.ShloMosaic.Lib.Pointwise
public import Idealize.ShloMosaic.Lib.Pipeline.ValueKit.Acc

@[expose] public section

noncomputable section

namespace Cert.DhProof

open Idealize.ShloMosaic Idealize.ShloMosaic.TcCoe Idealize.SL.Sem
open Cert.Tiles

/-- What column `k` of the two factors contributes to element `(r, l)`. -/
abbrev term (d : Vec Ideal DhIdeal.S4352x13312 .bf16) (w : Vec Ideal DhIdeal.S1024x13312 .bf16) (k : Fin 13312) (r : Fin 4352) (l : Fin 1024) : EReal :=
  (d (ix2 r k) : EReal) * w (ix2 l k)

/-- The product, element by element. -/
abbrev product (d : Vec Ideal DhIdeal.S4352x13312 .bf16) (w : Vec Ideal DhIdeal.S1024x13312 .bf16) : Vec Ideal DhIdeal.S4352x1024 .f32 := fun i =>
  (∑ k : Fin 13312, term d w k ⟨(i 0).val, (i 0).isLt⟩ ⟨(i 1).val, (i 1).isLt⟩ : EReal)

section Kernel

open Cert.DhIdeal Cert.DhIdeal.Gen

variable (m : (ℓ : Loc nD τ sig) → Buf (Elt Ideal) ℓ) (ρ : Dev nD → PrngReg) (c : Dev nD)

/-- What one pair of blocks contributes. -/
abbrev part (x0 : Vec Ideal S1088x1024 .bf16) (x1 : Vec Ideal S1024x1024 .bf16) (i : S1088x1024.Idx) : EReal :=
  ∑ k : Fin 1024, (x0 (ix2 ⟨(i 0).val, (i 0).isLt⟩ k) : EReal) * x1 (ix2 ⟨(i 1).val, (i 1).isLt⟩ k)

theorem begin_eq (x0 : Vec Ideal S1088x1024 .bf16) (x1 : Vec Ideal S1024x1024 .bf16) (i : S1088x1024.Idx) : (k0_pay2 x0 x1 i : EReal) = 0 + part x0 x1 i := by
  obtain ⟨r, l, rfl⟩ := exists_ix2 i
  pointwise [k0_pay2, k0_pay1, part, zero_add]
theorem add_eq (x0 : Vec Ideal S1088x1024 .bf16) (x1 : Vec Ideal S1024x1024 .bf16) (a : Vec Ideal S1088x1024 .f32) (i : S1088x1024.Idx) :
    (k0_pay3 x0 x1 a i : EReal) = a i + part x0 x1 i := by
  obtain ⟨r, l, rfl⟩ := exists_ix2 i
  pointwise [k0_pay3, k0_pay1, part, zero_add]

/-- The point at place `s` of point `t`'s run of thirteen. -/
abbrev place (t : Fin cfg0.N) (s : Fin 13) : Fin cfg0.N := ⟨13 * (t.val / 13) + s.val, by have h : t.val < 52 := lt_of_lt_of_eq t.isLt N_0; exact lt_of_lt_of_eq (by omega) N_0.symm⟩

/-- At the last point of a run the running sum has the run's thirteen contributions, -/
theorem sum_eq (t : Fin cfg0.N) (ht : t.val % 13 = 12) (i : S1088x1024.Idx) :
    ((outsAt0 m c t.val t.isLt).2 i : EReal) = ∑ s : Fin 13, part (iblk m c 0 (place t s)) (iblk m c 1 (place t s)) i := by
  have e := Pipeline.eq_sum_fin_of_reset_step_apply_of_flush (M := EReal) (fun n h => (outsAt0 m c n h).2) 13 (fun _ => 0)
    (fun t => part (iblk m c 0 t) (iblk m c 1 t))
    (fun t h j => by rw [outsAt0_A m c t h (by omega) (by omega)]; frame_out; exact begin_eq _ _ j)
    (fun t h j => by
      by_cases h3 : t.val % 13 = 12
      · rw [outsAt0_C m c t h (by omega) h3]; frame_out; exact (add_eq _ _ _ j).trans (congrArg (fun x : EReal => x + _) (congrFun ((Memref.isWhole_whole cc0_scratch0).read_unread _) j))
      · rw [outsAt0_B m c t h (by omega) h3]; frame_out; exact (add_eq _ _ _ j).trans (congrArg (fun x : EReal => x + _) (congrFun ((Memref.isWhole_whole cc0_scratch0).read_unread _) j))) t ht i
  rwa [zero_add] at e

/-- and it is what the point writes back. -/
theorem out_eq (t : Fin cfg0.N) (ht : t.val % 13 = 12) : (outsAt0 m c t.val t.isLt).1 = (outsAt0 m c t.val t.isLt).2 := by
  rw [outsAt0_C m c t (by omega) (by omega) ht]; frame_out

theorem facts : ∀ t : Fin cfg0.N, win0_0.index t = ![t.val / 13, t.val % 13] ∧ win0_1.index t = ![0, t.val % 13] ∧ win0_2.index t = ![t.val / 13, 0] :=
  (by decide +kernel : ∀ t : Fin grid0.N, _)

theorem row (t : Fin cfg0.N) : t.val / 13 * 1088 + 1088 ≤ 4352 := by
  have h : t.val < 52 := lt_of_lt_of_eq t.isLt N_0
  omega
theorem col (t : Fin cfg0.N) : t.val % 13 * 1024 + 1024 ≤ 13312 := by omega

theorem read0 (t : Fin cfg0.N) : iblk m c 0 t = fun y => m ((c : Thread nD τ).loc main_arg0) (tile (t.val / 13) (t.val % 13) y (row t) (col t)) :=
  funext fun y => congrArg (m ((c : Thread nD τ).loc main_arg0)) (eq_tile y _ (row t) (col t) (facts t).1 fun a => Pipeline.Window.rect_emb_val win0_0 t y a)
theorem read1 (t : Fin cfg0.N) : iblk m c 1 t = fun y => m ((c : Thread nD τ).loc main_arg1) (tile 0 (t.val % 13) y le_rfl (col t)) :=
  funext fun y => congrArg (m ((c : Thread nD τ).loc main_arg1)) (eq_tile y _ le_rfl (col t) (facts t).2.1 fun a => Pipeline.Window.rect_emb_val win0_1 t y a)
theorem emb (t : Fin cfg0.N) (y : S1088x1024.Idx) : ((cfg0.win 2).blk t).view.emb y = band (t.val / 13) y (row t) :=
  eq_band y _ (row t) (facts t).2.2 fun a => Pipeline.Window.rect_emb_val win0_2 t y a

theorem read_out (t : Fin cfg0.N) (f : Vec Ideal S4352x1024 .f32) : ((cfg0.win 2).blk t).view.read (Elt Ideal) f = fun y : S1088x1024.Idx => f (band (t.val / 13) y (row t)) :=
  funext fun y => congrArg f (emb t y)

abbrev result : Vec Ideal S4352x1024 .f32 := product (m ((c : Thread nD τ).loc main_arg0)) (m ((c : Thread nD τ).loc main_arg1))

/-- What one point of a run contributes, of the arrays. -/
theorem part_eq (t : Fin cfg0.N) (s : Fin 13) (r : Fin 1088) (l : Fin 1024) : part (iblk m c 0 (place t s)) (iblk m c 1 (place t s)) (ix2 r l)
    = ∑ k : Fin 1024, term (m ((c : Thread nD τ).loc main_arg0)) (m ((c : Thread nD τ).loc main_arg1)) ⟨s.val * 1024 + k.val, by omega⟩
        ⟨t.val / 13 * 1088 + r.val, by have := row t; omega⟩ l := by
  have hm : (13 * (t.val / 13) + s.val) % 13 = s.val := by omega
  have hd : (13 * (t.val / 13) + s.val) / 13 = t.val / 13 := by omega
  rw [read0, read1]
  refine Finset.sum_congr rfl fun k _ => congrArg₂ (fun a b : EReal => a * b) (congrArg _ (Shape.idx_ext₂ ?_ ?_)) (congrArg _ (Shape.idx_ext₂ ?_ ?_))
  · exact congrArg (· * 1088 + r.val) hd
  · exact congrArg (· * 1024 + k.val) hm
  · exact (congrArg (· + l.val) (Nat.zero_mul 1024)).trans (Nat.zero_add _)
  · exact congrArg (· * 1024 + k.val) hm

theorem flushed_eq (t : Fin cfg0.N) (hf : (cfg0.win 2).flush t = true) : (dats m 0 c).flushed 2 t = ((cfg0.win 2).blk t).view.read (Elt Ideal) (result m c) := by
  have ht : t.val % 13 = 12 := (flush0_2 t).mp hf
  refine Eq.trans ?_ (read_out t (result m c)).symm
  rw [Value.flushed2, out_eq m c t ht]
  refine funext fun y : S1088x1024.Idx => ?_
  refine (sum_eq m c t ht y).trans ?_
  obtain ⟨r, l, rfl⟩ := exists_ix2 y
  refine (Finset.sum_congr rfl fun s _ => part_eq m c t s r l).trans ?_
  exact (Fin.sum_univ_tiles 13 1024 rfl fun k : Fin 13312 => term (m ((c : Thread nD τ).loc main_arg0)) (m ((c : Thread nD τ).loc main_arg1)) k
    ⟨t.val / 13 * 1088 + r.val, by have := row t; omega⟩ l).symm

theorem final : (dats m 0 c).arrAt 2 cfg0.N = result m c :=
  (dats m 0 c).arrAt_eq_of_cover 2 (result m c) (flushed_eq m c) fun i => (Value.covered_iff2 i).2 ⟨Nat.zero_le _, (i 0).isLt, Nat.zero_le _, (i 1).isLt⟩

omit c in
/-- The call's run: the product, the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((Value.final2 m c).symm.trans (final m c)), (h c).2⟩) (Value.run m ρ)

end Kernel

section Reference

open Cert.DhRefIdeal Cert.DhRefIdeal.Gen

theorem ref_eq (d : Vec Ideal S4352x13312 .bf16) (w : Vec Ideal S1024x13312 .bf16) :
    (Host.dotGeneral (F := Ideal) (φ₁ := .f32) (φ₂ := .f32) dot_S4352x13312_S13312x1024_S4352x1024_1_0_0_1_n_n none (extf .f32 d bitsLt_bf16_f32)
      (transpose S13312x1024 [1, 0] (extf .f32 w bitsLt_bf16_f32) transposes_S1024x13312_S13312x1024_1_0) : FVec Ideal S4352x1024 .f32) = product d w := by
  funext j
  pointwise [product, term]

variable (m : (ℓ : Loc nD τ sig) → Buf (Elt Ideal) ℓ) (ρ : Dev nD → PrngReg) (M : (ℓ : Loc Cert.DhIdeal.nD Cert.DhIdeal.τ Cert.DhIdeal.sig) → Buf (Elt Ideal) ℓ)

/-- The reference's run from the call's arguments: the same product. -/
theorem run_ref (hm : ∀ c : Dev nD,
      m ((c.tc : Thread nD τ).loc main_arg0) = M ((c.tc : Thread nD τ).loc Cert.DhIdeal.main_arg0)
      ∧ m ((c.tc : Thread nD τ).loc main_arg1) = M ((c.tc : Thread nD τ).loc Cert.DhIdeal.main_arg1)) :
    θ_run defs (onTc (τ := τ) (main (F := Ideal))) ⟨m, fun _ => 0, ρ⟩ fun r => ∀ c : Dev nD,
      r.2.mem ((c.tc : Thread nD τ).loc main_v3) = product (M ((c.tc : Thread nD τ).loc Cert.DhIdeal.main_arg0)) (M ((c.tc : Thread nD τ).loc Cert.DhIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨e, hargs⟩ := h c
    rw [(hm c).1, (hm c).2, ref_eq] at e
    exact ⟨e, hargs⟩) (Value.run m ρ)

end Reference

end Cert.DhProof

end
-- ==== Proof.OneShot.lean ====
/-
  Semaphores that count one copy each.

  Every device has the same semaphores, indexed by `K`. Each is credited by exactly one copy, for the amount `amt k`,
  and waited on exactly once, by the device it belongs to; the wait hands the waiter `pay c k`, what the copy delivered.
  A `Plan` is such a table of amounts and deliveries. This module turns a plan into a schedule of the rounds
  library and gives the three steps a kernel takes under it: a local copy, a copy to another device, a wait.
-/
module

public import Idealize.ShloMosaic.Lib.Pipeline.Launch
public import Idealize.ShloMosaic.Lib.Pipeline.Kit
public import Idealize.ShloMosaic.Lib.Tactic

@[expose] public section

noncomputable section

namespace Cert.OneShot

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U]

local notation "𝕄" => MT nD τ sig Unit Val ℕ U ℕ

variable (nD τ sig Val U) in
/-- Per semaphore index: the semaphore, the amount its one copy credits, and what the wait on it hands device `c`. -/
structure Plan (K : Type) where
  sem : K → SemLoc sig
  sem_inj : Function.Injective sem
  amt : K → ℕ
  amt_pos : ∀ k, 0 < amt k
  pay : Dev nD → K → sProp (MT nD τ sig Unit Val ℕ U ℕ)
  pay_storable : ∀ c k, BI.Storable (upEmb : UEmb _ (MT nD τ sig Unit Val ℕ U ℕ)) (pay c k)

/-- One conjunct of a family taken out. -/
theorem take_out {M : Type} [URA M] {I : Type} [DecidableEq I] {s : Finset I} {i : I} (h : i ∈ s) (Φ : I → sProp M) :
    bigSep s Φ = iprop(Φ i ∗ bigSep (s.erase i) Φ) := BI.bigSep_erase h

/-- A family in stages: `Φ` at the first `n` indices, `Ψ` at the others. -/
def stages {M : Type} [URA M] {N : ℕ} (n : ℕ) (Φ Ψ : Fin N → sProp M) : sProp M := bigSep Finset.univ fun r => if r.val < n then Φ r else Ψ r

section Stages

variable {M : Type} [URA M] {N : ℕ} (Φ Ψ : Fin N → sProp M)

theorem stages_none : stages 0 Φ Ψ = bigSep Finset.univ Ψ := bigSep_congr fun _ _ => if_neg (Nat.not_lt_zero _)
theorem stages_all : stages N Φ Ψ = bigSep Finset.univ Φ := bigSep_congr fun r _ => if_pos r.isLt

theorem stages_at (r : Fin N) : stages r.val Φ Ψ = iprop(Ψ r ∗ bigSep (Finset.univ.erase r) fun s => if s.val < r.val then Φ s else Ψ s) := by
  unfold stages; rw [take_out (Finset.mem_univ r), if_neg (lt_irrefl _)]
theorem stages_past (r : Fin N) : stages (r.val + 1) Φ Ψ = iprop(Φ r ∗ bigSep (Finset.univ.erase r) fun s => if s.val < r.val then Φ s else Ψ s) := by
  unfold stages; rw [take_out (Finset.mem_univ r), if_pos (Nat.lt_succ_self _)]
  refine congrArg _ (bigSep_congr fun s hs => ?_)
  have hne : s.val ≠ r.val := fun h => Finset.ne_of_mem_erase hs (Fin.ext h)
  have h : (s.val < r.val + 1) = (s.val < r.val) := propext ⟨fun h => by omega, fun h => by omega⟩
  simp only [h]

end Stages

namespace Plan

variable {K : Type} (Pl : Plan nD τ sig Val U K)

/-- Semaphore `k` of device `c`. -/
abbrev cell (ck : Dev nD × K) : GSem nD τ sig := ((ck.1.tc : Thread nD τ), Pl.sem ck.2)

theorem cell_inj : Function.Injective Pl.cell := by
  rintro ⟨c, k⟩ ⟨c', k'⟩ h
  have h1 : c = c' := congrArg (fun g : GSem nD τ sig => g.1.1) h
  have h2 : k = k' := Pl.sem_inj (congrArg Prod.snd h)
  rw [h1, h2]

/-- The schedule: one duty on each cell, in round 0. -/
def sched : Schedule (GSem nD τ sig) Unit 𝕄 where
  duties g r := open Classical in if r = 0 ∧ ∃ ck, Pl.cell ck = g then {()} else ∅
  unitless _ := False
  amount g _ _ := Function.extend Pl.cell (fun ck => Pl.amt ck.2) (fun _ => 1) g
  payload g _ _ := Function.extend Pl.cell (fun ck => Pl.pay ck.1 ck.2) (fun _ => iprop(emp)) g
  amount_pos g _ _ _ := by
    by_cases h : ∃ ck, Pl.cell ck = g
    · obtain ⟨ck, rfl⟩ := h
      rw [Pl.cell_inj.extend_apply]; exact Pl.amt_pos _
    · rw [Function.extend_apply' _ _ _ h]; exact Nat.one_pos

instance payload_storable (g : GSem nD τ sig) (r : ℕ) (d : Unit) : BI.Storable (upEmb : UEmb _ 𝕄) (Pl.sched.payload g r d) := by
  show BI.Storable upEmb (Function.extend Pl.cell (fun ck => Pl.pay ck.1 ck.2) (fun _ => iprop(emp)) g)
  by_cases h : ∃ ck, Pl.cell ck = g
  · obtain ⟨ck, rfl⟩ := h
    rw [Pl.cell_inj.extend_apply]; exact Pl.pay_storable _ _
  · rw [Function.extend_apply' _ _ _ h]; infer_instance

theorem duties_zero (ck : Dev nD × K) : Pl.sched.duties (Pl.cell ck) 0 = {()} := if_pos ⟨rfl, ck, rfl⟩
theorem duties_later (g : GSem nD τ sig) (r : ℕ) (hr : 1 ≤ r) : Pl.sched.duties g r = ∅ := if_neg fun h => by omega
theorem mem_duties (ck : Dev nD × K) : () ∈ Pl.sched.duties (Pl.cell ck) 0 := by rw [duties_zero]; exact Finset.mem_singleton_self _
theorem amount_eq (ck : Dev nD × K) (r : ℕ) (d : Unit) : Pl.sched.amount (Pl.cell ck) r d = Pl.amt ck.2 :=
  Pl.cell_inj.extend_apply (fun ck => Pl.amt ck.2) (fun _ => 1) ck
theorem payload_eq (ck : Dev nD × K) (r : ℕ) (d : Unit) : Pl.sched.payload (Pl.cell ck) r d = Pl.pay ck.1 ck.2 :=
  Pl.cell_inj.extend_apply (fun ck => Pl.pay ck.1 ck.2) (fun _ => iprop(emp)) ck
theorem expect_eq (ck : Dev nD × K) : Pl.sched.expect (Pl.cell ck) 0 = Pl.amt ck.2 := by
  unfold Schedule.expect Schedule.amountOf; rw [duties_zero, Finset.sum_singleton, amount_eq]
theorem rest_eq (ck : Dev nD × K) : bigSep (Pl.sched.duties (Pl.cell ck) 0 \ ∅) (fun u => Pl.sched.payload (Pl.cell ck) 0 u) = Pl.pay ck.1 ck.2 := by
  rw [Finset.sdiff_empty, duties_zero, bigSep_singleton, payload_eq]

variable (E : Emb (URounds (GSem nD τ sig) Unit) (MT nD τ sig Unit Val ℕ U ℕ))

/-- The right to make the one copy that credits a cell. -/
def tok (ck : Dev nD × K) : sProp 𝕄 := dutyTok E (Pl.cell ck) 0 ()
/-- The right to wait on a cell. -/
def pos (ck : Dev nD × K) : sProp 𝕄 := atPos E (Pl.cell ck) 0 ∅ 0
/-- The promise that the copy crediting a cell is made. -/
def due (ck : Dev nD × K) : sProp 𝕄 := cred (tallyAt (Pl.cell ck) () (Pl.amt ck.2))

variable [Fintype K]

/-- What every device knows of every cell: its invariant, and that its round has begun. -/
def records (κ : Dev nD × K → ℕ) : sProp 𝕄 :=
  iprop((bigSep Finset.univ fun ck => cellInv E Pl.sched (κ ck) (Pl.cell ck)) ∗ bigSep Finset.univ fun ck => reached E (Pl.cell ck) 0)

instance records_persistent (κ : Dev nD × K → ℕ) : BI.Persistent (Pl.records E κ) := by unfold records; infer_instance

theorem records_inv (κ : Dev nD × K → ℕ) (ck : Dev nD × K) : Pl.records E κ ⊢ cellInv E Pl.sched (κ ck) (Pl.cell ck) := by
  classical
  have h : (bigSep Finset.univ fun ck => cellInv E Pl.sched (κ ck) (Pl.cell ck)) ⊢ (cellInv E Pl.sched (κ ck) (Pl.cell ck) : sProp 𝕄) :=
    BI.bigSep_elim (Finset.mem_univ ck)
  unfold records
  iintro ⟨H, -⟩
  iapply h; iexact H
theorem records_reached (κ : Dev nD × K → ℕ) (ck : Dev nD × K) : Pl.records E κ ⊢ reached E (Pl.cell ck) 0 := by
  classical
  have h : (bigSep Finset.univ fun ck => reached E (Pl.cell ck) 0) ⊢ (reached E (Pl.cell ck) 0 : sProp 𝕄) := BI.bigSep_elim (Finset.mem_univ ck)
  unfold records
  iintro ⟨-, H⟩
  iapply h; iexact H

/-! ## The launch -/

/-- All cells. -/
def cells : Finset (GSem nD τ sig) := Finset.univ.map ⟨Pl.cell, Pl.cell_inj⟩
/-- All rights to copy. -/
def toks : Finset (GSem nD τ sig × ℕ × Unit) :=
  Finset.univ.map ⟨fun ck => (Pl.cell ck, 0, ()), fun _ _ h => Pl.cell_inj (congrArg Prod.fst h)⟩

/-- At the launch, every device's semaphores at zero and the ghost state of the plan make the records and each
    cell's two rights. -/
theorem opened [E.LandsIn (upEmb : UEmb _ 𝕄)] :
    iprop((bigSep Finset.univ fun c : Dev nD => Pipeline.ownSems0 (Ix := Unit) (Name := ℕ) (U := U) (Lvl := ℕ) (Val := Val) (τ := τ) Pl.sem c)
        ∗ BI.own (E (initOf Pl.cells Pl.toks)))
      ⊢ (|={Set.univ}=> iprop(∃ κ, Pl.records E κ ∗ (bigSep Finset.univ fun ck => Pl.pos E ck) ∗ bigSep Finset.univ fun ck => Pl.tok E ck) : sProp 𝕄) := by
  classical
  have hX (Φ : GSem nD τ sig → sProp 𝕄) : bigSep Pl.cells Φ = bigSep Finset.univ fun ck => Φ (Pl.cell ck) := by
    unfold cells; rw [bigSep_map]; rfl
  have hT : bigSep Pl.toks (fun x => (dutyTok E x.1 x.2.1 x.2.2 : sProp 𝕄)) = bigSep Finset.univ fun ck => Pl.tok E ck := by
    unfold toks; rw [bigSep_map]; rfl
  have hS : (bigSep Finset.univ fun c : Dev nD => (Pipeline.ownSems0 (Ix := Unit) (Name := ℕ) (U := U) (Lvl := ℕ) (Val := Val) (τ := τ) Pl.sem c : sProp 𝕄))
      = bigSep Finset.univ fun ck => semVal (Pl.cell ck) 0 := by rw [bigSep_univ_prod]; rfl
  have hI : iprop((bigSep Finset.univ fun ck => semVal (Pl.cell ck) 0) ∗ bigSep Finset.univ fun ck => roundState E Pl.sched (Pl.cell ck) 0)
      ⊢ (|={Set.univ}=> bigSep Finset.univ fun ck => iprop(∃ κ : ℕ, cellInv E Pl.sched κ (Pl.cell ck)) : sProp 𝕄) := by
    rw [← bigSep_sep']
    exact (bigSep_mono fun ck _ => (Rounds.body_intro E Pl.sched (Pl.cell ck)).trans inv_alloc).trans (bigSep_fupd _ _)
  rw [hS]
  iintro ⟨Hv, Hu⟩
  imod (Rounds.fund E Pl.sched Pl.cells Pl.toks) $$ Hu with ⟨Hst, Hr, Hat, Htok⟩
  ihave Hst := (Entails.of_eq (hX fun g => roundState E Pl.sched g 0)) $$ Hst
  ihave Hr := (Entails.of_eq (hX fun g => reached E g 0)) $$ Hr
  ihave Hat := (Entails.of_eq (hX fun g => atPos E g 0 ∅ 0)) $$ Hat
  ihave Htok := (Entails.of_eq hT) $$ Htok
  imod hI $$ [Hv Hst] with HI
  · isplitl [Hv] <;> iassumption
  ihave HK := (BI.bigSep_exists_pi Finset.univ (fun (ck : Dev nD × K) (κ : ℕ) => (cellInv E Pl.sched κ (Pl.cell ck) : sProp 𝕄))) $$ HI
  icases HK with ⟨%κ, HI⟩
  imodintro
  iexists κ
  unfold records pos
  isplitl [HI Hr]
  · isplitl [HI] <;> iassumption
  isplitl [Hat] <;> iassumption

/-! ## The steps -/

variable {Λ : Labels} (defs : Defs nD τ sig Val Λ) (𝒱 : Variants) (c : Dev nD) (κ : Dev nD × K → ℕ)

/-- A copy within the device: the source share and the destination go to the cell, the promise of its credit comes back. -/
theorem wp_local {sp sp' : Space} {s : Shape} {e : EltTy} {src : Memref sig .tc sp s e} {dst : Memref sig .tc sp' s e} (k : K) {sem : SemLoc sig} (hs : sem = Pl.sem k)
    {hsrc : src.view.WordExact} {hdst : dst.view.WordExact} {hsem : (DmaTarget.here dst : DmaTarget nD τ sig (.tc : Proc τ) sp' s e).Typed sp sem}
    {α : Type} {Q : α → sProp 𝕄} {cont : PUnit → Prog (TpuEff nD τ sig Val Λ .tc) α} {q : PosShare TreeShare}
    {fs : Buf Val (src.view.loc (c.tc : Thread nD τ))} {fd : Buf Val (dst.view.loc (c.tc : Thread nD τ))}
    (hN : dst.view.amount sem = Pl.amt k)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ Pl.pay c k) :
    iprop(Pl.records E κ ∗ Pl.tok E (c, k) ∗ (src.view.loc (c.tc : Thread nD τ) ↦[src.view.set]{q} fs)
        ∗ (dst.view.loc (c.tc : Thread nD τ) ↦[dst.view.set]{fullShare} fd))
      ⊢ iprop((Pl.due (c, k) -∗ wp frame (wpE defs 𝒱 (c.tc : Thread nD τ) none) Set.univ (cont ⟨⟩) Q)
          -∗ wp frame (wpE defs 𝒱 (c.tc : Thread nD τ) none) Set.univ (.op (.enqueueDma src (.here dst) sem hsrc hdst hsem) cont) Q) := by
  subst hs
  unfold tok due
  iintro ⟨#HR, Ht, Hs, Hd⟩ Hk
  iapply (Rounds.wp_copy_pointsTo 𝒱 E Pl.sched (c.tc : Thread nD τ) none (κ := κ (c, k)) (r := 0) (d := ()) (Pl.mem_duties (c, k)) () (Pl.amt k)
    hN (Pl.amount_eq (c, k) 0 ()) (hpay.trans (Entails.of_eq (Pl.payload_eq (c, k) 0 ()).symm))) $$ [Ht Hs Hd]
  · isplitr; · iapply (Pl.records_inv E κ (c, k)); iexact HR
    isplitl [Hs]; · iexact Hs
    isplitl [Hd]; · iexact Hd
    isplitl [Ht]; · iexact Ht
    iapply (Pl.records_reached E κ (c, k)); iexact HR
  iexact Hk

/-- A copy to device `c'`: the source share goes to the cell `k` of the sender, the destination to the cell `k'` of the
    receiver, whose credit the sender owed. -/
theorem wp_remote {sp sp' : Space} {s : Shape} {e : EltTy} {c' n : Dev nD} (hn : n = c') {src : Memref sig .tc sp s e} {dst : Memref sig .tc sp' s e}
    (k k' : K) {sS sR : SemLoc sig} (hS : sS = Pl.sem k) (hR : sR = Pl.sem k')
    {hsc : (show Memref sig (n.tc : Thread nD τ).2.kind sp' s e from dst).view.ref.isScScratch = false}
    {hsrc : src.view.WordExact} {hdst : dst.view.WordExact} {hsem : DmaTarget.Typed sp sR (.remote (n.tc : Thread nD τ) dst sS hsc)}
    {α : Type} {Q : α → sProp 𝕄} {cont : PUnit → Prog (TpuEff nD τ sig Val Λ .tc) α} {q : PosShare TreeShare}
    {fs : Buf Val (src.view.loc (c.tc : Thread nD τ))} {fd : Buf Val (dst.view.loc (c'.tc : Thread nD τ))}
    (O₀ O : CellTallies nD τ sig Unit) (hO : O₀ = O + tallyAt (Pl.cell (c', k')) () (Pl.amt k'))
    (hN : dst.view.amount sR = Pl.amt k') (hk : Pl.amt k = Pl.amt k')
    (hpay : (src.view.loc (c.tc : Thread nD τ) ↦[src.view.set]{q} fs) ⊢ Pl.pay c k)
    (hpay' : (dst.view.loc (c'.tc : Thread nD τ) ↦[dst.view.set]{fullShare} (dst.view.write Val fd (src.view.read Val fs) Finset.univ)) ⊢ Pl.pay c' k')
    (hr : τ.routes (c.tc : Thread nD τ) (c'.tc : Thread nD τ) = true := by routes) :
    iprop(Pl.records E κ ∗ Pl.tok E (c, k) ∗ Pl.tok E (c', k') ∗ (src.view.loc (c.tc : Thread nD τ) ↦[src.view.set]{q} fs)
        ∗ (dst.view.loc (c'.tc : Thread nD τ) ↦[dst.view.set]{fullShare} fd) ∗ (∃ W, owes (c.tc : Thread nD τ) O₀ W))
      ⊢ iprop(((Pl.due (c, k) ∗ (∃ W, owes (c.tc : Thread nD τ) O W)) -∗ wp frame (wpE defs 𝒱 (c.tc : Thread nD τ) none) Set.univ (cont ⟨⟩) Q)
          -∗ wp frame (wpE defs 𝒱 (c.tc : Thread nD τ) none) Set.univ (.op (.enqueueDma src (.remote (n.tc : Thread nD τ) dst sS hsc) sR hsrc hdst hsem) cont) Q) := by
  subst hn hS hR
  unfold tok due
  iintro ⟨#HR, Ht, Ht', Hs, Hd, ⟨%W, HO⟩⟩ Hk
  iapply (Rounds.wp_send_pointsTo 𝒱 E Pl.sched (c.tc : Thread nD τ) none (κ₁ := κ (c, k)) (κ₂ := κ (n, k')) (r₁ := 0) (r₂ := 0) (d₁ := ()) (d₂ := ())
    (Pl.mem_duties (c, k)) (Pl.mem_duties (n, k')) () () (Pl.amt k') hN ((Pl.amount_eq (c, k) 0 ()).trans hk) (Pl.amount_eq (n, k') 0 ()) O hO (W := W)
    (hpay.trans (Entails.of_eq (Pl.payload_eq (c, k) 0 ()).symm)) (hpay'.trans (Entails.of_eq (Pl.payload_eq (n, k') 0 ()).symm)) hr) $$ [Ht Ht' Hs Hd HO]
  · isplitr; · iapply (Pl.records_inv E κ (c, k)); iexact HR
    isplitr; · iapply (Pl.records_inv E κ (n, k')); iexact HR
    isplitl [Hs]; · iexact Hs
    isplitl [Hd]; · iexact Hd
    isplitl [HO]; · iexact HO
    isplitl [Ht]; · iexact Ht
    isplitr; · iapply (Pl.records_reached E κ (c, k)); iexact HR
    isplitl [Ht']; · iexact Ht'
    iapply (Pl.records_reached E κ (n, k')); iexact HR
  iintro ⟨Hc, HO⟩
  iapply Hk
  isplitl [Hc]; · rw [hk]; iexact Hc
  iexists W; iexact HO

/-- The wait on cell `k`: what its copy delivered comes back, and the semaphore, which reads zero from here on. -/
theorem wp_await {w : TpuEff nD τ sig Val Λ .tc PUnit} (k : K) {sm : SemLoc sig} (hs : sm = Pl.sem k) {n : ℕ} (hn : n = Pl.amt k)
    (hw : ∀ Ks : PUnit → sProp 𝕄, wpE defs 𝒱 (c.tc : Thread nD τ) none Set.univ w Ks = waitSpec (c.tc : Thread nD τ) Set.univ sm n Ks)
    {α : Type} {Q : α → sProp 𝕄} {cont : PUnit → Prog (TpuEff nD τ sig Val Λ .tc) α} (O : CellTallies nD τ sig Unit) :
    iprop(Pl.records E κ ∗ Pl.pos E (c, k) ∗ Pl.due (c, k) ∗ MayWait (c.tc : Thread nD τ) (Pl.sem k) () O ∗ (∃ W, owes (c.tc : Thread nD τ) O W))
      ⊢ iprop(((Pl.pay c k ∗ semVal (Pl.cell (c, k)) 0 ∗ (∃ W, owes (c.tc : Thread nD τ) O W)) -∗ wp frame (wpE defs 𝒱 (c.tc : Thread nD τ) none) Set.univ (cont ⟨⟩) Q)
          -∗ wp frame (wpE defs 𝒱 (c.tc : Thread nD τ) none) Set.univ (.op w cont) Q) := by
  subst hs hn
  unfold pos due
  iintro ⟨#HR, Hp, Hc, HM, ⟨%W, HO⟩⟩ Hk
  ihave #HI := (Pl.records_inv E κ (c, k)) $$ HR
  iapply (Rounds.wp_wait_rest_token 𝒱 E Pl.sched (c.tc : Thread nD τ) none (κ := κ (c, k)) hw (Set.mem_univ _) () (O := O) (W := W) (R := 0) (m := 0) (T := ∅)
      (by rw [Nat.zero_add]; exact (Pl.expect_eq (c, k)).symm)) $$ [Hp Hc HM HO]
  · isplitr; · iexact HI
    isplitl [Hc]; · iexact Hc
    isplitl [HO]; · iexact HO
    isplitl [HM]; · iexact HM
    iexact Hp
  iintro ⟨HO, Hat, -, Hpay⟩
  ihave Hpay' := (Entails.of_eq (Pl.rest_eq (c, k))) $$ Hpay
  iapply (fupd_wp frame (wpE defs 𝒱 (c.tc : Thread nD τ) none) Set.univ _ _)
  imod (Rounds.cell_close E Pl.sched (Set.mem_univ (κ (c, k))) (fun h => h) (R := 0 + 1) (Pl.duties_later (Pl.cell (c, k)))) $$ [Hat] with Hz
  · isplitr; · iexact HI
    iexact Hat
  imodintro
  iapply Hk
  isplitl [Hpay']; · iexact Hpay'
  isplitl [Hz]; · iexact Hz
  iexists _; iexact HO

/-- The waits `G` of device `c`, those in `D` behind it: of each in `D` what was delivered and the semaphore at zero, of each other
    the right to wait and the promise of the copy. -/
def waiting [DecidableEq K] (G D : Finset K) : sProp 𝕄 :=
  bigSep G fun k => if k ∈ D then iprop(Pl.pay c k ∗ semVal (Pl.cell (c, k)) 0) else iprop(Pl.pos E (c, k) ∗ Pl.due (c, k))

/-- None behind: the rights and the promises. -/
theorem waiting_none [DecidableEq K] (G : Finset K) :
    Pl.waiting E c G ∅ = iprop((bigSep G fun k => Pl.pos E (c, k)) ∗ bigSep G fun k => Pl.due (c, k)) := by
  unfold waiting
  rw [← bigSep_sep']
  exact bigSep_congr fun k _ => if_neg (Finset.notMem_empty k)

/-- All behind: what was delivered, and the semaphores at zero. -/
theorem waiting_all [DecidableEq K] (G D : Finset K) (h : G ⊆ D) :
    Pl.waiting E c G D = iprop((bigSep G fun k => Pl.pay c k) ∗ bigSep G fun k => semVal (Pl.cell (c, k)) 0) := by
  unfold waiting
  rw [← bigSep_sep']
  exact bigSep_congr fun k hk => if_pos (h hk)

/-- The wait on cell `k`, a device that owes nothing: one more wait behind it. -/
theorem wp_next [DecidableEq K] (G D : Finset K) {w : TpuEff nD τ sig Val Λ .tc PUnit} (k : K) (hG : k ∈ G) (hD : k ∉ D) {sm : SemLoc sig} (hs : sm = Pl.sem k)
    {n : ℕ} (hn : n = Pl.amt k)
    (hw : ∀ Ks : PUnit → sProp 𝕄, wpE defs 𝒱 (c.tc : Thread nD τ) none Set.univ w Ks = waitSpec (c.tc : Thread nD τ) Set.univ sm n Ks)
    {α : Type} {Q : α → sProp 𝕄} {cont : PUnit → Prog (TpuEff nD τ sig Val Λ .tc) α} :
    iprop(Pl.records E κ ∗ Pl.waiting E c G D ∗ (∃ W, owes (c.tc : Thread nD τ) (0 : CellTallies nD τ sig Unit) W))
      ⊢ iprop(((Pl.waiting E c G (insert k D) ∗ (∃ W, owes (c.tc : Thread nD τ) (0 : CellTallies nD τ sig Unit) W))
            -∗ wp frame (wpE defs 𝒱 (c.tc : Thread nD τ) none) Set.univ (cont ⟨⟩) Q)
          -∗ wp frame (wpE defs 𝒱 (c.tc : Thread nD τ) none) Set.univ (.op w cont) Q) := by
  have h0 : Pl.waiting E c G D = iprop((Pl.pos E (c, k) ∗ Pl.due (c, k))
      ∗ bigSep (G.erase k) fun j => if j ∈ D then iprop(Pl.pay c j ∗ semVal (Pl.cell (c, j)) 0) else iprop(Pl.pos E (c, j) ∗ Pl.due (c, j))) := by
    unfold waiting; rw [take_out hG, if_neg hD]
  have h1 : Pl.waiting E c G (insert k D) = iprop((Pl.pay c k ∗ semVal (Pl.cell (c, k)) 0)
      ∗ bigSep (G.erase k) fun j => if j ∈ D then iprop(Pl.pay c j ∗ semVal (Pl.cell (c, j)) 0) else iprop(Pl.pos E (c, j) ∗ Pl.due (c, j))) := by
    unfold waiting; rw [take_out hG, if_pos (Finset.mem_insert_self k D)]
    refine congrArg _ (bigSep_congr fun j hj => ?_)
    have hj' : (j ∈ insert k D) = (j ∈ D) := propext ⟨fun h => (Finset.mem_insert.mp h).resolve_left (Finset.ne_of_mem_erase hj), Finset.mem_insert_of_mem⟩
    simp only [hj']
  rw [h0, h1]
  iintro ⟨#HR, ⟨⟨Hp, Hd⟩, Hrest⟩, HO⟩ Hk
  iapply (Pl.wp_await E defs 𝒱 c κ k hs hn hw (0 : CellTallies nD τ sig Unit)) $$ [Hp Hd HO]
  · isplitr; · iexact HR
    isplitl [Hp]; · iexact Hp
    isplitl [Hd]; · iexact Hd
    isplitr; · rw [MayWait_zero]; iempintro
    iexact HO
  iintro ⟨Hpay, Hz, HO⟩
  iapply Hk
  isplitl [Hpay Hz Hrest]
  · isplitl [Hpay Hz]
    · isplitl [Hpay] <;> iassumption
    iexact Hrest
  iexact HO

end Plan

end Cert.OneShot

end
-- ==== Proof.Slots.lean ====
/-
  Slots of a rank-three array.

  An array of shape `n × r × w` is cut along its first axis into `n` slots of shape `r × w`. A kernel names a slot as the
  slice of one index of the first axis, with that axis dropped. This module says which elements a slot has, splits
  the ownership of the array into its slots, and says what a slot holds after another slot was copied into it.
-/
module

public import Idealize.ShloMosaic.Lib.Pipeline.Kit
public import Idealize.ShloMosaic.Lib.ViewIndex

@[expose] public section

noncomputable section

namespace Cert.Slots

open Idealize.ShloMosaic Idealize.ShloMosaic.TcCoe
open Idealize.SL Idealize.SL.RA Idealize.SL.BI
open scoped Idealize.SL.BI
open Idealize.SL.BI.BIBase Idealize.SL.BI.Laws Idealize.SL.Sem

variable {sig : RefSig} {κ : Kind} {sp : Space} {n r w : ℕ} {e : EltTy}

/-- The array's shape, a slot's shape with the first axis kept, and with it dropped. -/
abbrev Arr (n r w : ℕ) : Shape := ⟨3, ![n, r, w]⟩
abbrev Row (r w : ℕ) : Shape := ⟨3, ![1, r, w]⟩
abbrev Flat (r w : ℕ) : Shape := ⟨2, ![r, w]⟩

/-- The part of `M` that starts at `off`, of one index of the first axis, that axis dropped. -/
abbrev cut (M : Memref sig κ sp (Arr n r w) e) (off : Fin 3 → ℕ) (h : ∀ a, off a + (Row r w).size a ≤ (Arr n r w).size a)
    (hq : (Row r w).Squeezes (Flat r w)) : Memref sig κ sp (Flat r w) e :=
  (M.slice (Rect.unit (s := Arr n r w) off (Row r w).size h) (fun _ => rfl)).squeeze (Flat r w) hq

/-- The indices of slot `p`. -/
def at_ (p : Fin n) : Finset (Arr n r w).Idx := Finset.univ.filter fun x => (x 0).val = p.val
/-- The elements of slot `p` of `M`. -/
def set (M : Memref sig κ sp (Arr n r w) e) (p : Fin n) : Finset M.view.ty.Idx := (at_ p).map M.view.emb

theorem mem_at {p : Fin n} {x : (Arr n r w).Idx} : x ∈ at_ p ↔ x 0 = p := by
  unfold at_; rw [Finset.mem_filter]; exact ⟨fun h => Fin.ext h.2, fun h => ⟨Finset.mem_univ _, congrArg Fin.val h⟩⟩

/-- The index `x` moved to slot `q`. -/
def move (x : (Arr n r w).Idx) (q : Fin n) : (Arr n r w).Idx := Function.update x 0 q

theorem move_self {x : (Arr n r w).Idx} {p : Fin n} (hx : x 0 = p) : move x p = x := by
  subst hx; exact Function.update_eq_self _ _

theorem emb_unit (off size : Fin 3 → ℕ) (inb) (j : (Rect.unit (s := Arr n r w) off size inb).shape.Idx) (a : Fin 3) :
    ((Rect.unit (s := Arr n r w) off size inb).emb j a : ℕ) = off a + j a := by
  rw [Rect.emb_apply]; show off a + 1 * (j a : ℕ) = _; omega

theorem rect_set (p : Fin n) (h) : (Rect.unit (s := Arr n r w) ![p.val, 0, 0] (Row r w).size h).set = at_ p := by
  ext x
  rw [Rect.mem_set_unit, mem_at]
  constructor
  · intro H
    refine Fin.ext ?_
    have := H 0
    change p.val ≤ (x 0).val ∧ (x 0).val < p.val + 1 at this
    omega
  · rintro hx a
    match a with
    | ⟨0, _⟩ => subst hx; exact ⟨Nat.le_refl _, Nat.lt_succ_self _⟩
    | ⟨1, _⟩ => exact ⟨Nat.zero_le _, by have := (x 1).isLt; change (x 1).val < r at this; show (x 1).val < 0 + r; omega⟩
    | ⟨2, _⟩ => exact ⟨Nat.zero_le _, by have := (x 2).isLt; change (x 2).val < w at this; show (x 2).val < 0 + w; omega⟩

theorem cut_set (M : Memref sig κ sp (Arr n r w) e) (p : Fin n) (h) (hq) : (cut M ![p.val, 0, 0] h hq).view.set = set M p := by
  show ((M.view.slice _).reshape _ _).set = _
  rw [View.set_reshape, View.set_slice, rect_set]; rfl

theorem set_disjoint (M : Memref sig κ sp (Arr n r w) e) {p q : Fin n} (hpq : p ≠ q) : Disjoint (set M p) (set M q) := by
  unfold set
  rw [Finset.disjoint_map, Finset.disjoint_left]
  intro x hx hx'
  exact hpq ((mem_at.mp hx).symm.trans (mem_at.mp hx'))

theorem set_union (M : Memref sig κ sp (Arr n r w) e) : Finset.univ.biUnion (set M) = M.view.set := by
  ext i
  rw [Finset.mem_biUnion]
  constructor
  · rintro ⟨p, -, hp⟩
    obtain ⟨x, -, rfl⟩ := Finset.mem_map.mp hp
    exact M.view.emb_mem_set x
  · intro hi
    obtain ⟨x, -, rfl⟩ := Finset.mem_map.mp hi
    exact ⟨x 0, Finset.mem_univ _, Finset.mem_map_of_mem _ (mem_at.mpr rfl)⟩

section Own

variable {nD : ℕ} {τ : Topo} {Val : EltTy → Type} {U : Type} [URA U]

/-- Owning the array is owning its slots. -/
theorem split (c : Dev nD) (M : Memref sig .tc sp (Arr n r w) e) (q : PosShare TreeShare) (f : Buf Val (M.view.loc (c.tc : Thread nD τ))) :
    (M.view.loc (c.tc : Thread nD τ) ↦[M.view.set]{q} f : sProp (MT nD τ sig Unit Val ℕ U ℕ))
      = bigSep Finset.univ fun p : Fin n => M.view.loc (c.tc : Thread nD τ) ↦[set M p]{q} f := by
  have h := pointsTo_biUnion (nD := nD) (τ := τ) (sig := sig) (Ix := Unit) (Val := Val) (Name := ℕ) (U := U) (Lvl := ℕ)
    (ℓ := M.view.loc (c.tc : Thread nD τ)) (q := q) (f := f) Finset.univ (set M) fun p _ p' _ h => set_disjoint M h
  rw [← h]
  exact congrArg (fun I => (M.view.loc (c.tc : Thread nD τ) ↦[I]{q} f : sProp (MT nD τ sig Unit Val ℕ U ℕ))) (set_union M).symm

end Own

section Copy

variable {Val : EltTy → Type}

/-- The index within its slot. -/
def tail (x : (Arr n r w).Idx) : (Flat r w).Idx
  | ⟨0, _⟩ => ⟨(x 1).val, (x 1).isLt⟩
  | ⟨1, _⟩ => ⟨(x 2).val, (x 2).isLt⟩

theorem tail_emb (q : Fin n) (h : ∀ a, (![q.val, 0, 0] : Fin 3 → ℕ) a + (Row r w).size a ≤ (Arr n r w).size a) (hn : (Flat r w).numel = (Row r w).numel)
    (x : (Arr n r w).Idx) : (Rect.unit (s := Arr n r w) ![q.val, 0, 0] (Row r w).size h).emb (Shape.reshapeEquiv hn (tail x)) = move x q := by
  have hz : Shape.reshapeEquiv hn (tail x) = (Fin.cons ⟨0, Nat.one_pos⟩ (tail x) : (Row r w).Idx) := Shape.reshapeEquiv_cons_one hn (tail x)
  rw [hz]
  refine Shape.idx3_ext ?_ ?_ ?_
  · rw [emb_unit]; exact Nat.add_zero _
  · rw [emb_unit]; exact Nat.zero_add _
  · rw [emb_unit]; exact Nat.zero_add _

/-- Slot `q`, read within, is the array read there. -/
theorem cut_read (M : Memref sig κ sp (Arr n r w) e) (q : Fin n) (h) (hq) (g : M.view.ty.Contents Val) (x : (Arr n r w).Idx) :
    (cut M ![q.val, 0, 0] h hq).view.read Val g (tail x) = M.view.read Val g (move x q) := by
  rw [← tail_emb q h hq.numel_eq x, View.read_apply, View.read_apply]
  exact eq_of_heq ((cast_heq _ _).trans (cast_heq _ _).symm)

/-- After `y` was written to slot `p` of `M`, an index of slot `p` reads `y` within. -/
theorem written (M : Memref sig κ sp (Arr n r w) e) (p : Fin n) (h) (hq) (f : M.view.ty.Contents Val) (y : (Flat r w).Idx → Val e)
    (x : (Arr n r w).Idx) (hx : x 0 = p) : M.view.read Val ((cut M ![p.val, 0, 0] h hq).view.write Val f y Finset.univ) x = y (tail x) := by
  have h1 := View.read_write_of_mem (v := (cut M ![p.val, 0, 0] h hq).view) f y (Finset.mem_univ (tail x))
  rw [cut_read M p h, move_self hx] at h1
  exact h1

/-- The same of the elements: contents `F` that read like `y` on slot `p` are what the write leaves there. -/
theorem written_on (M : Memref sig κ sp (Arr n r w) e) (p : Fin n) (h) (hq) (f F : M.view.ty.Contents Val) (y : (Flat r w).Idx → Val e)
    (hF : ∀ x : (Arr n r w).Idx, x 0 = p → M.view.read Val F x = y (tail x)) :
    ∀ i ∈ set M p, (cut M ![p.val, 0, 0] h hq).view.write Val f y Finset.univ i = F i := by
  intro i hi
  obtain ⟨x, hx, rfl⟩ := Finset.mem_map.mp hi
  have hx := mem_at.mp hx
  exact View.eq_of_read_eq ((written M p h hq f y x hx).trans (hF x hx).symm)

/-- After slot `q` of `M'` was copied into slot `p` of `M`: contents `F` that read, on slot `p`, what the index moved to slot `q`
    reads in `M'`. -/
theorem copied_on (M M' : Memref sig κ sp (Arr n r w) e) (p q : Fin n) (h) (h') (hq) (f F : M.view.ty.Contents Val) (g : M'.view.ty.Contents Val)
    (hF : ∀ x : (Arr n r w).Idx, x 0 = p → M.view.read Val F x = M'.view.read Val g (move x q)) :
    ∀ i ∈ set M p, (cut M ![p.val, 0, 0] h hq).view.write Val f ((cut M' ![q.val, 0, 0] h' hq).view.read Val g) Finset.univ i = F i :=
  written_on M p h hq f F _ fun x hx => (hF x hx).trans (cut_read M' q h' hq g x).symm

end Copy

end Cert.Slots

end
-- ==== Proof.Hops.lean ====
/-
  Eight devices, named by how they differ from one of them.

  `hop j c` is the device whose number differs from `c`'s in the bits of `j`. Every `hop j` is its own inverse, and
  `j ↦ hop j c` runs through all devices.
-/
module

public import Idealize.ShloMosaic.Lib.Pipeline.Launch

@[expose] public section

noncomputable section

namespace Cert.Hops

open Idealize.ShloMosaic
open Idealize.SL Idealize.SL.RA Idealize.SL.BI
open scoped Idealize.SL.BI
open Idealize.SL.BI.BIBase Idealize.SL.BI.Laws Idealize.SL.ProofMode Idealize.SL.Sem

/-- The device whose number differs from `c`'s in the bits of `j`. -/
def hop (j : Fin 8) (c : Dev 8) : Dev 8 :=
  ⟨c.val ^^^ j.val, (by decide : ∀ (j c : Fin 8), c.val ^^^ j.val < 8) j c⟩

theorem hop_hop : ∀ (j : Fin 8) (c : Dev 8), hop j (hop j c) = c := by decide
theorem hop_zero : ∀ c : Dev 8, hop 0 c = c := by decide

/-- `hop j` as a permutation of the devices. -/
def hopPerm (j : Fin 8) : Dev 8 ≃ Dev 8 := ⟨hop j, hop j, hop_hop j, hop_hop j⟩
/-- The devices, named by how they differ from `c`. -/
def around (c : Dev 8) : Fin 8 ≃ Dev 8 :=
  ⟨fun j => hop j c, fun d => hop d c, (by decide : ∀ (c : Dev 8) (j : Fin 8), hop (hop j c) c = j) c,
    (by decide : ∀ (c d : Dev 8), hop (hop d c) c = d) c⟩

variable {M : Type} [URA M]

/-- A family over the devices, seen from device `c`: at itself, and at the seven others. -/
theorem seen_from (c : Dev 8) (Φ : Dev 8 → sProp M) : bigSep Finset.univ Φ = iprop(Φ c ∗ bigSep Finset.univ fun r : Fin 7 => Φ (hop r.succ c)) := by
  rw [BI.bigSep_univ_equiv (around c) Φ, BI.bigSep_erase (Finset.mem_univ (0 : Fin 8))]
  have h0 : (around c) 0 = c := hop_zero c
  have h : (Finset.univ.erase (0 : Fin 8)) = Finset.univ.map (Fin.succEmb 7) := by decide
  rw [h0, h, bigSep_map]
  rfl

end Cert.Hops

end
-- ==== Proof.Exchange.lean ====
/-
  The exchange of gradients: the protocol.

  Device `c` holds eight slots, slot `p` for device `p`. It copies its own slot `c` to slot `c` of its result, and
  for `j = 1 … 7` its slot `hop j c` to slot `c` of the result of device `hop j c`, where `hop j` flips the bits of the
  device's number that `j` has. Each copy is counted by semaphores of its own: a send semaphore of the sender, which hands the
  slot sent back, and a receive semaphore of the receiver, which hands over the slot received. So slot `p` of
  device `c`'s result is slot `c` of device `p`'s argument.
-/
module

public import proofs.«01_k».proof.Proof.Gen.ExchangeIdeal
public import proofs.«01_k».proof.Proof.OneShot
public import proofs.«01_k».proof.Proof.Slots
public import proofs.«01_k».proof.Proof.Hops

@[expose] public section

noncomputable section

namespace Cert.ExchangeProof

open Cert.ExchangeIdeal Cert.ExchangeIdeal.Gen Cert.OneShot Cert.Hops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's ghost state beside the protocol's. -/
abbrev UU : Type := UR sig nD τ × UR sig nD τ

local notation "𝕄" => MT nD τ sig Unit (Elt F) ℕ UU ℕ

/-! ## Slots -/

/-- The argument and the result. -/
abbrev A : Memref sig .tc .hbm (Slots.Arr 8 33856 128) .f32 := Memref.whole main_arg0
abbrev O : Memref sig .tc .hbm (Slots.Arr 8 33856 128) .f32 := Memref.whole main_v1

theorem sq : (Slots.Row 33856 128).Squeezes (Slots.Flat 33856 128) := squeezes_S1x33856x128_S33856x128
theorem inb (p : Fin 8) : ∀ a, (![p.val, 0, 0] : Fin 3 → ℕ) a + (Slots.Row 33856 128).size a ≤ (Slots.Arr 8 33856 128).size a := by
  revert p; decide
/-- Slot `p` of an array. -/
abbrev slot (M : Memref sig .tc .hbm (Slots.Arr 8 33856 128) .f32) (p : Fin 8) : Memref sig .tc .hbm (Slots.Flat 33856 128) .f32 :=
  Slots.cut M ![p.val, 0, 0] (inb p) sq

/-- What a copy of one slot credits. -/
def N : ℕ := (slot O 0).view.amount (.dma (14 : Fin 15))
theorem N_pos : 0 < N := View.dmaCredit_pos _ (by decide)

/-! ## Contents -/

variable (m : (ℓ : Loc nD τ sig) → Buf (Elt F) ℓ)

/-- Device `p`'s argument, as launched. -/
def arg (p : Dev nD) : Buf (Elt F) ((p.tc : Thread nD τ).loc main_arg0) := m ((p.tc : Thread nD τ).loc main_arg0)

/-- Device `c`'s result: slot `p` is slot `c` of device `p`'s argument. -/
def res (c : Dev nD) : Buf (Elt F) ((c.tc : Thread nD τ).loc main_v1) :=
  fun x : (Slots.Arr 8 33856 128).Idx => arg m (x 0) (Slots.move x c)

/-- Slot `p` of device `c`'s argument, as launched. -/
def src (c : Dev nD) (p : Fin 8) : sProp 𝕄 :=
  A.view.loc (c.tc : Thread nD τ) ↦[Slots.set A p]{fullShare} arg m c
/-- Slot `p` of device `c`'s result, holding what `f` has there. -/
def dst (c : Dev nD) (p : Fin 8) (f : Buf (Elt F) ((c.tc : Thread nD τ).loc main_v1)) : sProp 𝕄 :=
  O.view.loc (c.tc : Thread nD τ) ↦[Slots.set O p]{fullShare} f

/-- Slot `q` of device `d`'s argument, copied to slot `d` of device `q`'s result, is what the result is to hold. -/
theorem landed (d q : Dev nD) (f : Buf (Elt F) ((q.tc : Thread nD τ).loc main_v1)) :
    ((O.view.loc (q.tc : Thread nD τ) ↦[(slot O d).view.set]{fullShare}
        ((slot O d).view.write (Elt F) f ((slot A q).view.read (Elt F) (arg m d)) Finset.univ)) : sProp 𝕄)
      ⊢ dst q d (res m q) := by
  unfold dst
  rw [Slots.cut_set O d]
  refine Entails.of_eq (pointsTo_congr (Slots.copied_on O A d q (inb d) (inb q) sq f (res m q) (arg m d) fun x hx => ?_))
  subst hx
  rfl

/-! ## The plan -/

/-- The semaphores of a device: of the copy to the device `r + 1` away, of the copy from it, and of the copy within. -/
abbrev K : Type := Fin 7 ⊕ Fin 7 ⊕ Unit
@[match_pattern] abbrev sendK (r : Fin 7) : K := .inl r
@[match_pattern] abbrev recvK (r : Fin 7) : K := .inr (.inl r)
@[match_pattern] abbrev hereK : K := .inr (.inr ())

/-- Semaphores 0 to 6 count the sends, 7 to 13 the receipts, 14 the copy within. -/
def osem : K → SemLoc sig
  | sendK r => .dma (⟨r.val, by omega⟩ : Fin 15)
  | recvK r => .dma (⟨7 + r.val, by omega⟩ : Fin 15)
  | hereK => .dma (14 : Fin 15)

/-- What the wait on each hands device `c`. -/
def pay (c : Dev nD) : K → sProp 𝕄
  | sendK r => src m c (hop r.succ c)
  | recvK r => dst c (hop r.succ c) (res m c)
  | hereK => iprop(dst c c (res m c) ∗ src m c c)

omit [FloatOps F] in
theorem pay_storable (c : Dev nD) (k : K) : BI.Storable (upEmb : UEmb _ 𝕄) (pay m c k) := by
  match k with
  | sendK r => unfold pay src; infer_instance
  | recvK r => unfold pay dst; infer_instance
  | hereK => unfold pay src dst; infer_instance

/-- The plan of the exchange. -/
def plan : Plan nD τ sig (Elt F) UU K where
  sem := osem
  sem_inj := by decide
  amt _ := N
  amt_pos _ := N_pos
  pay := pay m
  pay_storable := pay_storable m

/-! ## What a device owes -/

/-- What device `c` owes once its first `n` sends are made: the credit of the receipts of the others. -/
def owed (n : ℕ) (c : Dev nD) : CellTallies nD τ sig Unit :=
  ∑ r ∈ Finset.univ.filter (fun r : Fin 7 => n ≤ r.val), tallyAt (((hop r.succ c).tc : Thread nD τ), osem (recvK r)) () N

theorem owed_next (r : Fin 7) (c : Dev nD) :
    owed r.val c = owed (r.val + 1) c + tallyAt (((hop r.succ c).tc : Thread nD τ), osem (recvK r)) () N := by
  unfold owed
  have h : (Finset.univ.filter fun s : Fin 7 => r.val ≤ s.val) = insert r (Finset.univ.filter fun s : Fin 7 => r.val + 1 ≤ s.val) := by
    revert r; decide
  rw [h, Finset.sum_insert (by simp), add_comm]

theorem owed_last (c : Dev nD) : owed 7 c = 0 := Finset.sum_eq_zero fun r hr => absurd (Finset.mem_filter.mp hr).2 (by omega)

/-- The credit dealt at the launch is the promise of every receipt. -/
theorem promised (c : Dev nD) : (Pipeline.launchCred (owed 0) c : sProp 𝕄) ⊢ bigSep Finset.univ fun r : Fin 7 => (plan m).due (c, recvK r) := by
  have h : (Pipeline.launchCred (owed 0) c : sProp 𝕄)
      = bigSep (Finset.univ.filter fun r : Fin 7 => 0 ≤ r.val) fun r => Pipeline.launchCred (fun d => tallyAt (((hop r.succ d).tc : Thread nD τ), osem (recvK r)) () N) c :=
    Pipeline.launchCred_sum _ _ c
  rw [h, Finset.filter_true_of_mem fun _ _ => Nat.zero_le _]
  exact bigSep_mono fun r _ => Pipeline.launchCred_tallyAt (osem (recvK r)) (hop r.succ) (hop r.succ) (hop_hop _) (hop_hop _) () N c

end Cert.ExchangeProof

end
-- ==== Proof.ExchangeBody.lean ====
/-
  The exchange of gradients: one device's kernel.

  The kernel copies within, sends to the seven other devices in turn, and waits for the seven receipts, the seven sends
  and the copy within. Its seven sends are one step at seven places, its fifteen waits another at fifteen.
-/
module

public import proofs.«01_k».proof.Proof.Exchange
public import proofs.«01_k».proof.Proof.Gen.ExchangeIdeal.Skeleton

@[expose] public section

noncomputable section

namespace Cert.ExchangeProof

open Cert.ExchangeIdeal Cert.ExchangeIdeal.Gen Cert.OneShot Cert.Hops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the protocol's ghost state lies. -/
abbrev ER : Emb (UR sig nD τ) (MT nD τ sig Unit (Elt F) ℕ UU ℕ) := embR
abbrev 𝒱₀ : Variants := Variants.none

variable (m : (ℓ : Loc nD τ sig) → Buf (Elt F) ℓ) (κ : Dev nD × K → ℕ) (c : Dev nD)

/-! ## Copying -/

/-- The copy within. -/
theorem local_step {off : Fin 3 → ℕ} {h h1} (hoff : off = ![c.val, 0, 0]) {sm : SemLoc sig} (hs : sm = osem hereK)
    {hsrc : (Slots.cut A off h sq).view.WordExact} {hdst : (Slots.cut O off h1 sq).view.WordExact}
    {hsem : (DmaTarget.here (Slots.cut O off h1 sq) : DmaTarget nD τ sig (.tc : Proc τ) .hbm (Slots.Flat 33856 128) .f32).Typed .hbm sm}
    {α : Type} {Q : α → sProp 𝕄} {cont : PUnit → Prog (TpuEff nD τ sig (Elt F) Λ₀ .tc) α} :
    iprop((plan m).records ER κ ∗ (plan m).tok ER (c, hereK) ∗ src m c c ∗ ∃ f, dst c c f)
      ⊢ iprop(((plan m).due (c, hereK) -∗ wp frame (wpE (defs₀ (F := F)) 𝒱₀ (c.tc : Thread nD τ) none) Set.univ (cont ⟨⟩) Q)
          -∗ wp frame (wpE (defs₀ (F := F)) 𝒱₀ (c.tc : Thread nD τ) none) Set.univ
            (.op (.enqueueDma (Slots.cut A off h sq) (.here (Slots.cut O off h1 sq)) sm hsrc hdst hsem) cont) Q) := by
  subst hoff hs
  iintro ⟨#HR, Ht, Hs, ⟨%f, Hd⟩⟩ Hk
  unfold src dst
  ihave Hs := (Entails.of_eq (congrArg (fun I => (A.view.loc (c.tc : Thread nD τ) ↦[I]{fullShare} arg m c : sProp 𝕄)) (Slots.cut_set A c h sq).symm)) $$ Hs
  ihave Hd := (Entails.of_eq (congrArg (fun I => (O.view.loc (c.tc : Thread nD τ) ↦[I]{fullShare} f : sProp 𝕄)) (Slots.cut_set O c h1 sq).symm)) $$ Hd
  have g : (iprop((O.view.loc (c.tc : Thread nD τ) ↦[(slot O c).view.set]{fullShare}
          ((slot O c).view.write (Elt F) f ((slot A c).view.read (Elt F) (arg m c)) Finset.univ))
        ∗ (A.view.loc (c.tc : Thread nD τ) ↦[(slot A c).view.set]{fullShare} arg m c)) : sProp 𝕄) ⊢ (plan m).pay c hereK := by
    show _ ⊢ iprop(dst c c (res m c) ∗ src m c c)
    unfold src
    rw [Slots.cut_set A c]
    exact sep_mono_left (landed m c c f)
  have step := (plan m).wp_local ER (defs₀ (F := F)) 𝒱₀ c κ (src := slot A c) (dst := slot O c) hereK (sem := osem hereK) rfl
    (hsrc := hsrc) (hdst := hdst) (hsem := hsem) (α := α) (Q := Q) (cont := cont) (q := fullShare) (fs := arg m c) (fd := f) rfl g
  iapply step $$ [Ht Hs Hd]
  · isplitr; · iexact HR
    isplitl [Ht]; · iexact Ht
    isplitl [Hs]; · iexact Hs
    iexact Hd
  iexact Hk

/-- What the send to the device `r + 1` away takes: the rights to credit its two semaphores, the slot sent, and the
    slot of the other's result where it lands. -/
def load (r : Fin 7) : sProp 𝕄 :=
  iprop((plan m).tok ER (c, sendK r) ∗ (plan m).tok ER (hop r.succ c, recvK r) ∗ src m c (hop r.succ c) ∗ ∃ f, dst (hop r.succ c) c f)

/-- The first `n` sends made: the promises of their credits, and the loads of the others. -/
def sending (n : ℕ) : sProp 𝕄 := stages n (fun r : Fin 7 => (plan m).due (c, sendK r)) (load m c)

/-- The send to the device `r + 1` away, the `i = r` sends before it made. -/
theorem send_step (r : Fin 7) (i : ℕ) (hi : r.val = i) {off off1 : Fin 3 → ℕ} {h h1} (hoff : off = ![(hop r.succ c).val, 0, 0]) (hoff1 : off1 = ![c.val, 0, 0])
    {n : Dev nD} (hn : n = hop r.succ c) {sS sR : SemLoc sig} (hS : sS = osem (sendK r)) (hR : sR = osem (recvK r))
    {hsc : (show Memref sig (n.tc : Thread nD τ).2.kind .hbm (Slots.Flat 33856 128) .f32 from Slots.cut O off1 h1 sq).view.ref.isScScratch = false}
    {hsrc : (Slots.cut A off h sq).view.WordExact} {hdst : (Slots.cut O off1 h1 sq).view.WordExact}
    {hsem : DmaTarget.Typed .hbm sR (.remote (n.tc : Thread nD τ) (Slots.cut O off1 h1 sq) sS hsc)}
    {α : Type} {Q : α → sProp 𝕄} {cont : PUnit → Prog (TpuEff nD τ sig (Elt F) Λ₀ .tc) α} :
    iprop((plan m).records ER κ ∗ sending m c i ∗ (∃ W, owes (c.tc : Thread nD τ) (owed i c) W))
      ⊢ iprop(((sending m c (i + 1) ∗ (∃ W, owes (c.tc : Thread nD τ) (owed (i + 1) c) W))
            -∗ wp frame (wpE (defs₀ (F := F)) 𝒱₀ (c.tc : Thread nD τ) none) Set.univ (cont ⟨⟩) Q)
          -∗ wp frame (wpE (defs₀ (F := F)) 𝒱₀ (c.tc : Thread nD τ) none) Set.univ
            (.op (.enqueueDma (Slots.cut A off h sq) (.remote (n.tc : Thread nD τ) (Slots.cut O off1 h1 sq) sS hsc) sR hsrc hdst hsem) cont) Q) := by
  subst hi hoff hoff1 hS hR
  unfold sending
  rw [stages_at, stages_past]
  unfold load
  iintro ⟨#HR, ⟨⟨Ht, Ht', Hs, ⟨%f, Hd⟩⟩, Hrest⟩, HO⟩ Hk
  unfold src dst
  ihave Hs := (Entails.of_eq (congrArg (fun I => (A.view.loc (c.tc : Thread nD τ) ↦[I]{fullShare} arg m c : sProp 𝕄)) (Slots.cut_set A (hop r.succ c) h sq).symm)) $$ Hs
  ihave Hd := (Entails.of_eq (congrArg (fun I => (O.view.loc ((hop r.succ c).tc : Thread nD τ) ↦[I]{fullShare} f : sProp 𝕄)) (Slots.cut_set O c h1 sq).symm)) $$ Hd
  have g1 : ((A.view.loc (c.tc : Thread nD τ) ↦[(Slots.cut A ![(hop r.succ c).val, 0, 0] h sq).view.set]{fullShare} arg m c) : sProp 𝕄) ⊢ (plan m).pay c (sendK r) :=
    Entails.of_eq (congrArg (fun I => (A.view.loc (c.tc : Thread nD τ) ↦[I]{fullShare} arg m c : sProp 𝕄)) (Slots.cut_set A (hop r.succ c) h sq))
  have g2 := (landed m c (hop r.succ c) f).trans (Entails.of_eq (show _ = (plan m).pay (hop r.succ c) (recvK r) by
    show _ = dst (hop r.succ c) (hop r.succ (hop r.succ c)) (res m (hop r.succ c)); rw [hop_hop]))
  have step := (plan m).wp_remote ER (defs₀ (F := F)) 𝒱₀ c κ (src := Slots.cut A ![(hop r.succ c).val, 0, 0] h sq) (dst := Slots.cut O ![c.val, 0, 0] h1 sq)
    hn (sendK r) (recvK r) (sS := osem (sendK r)) (sR := osem (recvK r)) rfl rfl (hsc := hsc) (hsrc := hsrc) (hdst := hdst) (hsem := hsem)
    (α := α) (Q := Q) (cont := cont) (q := fullShare) (fs := arg m c) (fd := f) (owed r.val c) (owed (r.val + 1) c) (owed_next r c) rfl rfl g1 g2
  iapply step $$ [Ht Ht' Hs Hd HO]
  · isplitr; · iexact HR
    isplitl [Ht]; · iexact Ht
    isplitl [Ht']; · iexact Ht'
    isplitl [Hs]; · iexact Hs
    isplitl [Hd]; · iexact Hd
    iexact HO
  iintro ⟨Hc, HO⟩
  iapply Hk
  isplitl [Hc Hrest]
  · isplitl [Hc]; · iexact Hc
    iexact Hrest
  iexact HO

/-! ## Waiting -/

/-- The order of the waits: the receipts, the sends, the copy within. -/
def rank : K → ℕ
  | recvK r => r.val
  | sendK r => 7 + r.val
  | hereK => 14

/-- The first `n` waits behind the device. -/
def waited (n : ℕ) : sProp 𝕄 := (plan m).waiting ER c Finset.univ (Finset.univ.filter fun k => rank k < n)

theorem next_done : ∀ k : K, (Finset.univ.filter fun j : K => rank j < rank k + 1) = insert k (Finset.univ.filter fun j => rank j < rank k) := by
  decide

theorem credit_arg (off h) : (Slots.cut A off h sq).view.dmaCredit = N := rfl
theorem credit_res (off h) : (Slots.cut O off h sq).view.dmaCredit = N := rfl

/-- The wait on `k`, the `i` before it behind the device; `M` is the array whose slot the wait names for its amount. -/
theorem wait_step (k : K) (i : ℕ) (hi : rank k = i) {sem : DmaSem sig} (hs : .dma sem = osem k) {M M' : Memref sig .tc .hbm (Slots.Arr 8 33856 128) .f32}
    (hM : ∀ off h, (Slots.cut M off h sq).view.dmaCredit = N) {off off' : Fin 3 → ℕ} {h h'}
    {hsrc : (Slots.cut M' off' h' sq).view.WordExact} {hdst : (Slots.cut M off h sq).view.WordExact}
    {α : Type} {Q : α → sProp 𝕄} {cont : PUnit → Prog (TpuEff nD τ sig (Elt F) Λ₀ .tc) α} :
    iprop((plan m).records ER κ ∗ waited m c i ∗ (∃ W, owes (c.tc : Thread nD τ) (0 : CellTallies nD τ sig Unit) W))
      ⊢ iprop(((waited m c (i + 1) ∗ (∃ W, owes (c.tc : Thread nD τ) (0 : CellTallies nD τ sig Unit) W))
            -∗ wp frame (wpE (defs₀ (F := F)) 𝒱₀ (c.tc : Thread nD τ) none) Set.univ (cont ⟨⟩) Q)
          -∗ wp frame (wpE (defs₀ (F := F)) 𝒱₀ (c.tc : Thread nD τ) none) Set.univ
            (.op (.waitDma2 sem (Slots.cut M' off' h' sq) (Slots.cut M off h sq) hsrc hdst) cont) Q) := by
  subst hi
  unfold waited
  rw [next_done]
  exact (plan m).wp_next ER (defs₀ (F := F)) 𝒱₀ c κ Finset.univ _ k (Finset.mem_univ k) (by simp) hs (hM off h)
    (wpE_waitDma2_eq 𝒱₀ (c.tc : Thread nD τ) none Set.univ)

omit [FloatOps F] in
/-- Before the first wait: every right to wait, and every promise. -/
theorem waited_none : iprop((bigSep Finset.univ fun k => (plan m).pos ER (c, k)) ∗ (bigSep Finset.univ fun r => (plan m).due (c, sendK r))
      ∗ (bigSep Finset.univ fun r => (plan m).due (c, recvK r)) ∗ (plan m).due (c, hereK)) ⊢ waited m c 0 := by
  have h : (Finset.univ.filter fun k : K => rank k < 0) = ∅ := Finset.filter_false_of_mem fun _ _ => Nat.not_lt_zero _
  have hD : (bigSep Finset.univ fun k : K => (plan m).due (c, k)) = (iprop((bigSep Finset.univ fun r => (plan m).due (c, sendK r))
      ∗ (bigSep Finset.univ fun r => (plan m).due (c, recvK r)) ∗ (plan m).due (c, hereK)) : sProp 𝕄) := by
    rw [BI.bigSep_univ_sum, BI.bigSep_univ_sum, Finset.univ_unique (α := Unit), bigSep_singleton]
    rfl
  unfold waited
  rw [h, Plan.waiting_none, hD]

/-- What the device leaves its kernel with: everything delivered, every semaphore at zero. -/
def finish : sProp 𝕄 :=
  iprop((bigSep Finset.univ fun k => pay m c k) ∗ bigSep Finset.univ fun k => semVal ((plan m).cell (c, k)) 0)

omit [FloatOps F] in
theorem waited_all : waited m c 15 ⊢ finish m c := by
  unfold waited
  rw [Plan.waiting_all _ _ _ _ _ (by decide : (Finset.univ : Finset K) ⊆ _)]
  exact BI.Entails.refl _

/-! ## The whole kernel -/

/-- What the device enters its kernel with. -/
def start : sProp 𝕄 :=
  iprop((∃ κ, (plan m).records ER κ) ∗ (bigSep Finset.univ fun k => (plan m).pos ER (c, k)) ∗ (bigSep Finset.univ fun r => (plan m).due (c, recvK r))
    ∗ sending m c 0 ∗ (plan m).tok ER (c, hereK) ∗ src m c c ∗ ∃ f, dst c c f)

theorem off_own : ∀ c : Dev nD, k0_off1 c = ![c.val, 0, 0] := by decide +kernel
theorem off_1 : ∀ c : Dev nD, k0_off2 c = ![(hop 1 c).val, 0, 0] := by decide +kernel
theorem off_2 : ∀ c : Dev nD, k0_off3 c = ![(hop 2 c).val, 0, 0] := by decide +kernel
theorem off_3 : ∀ c : Dev nD, k0_off4 c = ![(hop 3 c).val, 0, 0] := by decide +kernel
theorem off_4 : ∀ c : Dev nD, k0_off5 c = ![(hop 4 c).val, 0, 0] := by decide +kernel
theorem off_5 : ∀ c : Dev nD, k0_off6 c = ![(hop 5 c).val, 0, 0] := by decide +kernel
theorem off_6 : ∀ c : Dev nD, k0_off7 c = ![(hop 6 c).val, 0, 0] := by decide +kernel
theorem off_7 : ∀ c : Dev nD, k0_off8 c = ![(hop 7 c).val, 0, 0] := by decide +kernel
theorem dev_1 : ∀ c : Dev nD, (⟨k0_dev1 c, k0_dev1_lt c⟩ : Dev nD) = hop 1 c := by decide +kernel
theorem dev_2 : ∀ c : Dev nD, (⟨k0_dev2 c, k0_dev2_lt c⟩ : Dev nD) = hop 2 c := by decide +kernel
theorem dev_3 : ∀ c : Dev nD, (⟨k0_dev3 c, k0_dev3_lt c⟩ : Dev nD) = hop 3 c := by decide +kernel
theorem dev_4 : ∀ c : Dev nD, (⟨k0_dev4 c, k0_dev4_lt c⟩ : Dev nD) = hop 4 c := by decide +kernel
theorem dev_5 : ∀ c : Dev nD, (⟨k0_dev5 c, k0_dev5_lt c⟩ : Dev nD) = hop 5 c := by decide +kernel
theorem dev_6 : ∀ c : Dev nD, (⟨k0_dev6 c, k0_dev6_lt c⟩ : Dev nD) = hop 6 c := by decide +kernel
theorem dev_7 : ∀ c : Dev nD, (⟨k0_dev7 c, k0_dev7_lt c⟩ : Dev nD) = hop 7 c := by decide +kernel

/-- The kernel exchanges the slots. -/
theorem sound_body (Kt : PUnit → sProp 𝕄) :
    iprop(start m c ∗ (∃ W, owes (c.tc : Thread nD τ) (owed 0 c) W)
        ∗ ((finish m c ∗ (∃ W, owes (c.tc : Thread nD τ) (0 : CellTallies nD τ sig Unit) W)) -∗ Kt ⟨⟩))
      ⊢ wp frame (wpE (defs₀ (F := F)) 𝒱₀ (c.tc : Thread nD τ) none) Set.univ
          (cc0_exchange_grads (Memref.whole main_arg0) (Memref.isWhole_whole _) (Memref.whole main_v1) (Memref.isWhole_whole _) cc0_scratch0 cc0_scratch1 cc0_scratch2) Kt := by
  simp only [cc0_exchange_grads_eq_skeleton]; unfold cc0_exchange_grads_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  unfold start
  iintro ⟨⟨⟨%κ, #HR⟩, Hpos, Hdue, Hsend, Ht, Hs, Hd⟩, HO, Hk⟩
  iapply (local_step m κ c (off_own c) rfl) $$ [Ht Hs Hd]
  · isplitr; · iexact HR
    isplitl [Ht]; · iexact Ht
    isplitl [Hs] <;> iassumption
  iintro Hh
  -- the sends
  iapply (send_step m κ c 0 0 rfl (off_1 c) (off_own c) (dev_1 c) rfl rfl) $$ [Hsend HO]
  · isplitr; · iexact HR
    isplitl [Hsend] <;> iassumption
  iintro ⟨Hsend, HO⟩
  iapply (send_step m κ c 1 1 rfl (off_2 c) (off_own c) (dev_2 c) rfl rfl) $$ [Hsend HO]
  · isplitr; · iexact HR
    isplitl [Hsend] <;> iassumption
  iintro ⟨Hsend, HO⟩
  iapply (send_step m κ c 2 2 rfl (off_3 c) (off_own c) (dev_3 c) rfl rfl) $$ [Hsend HO]
  · isplitr; · iexact HR
    isplitl [Hsend] <;> iassumption
  iintro ⟨Hsend, HO⟩
  iapply (send_step m κ c 3 3 rfl (off_4 c) (off_own c) (dev_4 c) rfl rfl) $$ [Hsend HO]
  · isplitr; · iexact HR
    isplitl [Hsend] <;> iassumption
  iintro ⟨Hsend, HO⟩
  iapply (send_step m κ c 4 4 rfl (off_5 c) (off_own c) (dev_5 c) rfl rfl) $$ [Hsend HO]
  · isplitr; · iexact HR
    isplitl [Hsend] <;> iassumption
  iintro ⟨Hsend, HO⟩
  iapply (send_step m κ c 5 5 rfl (off_6 c) (off_own c) (dev_6 c) rfl rfl) $$ [Hsend HO]
  · isplitr; · iexact HR
    isplitl [Hsend] <;> iassumption
  iintro ⟨Hsend, HO⟩
  iapply (send_step m κ c 6 6 rfl (off_7 c) (off_own c) (dev_7 c) rfl rfl) $$ [Hsend HO]
  · isplitr; · iexact HR
    isplitl [Hsend] <;> iassumption
  iintro ⟨Hsend, HO⟩
  ihave Hsend := (Entails.of_eq (show sending m c 7 = _ from stages_all _ _)) $$ Hsend
  ihave HO := (Entails.of_eq (congrArg (fun T => (iprop(∃ W, owes (c.tc : Thread nD τ) T W) : sProp 𝕄)) (owed_last c))) $$ HO
  ihave HW := (waited_none m c) $$ [Hpos Hsend Hdue Hh]
  · isplitl [Hpos]; · iexact Hpos
    isplitl [Hsend]; · iexact Hsend
    isplitl [Hdue] <;> iassumption
  -- the waits
  iapply (wait_step m κ c (recvK 0) 0 rfl rfl credit_res) $$ [HW HO]
  · isplitr; · iexact HR
    isplitl [HW] <;> iassumption
  iintro ⟨HW, HO⟩
  iapply (wait_step m κ c (recvK 1) 1 rfl rfl credit_res) $$ [HW HO]
  · isplitr; · iexact HR
    isplitl [HW] <;> iassumption
  iintro ⟨HW, HO⟩
  iapply (wait_step m κ c (recvK 2) 2 rfl rfl credit_res) $$ [HW HO]
  · isplitr; · iexact HR
    isplitl [HW] <;> iassumption
  iintro ⟨HW, HO⟩
  iapply (wait_step m κ c (recvK 3) 3 rfl rfl credit_res) $$ [HW HO]
  · isplitr; · iexact HR
    isplitl [HW] <;> iassumption
  iintro ⟨HW, HO⟩
  iapply (wait_step m κ c (recvK 4) 4 rfl rfl credit_res) $$ [HW HO]
  · isplitr; · iexact HR
    isplitl [HW] <;> iassumption
  iintro ⟨HW, HO⟩
  iapply (wait_step m κ c (recvK 5) 5 rfl rfl credit_res) $$ [HW HO]
  · isplitr; · iexact HR
    isplitl [HW] <;> iassumption
  iintro ⟨HW, HO⟩
  iapply (wait_step m κ c (recvK 6) 6 rfl rfl credit_res) $$ [HW HO]
  · isplitr; · iexact HR
    isplitl [HW] <;> iassumption
  iintro ⟨HW, HO⟩
  iapply (wait_step m κ c (sendK 0) 7 rfl rfl credit_arg) $$ [HW HO]
  · isplitr; · iexact HR
    isplitl [HW] <;> iassumption
  iintro ⟨HW, HO⟩
  iapply (wait_step m κ c (sendK 1) 8 rfl rfl credit_arg) $$ [HW HO]
  · isplitr; · iexact HR
    isplitl [HW] <;> iassumption
  iintro ⟨HW, HO⟩
  iapply (wait_step m κ c (sendK 2) 9 rfl rfl credit_arg) $$ [HW HO]
  · isplitr; · iexact HR
    isplitl [HW] <;> iassumption
  iintro ⟨HW, HO⟩
  iapply (wait_step m κ c (sendK 3) 10 rfl rfl credit_arg) $$ [HW HO]
  · isplitr; · iexact HR
    isplitl [HW] <;> iassumption
  iintro ⟨HW, HO⟩
  iapply (wait_step m κ c (sendK 4) 11 rfl rfl credit_arg) $$ [HW HO]
  · isplitr; · iexact HR
    isplitl [HW] <;> iassumption
  iintro ⟨HW, HO⟩
  iapply (wait_step m κ c (sendK 5) 12 rfl rfl credit_arg) $$ [HW HO]
  · isplitr; · iexact HR
    isplitl [HW] <;> iassumption
  iintro ⟨HW, HO⟩
  iapply (wait_step m κ c (sendK 6) 13 rfl rfl credit_arg) $$ [HW HO]
  · isplitr; · iexact HR
    isplitl [HW] <;> iassumption
  iintro ⟨HW, HO⟩
  iapply (wait_step m κ c hereK 14 rfl rfl credit_res) $$ [HW HO]
  · isplitr; · iexact HR
    isplitl [HW] <;> iassumption
  iintro ⟨HW, HO⟩
  rw [wp_ret]
  imodintro
  iapply Hk
  isplitl [HW]; · iapply (waited_all m c); iexact HW
  iexact HO

end Cert.ExchangeProof

end
-- ==== Proof.MeshLaunch.lean ====
/-
  The launch of a mesh program whose @main is one kernel region without staged windows, when the
  region's remote copies land in other devices' HBM arrays and no device signals before it sends.

  No device can hand its arrays to the devices that write into them: there is no signal to carry them.
  So every device's arrays and semaphores are dealt out once, at the launch, for the whole mesh together
  (`hglob`), and each device enters its kernel with what the deal gave it.
-/
module

public import Idealize.ShloMosaic.Lib.Pipeline.Launch
public import Idealize.ShloMosaic.Lib.Pipeline.RegionArrays
public import Idealize.ShloMosaic.Lib.Tactic

@[expose] public section

noncomputable section

namespace Cert.MeshLaunch

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Every device's right to assign levels, spent on the assignment `lv` of the pairs `L`, which lie on TensorCores. -/
theorem assign_levels [Preorder Lvl] (L : GSem nD τ sig → Finset Ix) (lv : GSem nD τ sig → Ix → Lvl)
    (hL : ∀ g : GSem nD τ sig, g.1.2 ≠ .tc → L g = ∅) :
    (bigSep Finset.univ fun c : Dev nD => (levels0 c : sProp 𝕄)) ⊢ |==> levAts L lv := by
  classical
  have hoff (d : Dev nD) (p : Proc τ) (hp : p ≠ .tc) : (coreLevAts ((d, p) : Thread nD τ) L lv : sProp 𝕄) = BI.emp := by
    unfold coreLevAts
    rw [bigSep_congr (Ψ := fun _ : SemLoc sig => (BI.emp : sProp 𝕄)) fun sm _ => by rw [hL _ hp, BI.bigSep_empty]]
    exact BI.bigSep_emp_const _
  have hall : (levAts L lv : sProp 𝕄) = bigSep Finset.univ fun d : Dev nD => coreLevAts (d.tc : Thread nD τ) L lv := by
    have h1 : (levAts L lv : sProp 𝕄) = bigSep Finset.univ fun c : Thread nD τ => coreLevAts c L lv :=
      bigSep_univ_prod fun g : GSem nD τ sig => bigSep (L g) fun ι => levAt g ι (lv g ι)
    have h2 : (bigSep Finset.univ fun d : Dev nD => bigSep (Finset.univ.erase Proc.tc) fun p => (coreLevAts ((d, p) : Thread nD τ) L lv : sProp 𝕄)) = BI.emp := by
      rw [bigSep_congr (Ψ := fun _ : Dev nD => (BI.emp : sProp 𝕄)) fun d _ => by
        rw [bigSep_congr (Ψ := fun _ : Proc τ => (BI.emp : sProp 𝕄)) fun p hp => hoff d p (Finset.ne_of_mem_erase hp)]
        exact BI.bigSep_emp_const _]
      exact BI.bigSep_emp_const _
    rw [h1, bigSep_threads (fun c : Thread nD τ => coreLevAts c L lv), h2]
    exact BI.equiv_iff.mp BI.sep_emp
  rw [hall]
  refine (bigSep_mono fun c _ => lev_assign_cells (c.tc : Thread nD τ) L lv).trans <| (BI.bigSep_bupd _ _).trans <| BI.bupd_mono ?_
  exact bigSep_mono fun c _ => show iprop(_ ∗ _) ⊢ (_ : sProp 𝕄) from by iintro ⟨-, H⟩; iexact H

section

variable {Λ₀ : Labels} {P : Type} [Fintype P]
variable (pcs : P → PCfg sig Λ₀ Val) (a : Dev nD → (p : P) → (pcs p).Adm)
  (rdats : (p : P) → (c : Dev nD) → RDat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀
local notation "pins" => pinD pcs a

variable (nD τ Ix Val Name U Lvl) in
/-- The part of a core's launch that stays with the core: its scoped buffers, the staging and the idle semaphores. -/
def kept (c : Dev nD) : sProp 𝕄 :=
  iprop(scopedBufs (c.tc : Thread nD τ) ∗ PerCore.cellsSems0 pins p c ∗ PerCore.idleSems0 pins phinj p (fun _ => ho) c)

/-- What a core holds when its @main starts: what it kept, what it owes, the levels, the pipeline's ghost state, and
    `X c`, its part of the deal. -/
def ready [Preorder Lvl] (O₀ : Dev nD → CellTallies nD τ sig Ix) (L : GSem nD τ sig → Finset Ix) (lv : GSem nD τ sig → Ix → Lvl)
    (X : Dev nD → sProp 𝕄) (c : Dev nD) : sProp 𝕄 :=
  iprop(kept nD τ Val Ix Name U Lvl pcs a phinj p ho c ∗ owes (c.tc : Thread nD τ) (O₀ c) ∅ ∗ levAts L lv
    ∗ PerCore.cellsGhost pins EP p c ∗ PerCore.toksInit pins EP p c ∗ X c)

/-- What the deal is made of, on core `c`: its own semaphores at zero, its HBM arrays as launched and its launch credit. -/
def stake (osem : K → SemLoc sig) (O₀ : Dev nD → CellTallies nD τ sig Ix) (m : (ℓ : Loc nD τ sig) → Buf Val ℓ) (c : Dev nD) : sProp 𝕄 :=
  iprop(ownSems0 osem c ∗ unscopedBufs c (fun b => m ((c.tc : Thread nD τ).loc b)) ∗ launchCred O₀ c)

include hw in
/-- One core's launch: what it keeps, what it stakes, what it owes and its right to assign levels. -/
theorem launch_split [Preorder Lvl] (O₀ : Dev nD → CellTallies nD τ sig Ix) (m : (ℓ : Loc nD τ sig) → Buf Val ℓ) (g : Dev nD → PrngReg) (c : Dev nD) :
    coreInit (Ix := Ix) (Name := Name) (U := U) (Lvl := Lvl) (owing O₀) 0 (⟨m, fun _ => 0, g⟩ : MemSt nD τ sig Val) (c.tc : Thread nD τ)
      ⊢ iprop(kept nD τ Val Ix Name U Lvl pcs a phinj p ho c ∗ stake osem O₀ m c ∗ owes (c.tc : Thread nD τ) (O₀ c) ∅ ∗ levels0 c) := by
  refine (coreInit_boundary_owing O₀ m g c).trans ?_
  unfold boundary kept stake
  rw [PerCore.scopedSems0_split pins phinj p (fun _ => hw) (fun _ => ho) c]
  iintro ⟨⟨Hbufs, ⟨⟨Hcells, Hown⟩, Hidle⟩, -⟩, Hub, -, HO, Hlv, -, Hcr⟩
  isplitl [Hbufs Hcells Hidle]
  · isplitl [Hbufs]; · iexact Hbufs
    isplitl [Hcells] <;> iassumption
  isplitl [Hown Hub Hcr]
  · isplitl [Hown]; · iexact Hown
    isplitl [Hub] <;> iassumption
  isplitl [HO] <;> iassumption

include hw in
/-- The launch of the whole mesh: the deal `hglob` made of every core's stake, every core is ready. -/
theorem launch_ready [DecidableEq P] [Preorder Lvl] [EP.LandsIn (upEmb : UEmb _ 𝕄)]
    (O₀ : Dev nD → CellTallies nD τ sig Ix) (m : (ℓ : Loc nD τ sig) → Buf Val ℓ) (g : Dev nD → PrngReg)
    (L : GSem nD τ sig → Finset Ix) (lv : GSem nD τ sig → Ix → Lvl) (hL : ∀ g : GSem nD τ sig, g.1.2 ≠ .tc → L g = ∅)
    (X : Dev nD → sProp 𝕄) (G : sProp 𝕄) (u₀ : U)
    (hu₀ : (ownU u₀ : sProp 𝕄)
      ⊢ |={Set.univ}=> iprop(BI.own (EP (initOf (PerCore.cells pins phinj) (PerCore.launchToks pins phinj))) ∗ G))
    (hglob : iprop((bigSep Finset.univ fun c => stake osem O₀ m c) ∗ levAts L lv ∗ G) ⊢ |={Set.univ}=> bigSep Finset.univ X) :
    iprop(bigSep Finset.univ (fun d : Dev nD => coreInit (Ix := Ix) (Name := Name) (U := U) (Lvl := Lvl) (owing O₀) 0
        (⟨m, fun _ => 0, g⟩ : MemSt nD τ sig Val) (d.tc : Thread nD τ)) ∗ ownU u₀)
      ⊢ |={Set.univ}=> bigSep Finset.univ (ready pcs a phinj p ho EP O₀ L lv X) := by
  have hpick (Φ : P → Dev nD → sProp 𝕄) :
      (bigSep Finset.univ fun c : Dev nD => bigSep Finset.univ fun q => Φ q c) ⊢ bigSep Finset.univ fun c : Dev nD => Φ p c :=
    bigSep_mono fun c _ => BI.bigSep_elim (Finset.mem_univ p)
  have hlevs : (levAts L lv : sProp 𝕄) ⊢ bigSep Finset.univ fun _ : Dev nD => levAts L lv :=
    BI.bigSep_intro_persistent fun _ _ => BI.Entails.refl _
  have hcores : (bigSep Finset.univ fun d : Dev nD => coreInit (Ix := Ix) (Name := Name) (U := U) (Lvl := Lvl) (owing O₀) 0
        (⟨m, fun _ => 0, g⟩ : MemSt nD τ sig Val) (d.tc : Thread nD τ))
      ⊢ (iprop((bigSep Finset.univ fun c => kept nD τ Val Ix Name U Lvl pcs a phinj p ho c) ∗ (bigSep Finset.univ fun c => stake osem O₀ m c)
        ∗ (bigSep Finset.univ fun c : Dev nD => owes (c.tc : Thread nD τ) (O₀ c) ∅) ∗ bigSep Finset.univ fun c : Dev nD => levels0 c) : sProp 𝕄) := by
    refine (bigSep_mono fun c _ => launch_split pcs a phinj p hw ho O₀ m g c).trans ?_
    simp only [bigSep_sep']
    exact BI.Entails.refl _
  unfold ready
  iintro ⟨Hcores, Hu⟩
  ihave Hc := hcores $$ Hcores
  simp only [bigSep_sep']
  icases Hc with ⟨Hkept, Hstake, HO, Hlv⟩
  imod (assign_levels L lv hL) $$ Hlv with #Hla
  imod hu₀ $$ Hu with ⟨HP, HG⟩
  imod (PerCore.fund_ghost pins EP phinj) $$ HP with ⟨Hg, Ht⟩
  imod hglob $$ [Hstake HG] with HX
  · isplitl [Hstake]; · iexact Hstake
    isplitr; · iexact Hla
    iexact HG
  imodintro
  isplitl [Hkept]; · iexact Hkept
  isplitl [HO]; · iexact HO
  isplitr; · iapply hlevs; iexact Hla
  isplitl [Hg]; · iapply (hpick fun q c => PerCore.cellsGhost pins EP q c); iexact Hg
  isplitl [Ht]; · iapply (hpick fun q c => PerCore.toksInit pins EP q c); iexact Ht
  iexact HX

include phinj hw in
/-- One core's @main, the region alone, from a ready core: it ends with the region's `Y` and its scoped semaphores at zero. -/
theorem run_core [Preorder Lvl] [∀ e, Nonempty (Val e)] [Infinite Name] [EP.LandsIn (upEmb : UEmb _ 𝕄)]
    (hW : (pcs p).W = 0) (hK : (pcs p).pre.K = 0) (c : Dev nD)
    (hbody : (rdats p c).BodyObligation defs₀ 𝒱₀ ι Set.univ)
    (O₀ : Dev nD → CellTallies nD τ sig Ix) (howed₀ : (rdats p c).owed 0 = O₀ c) (howedN : (rdats p c).owed (Fin.last _) = 0)
    (L : GSem nD τ sig → Finset Ix) (lv : GSem nD τ sig → Ix → Lvl)
    (hwaits : (levAts L lv : sProp 𝕄) ⊢ PerCore.RDat.cellsWaits pins rdats ι p c)
    (X Y : Dev nD → sProp 𝕄)
    (hin : iprop(X c ∗ scopedRest (pinD pcs a c p).spec c) ⊢ (rdats p c).Φ 0)
    (hout : (rdats p c).Φ (Fin.last (pinD pcs a c p).N) ⊢ iprop(Y c ∗ ownSems0 osem c ∗ scopedRest (pinD pcs a c p).spec c)) :
    ready pcs a phinj p ho EP O₀ L lv X c
      ⊢ wp frame (wpE 𝔻 𝕍 (c.tc : Thread nD τ) none) Set.univ
          (.op (.customCall (entry p) ()) fun _ => .ret ⟨⟩ : Prog (TpuEff nD τ sig Val (Sig Λ₀ P fun p => (pcs p).Adm) .tc) PUnit)
          (fun _ => post (liftTc (fun c => iprop(Y c ∗ scopedSems0 (c.tc : Thread nD τ))) BI.emp) (c.tc : Thread nD τ)) := by
  have hno : IsEmpty (Fin (pcs p).W) := by rw [hW]; infer_instance
  have hsb := PerCore.scopedBufs_split pins p c hw.stage_scoped hw.stage_inj (fun w => hno.elim w) (τ := τ) (Ix := Ix) (Val := Val) (Name := Name) (U := U) (Lvl := Lvl)
  have harr : (rdats p c).arrays (rdats p c).A = (BI.emp : sProp 𝕄) := by
    unfold RDat.arrays
    rw [@Finset.univ_eq_empty _ _ hno, BI.bigSep_empty]
  have hin' : iprop(X c ∗ prefHeld (pcs p).pre c (fun _ => fullShare) (a c p).1 ∗ scopedRest (pinD pcs a c p).spec c) ⊢ (rdats p c).Φ 0 := by
    rw [prefHeld_of_none _ hK]
    iintro ⟨HX, -, HR⟩
    iapply hin
    isplitl [HX] <;> iassumption
  have hout' : iprop((rdats p c).Φ (Fin.last (pinD pcs a c p).N) ∗ PerCore.cellsSems0 pins p c ∗ Dat.staging (pinD pcs a c p) c ∗ PerCore.idleSems0 pins phinj p (fun _ => ho) c)
      ⊢ iprop(Y c ∗ scopedSems0 (c.tc : Thread nD τ) ∗ scopedBufs (c.tc : Thread nD τ)) := by
    rw [PerCore.scopedSems0_split pins phinj p (fun _ => hw) (fun _ => ho) c, hsb]
    iintro ⟨HΦ, Hcells, Hst, Hidle⟩
    ihave H := hout $$ HΦ
    icases H with ⟨HY, Hown, HR⟩
    isplitl [HY]; · iexact HY
    isplitl [Hcells Hown Hidle]
    · isplitl [Hcells Hown]; · isplitl [Hcells] <;> iassumption
      iexact Hidle
    isplitl [Hst] <;> iassumption
  unfold ready kept
  iintro ⟨⟨Hbufs, Hcells, Hidle⟩, HO, #Hla, Hg, Ht, HX⟩
  ihave Hw := hwaits $$ Hla
  iapply (fupd_wp frame (wpE 𝔻 𝕍 (c.tc : Thread nD τ) none) Set.univ _ _)
  imod (PerCore.RDat.cellsInit_alloc pins rdats EP phinj p c) $$ [Hcells Hg] with ⟨%κ, -, Hinit⟩
  · isplitl [Hcells] <;> iassumption
  imodintro
  iapply (PerCore.RDat.wp_customCall_entry_frame pcs a rdats ι EP κ phinj p defs₀ 𝒱₀ (fun _ => fullShare) c Set.univ (fun _ _ => Set.mem_univ _)
      hbody (fun w => hno.elim w) none (fun u h => nomatch h) (X := X c) (Y := Y c) (R := scopedRest (pinD pcs a c p).spec c)
      (I := PerCore.idleSems0 pins phinj p (fun _ => ho) c) (Entails.of_eq hsb) hin' hout' (k := fun _ => .ret ⟨⟩)) $$ [HO Hinit Ht HX Hidle Hbufs Hw]
  · isplitl [HO Hinit Ht Hw]
    · unfold PerCore.RDat.EntryPre RDat.owesAt owesWithin
      rw [howed₀, harr]
      isplitr; · iempintro
      isplitl [HO]
      · iexists ∅; isplitr; · ipureintro; rw [Finset.coe_empty]; exact Set.empty_subset _
        iexact HO
      isplitl [Hw]; · iexact Hw
      isplitl [Hinit] <;> iassumption
    isplitr; · rw [prefHeld_of_none _ hK]; iempintro
    isplitl [HX]; · iexact HX
    isplitl [Hidle] <;> iassumption
  iintro ⟨Hpost, HY, Hss, -⟩
  rw [wp_ret]; imodintro
  unfold post PerCore.RDat.EntryPost RDat.owesAt owesWithin; simp only [liftTc_tc]
  rw [howedN]
  icases Hpost with ⟨-, ⟨%W, -, HO⟩⟩
  isplitl [HY Hss]
  · isplitl [HY] <;> iassumption
  · iexists W; iexact HO

include phinj hw ho in
/-- The run of a mesh program whose @main is one region without windows or prefetched tables (`hW`, `hK`), the arrays and
    the own semaphores of all devices dealt out together at the launch (`hglob`). The region's proof data owe `O₀` before
    the body and nothing after it; `X c` enters the region, `Y c` leaves it and is read against the final state (`hY`);
    every scoped counter, and every counter of another thread, reads zero at the end. -/
theorem run_dealt [DecidableEq P] [Preorder Lvl] [∀ e, Nonempty (Val e)] [Infinite Name] [EP.LandsIn (upEmb : UEmb _ 𝕄)]
    (hW : (pcs p).W = 0) (hK : (pcs p).pre.K = 0)
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, (rdats p c).BodyObligation defs₀ 𝒱₀ ι Set.univ)
    (O₀ : Dev nD → CellTallies nD τ sig Ix) (howed₀ : ∀ c, (rdats p c).owed 0 = O₀ c) (howedN : ∀ c, (rdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.RDat.cellsWaits pins rdats ι p c)
    (X Y : Dev nD → sProp 𝕄) (G : sProp 𝕄) (u₀ : U)
    (hu₀ : (ownU u₀ : sProp 𝕄)
      ⊢ |={Set.univ}=> iprop(BI.own (EP (initOf (PerCore.cells pins phinj) (PerCore.launchToks pins phinj))) ∗ G))
    (hglob : iprop((bigSep Finset.univ fun c => stake osem O₀ m c) ∗ levAts L lv ∗ G) ⊢ |={Set.univ}=> bigSep Finset.univ X)
    (hin : ∀ c, iprop(X c ∗ scopedRest (pinD pcs a c p).spec c) ⊢ (rdats p c).Φ 0)
    (hout : ∀ c, (rdats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  have hread (c : Dev nD) (s' : Phys nD τ sig Val) : iprop(iprop(Y c ∗ scopedSems0 (c.tc : Thread nD τ)) ∗ SI s') ⊢ |={Set.univ}=>
      iprop(⌜QY c s'.mem ∧ ∀ sm : SemLoc sig, sm.isScoped .tc = true → s'.mem.sem ((c.tc : Thread nD τ), sm) = 0⌝ ∗ SI s') := by
    iintro ⟨⟨HY, Hss⟩, HSI⟩
    ihave %hz := (tcScoped_read_pers c s') $$ [Hss HSI]
    · isplitl [Hss] <;> iassumption
    imod (hY c s') $$ [HY HSI] with ⟨%hy, HSI⟩
    · isplitl [HY] <;> iassumption
    imodintro
    isplitr
    · ipureintro; exact ⟨hy, hz⟩
    · iexact HSI
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ => ready pcs a phinj p ho EP O₀ L lv X) (fun _ c => iprop(Y c ∗ scopedSems0 (c.tc : Thread nD τ)))
      (fun _ => iprop(emp)) Set.univ ?_ (fun _ c => ?_) fun _ => ?_))
  · iintro H
    imod (launch_ready pcs a phinj p hw ho EP O₀ m g L lv hL X G u₀ hu₀ hglob) $$ H with HX
    imodintro
    iexists ()
    isplitl [HX]; · iexact HX
    iempintro
  · rw [hmain c]
    exact run_core pcs a rdats ι phinj p hw ho EP defs₀ 𝒱₀ hW hK c (hbody c) O₀ (howed₀ c) (howedN c) L lv (hwaits c) X Y (hin c) (hout c)
  · iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end

end Cert.MeshLaunch

end
-- ==== Proof.ExchangeRun.lean ====
/-
  The exchange of gradients: the launch and the run.

  At the launch every device's arrays, semaphores and rights are dealt out once. Device `c` gets its own argument,
  slot `c` of every device's result, and the rights to credit the receive semaphores of the devices it sends to.
-/
module

public import proofs.«01_k».proof.Proof.ExchangeBody
public import proofs.«01_k».proof.Proof.MeshLaunch
public import proofs.«01_k».proof.Proof.Gen.ExchangeIdeal.Launch
public import proofs.«01_k».proof.Proof.Gen.ExchangeIdeal.Points

@[expose] public section

noncomputable section

namespace Cert.ExchangeProof

open Cert.ExchangeIdeal Cert.ExchangeIdeal.Gen Cert.OneShot Cert.Hops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- Where the pipeline's ghost state lies. -/
abbrev EP : Emb (UR sig nD τ) (MT nD τ sig Unit (Elt F) ℕ UU ℕ) := embL

variable (m : (ℓ : Loc nD τ sig) → Buf (Elt F) ℓ)

/-! ## The deal -/

/-- The rights and the promises of device `c`. -/
def rights (c : Dev nD) : sProp 𝕄 :=
  iprop((bigSep Finset.univ fun k => (plan m).pos ER (c, k)) ∗ (bigSep Finset.univ fun r => (plan m).due (c, recvK r))
    ∗ (bigSep Finset.univ fun r => (plan m).tok ER (c, sendK r)) ∗ (bigSep Finset.univ fun r : Fin 7 => (plan m).tok ER (hop r.succ c, recvK r))
    ∗ (plan m).tok ER (c, hereK))
/-- The slots it reads, and the slots it fills. -/
def slots (c : Dev nD) : sProp 𝕄 :=
  iprop((bigSep Finset.univ fun p => src m c p) ∗ bigSep Finset.univ fun d : Dev nD => iprop(∃ f, dst d c f))

omit [FloatOps F] in
theorem start_intro (κ : Dev nD × K → ℕ) (c : Dev nD) : iprop((plan m).records ER κ ∗ rights m c ∗ slots m c) ⊢ start m c := by
  unfold rights slots start sending
  rw [stages_none, seen_from c (fun p => src m c p), seen_from c (fun d => iprop(∃ f, dst d c f))]
  unfold load
  simp only [bigSep_sep']
  iintro ⟨HR, ⟨Hpos, Hdue, Hts, Htr, Hth⟩, ⟨Hsc, Hs⟩, Hdc, Hd⟩
  isplitl [HR]; · iexists κ; iexact HR
  isplitl [Hpos]; · iexact Hpos
  isplitl [Hdue]; · iexact Hdue
  isplitl [Hts Htr Hs Hd]
  · isplitl [Hts]; · iexact Hts
    isplitl [Htr]; · iexact Htr
    isplitl [Hs] <;> iassumption
  isplitl [Hth]; · iexact Hth
  isplitl [Hsc] <;> iassumption

omit [FloatOps F] in
/-- The rights to copy, dealt to the devices that make the copies. -/
theorem deal_toks : (bigSep Finset.univ fun ck => (plan m).tok ER ck)
    ⊢ (iprop((bigSep Finset.univ fun c : Dev nD => bigSep Finset.univ fun r => (plan m).tok ER (c, sendK r))
      ∗ (bigSep Finset.univ fun c : Dev nD => bigSep Finset.univ fun r : Fin 7 => (plan m).tok ER (hop r.succ c, recvK r))
      ∗ bigSep Finset.univ fun c : Dev nD => (plan m).tok ER (c, hereK)) : sProp 𝕄) := by
  have h (c : Dev nD) : (bigSep Finset.univ fun k : K => (plan m).tok ER (c, k)) = (iprop((bigSep Finset.univ fun r => (plan m).tok ER (c, sendK r))
      ∗ (bigSep Finset.univ fun r => (plan m).tok ER (c, recvK r)) ∗ (plan m).tok ER (c, hereK)) : sProp 𝕄) := by
    rw [BI.bigSep_univ_sum, BI.bigSep_univ_sum, Finset.univ_unique (α := Unit), bigSep_singleton]; rfl
  have hr : (bigSep Finset.univ fun c : Dev nD => bigSep Finset.univ fun r : Fin 7 => (plan m).tok ER (c, recvK r))
      = (bigSep Finset.univ fun c : Dev nD => bigSep Finset.univ fun r : Fin 7 => (plan m).tok ER (hop r.succ c, recvK r) : sProp 𝕄) := by
    rw [BI.bigSep_univ_comm, BI.bigSep_univ_comm fun (c : Dev nD) (r : Fin 7) => (plan m).tok ER (hop r.succ c, recvK r)]
    exact bigSep_congr fun r _ => BI.bigSep_univ_equiv (hopPerm r.succ) fun c : Dev nD => (plan m).tok ER (c, recvK r)
  rw [BI.bigSep_univ_prod, bigSep_congr fun c _ => h c, bigSep_sep', bigSep_sep', hr]

omit [FloatOps F] in
/-- The arrays, cut into slots, dealt to the devices that use them. -/
theorem deal_slots : (bigSep Finset.univ fun c : Dev nD => iprop((bigSep Finset.univ fun p => src m c p)
      ∗ bigSep Finset.univ fun p : Fin 8 => dst c p (m ((c.tc : Thread nD τ).loc main_v1)))) ⊢ bigSep Finset.univ (slots m) := by
  unfold slots
  rw [bigSep_sep', bigSep_sep', BI.bigSep_univ_comm fun (c : Dev nD) (p : Fin 8) => dst c p (m ((c.tc : Thread nD τ).loc main_v1))]
  have h (p : Fin 8) (d : Dev nD) : dst d p (m ((d.tc : Thread nD τ).loc main_v1)) ⊢ (iprop(∃ f, dst d p f) : sProp 𝕄) := by
    iintro H; iexists _; iexact H
  exact sep_mono_right (bigSep_mono fun p _ => bigSep_mono fun d _ => h p d)

omit [FloatOps F] in
/-- A device's arrays are its slots. -/
theorem arrays (c : Dev nD) : (unscopedBufs c (fun b => m ((c.tc : Thread nD τ).loc b)) : sProp 𝕄)
    = iprop((bigSep Finset.univ fun p => src m c p) ∗ bigSep Finset.univ fun p : Fin 8 => dst c p (m ((c.tc : Thread nD τ).loc main_v1))) := by
  have h := Pipeline.unscopedBufs_split (Ix := Unit) (Name := ℕ) (U := UU) (Lvl := ℕ) (τ := τ) (nD := nD) cfgs (0 : Fin 1) (fun w => w.elim0) (fun w => w.elim0)
    c (fun b => m ((c.tc : Thread nD τ).loc b))
  rw [h]
  have hA := Slots.split (U := UU) c A fullShare (arg m c)
  have hO := Slots.split (U := UU) c O fullShare (m ((c.tc : Thread nD τ).loc main_v1))
  rw [View.set_whole] at hA hO
  unfold src dst
  rw [← hA, ← hO]
  show iprop((bigSep Finset.univ fun w : Fin 0 => _) ∗ Pipeline.unscopedRest cfg0.spec c _) = _
  rw [Finset.univ_eq_empty, BI.bigSep_empty, unscopedRest0_eq]
  exact BI.equiv_iff.mp BI.emp_sep

/-- Everything staked at the launch, dealt out. -/
theorem deal (L : GSem nD τ sig → Finset Unit) (lv : GSem nD τ sig → Unit → ℕ) :
    iprop((bigSep Finset.univ fun c => MeshLaunch.stake osem (owed 0) m c) ∗ levAts L lv ∗ BI.own (ER (initOf (plan m).cells (plan m).toks)))
      ⊢ (|={Set.univ}=> bigSep Finset.univ (start m) : sProp 𝕄) := by
  have hstake (c : Dev nD) : MeshLaunch.stake osem (owed 0) m c
      ⊢ (iprop(Pipeline.ownSems0 osem c ∗ (iprop((bigSep Finset.univ fun p => src m c p) ∗ bigSep Finset.univ fun p : Fin 8 => dst c p (m ((c.tc : Thread nD τ).loc main_v1))))
        ∗ bigSep Finset.univ fun r => (plan m).due (c, recvK r)) : sProp 𝕄) := by
    unfold MeshLaunch.stake
    rw [arrays]
    exact sep_mono_right (sep_mono_right (promised m c))
  have hall (κ : Dev nD × K → ℕ) : iprop((plan m).records ER κ ∗ bigSep Finset.univ fun c => iprop(rights m c ∗ slots m c)) ⊢ (bigSep Finset.univ (start m) : sProp 𝕄) :=
    (sep_mono_left (BI.bigSep_of_persistent Finset.univ ((plan m).records ER κ))).trans
      (by rw [← bigSep_sep']; exact bigSep_mono fun c _ => start_intro m κ c)
  have hst : (bigSep Finset.univ fun c => MeshLaunch.stake osem (owed 0) m c) ⊢ (iprop((bigSep Finset.univ fun c => Pipeline.ownSems0 osem c)
      ∗ (bigSep Finset.univ fun c => iprop((bigSep Finset.univ fun p => src m c p) ∗ bigSep Finset.univ fun p : Fin 8 => dst c p (m ((c.tc : Thread nD τ).loc main_v1))))
      ∗ bigSep Finset.univ fun c => bigSep Finset.univ fun r => (plan m).due (c, recvK r)) : sProp 𝕄) := by
    rw [← bigSep_sep', ← bigSep_sep']
    exact bigSep_mono fun c _ => hstake c
  have hopen : iprop((bigSep Finset.univ fun c : Dev nD => Pipeline.ownSems0 osem c) ∗ BI.own (ER (initOf (plan m).cells (plan m).toks)))
      ⊢ (|={Set.univ}=> ∃ κ, (plan m).records ER κ ∗ (bigSep Finset.univ fun ck => (plan m).pos ER ck) ∗ bigSep Finset.univ fun ck => (plan m).tok ER ck : sProp 𝕄) :=
    (plan m).opened ER
  iintro ⟨Hst, -, HG⟩
  ihave H := hst $$ Hst
  icases H with ⟨Hsem, Harr, Hdue⟩
  imod hopen $$ [Hsem HG] with ⟨%κ, HR, Hpos, Htok⟩
  · isplitl [Hsem] <;> iassumption
  imodintro
  ihave Htok := (deal_toks m) $$ Htok
  icases Htok with ⟨Hts, Htr, Hth⟩
  ihave Hslots := (deal_slots m) $$ Harr
  ihave Hpos := (Entails.of_eq (BI.bigSep_univ_prod fun ck => (plan m).pos ER ck)) $$ Hpos
  iapply (hall κ)
  isplitl [HR]; · iexact HR
  unfold rights
  simp only [bigSep_sep']
  isplitr [Hslots]
  · isplitl [Hpos]; · iexact Hpos
    isplitl [Hdue]; · iexact Hdue
    isplitl [Hts]; · iexact Hts
    isplitl [Htr] <;> iassumption
  iexact Hslots

/-! ## The kernel as the launch sees it -/

/-- The proof data of device `c`'s call: it starts with its deal and the debt of its sends, and ends with neither. -/
def dats (_ : Fin 1) (c : Dev nD) : Dat τ (Elt F) Unit ℕ UU ℕ cfg0 c where
  A w := w.elim0
  after w _ := w.elim0
  Φ t := match t with
    | ⟨0, _⟩ => start m c
    | ⟨_ + 1, _⟩ => finish m c
  q _ := fullShare
  owed t := match t with
    | ⟨0, _⟩ => owed 0 c
    | ⟨_ + 1, _⟩ => 0

theorem body_obligation (c : Dev nD) : BodyObligation (dats (F := F) m 0 c) (defs₀ (F := F)) 𝒱₀ () Set.univ := fun t => by
  rw [fin_N0 t]
  have hW (Φ : Fin cfg0.W → sProp 𝕄) : bigSep Finset.univ Φ = BI.emp := by
    show bigSep (Finset.univ : Finset (Fin 0)) Φ = BI.emp
    rw [Finset.univ_eq_empty, BI.bigSep_empty]
  rw [hW, hW]
  unfold Dat.owesAt Pipeline.owesWithin
  show iprop(start m c ∗ (∃ W, ⌜_⌝ ∗ owes (c.tc : Thread nD τ) (owed 0 c) W) ∗ emp) ⊢ wp frame (wpE (defs₀ (F := F)) 𝒱₀ (c.tc : Thread nD τ) none) Set.univ (bodyAt0 t0_0)
    (fun _ => iprop(finish m c ∗ (∃ W, ⌜_⌝ ∗ owes (c.tc : Thread nD τ) (0 : CellTallies nD τ sig Unit) W) ∗ emp))
  iintro ⟨Hs, ⟨%W, -, HO⟩, -⟩
  iapply (sound_body m c _)
  isplitl [Hs]; · iexact Hs
  isplitl [HO]; · iexists W; iexact HO
  iintro ⟨Hf, ⟨%W', HO⟩⟩
  isplitl [Hf]; · iexact Hf
  isplitl; · iexists W'; isplitr; · ipureintro; exact fun _ _ => Or.inl trivial
             iexact HO
  iempintro

theorem ownSemFacts : Pipeline.OwnSemFacts cfg0.spec osem := by decide

/-! ## The run -/

/-- What the device's arrays hold at the end. -/
def final (c : Dev nD) : sProp 𝕄 := iprop(((c.tc : Thread nD τ).loc main_arg0 ↦{fullShare} arg m c) ∗ ((c.tc : Thread nD τ).loc main_v1 ↦{fullShare} res m c))

omit [FloatOps F] in
theorem finish_final (c : Dev nD) : finish m c ⊢ iprop(final m c ∗ Pipeline.ownSems0 osem c) := by
  have hpay : (bigSep Finset.univ fun k : K => pay m c k) ⊢ final m c := by
    have hA := Slots.split (U := UU) c A fullShare (arg m c)
    have hO := Slots.split (U := UU) c O fullShare (res m c)
    rw [View.set_whole] at hA hO
    unfold final
    rw [show ((c.tc : Thread nD τ).loc main_arg0 ↦{fullShare} arg m c : sProp 𝕄) = bigSep Finset.univ fun p => src m c p from hA,
      show ((c.tc : Thread nD τ).loc main_v1 ↦{fullShare} res m c : sProp 𝕄) = bigSep Finset.univ fun p => dst c p (res m c) from hO,
      seen_from c (fun p => src m c p), seen_from c (fun p => dst c p (res m c)), BI.bigSep_univ_sum, BI.bigSep_univ_sum, Finset.univ_unique (α := Unit), bigSep_singleton]
    show iprop((bigSep Finset.univ fun r : Fin 7 => src m c (hop r.succ c)) ∗ (bigSep Finset.univ fun r : Fin 7 => dst c (hop r.succ c) (res m c))
      ∗ dst c c (res m c) ∗ src m c c) ⊢ _
    iintro ⟨Hs, Hd, Hdc, Hsc⟩
    isplitl [Hs Hsc]
    · isplitl [Hsc] <;> iassumption
    isplitl [Hdc] <;> iassumption
  unfold finish
  exact sep_mono_left hpay

omit [FloatOps F] in
theorem final_read (c : Dev nD) (s' : Phys nD τ sig (Elt F)) : iprop(final m c ∗ SI s') ⊢ (|={Set.univ}=>
    iprop(⌜s'.mem.mem ((c.tc : Thread nD τ).loc main_arg0) = arg m c ∧ s'.mem.mem ((c.tc : Thread nD τ).loc main_v1) = res m c⌝ ∗ SI s') : sProp 𝕄) := by
  unfold final
  iintro ⟨⟨HA, HO⟩, HSI⟩
  ihave %hA := (SI_pointsTo_agree) $$ [HSI HA]
  · isplitl [HSI] <;> iassumption
  ihave %hO := (SI_pointsTo_agree) $$ [HSI HO]
  · isplitl [HSI] <;> iassumption
  imodintro
  isplitr
  · ipureintro
    exact ⟨funext fun i => hA i (Finset.mem_univ i), funext fun i => hO i (Finset.mem_univ i)⟩
  iexact HSI

/-- The ghost state of the launch. -/
def u₀ : UU := (initOf (Pipeline.cells cfgs cellOf_inj) (Pipeline.launchToks cfgs cellOf_inj), initOf (plan (F := F) m).cells (plan (F := F) m).toks)

/-- For any float values and from any memory: every execution of the exchange on the eight devices ends, each argument as it
    was, slot `p` of device `c`'s result slot `c` of device `p`'s argument, and every semaphore at zero. -/
theorem run_main (g : Dev nD → PrngReg) : θ_run defs (onTc (τ := τ) (main (F := F))) ⟨m, fun _ => 0, g⟩ (fun r =>
    (∀ c : Dev nD, r.2.mem ((c.tc : Thread nD τ).loc main_arg0) = arg m c ∧ r.2.mem ((c.tc : Thread nD τ).loc main_v1) = res m c) ∧ r.2.sem = fun _ => 0) :=
  MeshLaunch.run_dealt (fun p => (cfgs p).toPCfg) (fun _ p => (cfgs p).toPCfg_adm) (Dat.toRs (dats m)) () cellOf_inj (0 : Fin 1)
    winFacts0.to₀ ownSemFacts EP (defs₀ (F := F)) 𝒱₀ rfl rfl m g main (fun _ => rfl) (fun c => (body_obligation m c).toR)
    (owed 0) (fun _ => rfl) (fun _ => rfl) (fun _ => ∅) (fun _ _ => 0) (fun _ _ => rfl)
    (fun c => Pipeline.PerCore.RDat.cellsWaits_intro _ _ () 0 c fun w => w.elim0)
    (start m) (final m) (BI.own (ER (initOf (plan m).cells (plan m).toks))) (u₀ m)
    (by
      unfold u₀
      iintro Hu
      ihave H := (ownU_pair _ _) $$ Hu
      icases H with ⟨HP, HX⟩
      imodintro
      isplitl [HP] <;> iassumption)
    (deal m _ _)
    (fun c => by
      show iprop(start m c ∗ _) ⊢ start m c
      iintro ⟨H, -⟩
      iexact H)
    (fun c => by
      have h : Pipeline.scopedRest cfg0.spec c = (BI.emp : sProp 𝕄) := scopedRest0_eq c
      show finish m c ⊢ iprop(final m c ∗ Pipeline.ownSems0 osem c ∗ Pipeline.scopedRest cfg0.spec c)
      rw [h]
      iintro H
      ihave H := (finish_final m c) $$ H
      icases H with ⟨H1, H2⟩
      isplitl [H1]; · iexact H1
      isplitl; · iexact H2
      iempintro)
    (fun c s => s.mem ((c.tc : Thread nD τ).loc main_arg0) = arg m c ∧ s.mem ((c.tc : Thread nD τ).loc main_v1) = res m c)
    (final_read m)
    (fun _ h hs => ⟨h, sem_eq_zero_of_scoped (by decide) hs⟩)

end Cert.ExchangeProof

end
-- ==== Proof.ExchangeRef.lean ====
/-
  The reference of the exchange of gradients, and the equation.

  The reference has the whole array on one device: row block `8 d + s` is device `d`'s slot for device `s`. It swaps the
  two: row block `8 c + p` of the result is row block `8 p + c` of the argument. This module says so of its run, and that block `c`
  of that result is what device `c` of the exchange ends with.
-/
module

public import proofs.«01_k».proof.Proof.Exchange
public import proofs.«01_k».proof.Proof.Gen.ExchangeRefIdeal
public import Idealize.ShloMosaic.Lib.StableHlo.Run
public import Idealize.ShloMosaic.Lib.Layout
public import Idealize.ShloMosaic.Lib.Quiescent
public import Idealize.ShloMosaic.Lib.Pipeline.Value

@[expose] public section

noncomputable section

namespace Cert.ExchangeRefProof

open Cert.ExchangeRefIdeal Cert.ExchangeRefIdeal.Gen
open Idealize.ShloMosaic Idealize.ShloMosaic.TcCoe Idealize.ShloMosaic.StableHlo Idealize.SL.Sem

variable {F : FTy → Type} [FloatOps F] {α : Type}

/-- The reference's result, from its argument. -/
def swapped (x : S64x33856x128.Idx → α) : S64x33856x128.Idx → α :=
  shapeCast S64x33856x128 (transpose S8x8x33856x128 [1, 0, 2, 3] (shapeCast S8x8x33856x128 x shapeCasts_S64x33856x128_S8x8x33856x128)
    transposes_S8x8x33856x128_S8x8x33856x128_1_0_2_3) shapeCasts_S8x8x33856x128_S64x33856x128

/-- The reference's operations, in order. -/
abbrev ops : List (HloOp τ sig (Elt F)) :=
  [ reshape main_arg0 main_v0 (rfl : (.f32 : EltTy) = .f32) shapeCasts_S64x33856x128_S8x8x33856x128,
    unary main_v0 main_v1 ((transpose S8x8x33856x128 [1, 0, 2, 3] · transposes_S8x8x33856x128_S8x8x33856x128_1_0_2_3) :
      (⟨S8x8x33856x128, .f32⟩ : BufTy).Contents (Elt F) → (⟨S8x8x33856x128, .f32⟩ : BufTy).Contents (Elt F)),
    reshape main_v1 main_v2 (rfl : (.f32 : EltTy) = .f32) shapeCasts_S8x8x33856x128_S64x33856x128 ]

theorem main_eq (c : Dev nD) : main (F := F) c = seq ops := rfl

theorem out_eq (V : Valuation τ sig (Elt F)) : after ops V (main_v2 : DevRef τ sig) = swapped (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub ..⟩

/-- The reference ends with the swapped array, its argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v2) = swapped (m ((c.tc : Thread nD τ).loc main_arg0))
        ∧ r.2.mem ((c.tc : Thread nD τ).loc main_arg0) = m ((c.tc : Thread nD τ).loc main_arg0) :=
  (θ_run defs _ _).mono (fun _ h c => ⟨(h c main_v2).trans (out_eq _), (h c main_arg0).trans (arg0_eq _)⟩)
    (run_seq scopedRefs_eq scopedSems_eq defs main (fun _ => ops) main_eq (fun _ => ops_sub) m ρ)

/-! ## The equation -/

theorem val_eq_three {d : Fin 3 → ℕ} {x y : (⟨3, d⟩ : Shape).Idx} (h0 : (x 0).val = (y 0).val) (h1 : (x 1).val = (y 1).val) (h2 : (x 2).val = (y 2).val) :
    x = y :=
  funext fun a => Fin.ext (match a with | ⟨0, _⟩ => h0 | ⟨1, _⟩ => h1 | ⟨2, _⟩ => h2)

/-- Row block `8 a + b` of the result is row block `8 b + a` of the argument. -/
theorem swapped_apply (x : S64x33856x128.Idx → α) (i j : S64x33856x128.Idx) (a b : ℕ) (ha : a < 8) (hb : b < 8)
    (hi : (i 0).val = 8 * a + b) (hj : (j 0).val = 8 * b + a) (h1 : (j 1).val = (i 1).val) (h2 : (j 2).val = (i 2).val) :
    swapped x i = x j := by
  have hr : (i 1).val < 33856 := (i 1).isLt
  have hw : (i 2).val < 128 := (i 2).isLt
  let k : S8x8x33856x128.Idx := fun t => match t with
    | ⟨0, _⟩ => ⟨a, ha⟩ | ⟨1, _⟩ => ⟨b, hb⟩ | ⟨2, _⟩ => ⟨(i 1).val, hr⟩ | ⟨3, _⟩ => ⟨(i 2).val, hw⟩
  let l : S8x8x33856x128.Idx := fun t => match t with
    | ⟨0, _⟩ => ⟨b, hb⟩ | ⟨1, _⟩ => ⟨a, ha⟩ | ⟨2, _⟩ => ⟨(i 1).val, hr⟩ | ⟨3, _⟩ => ⟨(i 2).val, hw⟩
  unfold swapped
  rw [shapeCast_apply _ _ i k, transpose_apply _ _ _ k l, shapeCast_apply _ _ l j]
  · rw [Shape.rowMajor_val_three, Shape.rowMajor_val_four, hj, h1, h2]
    show ((8 * b + a) * 33856 + (i 1).val) * 128 + (i 2).val = ((b * 8 + a) * 33856 + (i 1).val) * 128 + (i 2).val
    omega
  · rintro ⟨_ | _ | _ | _ | t, ht⟩ <;> first | rfl | exact absurd ht (by simp)
  · rw [Shape.rowMajor_val_three, Shape.rowMajor_val_four, hi]
    show ((a * 8 + b) * 33856 + (i 1).val) * 128 + (i 2).val = ((8 * a + b) * 33856 + (i 1).val) * 128 + (i 2).val
    omega

/-- A block's index keeps the coordinates of the axes that are not cut. -/
theorem idx_tail {k r w N R W : ℕ} (h : Layout.Tiles ⟨3, ![k, r, w]⟩ ⟨3, ![N, R, W]⟩ 0 8) (c : Fin 8) (i : (⟨3, ![k, r, w]⟩ : Shape).Idx) (b : Fin 3) (hb : b.val ≠ 0) :
    (h.idx c i b).val = (i b).val := by
  exact (Layout.Tiles.idx_val h c i b).trans (if_neg hb)

/-- Where every device's argument is its block of the whole array `x`, what device `c` of the exchange ends with is its
    block of the reference's result. -/
theorem res_eq (m : (ℓ : Loc Cert.ExchangeIdeal.nD Cert.ExchangeIdeal.τ Cert.ExchangeIdeal.sig) → Buf (Elt F) ℓ) (x : S64x33856x128.Idx → Elt F .f32)
    (h : Layout.Tiles ⟨3, ![8, 33856, 128]⟩ ⟨3, ![64, 33856, 128]⟩ 0 8)
    (hm : ∀ c : Dev Cert.ExchangeIdeal.nD, ExchangeProof.arg m c = Layout.block ⟨3, ![8, 33856, 128]⟩ ⟨3, ![64, 33856, 128]⟩ 0 8 c x h) (c : Dev Cert.ExchangeIdeal.nD) :
    ExchangeProof.res m c = Layout.block ⟨3, ![8, 33856, 128]⟩ ⟨3, ![64, 33856, 128]⟩ 0 8 c (swapped x) h := by
  funext i
  have hc : c.val < 8 := c.isLt
  have hi : (i 0).val < 8 := (i 0).isLt
  refine (congrFun (hm (⟨(i 0).val, hi⟩ : Fin 8)) (Slots.move i c)).trans ?_
  rw [Layout.block_apply, Layout.block_apply]
  refine (swapped_apply x _ _ c.val (i 0).val hc hi ?_ ?_ ?_ ?_).symm
  · rw [Layout.Tiles.idx_val]; show c.val * 8 + (i 0).val = _; omega
  · rw [Layout.Tiles.idx_val]; show (i 0).val * 8 + c.val = _; omega
  · exact (idx_tail h _ _ 1 (by decide)).trans (idx_tail h _ _ 1 (by decide)).symm
  · exact (idx_tail h _ _ 2 (by decide)).trans (idx_tail h _ _ 2 (by decide)).symm

end Cert.ExchangeRefProof

end
-- ==== Proof.Gather.lean ====
/-
  A gather on eight devices: the protocol.

  Device `c` holds one block, and every device is to hold the eight. Device `c` copies its block to its own slot `c`, and sends
  it to the devices `1`, `4`, `2` and `6` away. Each of the three blocks that then come from the devices `4`, `2` and `6` away it passes
  on to the device `1` away. So `way r` says how far the send `r` goes, `car r` from how far the block it carries came,
  and `land r` from how far the block of the receipt `r` comes, seen from the receiver.
  Each copy is counted by two semaphores of its own, one of the sender and one of the receiver. A device that waits for a
  block to pass on still owes the blocks it has to pass on, so those last receipts lie one level above the first ones.

  The protocol is for any such gather: a `Site` is the argument, the result and the semaphores of one.
-/
module

public import proofs.«01_k».proof.Proof.OneShot
public import proofs.«01_k».proof.Proof.Slots
public import proofs.«01_k».proof.Proof.Hops
public import Idealize.ShloMosaic.Lib.Transfers

@[expose] public section

noncomputable section

namespace Cert.Gather

open Cert.OneShot Cert.Hops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Who sends what where -/

def way : Fin 7 → Fin 8 := ![1, 4, 2, 6, 1, 1, 1]
def car : Fin 7 → Fin 8 := ![0, 0, 0, 0, 4, 2, 6]
def land : Fin 7 → Fin 8 := ![1, 4, 2, 6, 5, 3, 7]

theorem lands : ∀ (r : Fin 7) (c : Dev 8), hop (land r) (hop (way r) c) = hop (car r) c := by decide

/-- The semaphores of a device: of its sends, of its receipts, and of the copy within. -/
abbrev K : Type := Fin 7 ⊕ Fin 7 ⊕ Unit
@[match_pattern] abbrev sendK (r : Fin 7) : K := .inl r
@[match_pattern] abbrev recvK (r : Fin 7) : K := .inr (.inl r)
@[match_pattern] abbrev hereK : K := .inr (.inr ())

/-- The argument, the result and the semaphores of a gather of blocks of `n` rows. -/
structure Site (sig : RefSig) (n : ℕ) (e : EltTy) where
  A : Memref sig .tc .hbm (Slots.Flat n 128) e
  O : Memref sig .tc .hbm (Slots.Arr 8 n 128) e
  whole_A : A.view.set = Finset.univ
  whole_O : O.view.set = Finset.univ
  sq : (Slots.Row n 128).Squeezes (Slots.Flat n 128)
  sem : K → DmaSem sig
  sem_inj : Function.Injective sem
  /-- What a copy of one block credits. -/
  N : ℕ
  N_pos : 0 < N
  credit_A : A.view.dmaCredit = N
  credit_O : ∀ off h, (Slots.cut O off h sq).view.dmaCredit = N

/-- The pipeline's ghost state beside the protocol's. -/
abbrev UU (sig : RefSig) (τ : Topo) : Type := UR sig 8 τ × UR sig 8 τ

theorem inb {n : ℕ} (p : Fin 8) : ∀ a, (![p.val, 0, 0] : Fin 3 → ℕ) a + (Slots.Row n 128).size a ≤ (Slots.Arr 8 n 128).size a
  | ⟨0, _⟩ => p.isLt
  | ⟨1, _⟩ => (Nat.zero_add n).le
  | ⟨2, _⟩ => Nat.le_refl 128

variable {τ : Topo} {sig : RefSig} {Val : EltTy → Type} {n : ℕ} {e : EltTy} (S : Site sig n e)

local notation "𝕄" => MT 8 τ sig Unit Val ℕ (UU sig τ) ℕ

/-- The semaphore of index `k`. -/
def Site.osem (k : K) : SemLoc sig := .dma (S.sem k)

theorem Site.osem_inj : Function.Injective S.osem := fun _ _ h => S.sem_inj (SemLoc.dma.inj h)

/-! ## Contents -/

variable (τ Val) in
/-- What the devices hold: the blocks, and the result, the same on every device, whose slot `p` is the block of device `p`. -/
structure Blocks where
  arg : (c : Dev 8) → Buf Val (S.A.view.loc (c.tc : Thread 8 τ))
  res : (c : Dev 8) → Buf Val (S.O.view.loc (c.tc : Thread 8 τ))
  read : ∀ (c : Dev 8) (x : (Slots.Arr 8 n 128).Idx), S.O.view.read Val (res c) x = S.A.view.read Val (arg (x 0)) (Slots.tail x)

variable {S} (B : Blocks τ Val S)

/-- A share of device `c`'s block: one for each of the four sends of it, and one for the copy within. -/
def src (c : Dev 8) (i : ℕ) : sProp 𝕄 := S.A.view.loc (c.tc : Thread 8 τ) ↦[S.A.view.set]{Transfers.shareTokN fullShare i} B.arg c
/-- Slot `p` of device `c`'s result, holding what `f` has there. -/
def dst (c : Dev 8) (p : Fin 8) (f : Buf Val (S.O.view.loc (c.tc : Thread 8 τ))) : sProp 𝕄 :=
  S.O.view.loc (c.tc : Thread 8 τ) ↦[Slots.set S.O p]{fullShare} f

/-- The block of device `d`, copied to slot `d` of device `q`'s result, is what the result is to hold. -/
theorem landed (d q : Dev 8) (f : Buf Val (S.O.view.loc (q.tc : Thread 8 τ))) (h) :
    ((S.O.view.loc (q.tc : Thread 8 τ) ↦[(Slots.cut S.O ![d.val, 0, 0] h S.sq).view.set]{fullShare}
        ((Slots.cut S.O ![d.val, 0, 0] h S.sq).view.write Val f (S.A.view.read Val (B.arg d)) Finset.univ)) : sProp 𝕄)
      ⊢ dst q d (B.res q) := by
  unfold dst
  rw [Slots.cut_set S.O d]
  refine Entails.of_eq (pointsTo_congr (Slots.written_on S.O d h S.sq f (B.res q) _ fun x hx => ?_))
  subst hx
  exact B.read q x

/-- So is slot `p` of another result. -/
theorem passed (d q : Dev 8) (p : Fin 8) (f : Buf Val (S.O.view.loc (q.tc : Thread 8 τ))) (h h') :
    ((S.O.view.loc (q.tc : Thread 8 τ) ↦[(Slots.cut S.O ![p.val, 0, 0] h S.sq).view.set]{fullShare}
        ((Slots.cut S.O ![p.val, 0, 0] h S.sq).view.write Val f ((Slots.cut S.O ![p.val, 0, 0] h' S.sq).view.read Val (B.res d)) Finset.univ)) : sProp 𝕄)
      ⊢ dst q p (B.res q) := by
  unfold dst
  rw [Slots.cut_set S.O p]
  refine Entails.of_eq (pointsTo_congr (Slots.copied_on S.O S.O p p h h' S.sq f (B.res q) (B.res d) fun x hx => ?_))
  rw [Slots.move_self hx, B.read, B.read]

/-- A block lent out, a share for each copy of it. -/
theorem lend (c : Dev 8) : (S.A.view.loc (c.tc : Thread 8 τ) ↦[S.A.view.set]{fullShare} B.arg c : sProp 𝕄) ⊢ bigSep Finset.univ fun i : Fin 5 => src B c i.val := by
  have h : (S.A.view.loc (c.tc : Thread 8 τ) ↦[S.A.view.set]{fullShare} B.arg c : sProp 𝕄)
      ⊢ iprop((S.A.view.loc (c.tc : Thread 8 τ) ↦[S.A.view.set]{Transfers.shareDrop fullShare 5} B.arg c) ∗ bigSep Finset.univ fun i : Fin 5 => src B c i.val) :=
    Transfers.pointsTo_toks_split fullShare 5
  iintro H
  ihave H := h $$ H
  icases H with ⟨-, H⟩
  iexact H

/-! ## The plan -/

/-- What the send `r` takes, and gives back: a share of the device's block, or the slot passed on. -/
def taken (c : Dev 8) (r : Fin 7) : sProp 𝕄 := if r.val < 4 then src B c r.val else dst c (hop (car r) c) (B.res c)

/-- What the wait on each semaphore hands device `c`. -/
def pay (c : Dev 8) : K → sProp 𝕄
  | sendK r => taken B c r
  | recvK r => dst c (hop (land r) c) (B.res c)
  | hereK => iprop(dst c c (B.res c) ∗ src B c 4)

theorem pay_storable (c : Dev 8) (k : K) : BI.Storable (upEmb : UEmb _ 𝕄) (pay B c k) := by
  match k with
  | sendK r => unfold pay taken src dst; dsimp only; split <;> infer_instance
  | recvK r => unfold pay dst; infer_instance
  | hereK => unfold pay src dst; infer_instance

/-- The plan of the gather. -/
def plan : Plan 8 τ sig Val (UU sig τ) K where
  sem := S.osem
  sem_inj := S.osem_inj
  amt _ := S.N
  amt_pos _ := S.N_pos
  pay := pay B
  pay_storable := pay_storable B

/-! ## What a device owes -/

variable (S τ) in
/-- What device `c` owes once its first `i` sends are made: the credit of the receipts of the others. -/
def owed (i : ℕ) (c : Dev 8) : CellTallies 8 τ sig Unit :=
  ∑ r ∈ Finset.univ.filter (fun r : Fin 7 => i ≤ r.val), tallyAt (((hop (way r) c).tc : Thread 8 τ), S.osem (recvK r)) () S.N

variable (S τ) in
theorem owed_next (r : Fin 7) (c : Dev 8) :
    owed τ S r.val c = owed τ S (r.val + 1) c + tallyAt (((hop (way r) c).tc : Thread 8 τ), S.osem (recvK r)) () S.N := by
  unfold owed
  have h : (Finset.univ.filter fun s : Fin 7 => r.val ≤ s.val) = insert r (Finset.univ.filter fun s : Fin 7 => r.val + 1 ≤ s.val) := by
    revert r; decide
  rw [h, Finset.sum_insert (by simp), add_comm]

variable (S τ) in
theorem owed_last (c : Dev 8) : owed τ S 7 c = 0 := Finset.sum_eq_zero fun r hr => absurd (Finset.mem_filter.mp hr).2 (by omega)

/-- The credit dealt at the launch is the promise of every receipt. -/
theorem promised (c : Dev 8) : (Pipeline.launchCred (owed τ S 0) c : sProp 𝕄) ⊢ bigSep Finset.univ fun r : Fin 7 => (plan B).due (c, recvK r) := by
  have h : (Pipeline.launchCred (owed τ S 0) c : sProp 𝕄)
      = bigSep (Finset.univ.filter fun r : Fin 7 => 0 ≤ r.val) fun r => Pipeline.launchCred (fun d => tallyAt (((hop (way r) d).tc : Thread 8 τ), S.osem (recvK r)) () S.N) c :=
    Pipeline.launchCred_sum _ _ c
  rw [h, Finset.filter_true_of_mem fun _ _ => Nat.zero_le _]
  exact bigSep_mono fun r _ => Pipeline.launchCred_tallyAt (S.osem (recvK r)) (hop (way r)) (hop (way r)) (hop_hop _) (hop_hop _) () S.N c

variable (τ) in
/-- The semaphores that have a level: all of the devices' own. -/
def leveled (g : GSem 8 τ sig) : Finset Unit := if g.1.2 = .tc then {()} else ∅
variable (S τ) in
/-- The receipts of what was passed on lie above the others. -/
def level (g : GSem 8 τ sig) (_ : Unit) : ℕ := if ∃ r : Fin 7, 4 ≤ r.val ∧ g.2 = S.osem (recvK r) then 1 else 0

/-- A device that has yet to pass on blocks may wait for one that comes to it directly. -/
theorem may_wait (c : Dev 8) (r : Fin 7) (hr : r.val < 4) (i : ℕ) (hi : 4 ≤ i) :
    (levAts (leveled τ) (level τ S) : sProp 𝕄) ⊢ MayWait (c.tc : Thread 8 τ) (S.osem (recvK r)) () (owed τ S i c) := by
  refine Pipeline.mayWait_of_levAts (L := leveled τ) (lev := level τ S) (by unfold leveled; rw [if_pos rfl]; exact Finset.mem_singleton_self _) fun g u hg => ?_
  obtain ⟨s, hs, hp⟩ := Pipeline.sum_pos_exists hg
  obtain ⟨rfl, -⟩ := Pipeline.tallyAt_pos hp
  have h4 : 4 ≤ s.val := hi.trans (Finset.mem_filter.mp hs).2
  refine ⟨by unfold leveled; rw [if_pos rfl]; exact Finset.mem_singleton_self _, ?_⟩
  unfold level
  rw [if_neg, if_pos ⟨s, h4, rfl⟩]
  · exact Nat.one_pos
  · rintro ⟨t, ht, h⟩
    have : r = t := Sum.inl.inj (Sum.inr.inj (S.osem_inj h))
    omega

end Cert.Gather

end
-- ==== Proof.GatherBody.lean ====
/-
  A gather on eight devices: one device's kernel.

  `kernel` is the kernel of a gather as a list of copies and waits. Its steps are a copy within, four sends of the device's own block,
  three rounds of a wait and a send on, and twelve waits at the end.
-/
module

public import proofs.«01_k».proof.Proof.Gather

@[expose] public section

noncomputable section

namespace Cert.Gather

open Cert.OneShot Cert.Hops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {τ : Topo} {sig : RefSig} {Val : EltTy → Type} {n : ℕ} {e : EltTy} {S : Site sig n e}

local notation "𝕄" => MT 8 τ sig Unit Val ℕ (UU sig τ) ℕ

/-- Where the protocol's ghost state lies. -/
abbrev ER (τ : Topo) (sig : RefSig) (Val : EltTy → Type) : Emb (UR sig 8 τ) (MT 8 τ sig Unit Val ℕ (UU sig τ) ℕ) := embR
abbrev 𝒱₀ : Variants := Variants.none

variable {Λ : Labels} (defs : Defs 8 τ sig Val Λ) (B : Blocks τ Val S) (κ : Dev 8 × K → ℕ) (c : Dev 8)

local notation "wpc" => wp frame (wpE defs 𝒱₀ (c.tc : Thread 8 τ) none) Set.univ

/-! ## Copying -/

/-- The copy within. -/
theorem local_step {off : Fin 3 → ℕ} {h} (hoff : off = ![c.val, 0, 0]) {sm : SemLoc sig} (hs : sm = S.osem hereK)
    {hsrc : S.A.view.WordExact} {hdst : (Slots.cut S.O off h S.sq).view.WordExact}
    {hsem : (DmaTarget.here (Slots.cut S.O off h S.sq) : DmaTarget 8 τ sig (.tc : Proc τ) .hbm (Slots.Flat n 128) e).Typed .hbm sm}
    {α : Type} {Q : α → sProp 𝕄} {cont : PUnit → Prog (TpuEff 8 τ sig Val Λ .tc) α} :
    iprop((plan B).records (ER τ sig Val) κ ∗ (plan B).tok (ER τ sig Val) (c, hereK) ∗ src B c 4 ∗ ∃ f, dst (S := S) c c f)
      ⊢ iprop(((plan B).due (c, hereK) -∗ wpc (cont ⟨⟩) Q)
          -∗ wpc (.op (.enqueueDma S.A (.here (Slots.cut S.O off h S.sq)) sm hsrc hdst hsem) cont) Q) := by
  subst hoff hs
  iintro ⟨#HR, Ht, Hs, ⟨%f, Hd⟩⟩ Hk
  unfold src dst
  ihave Hd := (Entails.of_eq (congrArg (fun I => (S.O.view.loc (c.tc : Thread 8 τ) ↦[I]{fullShare} f : sProp 𝕄)) (Slots.cut_set S.O c h S.sq).symm)) $$ Hd
  have g : (iprop((S.O.view.loc (c.tc : Thread 8 τ) ↦[(Slots.cut S.O ![c.val, 0, 0] h S.sq).view.set]{fullShare}
          ((Slots.cut S.O ![c.val, 0, 0] h S.sq).view.write Val f (S.A.view.read Val (B.arg c)) Finset.univ))
        ∗ (S.A.view.loc (c.tc : Thread 8 τ) ↦[S.A.view.set]{Transfers.shareTokN fullShare 4} B.arg c)) : sProp 𝕄) ⊢ (plan B).pay c hereK :=
    sep_mono_left (landed B c c f h)
  have step := (plan B).wp_local (ER τ sig Val) defs 𝒱₀ c κ (src := S.A) (dst := Slots.cut S.O ![c.val, 0, 0] h S.sq) hereK (sem := S.osem hereK) rfl
    (hsrc := hsrc) (hdst := hdst) (hsem := hsem) (α := α) (Q := Q) (cont := cont) (q := Transfers.shareTokN fullShare 4) (fs := B.arg c) (fd := f) (S.credit_O _ h) g
  iapply step $$ [Ht Hs Hd]
  · isplitr; · iexact HR
    isplitl [Ht]; · iexact Ht
    isplitl [Hs]; · iexact Hs
    iexact Hd
  iexact Hk

/-- What the send `r` takes along: the rights to credit its two semaphores, a share of the device's block if it carries that, and the slot where
    it lands. -/
def load (r : Fin 7) : sProp 𝕄 :=
  iprop((plan B).tok (ER τ sig Val) (c, sendK r) ∗ (plan B).tok (ER τ sig Val) (hop (way r) c, recvK r) ∗ (if r.val < 4 then src B c r.val else iprop(emp))
    ∗ ∃ f, dst (S := S) (hop (way r) c) (hop (car r) c) f)

/-- The first `i` sends made: the promises of their credits, and the loads of the others. -/
def sending (i : ℕ) : sProp 𝕄 := stages i (fun r : Fin 7 => (plan B).due (c, sendK r)) (load B c)

/-- What a send delivers is what the receiver's wait hands over. -/
theorem delivered (r : Fin 7) : (dst (hop (way r) c) (hop (car r) c) (B.res (hop (way r) c)) : sProp 𝕄) ⊢ (plan B).pay (hop (way r) c) (recvK r) := by
  show _ ⊢ (dst (hop (way r) c) (hop (land r) (hop (way r) c)) (B.res (hop (way r) c)) : sProp 𝕄)
  rw [lands]

/-- The send `r` of the device's own block, the `i = r` sends before it made. -/
theorem own_step (r : Fin 7) (h4 : r.val < 4) (i : ℕ) (hi : r.val = i) {off : Fin 3 → ℕ} {h} (hoff : off = ![c.val, 0, 0])
    {d : Dev 8} (hd : d = hop (way r) c) {sS sR : SemLoc sig} (hS : sS = S.osem (sendK r)) (hR : sR = S.osem (recvK r))
    {hsc : (show Memref sig (d.tc : Thread 8 τ).2.kind .hbm (Slots.Flat n 128) e from Slots.cut S.O off h S.sq).view.ref.isScScratch = false}
    {hsrc : S.A.view.WordExact} {hdst : (Slots.cut S.O off h S.sq).view.WordExact}
    {hsem : DmaTarget.Typed .hbm sR (.remote (d.tc : Thread 8 τ) (Slots.cut S.O off h S.sq) sS hsc)}
    {α : Type} {Q : α → sProp 𝕄} {cont : PUnit → Prog (TpuEff 8 τ sig Val Λ .tc) α} :
    iprop((plan B).records (ER τ sig Val) κ ∗ sending B c i ∗ (∃ W, owes (c.tc : Thread 8 τ) (owed τ S i c) W))
      ⊢ iprop(((sending B c (i + 1) ∗ (∃ W, owes (c.tc : Thread 8 τ) (owed τ S (i + 1) c) W)) -∗ wpc (cont ⟨⟩) Q)
          -∗ wpc (.op (.enqueueDma S.A (.remote (d.tc : Thread 8 τ) (Slots.cut S.O off h S.sq) sS hsc) sR hsrc hdst hsem) cont) Q) := by
  subst hi hoff hS hR
  unfold sending
  rw [stages_at, stages_past]
  unfold load
  rw [if_pos h4]
  iintro ⟨#HR, ⟨⟨Ht, Ht', Hs, ⟨%f, Hd⟩⟩, Hrest⟩, HO⟩ Hk
  have hcar : hop (car r) c = c := (by decide : ∀ (r : Fin 7) (c : Dev 8), r.val < 4 → hop (car r) c = c) r c h4
  have g0 := delivered B c r
  rw [hcar] at g0 ⊢
  unfold dst src
  ihave Hd := (Entails.of_eq (congrArg (fun I => (S.O.view.loc ((hop (way r) c).tc : Thread 8 τ) ↦[I]{fullShare} f : sProp 𝕄)) (Slots.cut_set S.O c h S.sq).symm)) $$ Hd
  have g1 : ((S.A.view.loc (c.tc : Thread 8 τ) ↦[S.A.view.set]{Transfers.shareTokN fullShare r.val} B.arg c) : sProp 𝕄) ⊢ (plan B).pay c (sendK r) := by
    show _ ⊢ taken B c r
    unfold taken
    rw [if_pos h4]
    exact BI.Entails.refl _
  have g2 := (landed B c (hop (way r) c) f h).trans g0
  have step := (plan B).wp_remote (ER τ sig Val) defs 𝒱₀ c κ (src := S.A) (dst := Slots.cut S.O ![c.val, 0, 0] h S.sq)
    hd (sendK r) (recvK r) (sS := S.osem (sendK r)) (sR := S.osem (recvK r)) rfl rfl (hsc := hsc) (hsrc := hsrc) (hdst := hdst) (hsem := hsem)
    (α := α) (Q := Q) (cont := cont) (q := Transfers.shareTokN fullShare r.val) (fs := B.arg c) (fd := f) (owed τ S r.val c) (owed τ S (r.val + 1) c)
    (owed_next τ S r c) (S.credit_O _ h) rfl g1 g2
  iapply step $$ [Ht Ht' Hs Hd HO]
  · isplitr; · iexact HR
    isplitl [Ht]; · iexact Ht
    isplitl [Ht']; · iexact Ht'
    isplitl [Hs]; · iexact Hs
    isplitl [Hd]; · iexact Hd
    iexact HO
  iintro ⟨Hc, HO⟩
  iapply Hk
  isplitl [Hc Hrest]
  · isplitl [Hc]; · iexact Hc
    iexact Hrest
  iexact HO

/-- The send `r` of a slot that came from another device, the `i = r` sends before it made. -/
theorem pass_step (r : Fin 7) (h4 : ¬ r.val < 4) (i : ℕ) (hi : r.val = i) {off : Fin 3 → ℕ} {h h'} (hoff : off = ![(hop (car r) c).val, 0, 0])
    {d : Dev 8} (hd : d = hop (way r) c) {sS sR : SemLoc sig} (hS : sS = S.osem (sendK r)) (hR : sR = S.osem (recvK r))
    {hsc : (show Memref sig (d.tc : Thread 8 τ).2.kind .hbm (Slots.Flat n 128) e from Slots.cut S.O off h S.sq).view.ref.isScScratch = false}
    {hsrc : (Slots.cut S.O off h' S.sq).view.WordExact} {hdst : (Slots.cut S.O off h S.sq).view.WordExact}
    {hsem : DmaTarget.Typed .hbm sR (.remote (d.tc : Thread 8 τ) (Slots.cut S.O off h S.sq) sS hsc)}
    {α : Type} {Q : α → sProp 𝕄} {cont : PUnit → Prog (TpuEff 8 τ sig Val Λ .tc) α} :
    iprop((plan B).records (ER τ sig Val) κ ∗ dst c (hop (car r) c) (B.res c) ∗ sending B c i ∗ (∃ W, owes (c.tc : Thread 8 τ) (owed τ S i c) W))
      ⊢ iprop(((sending B c (i + 1) ∗ (∃ W, owes (c.tc : Thread 8 τ) (owed τ S (i + 1) c) W)) -∗ wpc (cont ⟨⟩) Q)
          -∗ wpc (.op (.enqueueDma (Slots.cut S.O off h' S.sq) (.remote (d.tc : Thread 8 τ) (Slots.cut S.O off h S.sq) sS hsc) sR hsrc hdst hsem) cont) Q) := by
  subst hi hoff hS hR
  unfold sending
  rw [stages_at, stages_past]
  unfold load
  iintro ⟨#HR, Hs, ⟨⟨Ht, Ht', -, ⟨%f, Hd⟩⟩, Hrest⟩, HO⟩ Hk
  have g0 := delivered B c r
  have g1' : ((S.O.view.loc (c.tc : Thread 8 τ) ↦[(Slots.cut S.O ![(hop (car r) c).val, 0, 0] h' S.sq).view.set]{fullShare} B.res c) : sProp 𝕄)
      = dst c (hop (car r) c) (B.res c) := by
    unfold dst; rw [Slots.cut_set S.O (hop (car r) c)]
  ihave Hs := (Entails.of_eq g1'.symm) $$ Hs
  unfold dst at *
  ihave Hd := (Entails.of_eq (congrArg (fun I => (S.O.view.loc ((hop (way r) c).tc : Thread 8 τ) ↦[I]{fullShare} f : sProp 𝕄)) (Slots.cut_set S.O (hop (car r) c) h S.sq).symm)) $$ Hd
  have g1 : ((S.O.view.loc (c.tc : Thread 8 τ) ↦[(Slots.cut S.O ![(hop (car r) c).val, 0, 0] h' S.sq).view.set]{fullShare} B.res c) : sProp 𝕄) ⊢ (plan B).pay c (sendK r) := by
    show _ ⊢ taken B c r
    unfold taken
    rw [if_neg h4]
    exact Entails.of_eq g1'
  have g2 := (passed B c (hop (way r) c) (hop (car r) c) f h h').trans g0
  have step := (plan B).wp_remote (ER τ sig Val) defs 𝒱₀ c κ (src := Slots.cut S.O ![(hop (car r) c).val, 0, 0] h' S.sq) (dst := Slots.cut S.O ![(hop (car r) c).val, 0, 0] h S.sq)
    hd (sendK r) (recvK r) (sS := S.osem (sendK r)) (sR := S.osem (recvK r)) rfl rfl (hsc := hsc) (hsrc := hsrc) (hdst := hdst) (hsem := hsem)
    (α := α) (Q := Q) (cont := cont) (q := fullShare) (fs := B.res c) (fd := f) (owed τ S r.val c) (owed τ S (r.val + 1) c)
    (owed_next τ S r c) (S.credit_O _ h) rfl g1 g2
  iapply step $$ [Ht Ht' Hs Hd HO]
  · isplitr; · iexact HR
    isplitl [Ht]; · iexact Ht
    isplitl [Ht']; · iexact Ht'
    isplitl [Hs]; · iexact Hs
    isplitl [Hd]; · iexact Hd
    iexact HO
  iintro ⟨Hc, HO⟩
  iapply Hk
  isplitl [Hc Hrest]
  · isplitl [Hc]; · iexact Hc
    iexact Hrest
  iexact HO

/-! ## Waiting -/

/-- The wait for the block of receipt `r`, which is to be passed on; `i ≥ 4` sends are made. -/
theorem mid_step (r : Fin 7) (h4 : r.val < 4) (i : ℕ) (hi : 4 ≤ i) {sem : DmaSem sig} (hs : .dma sem = S.osem (recvK r)) {M M' : Memref sig .tc .hbm (Slots.Flat n 128) e}
    (hM : M.view.dmaCredit = S.N) {hsrc : M'.view.WordExact} {hdst : M.view.WordExact}
    {α : Type} {Q : α → sProp 𝕄} {cont : PUnit → Prog (TpuEff 8 τ sig Val Λ .tc) α} :
    iprop((plan B).records (ER τ sig Val) κ ∗ levAts (leveled τ) (level τ S) ∗ (plan B).pos (ER τ sig Val) (c, recvK r) ∗ (plan B).due (c, recvK r)
        ∗ (∃ W, owes (c.tc : Thread 8 τ) (owed τ S i c) W))
      ⊢ iprop(((dst c (hop (land r) c) (B.res c) ∗ semVal ((plan B).cell (c, recvK r)) 0 ∗ (∃ W, owes (c.tc : Thread 8 τ) (owed τ S i c) W)) -∗ wpc (cont ⟨⟩) Q)
          -∗ wpc (.op (.waitDma2 sem M' M hsrc hdst) cont) Q) := by
  have hmay : (levAts (leveled τ) (level τ S) : sProp 𝕄) ⊢ MayWait (c.tc : Thread 8 τ) ((plan B).sem (recvK r)) () (owed τ S i c) := may_wait c r h4 i hi
  have step := (plan B).wp_await (ER τ sig Val) defs 𝒱₀ c κ (w := .waitDma2 sem M' M hsrc hdst) (recvK r) hs (n := M.view.dmaCredit) hM
    (wpE_waitDma2_eq 𝒱₀ (c.tc : Thread 8 τ) none Set.univ) (α := α) (Q := Q) (cont := cont) (owed τ S i c)
  iintro ⟨#HR, #HL, Hp, Hd, HO⟩ Hk
  iapply step $$ [Hp Hd HO]
  · isplitr; · iexact HR
    isplitl [Hp]; · iexact Hp
    isplitl [Hd]; · iexact Hd
    isplitr; · iapply hmay; iexact HL
    iexact HO
  iexact Hk

/-- The order of the waits at the end; the three in the middle are none of them. -/
def rank : K → ℕ
  | recvK r => ![0, 12, 12, 12, 1, 2, 3] r
  | sendK r => 4 + r.val
  | hereK => 11

/-- The waits at the end. -/
def rest : Finset K := Finset.univ.filter fun k => rank k < 12
/-- The receipts among them. -/
def far : Finset (Fin 7) := {0, 4, 5, 6}

theorem mids_out (Φ : K → sProp 𝕄) : bigSep Finset.univ Φ = iprop(Φ (recvK 1) ∗ Φ (recvK 2) ∗ Φ (recvK 3) ∗ bigSep rest Φ) := by
  rw [take_out (Finset.mem_univ (recvK 1)), take_out (by decide : recvK 2 ∈ _), take_out (by decide : recvK 3 ∈ _)]
  have h : ((Finset.univ.erase (recvK 1)).erase (recvK 2)).erase (recvK 3) = rest := by decide
  rw [h]
theorem receipts_out (Φ : Fin 7 → sProp 𝕄) : bigSep Finset.univ Φ = iprop(Φ 1 ∗ Φ 2 ∗ Φ 3 ∗ bigSep far Φ) := by
  rw [take_out (Finset.mem_univ (1 : Fin 7)), take_out (by decide : (2 : Fin 7) ∈ _), take_out (by decide : (3 : Fin 7) ∈ _)]
  have h : (((Finset.univ : Finset (Fin 7)).erase 1).erase 2).erase 3 = far := by decide
  rw [h]
theorem rest_eq (Φ : K → sProp 𝕄) : bigSep rest Φ
    = iprop((bigSep far fun r => Φ (recvK r)) ∗ (bigSep Finset.univ fun r => Φ (sendK r)) ∗ Φ hereK) := by
  have h : rest = far.map ⟨fun r => recvK r, fun _ _ h => Sum.inl.inj (Sum.inr.inj h)⟩
      ∪ ((Finset.univ : Finset (Fin 7)).map ⟨fun r => sendK r, fun _ _ h => Sum.inl.inj h⟩ ∪ {hereK}) := by decide
  rw [h, BI.bigSep_union (by decide), BI.bigSep_union (by decide), bigSep_map, bigSep_map, bigSep_singleton]
  rfl

/-- The first `i` waits of the end behind the device. -/
def waited (i : ℕ) : sProp 𝕄 := (plan B).waiting (ER τ sig Val) c rest (Finset.univ.filter fun k => rank k < i)

theorem next_done : ∀ k ∈ rest, (Finset.univ.filter fun j : K => rank j < rank k + 1) = insert k (Finset.univ.filter fun j => rank j < rank k) := by
  decide

/-- The wait on `k`, the `i` before it behind the device; `M` is what the wait names for its amount. -/
theorem wait_step (k : K) (hk : k ∈ rest) (i : ℕ) (hi : rank k = i) {sem : DmaSem sig} (hs : .dma sem = S.osem k) {M M' : Memref sig .tc .hbm (Slots.Flat n 128) e}
    (hM : M.view.dmaCredit = S.N) {hsrc : M'.view.WordExact} {hdst : M.view.WordExact}
    {α : Type} {Q : α → sProp 𝕄} {cont : PUnit → Prog (TpuEff 8 τ sig Val Λ .tc) α} :
    iprop((plan B).records (ER τ sig Val) κ ∗ waited B c i ∗ (∃ W, owes (c.tc : Thread 8 τ) (0 : CellTallies 8 τ sig Unit) W))
      ⊢ iprop(((waited B c (i + 1) ∗ (∃ W, owes (c.tc : Thread 8 τ) (0 : CellTallies 8 τ sig Unit) W)) -∗ wpc (cont ⟨⟩) Q)
          -∗ wpc (.op (.waitDma2 sem M' M hsrc hdst) cont) Q) := by
  subst hi
  unfold waited
  rw [next_done k hk]
  exact (plan B).wp_next (ER τ sig Val) defs 𝒱₀ c κ rest _ k hk (by simp) hs hM (wpE_waitDma2_eq 𝒱₀ (c.tc : Thread 8 τ) none Set.univ)

/-- Before the first of them: every right to wait, and every promise. -/
theorem waited_none : iprop((bigSep rest fun k => (plan B).pos (ER τ sig Val) (c, k)) ∗ (bigSep far fun r => (plan B).due (c, recvK r))
      ∗ (bigSep Finset.univ fun r => (plan B).due (c, sendK r)) ∗ (plan B).due (c, hereK)) ⊢ waited B c 0 := by
  have h : (Finset.univ.filter fun k : K => rank k < 0) = ∅ := Finset.filter_false_of_mem fun _ _ => Nat.not_lt_zero _
  unfold waited
  rw [h, Plan.waiting_none, rest_eq fun k => (plan B).due (c, k)]

/-- What the device leaves its kernel with: everything delivered that it did not pass on, every semaphore at zero. -/
def finish : sProp 𝕄 :=
  iprop((bigSep rest fun k => pay B c k) ∗ bigSep Finset.univ fun k => semVal ((plan B).cell (c, k)) 0)

theorem waited_all : iprop(semVal ((plan B).cell (c, recvK 1)) 0 ∗ semVal ((plan B).cell (c, recvK 2)) 0 ∗ semVal ((plan B).cell (c, recvK 3)) 0 ∗ waited B c 12)
    ⊢ finish B c := by
  unfold waited finish
  rw [Plan.waiting_all _ _ _ _ _ (by decide : rest ⊆ _), mids_out fun k => semVal ((plan B).cell (c, k)) 0]
  iintro ⟨H1, H2, H3, Hp, Hz⟩
  isplitl [Hp]; · iexact Hp
  isplitl [H1]; · iexact H1
  isplitl [H2]; · iexact H2
  isplitl [H3] <;> iassumption

/-! ## The whole kernel -/

/-- What the device enters its kernel with. -/
def start : sProp 𝕄 :=
  iprop((∃ κ, (plan B).records (ER τ sig Val) κ) ∗ levAts (leveled τ) (level τ S) ∗ (bigSep Finset.univ fun k => (plan B).pos (ER τ sig Val) (c, k))
    ∗ (bigSep Finset.univ fun r => (plan B).due (c, recvK r)) ∗ sending B c 0 ∗ (plan B).tok (ER τ sig Val) (c, hereK) ∗ src B c 4 ∗ ∃ f, dst (S := S) c c f)

section Kernel

variable (S) (hA : S.A.view.WordExact) (hsc : S.O.view.ref.isScScratch = false) (off : Fin 8 → Fin 3 → ℕ)
  (inb : ∀ j a, off j a + (Slots.Row n 128).size a ≤ (Slots.Arr 8 n 128).size a) (hO : ∀ j, (Slots.cut S.O (off j) (inb j) S.sq).view.WordExact) (dev : Fin 7 → Dev 8)

/-- The slot of the device `j` away. -/
abbrev at_ (j : Fin 8) : Memref sig .tc .hbm (Slots.Flat n 128) e := Slots.cut S.O (off j) (inb j) S.sq

/-- The send `r` of the block the device has. -/
abbrev own (r : Fin 7) : Prog (TpuEff 8 τ sig Val Λ .tc) PUnit :=
  Prog.lift (.enqueueDma S.A (.remote ((dev r).tc : Thread 8 τ) (at_ S off inb 0) (.dma (S.sem (sendK r))) hsc) (.dma (S.sem (recvK r))) hA (hO 0) ⟨⟨rfl, Or.inl rfl⟩, trivial⟩)
/-- The send `r` of the slot of the device `j` away. -/
abbrev pass (r : Fin 7) (j : Fin 8) : Prog (TpuEff 8 τ sig Val Λ .tc) PUnit :=
  Prog.lift (.enqueueDma (at_ S off inb j) (.remote ((dev r).tc : Thread 8 τ) (at_ S off inb j) (.dma (S.sem (sendK r))) hsc) (.dma (S.sem (recvK r))) (hO j) (hO j) ⟨⟨rfl, Or.inl rfl⟩, trivial⟩)
/-- The wait on `k` for the slot of the device `j` away. -/
abbrev await (k : K) (j : Fin 8) : Prog (TpuEff 8 τ sig Val Λ .tc) PUnit := Prog.lift (.waitDma2 (S.sem k) (at_ S off inb j) (at_ S off inb j) (hO j) (hO j))
/-- The wait on the send `r` of the device's own block. -/
abbrev back (r : Fin 7) : Prog (TpuEff 8 τ sig Val Λ .tc) PUnit := Prog.lift (.waitDma2 (S.sem (sendK r)) (at_ S off inb 0) S.A (hO 0) hA)

/-- The kernel. -/
def kernel : Prog (TpuEff 8 τ sig Val Λ .tc) PUnit := do
  Prog.lift (.enqueueDma S.A (.here (at_ S off inb 0)) (.dma (S.sem hereK)) hA (hO 0) ⟨Or.inl rfl, trivial⟩)
  own S hA hsc off inb hO dev 0
  own S hA hsc off inb hO dev 1
  own S hA hsc off inb hO dev 2
  own S hA hsc off inb hO dev 3
  await S off inb hO (recvK 1) 4
  pass S hsc off inb hO dev 4 4
  await S off inb hO (recvK 2) 2
  pass S hsc off inb hO dev 5 2
  await S off inb hO (recvK 3) 6
  pass S hsc off inb hO dev 6 6
  await S off inb hO (recvK 0) 1
  await S off inb hO (recvK 4) 5
  await S off inb hO (recvK 5) 3
  await S off inb hO (recvK 6) 7
  back S hA off inb hO 0
  back S hA off inb hO 1
  back S hA off inb hO 2
  back S hA off inb hO 3
  await S off inb hO (sendK 4) 4
  await S off inb hO (sendK 5) 2
  await S off inb hO (sendK 6) 6
  Prog.lift (.waitDma2 (S.sem hereK) S.A (at_ S off inb 0) hA (hO 0))
  pure ⟨⟩

end Kernel

/-- The kernel gathers the blocks. -/
theorem sound_kernel {hA : S.A.view.WordExact} {hsc : S.O.view.ref.isScScratch = false} {off : Fin 8 → Fin 3 → ℕ}
    {inb : ∀ j a, off j a + (Slots.Row n 128).size a ≤ (Slots.Arr 8 n 128).size a} {hO : ∀ j, (Slots.cut S.O (off j) (inb j) S.sq).view.WordExact} {dev : Fin 7 → Dev 8}
    (hoff : ∀ j, off j = ![(hop j c).val, 0, 0]) (hdev : ∀ r, dev r = hop (way r) c) (Kt : PUnit → sProp 𝕄) :
    iprop(start B c ∗ (∃ W, owes (c.tc : Thread 8 τ) (owed τ S 0 c) W)
        ∗ ((finish B c ∗ (∃ W, owes (c.tc : Thread 8 τ) (0 : CellTallies 8 τ sig Unit) W)) -∗ Kt ⟨⟩))
      ⊢ wpc (kernel S hA hsc off inb hO dev) Kt := by
  have hown : off 0 = ![c.val, 0, 0] := by rw [hoff, hop_zero]
  unfold kernel own pass await back
  simp only [Prog.lift, Prog.bind_op, Prog.bind_ret, Prog.pure_eq_ret]
  unfold start
  rw [mids_out fun k => (plan B).pos (ER τ sig Val) (c, k), receipts_out fun r => (plan B).due (c, recvK r)]
  iintro ⟨⟨⟨%κ, #HR⟩, #HL, ⟨Hp1, Hp2, Hp3, Hpos⟩, ⟨Hd1, Hd2, Hd3, Hdue⟩, Hsend, Ht, Hs, Hd⟩, HO, Hk⟩
  iapply (local_step defs B κ c hown rfl) $$ [Ht Hs Hd]
  · isplitr; · iexact HR
    isplitl [Ht]; · iexact Ht
    isplitl [Hs] <;> iassumption
  iintro Hh
  -- the sends of the device's own block
  iapply (own_step defs B κ c 0 (by decide) 0 rfl hown (hdev 0) rfl rfl) $$ [Hsend HO]
  · isplitr; · iexact HR
    isplitl [Hsend] <;> iassumption
  iintro ⟨Hsend, HO⟩
  iapply (own_step defs B κ c 1 (by decide) 1 rfl hown (hdev 1) rfl rfl) $$ [Hsend HO]
  · isplitr; · iexact HR
    isplitl [Hsend] <;> iassumption
  iintro ⟨Hsend, HO⟩
  iapply (own_step defs B κ c 2 (by decide) 2 rfl hown (hdev 2) rfl rfl) $$ [Hsend HO]
  · isplitr; · iexact HR
    isplitl [Hsend] <;> iassumption
  iintro ⟨Hsend, HO⟩
  iapply (own_step defs B κ c 3 (by decide) 3 rfl hown (hdev 3) rfl rfl) $$ [Hsend HO]
  · isplitr; · iexact HR
    isplitl [Hsend] <;> iassumption
  iintro ⟨Hsend, HO⟩
  -- the blocks passed on
  iapply (mid_step defs B κ c 1 (by decide) 4 (by decide) rfl (S.credit_O _ _)) $$ [Hp1 Hd1 HO]
  · isplitr; · iexact HR
    isplitr; · iexact HL
    isplitl [Hp1]; · iexact Hp1
    isplitl [Hd1] <;> iassumption
  iintro ⟨Hb, Hz1, HO⟩
  iapply (pass_step defs B κ c 4 (by decide) 4 rfl (hoff 4) (hdev 4) rfl rfl) $$ [Hb Hsend HO]
  · isplitr; · iexact HR
    isplitl [Hb]; · iexact Hb
    isplitl [Hsend] <;> iassumption
  iintro ⟨Hsend, HO⟩
  iapply (mid_step defs B κ c 2 (by decide) 5 (by decide) rfl (S.credit_O _ _)) $$ [Hp2 Hd2 HO]
  · isplitr; · iexact HR
    isplitr; · iexact HL
    isplitl [Hp2]; · iexact Hp2
    isplitl [Hd2] <;> iassumption
  iintro ⟨Hb, Hz2, HO⟩
  iapply (pass_step defs B κ c 5 (by decide) 5 rfl (hoff 2) (hdev 5) rfl rfl) $$ [Hb Hsend HO]
  · isplitr; · iexact HR
    isplitl [Hb]; · iexact Hb
    isplitl [Hsend] <;> iassumption
  iintro ⟨Hsend, HO⟩
  iapply (mid_step defs B κ c 3 (by decide) 6 (by decide) rfl (S.credit_O _ _)) $$ [Hp3 Hd3 HO]
  · isplitr; · iexact HR
    isplitr; · iexact HL
    isplitl [Hp3]; · iexact Hp3
    isplitl [Hd3] <;> iassumption
  iintro ⟨Hb, Hz3, HO⟩
  iapply (pass_step defs B κ c 6 (by decide) 6 rfl (hoff 6) (hdev 6) rfl rfl) $$ [Hb Hsend HO]
  · isplitr; · iexact HR
    isplitl [Hb]; · iexact Hb
    isplitl [Hsend] <;> iassumption
  iintro ⟨Hsend, HO⟩
  ihave Hsend := (Entails.of_eq (show sending B c 7 = _ from stages_all _ _)) $$ Hsend
  ihave HO := (Entails.of_eq (congrArg (fun T => (iprop(∃ W, owes (c.tc : Thread 8 τ) T W) : sProp 𝕄)) (owed_last τ S c))) $$ HO
  ihave HW := (waited_none B c) $$ [Hpos Hsend Hdue Hh]
  · isplitl [Hpos]; · iexact Hpos
    isplitl [Hdue]; · iexact Hdue
    isplitl [Hsend] <;> iassumption
  -- the waits
  iapply (wait_step defs B κ c (recvK 0) (by decide) 0 rfl rfl (S.credit_O _ _)) $$ [HW HO]
  · isplitr; · iexact HR
    isplitl [HW] <;> iassumption
  iintro ⟨HW, HO⟩
  iapply (wait_step defs B κ c (recvK 4) (by decide) 1 rfl rfl (S.credit_O _ _)) $$ [HW HO]
  · isplitr; · iexact HR
    isplitl [HW] <;> iassumption
  iintro ⟨HW, HO⟩
  iapply (wait_step defs B κ c (recvK 5) (by decide) 2 rfl rfl (S.credit_O _ _)) $$ [HW HO]
  · isplitr; · iexact HR
    isplitl [HW] <;> iassumption
  iintro ⟨HW, HO⟩
  iapply (wait_step defs B κ c (recvK 6) (by decide) 3 rfl rfl (S.credit_O _ _)) $$ [HW HO]
  · isplitr; · iexact HR
    isplitl [HW] <;> iassumption
  iintro ⟨HW, HO⟩
  iapply (wait_step defs B κ c (sendK 0) (by decide) 4 rfl rfl S.credit_A) $$ [HW HO]
  · isplitr; · iexact HR
    isplitl [HW] <;> iassumption
  iintro ⟨HW, HO⟩
  iapply (wait_step defs B κ c (sendK 1) (by decide) 5 rfl rfl S.credit_A) $$ [HW HO]
  · isplitr; · iexact HR
    isplitl [HW] <;> iassumption
  iintro ⟨HW, HO⟩
  iapply (wait_step defs B κ c (sendK 2) (by decide) 6 rfl rfl S.credit_A) $$ [HW HO]
  · isplitr; · iexact HR
    isplitl [HW] <;> iassumption
  iintro ⟨HW, HO⟩
  iapply (wait_step defs B κ c (sendK 3) (by decide) 7 rfl rfl S.credit_A) $$ [HW HO]
  · isplitr; · iexact HR
    isplitl [HW] <;> iassumption
  iintro ⟨HW, HO⟩
  iapply (wait_step defs B κ c (sendK 4) (by decide) 8 rfl rfl (S.credit_O _ _)) $$ [HW HO]
  · isplitr; · iexact HR
    isplitl [HW] <;> iassumption
  iintro ⟨HW, HO⟩
  iapply (wait_step defs B κ c (sendK 5) (by decide) 9 rfl rfl (S.credit_O _ _)) $$ [HW HO]
  · isplitr; · iexact HR
    isplitl [HW] <;> iassumption
  iintro ⟨HW, HO⟩
  iapply (wait_step defs B κ c (sendK 6) (by decide) 10 rfl rfl (S.credit_O _ _)) $$ [HW HO]
  · isplitr; · iexact HR
    isplitl [HW] <;> iassumption
  iintro ⟨HW, HO⟩
  iapply (wait_step defs B κ c hereK (by decide) 11 rfl rfl (S.credit_O _ _)) $$ [HW HO]
  · isplitr; · iexact HR
    isplitl [HW] <;> iassumption
  iintro ⟨HW, HO⟩
  rw [wp_ret]
  imodintro
  iapply Hk
  isplitl [HW Hz1 Hz2 Hz3]
  · iapply (waited_all B c)
    isplitl [Hz1]; · iexact Hz1
    isplitl [Hz2]; · iexact Hz2
    isplitl [Hz3] <;> iassumption
  iexact HO

end Cert.Gather

end
-- ==== Proof.GatherDeal.lean ====
/-
  A gather on eight devices: the deal at the launch, and what is left at the end.

  At the launch every device's arrays, semaphores and rights are dealt out once. Device `c` gets shares of its own block, and of
  each result the slots it fills: of its own slot `c`, and of the device `way r` away the slot its send `r` lands in. Seen from a device `q`, the
  slots of its result are its own and one for each receipt.
-/
module

public import proofs.«01_k».proof.Proof.GatherBody
public import proofs.«01_k».proof.Proof.MeshLaunch

@[expose] public section

noncomputable section

namespace Cert.Gather

open Cert.OneShot Cert.Hops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {τ : Topo} {sig : RefSig} {Val : EltTy → Type} {n : ℕ} {e : EltTy} {S : Site sig n e}

local notation "𝕄" => MT 8 τ sig Unit Val ℕ (UU sig τ) ℕ

variable (B : Blocks τ Val S)

/-- Device `c`'s argument, and its result. -/
def argument (q : PosShare TreeShare) (c : Dev 8) : sProp 𝕄 := S.A.view.loc (c.tc : Thread 8 τ) ↦[S.A.view.set]{q} B.arg c
def result (c : Dev 8) (f : Buf Val (S.O.view.loc (c.tc : Thread 8 τ))) : sProp 𝕄 := S.O.view.loc (c.tc : Thread 8 τ) ↦[S.O.view.set]{fullShare} f

/-! ## The slots of a result -/

/-- The receipts, as the devices their blocks come from. -/
def landPerm : Fin 7 ≃ Fin 7 := ⟨![0, 3, 1, 5, 4, 2, 6], ![0, 2, 5, 1, 4, 3, 6], by decide, by decide⟩

theorem landPerm_succ : ∀ r : Fin 7, (landPerm r).succ = land r := by decide

/-- A result is its own slot, and one for each receipt. -/
theorem result_slots (c : Dev 8) (f : Buf Val (S.O.view.loc (c.tc : Thread 8 τ))) :
    (result c f : sProp 𝕄) = iprop(dst c c f ∗ bigSep Finset.univ fun r : Fin 7 => dst c (hop (land r) c) f) := by
  have h : (result c f : sProp 𝕄) = bigSep Finset.univ fun p => dst c p f := Slots.split (U := UU sig τ) c S.O fullShare f
  rw [h, seen_from c fun p => dst c p f, BI.bigSep_univ_equiv landPerm fun r : Fin 7 => dst c (hop r.succ c) f]
  simp only [landPerm_succ]

/-- The results, dealt to the devices that fill them. -/
theorem deal_slots (f : (c : Dev 8) → Buf Val (S.O.view.loc (c.tc : Thread 8 τ))) :
    (bigSep Finset.univ fun c : Dev 8 => (result c (f c) : sProp 𝕄)) ⊢ bigSep Finset.univ fun c : Dev 8 =>
      iprop((∃ f, dst (S := S) c c f) ∗ bigSep Finset.univ fun r : Fin 7 => iprop(∃ f, dst (S := S) (hop (way r) c) (hop (car r) c) f)) := by
  have h1 (c p : Dev 8) : (dst c p (f c) : sProp 𝕄) ⊢ iprop(∃ f, dst (S := S) c p f) := by iintro H; iexists _; iexact H
  have h2 : (bigSep Finset.univ fun c : Dev 8 => bigSep Finset.univ fun r : Fin 7 => (dst c (hop (land r) c) (f c) : sProp 𝕄))
      = bigSep Finset.univ fun c : Dev 8 => bigSep Finset.univ fun r : Fin 7 => dst (hop (way r) c) (hop (car r) c) (f (hop (way r) c)) := by
    rw [BI.bigSep_univ_comm, BI.bigSep_univ_comm fun (c : Dev 8) (r : Fin 7) => (dst (hop (way r) c) (hop (car r) c) (f (hop (way r) c)) : sProp 𝕄)]
    refine bigSep_congr fun r _ => ?_
    rw [BI.bigSep_univ_equiv (hopPerm (way r)) fun c : Dev 8 => (dst c (hop (land r) c) (f c) : sProp 𝕄)]
    refine bigSep_congr fun c _ => ?_
    show dst (hop (way r) c) (hop (land r) (hop (way r) c)) (f (hop (way r) c)) = _
    rw [lands]
  rw [bigSep_congr fun c _ => result_slots c (f c), bigSep_sep', bigSep_sep', h2]
  exact BI.sep_mono (bigSep_mono fun c _ => h1 c c) (bigSep_mono fun c _ => bigSep_mono fun r _ => h1 _ _)

/-! ## The rights -/

/-- The rights to copy, dealt to the devices that make the copies. -/
theorem deal_toks : (bigSep Finset.univ fun ck => (plan B).tok (ER τ sig Val) ck)
    ⊢ (iprop((bigSep Finset.univ fun c : Dev 8 => bigSep Finset.univ fun r => (plan B).tok (ER τ sig Val) (c, sendK r))
      ∗ (bigSep Finset.univ fun c : Dev 8 => bigSep Finset.univ fun r : Fin 7 => (plan B).tok (ER τ sig Val) (hop (way r) c, recvK r))
      ∗ bigSep Finset.univ fun c : Dev 8 => (plan B).tok (ER τ sig Val) (c, hereK)) : sProp 𝕄) := by
  have h (c : Dev 8) : (bigSep Finset.univ fun k : K => (plan B).tok (ER τ sig Val) (c, k)) = (iprop((bigSep Finset.univ fun r => (plan B).tok (ER τ sig Val) (c, sendK r))
      ∗ (bigSep Finset.univ fun r => (plan B).tok (ER τ sig Val) (c, recvK r)) ∗ (plan B).tok (ER τ sig Val) (c, hereK)) : sProp 𝕄) := by
    rw [BI.bigSep_univ_sum, BI.bigSep_univ_sum, Finset.univ_unique (α := Unit), bigSep_singleton]; rfl
  have hr : (bigSep Finset.univ fun c : Dev 8 => bigSep Finset.univ fun r : Fin 7 => (plan B).tok (ER τ sig Val) (c, recvK r))
      = (bigSep Finset.univ fun c : Dev 8 => bigSep Finset.univ fun r : Fin 7 => (plan B).tok (ER τ sig Val) (hop (way r) c, recvK r) : sProp 𝕄) := by
    rw [BI.bigSep_univ_comm, BI.bigSep_univ_comm fun (c : Dev 8) (r : Fin 7) => (plan B).tok (ER τ sig Val) (hop (way r) c, recvK r)]
    exact bigSep_congr fun r _ => BI.bigSep_univ_equiv (hopPerm (way r)) fun c : Dev 8 => (plan B).tok (ER τ sig Val) (c, recvK r)
  rw [BI.bigSep_univ_prod, bigSep_congr fun c _ => h c, bigSep_sep', bigSep_sep', hr]

/-- The shares of a block, for the sends and for the copy within. -/
theorem lend_parts (c : Dev 8) : (argument B fullShare c : sProp 𝕄)
    ⊢ iprop((bigSep Finset.univ fun r : Fin 7 => if r.val < 4 then src B c r.val else iprop(emp)) ∗ src B c 4) := by
  have h7 : (bigSep Finset.univ fun r : Fin 7 => if r.val < 4 then src B c r.val else iprop(emp)) = (bigSep Finset.univ fun i : Fin 4 => src B c i.val : sProp 𝕄) := by
    have h : (Finset.univ.filter fun r : Fin 7 => r.val < 4) = (Finset.univ : Finset (Fin 4)).map (Fin.castLEEmb (by decide)) := by decide
    have hf : bigSep (Finset.univ.filter fun r : Fin 7 => r.val < 4) (fun r => (src B c r.val : sProp 𝕄)) = _ := BI.bigSep_filter _ _ _
    rw [h, bigSep_map] at hf
    exact hf.symm
  have h5 : (bigSep Finset.univ fun i : Fin 5 => src B c i.val : sProp 𝕄) = iprop((bigSep Finset.univ fun i : Fin 4 => src B c i.val) ∗ src B c 4) := by
    have h : (Finset.univ : Finset (Fin 5)) = (Finset.univ : Finset (Fin 4)).map Fin.castSuccEmb ∪ {Fin.last 4} := by decide
    rw [h, BI.bigSep_union (by decide), bigSep_map, bigSep_singleton]
    rfl
  rw [h7, ← h5]
  exact lend B c

/-- The rights, promises and slots device `c` is dealt. -/
def dealt (c : Dev 8) : sProp 𝕄 :=
  iprop((bigSep Finset.univ fun k => (plan B).pos (ER τ sig Val) (c, k)) ∗ (bigSep Finset.univ fun r => (plan B).due (c, recvK r))
    ∗ (bigSep Finset.univ fun r => (plan B).tok (ER τ sig Val) (c, sendK r)) ∗ (bigSep Finset.univ fun r : Fin 7 => (plan B).tok (ER τ sig Val) (hop (way r) c, recvK r))
    ∗ (plan B).tok (ER τ sig Val) (c, hereK) ∗ argument B fullShare c
    ∗ (∃ f, dst (S := S) c c f) ∗ bigSep Finset.univ fun r : Fin 7 => iprop(∃ f, dst (S := S) (hop (way r) c) (hop (car r) c) f))

theorem start_intro (κ : Dev 8 × K → ℕ) (c : Dev 8) :
    iprop((plan B).records (ER τ sig Val) κ ∗ levAts (leveled τ) (level τ S) ∗ dealt B c) ⊢ start B c := by
  unfold dealt start sending
  rw [stages_none]
  unfold load
  simp only [bigSep_sep']
  iintro ⟨HR, HL, Hpos, Hdue, Hts, Htr, Hth, HA, Hdc, Hd⟩
  ihave HA := (lend_parts B c) $$ HA
  icases HA with ⟨Hs, Hsc⟩
  isplitl [HR]; · iexists κ; iexact HR
  isplitl [HL]; · iexact HL
  isplitl [Hpos]; · iexact Hpos
  isplitl [Hdue]; · iexact Hdue
  isplitl [Hts Htr Hs Hd]
  · isplitl [Hts]; · iexact Hts
    isplitl [Htr]; · iexact Htr
    isplitl [Hs] <;> iassumption
  isplitl [Hth]; · iexact Hth
  isplitl [Hsc] <;> iassumption

/-- Everything staked at the launch, dealt out. -/
theorem deal (f : (c : Dev 8) → Buf Val (S.O.view.loc (c.tc : Thread 8 τ))) :
    iprop((bigSep Finset.univ fun c => iprop(Pipeline.ownSems0 S.osem c ∗ (argument B fullShare c ∗ result c (f c)) ∗ Pipeline.launchCred (owed τ S 0) c))
        ∗ levAts (leveled τ) (level τ S) ∗ BI.own (ER τ sig Val (initOf (plan B).cells (plan B).toks)))
      ⊢ (|={Set.univ}=> bigSep Finset.univ (start B) : sProp 𝕄) := by
  have hall (κ : Dev 8 × K → ℕ) : iprop(((plan B).records (ER τ sig Val) κ ∗ levAts (leveled τ) (level τ S)) ∗ bigSep Finset.univ (dealt B))
      ⊢ (bigSep Finset.univ (start B) : sProp 𝕄) :=
    (sep_mono_left (BI.bigSep_of_persistent Finset.univ iprop((plan B).records (ER τ sig Val) κ ∗ levAts (leveled τ) (level τ S)))).trans
      (by
        rw [← bigSep_sep']
        refine bigSep_mono fun c _ => ?_
        have h := start_intro B κ c
        show (iprop((_ ∗ _) ∗ _) : sProp 𝕄) ⊢ _
        iintro ⟨⟨H1, H2⟩, H3⟩
        iapply h
        isplitl [H1]; · iexact H1
        isplitl [H2] <;> iassumption)
  have hdue : (bigSep Finset.univ fun c : Dev 8 => Pipeline.launchCred (owed τ S 0) c)
      ⊢ (bigSep Finset.univ fun c : Dev 8 => bigSep Finset.univ fun r : Fin 7 => (plan B).due (c, recvK r) : sProp 𝕄) := bigSep_mono fun c _ => promised B c
  have hopen : iprop((bigSep Finset.univ fun c : Dev 8 => Pipeline.ownSems0 S.osem c) ∗ BI.own (ER τ sig Val (initOf (plan B).cells (plan B).toks)))
      ⊢ (|={Set.univ}=> ∃ κ, (plan B).records (ER τ sig Val) κ ∗ (bigSep Finset.univ fun ck => (plan B).pos (ER τ sig Val) ck) ∗ bigSep Finset.univ fun ck => (plan B).tok (ER τ sig Val) ck : sProp 𝕄) :=
    (plan B).opened (ER τ sig Val)
  simp only [bigSep_sep']
  iintro ⟨⟨Hsem, ⟨HA, HO⟩, Hcr⟩, HL, HG⟩
  imod hopen $$ [Hsem HG] with ⟨%κ, HR, Hpos, Htok⟩
  · isplitl [Hsem] <;> iassumption
  imodintro
  ihave Hdue := hdue $$ Hcr
  ihave Htok := (deal_toks B) $$ Htok
  icases Htok with ⟨Hts, Htr, Hth⟩
  ihave Hslots := (deal_slots f) $$ HO
  simp only [bigSep_sep']
  icases Hslots with ⟨Hdc, Hd⟩
  ihave Hpos := (Entails.of_eq (BI.bigSep_univ_prod fun ck => (plan B).pos (ER τ sig Val) ck)) $$ Hpos
  iapply (hall κ)
  isplitl [HR HL]; · isplitl [HR] <;> iassumption
  unfold dealt
  simp only [bigSep_sep']
  isplitl [Hpos]; · iexact Hpos
  isplitl [Hdue]; · iexact Hdue
  isplitl [Hts]; · iexact Hts
  isplitl [Htr]; · iexact Htr
  isplitl [Hth]; · iexact Hth
  isplitl [HA]; · iexact HA
  isplitl [Hdc] <;> iassumption

/-! ## The end -/

/-- What is left: a share of the argument, the result filled, the semaphores at zero. -/
theorem finish_final (c : Dev 8) : finish B c
    ⊢ iprop((argument B (Transfers.shareTokN fullShare 0) c ∗ result c (B.res c)) ∗ Pipeline.ownSems0 S.osem c) := by
  have hsends : (bigSep Finset.univ fun r : Fin 7 => taken B c r) ⊢ (iprop(src B c 0
      ∗ dst c (hop (land 1) c) (B.res c) ∗ dst c (hop (land 2) c) (B.res c) ∗ dst c (hop (land 3) c) (B.res c)) : sProp 𝕄) := by
    rw [take_out (Finset.mem_univ (0 : Fin 7)), take_out (by decide : (4 : Fin 7) ∈ _), take_out (by decide : (5 : Fin 7) ∈ _), take_out (by decide : (6 : Fin 7) ∈ _)]
    show iprop(src B c 0 ∗ dst c (hop 4 c) (B.res c) ∗ dst c (hop 2 c) (B.res c) ∗ dst c (hop 6 c) (B.res c) ∗ _)
      ⊢ iprop(src B c 0 ∗ dst c (hop 4 c) (B.res c) ∗ dst c (hop 2 c) (B.res c) ∗ dst c (hop 6 c) (B.res c))
    iintro ⟨H1, H2, H3, H4, -⟩
    isplitl [H1]; · iexact H1
    isplitl [H2]; · iexact H2
    isplitl [H3] <;> iassumption
  have hpay : (bigSep rest fun k => pay B c k) ⊢ iprop(argument B (Transfers.shareTokN fullShare 0) c ∗ result c (B.res c)) := by
    rw [rest_eq, result_slots, receipts_out fun r => dst c (hop (land r) c) (B.res c)]
    show iprop((bigSep far fun r => dst c (hop (land r) c) (B.res c)) ∗ (bigSep Finset.univ fun r => taken B c r) ∗ dst c c (B.res c) ∗ src B c 4)
      ⊢ iprop(src B c 0 ∗ _)
    iintro ⟨Hf, Hs, Hd, -⟩
    ihave Hs := hsends $$ Hs
    icases Hs with ⟨H0, H1, H2, H3⟩
    isplitl [H0]; · iexact H0
    isplitl [Hd]; · iexact Hd
    isplitl [H1]; · iexact H1
    isplitl [H2]; · iexact H2
    isplitl [H3] <;> iassumption
  unfold finish
  exact sep_mono_left hpay

/-- The final state holds what is left. -/
theorem final_read (c : Dev 8) (s' : Phys 8 τ sig Val) :
    iprop((argument B (Transfers.shareTokN fullShare 0) c ∗ result c (B.res c)) ∗ SI s') ⊢ (|={Set.univ}=>
      iprop(⌜s'.mem.mem (S.A.view.loc (c.tc : Thread 8 τ)) = B.arg c ∧ s'.mem.mem (S.O.view.loc (c.tc : Thread 8 τ)) = B.res c⌝ ∗ SI s') : sProp 𝕄) := by
  unfold argument result
  rw [S.whole_A, S.whole_O]
  iintro ⟨⟨HA, HO⟩, HSI⟩
  ihave %hA := (SI_pointsTo_agree) $$ [HSI HA]
  · isplitl [HSI] <;> iassumption
  ihave %hO := (SI_pointsTo_agree) $$ [HSI HO]
  · isplitl [HSI] <;> iassumption
  imodintro
  isplitr
  · ipureintro
    exact ⟨funext fun i => hA i (Finset.mem_univ i), funext fun i => hO i (Finset.mem_univ i)⟩
  iexact HSI

end Cert.Gather

end
-- ==== Proof.GatherLaunch.lean ====
/-
  A gather on eight devices: the launch and the run.

  A program whose one call has no window and one point, and whose body is the protocol's kernel, runs as the protocol does: every device ends
  with its block as it was and the result of `B`.
-/
module

public import proofs.«01_k».proof.Proof.GatherDeal

@[expose] public section

noncomputable section

namespace Cert.Gather

open Cert.OneShot Cert.Hops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

/-- The semaphores of a device among fifteen: 0 to 6 count the sends, 7 to 13 the receipts, 14 the copy within. -/
def sems : K → Fin 15
  | sendK r => ⟨r.val, by omega⟩
  | recvK r => ⟨7 + r.val, by omega⟩
  | hereK => 14

theorem sems_inj : Function.Injective sems := by decide

/-- Where the pipeline's ghost state lies. -/
abbrev EP (τ : Topo) (sig : RefSig) (Val : EltTy → Type) : Emb (UR sig 8 τ) (MT 8 τ sig Unit Val ℕ (UU sig τ) ℕ) := embL

variable {τ : Topo} {sig : RefSig} {Val : EltTy → Type} {n : ℕ} {e : EltTy} {S : Site sig n e}

local notation "𝕄" => MT 8 τ sig Unit Val ℕ (UU sig τ) ℕ

/-- The labels of bodies that return nothing. -/
abbrev Bodies (L : Type) (A : L → Type) : Labels := ⟨L, A, fun _ => PUnit⟩

variable {L : Type} {A : L → Type} (cfg : Pipeline.Cfg sig (Bodies L A)) [IsEmpty (Fin cfg.W)] (B : Blocks τ Val S)

/-- The proof data of device `c`'s call: it starts with its deal and the debt of its sends, and ends with neither. -/
def dats (_ : Fin 1) (c : Dev 8) : Dat τ Val Unit ℕ (UU sig τ) ℕ cfg c where
  A w := isEmptyElim w
  after w _ := isEmptyElim w
  Φ t := if t.val = 0 then start B c else finish B c
  q _ := fullShare
  owed t := if t.val = 0 then owed τ S 0 c else 0

theorem owed_first (c : Dev 8) : (dats cfg B 0 c).owed 0 = owed τ S 0 c := by
  unfold dats
  dsimp only
  exact if_pos (Fin.val_zero (cfg.N + 1))

variable (defs₀ : Defs 8 τ sig Val (Bodies L A))
  {hA : S.A.view.WordExact} {hsc : S.O.view.ref.isScScratch = false} {offs : Dev 8 → Fin 8 → Fin 3 → ℕ} {devs : Dev 8 → Fin 7 → Dev 8}
  (hoffs : ∀ c j, offs c j = ![(hop j c).val, 0, 0]) (hdevs : ∀ c r, devs c r = hop (way r) c)

/-- Every slot lies in the result. -/
theorem offs_inb {off : Fin 8 → Fin 3 → ℕ} {c : Dev 8} (h : ∀ j, off j = ![(hop j c).val, 0, 0]) :
    ∀ j a, off j a + (Slots.Row n 128).size a ≤ (Slots.Arr 8 n 128).size a := fun j => by
  rw [h]; exact Gather.inb (hop j c)

variable {words : ∀ d j, (Slots.cut S.O (offs d j) (offs_inb (hoffs d) j) S.sq).view.WordExact}
  (hN : cfg.N = 1)
  (hbody : ∀ t, defs₀ .tc cfg.body (cfg.bodyArgs t (cfg.slots t))
    = .op .deviceId fun d => kernel S hA hsc (offs d) (offs_inb (hoffs d)) (words d) (devs d))

include hdevs hN hbody in
theorem body_obligation (c : Dev 8) : BodyObligation (dats cfg B 0 c) defs₀ 𝒱₀ () Set.univ := fun t => by
  have ht : t = ⟨0, hN ▸ Nat.one_pos⟩ := Fin.ext (Nat.lt_one_iff.1 (hN ▸ t.isLt))
  subst ht
  have hW (Φ : Fin cfg.W → sProp 𝕄) : bigSep Finset.univ Φ = BI.emp := by
    rw [Finset.univ_eq_empty, BI.bigSep_empty]
  rw [hW, hW, hbody]
  unfold Dat.owesAt Pipeline.owesWithin
  show iprop(start B c ∗ (∃ W, ⌜_⌝ ∗ owes (c.tc : Thread 8 τ) (owed τ S 0 c) W) ∗ emp) ⊢ wp frame (wpE defs₀ 𝒱₀ (c.tc : Thread 8 τ) none) Set.univ _
    (fun _ => iprop(finish B c ∗ (∃ W, ⌜_⌝ ∗ owes (c.tc : Thread 8 τ) (0 : CellTallies 8 τ sig Unit) W) ∗ emp))
  simp only [wp_deviceId]
  iintro ⟨Hs, ⟨%W, -, HO⟩, -⟩
  iapply (sound_kernel defs₀ B c (hoffs c) (hdevs c) _)
  isplitl [Hs]; · iexact Hs
  isplitl [HO]; · iexists W; iexact HO
  iintro ⟨Hf, ⟨%W', HO⟩⟩
  isplitl [Hf]; · iexact Hf
  isplitl; · iexists W'; isplitr; · ipureintro; exact fun _ _ => Or.inl trivial
             iexact HO
  iempintro

/-! ## The run -/

variable (hinj : Function.Injective (Pipeline.cellOf (nD := 8) (τ := τ) fun _ : Fin 1 => cfg)) (hwin : Pipeline.WinFacts cfg.spec)
  (hown : Pipeline.OwnSemFacts cfg.spec S.osem) (hscoped : ∀ c, (Pipeline.scopedRest cfg.spec c : sProp (MT 8 τ sig Unit Val ℕ (UU sig τ) ℕ)) = BI.emp)
  (m : (ℓ : Loc 8 τ sig) → Buf Val ℓ) (hm : ∀ c : Dev 8, m (S.A.view.loc (c.tc : Thread 8 τ)) = B.arg c)
  (hrest : ∀ c : Dev 8, (Pipeline.unscopedRest cfg.spec c (fun b => m ((c.tc : Thread 8 τ).loc b)) : sProp (MT 8 τ sig Unit Val ℕ (UU sig τ) ℕ))
    = iprop((S.A.view.loc (c.tc : Thread 8 τ) ↦{fullShare} m (S.A.view.loc (c.tc : Thread 8 τ)))
      ∗ (S.O.view.loc (c.tc : Thread 8 τ) ↦{fullShare} m (S.O.view.loc (c.tc : Thread 8 τ)))))

include hm hrest in
/-- A device's arrays are its argument and its result. -/
theorem arrays (c : Dev 8) : (unscopedBufs c (fun b => m ((c.tc : Thread 8 τ).loc b)) : sProp 𝕄)
    = iprop(argument B fullShare c ∗ result (S := S) c (m (S.O.view.loc (c.tc : Thread 8 τ)))) := by
  have h := Pipeline.unscopedBufs_split (Ix := Unit) (Name := ℕ) (U := UU sig τ) (Lvl := ℕ) (τ := τ) (nD := 8) (fun _ : Fin 1 => cfg) (0 : Fin 1)
    (fun w => isEmptyElim w) (fun w => isEmptyElim w) c (fun b => m ((c.tc : Thread 8 τ).loc b))
  rw [h]
  unfold argument result
  rw [S.whole_A, S.whole_O, ← hm]
  show iprop((bigSep Finset.univ fun w : Fin cfg.W => _) ∗ Pipeline.unscopedRest cfg.spec c _) = _
  rw [Finset.univ_eq_empty, BI.bigSep_empty, hrest]
  exact BI.equiv_iff.mp BI.emp_sep

/-- The ghost state of the launch. -/
def u₀ : UU sig τ := (initOf (Pipeline.cells (fun _ : Fin 1 => cfg) hinj) (Pipeline.launchToks (fun _ : Fin 1 => cfg) hinj), initOf (plan B).cells (plan B).toks)

include hdevs hN hbody hinj hwin hown hscoped hm hrest in
/-- From a memory with the blocks: every execution of the gather on the eight devices ends, each argument as it was, every device's result that of
    `B`, and every semaphore at zero. -/
theorem run [∀ e, Nonempty (Val e)] (hsems : ∀ s : SemLoc sig, s.isScoped .tc = true) (g : Dev 8 → PrngReg)
    (main : Dev 8 → Prog (TpuEff 8 τ sig Val (Pipeline.Sig (Bodies L A) (Fin 1) fun _ => (cfg.toPCfg (Val := Val)).Adm) .tc) PUnit)
    (hmain : ∀ c, main c = .op (.customCall (Pipeline.entry 0) ()) fun _ => .ret ⟨⟩) :
    θ_run (Pipeline.defs (fun _ : Fin 1 => cfg.toPCfg) defs₀) (onTc (τ := τ) main) ⟨m, fun _ => 0, g⟩ (fun r =>
      (∀ c : Dev 8, r.2.mem (S.A.view.loc (c.tc : Thread 8 τ)) = B.arg c ∧ r.2.mem (S.O.view.loc (c.tc : Thread 8 τ)) = B.res c) ∧ r.2.sem = fun _ => 0) :=
  have hW : cfg.W = 0 := by
    rcases Nat.eq_zero_or_pos cfg.W with h | h
    · exact h
    · exact (isEmptyElim (⟨0, h⟩ : Fin cfg.W))
  have hlast : cfg.N ≠ 0 := hN ▸ Nat.one_ne_zero
  MeshLaunch.run_dealt (fun _ => cfg.toPCfg) (fun _ _ => cfg.toPCfg_adm) (Dat.toRs (dats cfg B)) () hinj (0 : Fin 1)
    hwin.to₀ hown (EP τ sig Val) defs₀ 𝒱₀ hW rfl m g main hmain (fun c => (body_obligation cfg B defs₀ hoffs hdevs hN hbody c).toR)
    (owed τ S 0) (owed_first cfg B) (fun c => (if_neg hlast : (dats cfg B 0 c).owed (Fin.last _) = 0)) (leveled τ) (level τ S) (fun _ h => if_neg h)
    (fun c => Pipeline.PerCore.RDat.cellsWaits_intro _ _ () 0 c fun w => isEmptyElim w)
    (start B) (fun c => iprop(argument B (Transfers.shareTokN fullShare 0) c ∗ result c (B.res c)))
    (BI.own (ER τ sig Val (initOf (plan B).cells (plan B).toks))) (u₀ cfg B hinj)
    (by
      unfold u₀
      iintro Hu
      ihave H := (ownU_pair _ _) $$ Hu
      icases H with ⟨HP, HX⟩
      imodintro
      isplitl [HP] <;> iassumption)
    (by
      have h := deal B fun c => m (S.O.view.loc (c.tc : Thread 8 τ))
      unfold MeshLaunch.stake
      rw [bigSep_congr fun c _ => by rw [arrays cfg B m hm hrest]]
      exact h)
    (fun c => by
      show iprop(start B c ∗ _) ⊢ (if 0 = 0 then start B c else finish B c)
      rw [if_pos rfl]
      iintro ⟨H, -⟩
      iexact H)
    (fun c => by
      show (if cfg.N = 0 then start B c else finish B c) ⊢ iprop(_ ∗ Pipeline.ownSems0 S.osem c ∗ Pipeline.scopedRest cfg.spec c)
      rw [if_neg hlast, hscoped]
      iintro H
      ihave H := (finish_final B c) $$ H
      icases H with ⟨H1, H2⟩
      isplitl [H1]; · iexact H1
      isplitl; · iexact H2
      iempintro)
    (fun c s => s.mem (S.A.view.loc (c.tc : Thread 8 τ)) = B.arg c ∧ s.mem (S.O.view.loc (c.tc : Thread 8 τ)) = B.res c)
    (final_read B)
    (fun _ h hs => ⟨h, sem_eq_zero_of_scoped hsems hs⟩)

end Cert.Gather

end
-- ==== Proof.GatherRun.lean ====
/-
  The gather of the weights: the launch and the run.

  The weights' gather is the gather of the protocol at blocks of 40000 rows of bf16.
-/
module

public import proofs.«01_k».proof.Proof.GatherLaunch
public import proofs.«01_k».proof.Proof.Gen.GatherIdeal.Skeleton
public import proofs.«01_k».proof.Proof.Gen.GatherIdeal.Launch
public import proofs.«01_k».proof.Proof.Gen.GatherIdeal.Points

@[expose] public section

noncomputable section

namespace Cert.GatherProof

open Cert.GatherIdeal Cert.GatherIdeal.Gen Cert.OneShot Cert.Hops Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The site -/

/-- The argument, the result and the semaphores. -/
def site : Site sig 40000 .bf16 where
  A := Memref.whole main_arg0
  O := Memref.whole main_v1
  whole_A := View.set_whole _
  whole_O := View.set_whole _
  sq := squeezes_S1x40000x128_S40000x128
  sem := sems
  sem_inj := sems_inj
  N := (Memref.whole main_arg0).view.dmaCredit
  N_pos := View.dmaCredit_pos _ (by decide)
  credit_A := rfl
  credit_O _ _ := rfl

variable (m : (ℓ : Loc nD τ sig) → Buf (Elt F) ℓ)

/-- Device `c`'s argument, as launched. -/
def arg (c : Dev nD) : Buf (Elt F) ((c.tc : Thread nD τ).loc main_arg0) := m ((c.tc : Thread nD τ).loc main_arg0)
/-- Every device's result: slot `p` is device `p`'s argument. -/
def res (c : Dev nD) : Buf (Elt F) ((c.tc : Thread nD τ).loc main_v1) :=
  fun x : (Slots.Arr 8 40000 128).Idx => arg m (x 0) (Slots.tail x)

/-- The blocks gathered. -/
def blocks : Blocks τ (Elt F) site where
  arg := arg m
  res := res m
  read _ _ := rfl

/-! ## The kernel -/

variable (c : Dev nD)

/-- Where the kernel finds the slot of the device `j` away, and the device its send `r` goes to. -/
def offs : Fin 8 → Fin 3 → ℕ
  | 0 => k0_off1 c | 1 => k0_off5 c | 2 => k0_off3 c | 3 => k0_off7 c
  | 4 => k0_off2 c | 5 => k0_off6 c | 6 => k0_off4 c | 7 => k0_off8 c
def devs : Fin 7 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩

theorem offs_eq : ∀ (c : Dev nD) (j : Fin 8), offs c j = ![(hop j c).val, 0, 0] := by decide +kernel
theorem devs_eq : ∀ (c : Dev nD) (r : Fin 7), devs c r = hop (way r) c := by decide +kernel

theorem offs_words : ∀ j, (Slots.cut site.O (offs c j) (offs_inb (offs_eq c) j) site.sq).view.WordExact
  | 0 => ((Memref.isWhole_whole _).wordExact_slice rfl _ (k0_off1_wordsbf16 c)).reshape _ _
  | 1 => ((Memref.isWhole_whole _).wordExact_slice rfl _ (k0_off5_wordsbf16 c)).reshape _ _
  | 2 => ((Memref.isWhole_whole _).wordExact_slice rfl _ (k0_off3_wordsbf16 c)).reshape _ _
  | 3 => ((Memref.isWhole_whole _).wordExact_slice rfl _ (k0_off7_wordsbf16 c)).reshape _ _
  | 4 => ((Memref.isWhole_whole _).wordExact_slice rfl _ (k0_off2_wordsbf16 c)).reshape _ _
  | 5 => ((Memref.isWhole_whole _).wordExact_slice rfl _ (k0_off6_wordsbf16 c)).reshape _ _
  | 6 => ((Memref.isWhole_whole _).wordExact_slice rfl _ (k0_off4_wordsbf16 c)).reshape _ _
  | 7 => ((Memref.isWhole_whole _).wordExact_slice rfl _ (k0_off8_wordsbf16 c)).reshape _ _

/-- The kernel is the protocol's, once it knows its device. -/
theorem body_eq (t : Fin cfg0.N) : bodyAt0 (F := F) t
    = .op .deviceId fun d => kernel site (Memref.isWhole_whole _).wordExact rfl (offs d) (offs_inb (offs_eq d)) (offs_words d) (devs d) := by
  unfold bodyAt0
  simp only [cc0_gather_weights_eq_skeleton]; unfold cc0_gather_weights_skel
  simp only [k0_part10_eq_skeleton]; unfold k0_part10_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  unfold kernel
  simp only [Prog.lift, Prog.bind_op, Prog.bind_ret, Prog.pure_eq_ret]
  rfl

/-! ## The run -/

/-- For any float values and from any memory: every execution of the gather on the eight devices ends, each argument as it
    was, slot `p` of every device's result device `p`'s argument, and every semaphore at zero. -/
theorem run_main (g : Dev nD → PrngReg) : θ_run defs (onTc (τ := τ) (main (F := F))) ⟨m, fun _ => 0, g⟩ (fun r =>
    (∀ c : Dev nD, r.2.mem ((c.tc : Thread nD τ).loc main_arg0) = arg m c ∧ r.2.mem ((c.tc : Thread nD τ).loc main_v1) = res m c) ∧ r.2.sem = fun _ => 0) :=
  Gather.run cfg0 (blocks m) defs₀ offs_eq devs_eq N_0 body_eq cellOf_inj winFacts0 (by decide) scopedRest0_eq m (fun _ => rfl)
    (fun c => unscopedRest0_eq c _) (by decide) g main (fun _ => rfl)

end Cert.GatherProof

end
-- ==== Proof.GatherRef.lean ====
/-
  The reference of the gather of the weights, and the equation.

  The reference has the eight blocks below each other in one array on one device, and reshapes it to eight slots. This module says so of its
  run, and that every device of the gather ends with that result.
-/
module

public import proofs.«01_k».proof.Proof.GatherRun
public import proofs.«01_k».proof.Proof.Gen.GatherRefIdeal
public import Idealize.ShloMosaic.Lib.StableHlo.Run
public import Idealize.ShloMosaic.Lib.Layout
public import Idealize.ShloMosaic.Lib.Quiescent
public import Idealize.ShloMosaic.Lib.Pipeline.Value

@[expose] public section

noncomputable section

namespace Cert.Gather

open Idealize.ShloMosaic

/-- The blocks of an array cut in eight are the slots of its reshape. -/
theorem tiles_slots {α : Type} {n N : ℕ} (x : (Slots.Flat N 128).Idx → α) (h : Layout.Tiles (Slots.Flat n 128) (Slots.Flat N 128) 0 8)
    (hc : (Slots.Flat N 128).ShapeCasts (Slots.Arr 8 n 128)) (i : (Slots.Arr 8 n 128).Idx) (d : Fin 8)
    (hd : d.val = (i 0).val) : Layout.block (Slots.Flat n 128) (Slots.Flat N 128) 0 8 d x h (Slots.tail i) = shapeCast (Slots.Arr 8 n 128) x hc i := by
  rw [Layout.block_apply]
  refine (shapeCast_apply _ _ i _ ?_).symm
  rw [Shape.rowMajor_val_two, Shape.rowMajor_val_three, Layout.Tiles.idx_val, Layout.Tiles.idx_val]
  show (d.val * n + (i 1).val) * 128 + (i 2).val = ((i 0).val * n + (i 1).val) * 128 + (i 2).val
  rw [hd]

end Cert.Gather

namespace Cert.GatherRefProof

open Cert.GatherRefIdeal Cert.GatherRefIdeal.Gen
open Idealize.ShloMosaic Idealize.ShloMosaic.TcCoe Idealize.ShloMosaic.StableHlo Idealize.SL.Sem

variable {F : FTy → Type} [FloatOps F] {α : Type}

/-- The reference's result, from its argument. -/
def slots (x : S320000x128.Idx → α) : S8x40000x128.Idx → α := shapeCast S8x40000x128 x shapeCasts_S320000x128_S8x40000x128

/-- The reference's operation. -/
abbrev ops : List (HloOp τ sig (Elt F)) :=
  [ reshape main_arg0 main_v0 (rfl : (.bf16 : EltTy) = .bf16) shapeCasts_S320000x128_S8x40000x128 ]

theorem main_eq (c : Dev nD) : main (F := F) c = seq ops := rfl

theorem out_eq (V : Valuation τ sig (Elt F)) : after ops V (main_v0 : DevRef τ sig) = slots (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := reshape_bufs_sub ..

/-- The reference ends with the eight slots, its argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v0) = slots (m ((c.tc : Thread nD τ).loc main_arg0))
        ∧ r.2.mem ((c.tc : Thread nD τ).loc main_arg0) = m ((c.tc : Thread nD τ).loc main_arg0) :=
  (θ_run defs _ _).mono (fun _ h c => ⟨(h c main_v0).trans (out_eq _), (h c main_arg0).trans (arg0_eq _)⟩)
    (run_seq scopedRefs_eq scopedSems_eq defs main (fun _ => ops) main_eq (fun _ => ops_sub) m ρ)

/-! ## The equation -/

/-- Where every device's argument is its block of the whole array `x`, each device of the gather ends with the reference's result. -/
theorem res_eq (m : (ℓ : Loc Cert.GatherIdeal.nD Cert.GatherIdeal.τ Cert.GatherIdeal.sig) → Buf (Elt F) ℓ) (x : S320000x128.Idx → Elt F .bf16)
    (h : Layout.Tiles ⟨2, ![40000, 128]⟩ ⟨2, ![320000, 128]⟩ 0 8)
    (hm : ∀ c : Dev Cert.GatherIdeal.nD, GatherProof.arg m c = Layout.block ⟨2, ![40000, 128]⟩ ⟨2, ![320000, 128]⟩ 0 8 c x h) (c : Dev Cert.GatherIdeal.nD) :
    GatherProof.res m c = slots x := by
  refine funext fun i : S8x40000x128.Idx => ?_
  exact (congrFun (hm (i 0)) (Slots.tail i)).trans (Gather.tiles_slots x h _ i _ rfl)

end Cert.GatherRefProof

end
-- ==== Proof.GatherSmallRun.lean ====
/-
  The gather of the small weights: the run.

  It is the gather of the protocol at blocks of 40 rows of f32, each device finding the slots and the other devices as in the gather of the
  weights.
-/
module

public import proofs.«01_k».proof.Proof.GatherRun
public import proofs.«01_k».proof.Proof.Gen.GatherSmallIdeal.Skeleton
public import proofs.«01_k».proof.Proof.Gen.GatherSmallIdeal.Launch
public import proofs.«01_k».proof.Proof.Gen.GatherSmallIdeal.Points

@[expose] public section

noncomputable section

namespace Cert.GatherSmallProof

open Cert.GatherSmallIdeal Cert.GatherSmallIdeal.Gen Cert.OneShot Cert.Hops Cert.Gather
open Cert.GatherProof (offs devs offs_eq devs_eq)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The site -/

/-- The argument, the result and the semaphores. -/
def site : Site sig 40 .f32 where
  A := Memref.whole main_arg0
  O := Memref.whole main_v1
  whole_A := View.set_whole _
  whole_O := View.set_whole _
  sq := squeezes_S1x40x128_S40x128
  sem := sems
  sem_inj := sems_inj
  N := (Memref.whole main_arg0).view.dmaCredit
  N_pos := View.dmaCredit_pos _ (by decide)
  credit_A := rfl
  credit_O _ _ := rfl

variable (m : (ℓ : Loc nD τ sig) → Buf (Elt F) ℓ)

/-- Device `c`'s argument, as launched. -/
def arg (c : Dev nD) : Buf (Elt F) ((c.tc : Thread nD τ).loc main_arg0) := m ((c.tc : Thread nD τ).loc main_arg0)
/-- Every device's result: slot `p` is device `p`'s argument. -/
def res (c : Dev nD) : Buf (Elt F) ((c.tc : Thread nD τ).loc main_v1) :=
  fun x : (Slots.Arr 8 40 128).Idx => arg m (x 0) (Slots.tail x)

/-- The blocks gathered. -/
def blocks : Blocks τ (Elt F) site where
  arg := arg m
  res := res m
  read _ _ := rfl

/-! ## The kernel -/

/-- A slot of the result is made of whole words. -/
theorem words (c : Dev nD) (j : Fin 8) : (Slots.cut site.O (offs c j) (offs_inb (offs_eq c) j) site.sq).view.WordExact := (View.wordExact_bits rfl).reshape _ _

/-- The kernel is the protocol's, once it knows its device. -/
theorem body_eq (t : Fin cfg0.N) : bodyAt0 (F := F) t
    = .op .deviceId fun d => kernel site (Memref.isWhole_whole _).wordExact rfl (offs d) (offs_inb (offs_eq d)) (words d) (devs d) := by
  unfold bodyAt0
  simp only [cc0_gather_small_eq_skeleton]; unfold cc0_gather_small_skel
  simp only [k0_part10_eq_skeleton]; unfold k0_part10_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  unfold kernel
  simp only [Prog.lift, Prog.bind_op, Prog.bind_ret, Prog.pure_eq_ret]
  rfl

/-! ## The run -/

/-- For any float values and from any memory: every execution of the gather on the eight devices ends, each argument as it
    was, slot `p` of every device's result device `p`'s argument, and every semaphore at zero. -/
theorem run_main (g : Dev nD → PrngReg) : θ_run defs (onTc (τ := τ) (main (F := F))) ⟨m, fun _ => 0, g⟩ (fun r =>
    (∀ c : Dev nD, r.2.mem ((c.tc : Thread nD τ).loc main_arg0) = arg m c ∧ r.2.mem ((c.tc : Thread nD τ).loc main_v1) = res m c) ∧ r.2.sem = fun _ => 0) :=
  Gather.run cfg0 (blocks m) defs₀ offs_eq devs_eq N_0 body_eq cellOf_inj winFacts0 (by decide) scopedRest0_eq m (fun _ => rfl)
    (fun c => unscopedRest0_eq c _) (by decide) g main (fun _ => rfl)

end Cert.GatherSmallProof

end
-- ==== Proof.GatherSmallRef.lean ====
/-
  The reference of the gather of the small weights, and the equation.

  The reference has the eight blocks below each other in one array on one device, and reshapes it to eight slots. This module says so of its
  run, and that every device of the gather ends with that result.
-/
module

public import proofs.«01_k».proof.Proof.GatherSmallRun
public import proofs.«01_k».proof.Proof.GatherRef
public import proofs.«01_k».proof.Proof.Gen.GatherSmallRefIdeal
public import Idealize.ShloMosaic.Lib.StableHlo.Run
public import Idealize.ShloMosaic.Lib.Layout
public import Idealize.ShloMosaic.Lib.Quiescent
public import Idealize.ShloMosaic.Lib.Pipeline.Value

@[expose] public section

noncomputable section

namespace Cert.GatherSmallRefProof

open Cert.GatherSmallRefIdeal Cert.GatherSmallRefIdeal.Gen
open Idealize.ShloMosaic Idealize.ShloMosaic.TcCoe Idealize.ShloMosaic.StableHlo Idealize.SL.Sem

variable {F : FTy → Type} [FloatOps F] {α : Type}

/-- The reference's result, from its argument. -/
def slots (x : S320x128.Idx → α) : S8x40x128.Idx → α := shapeCast S8x40x128 x shapeCasts_S320x128_S8x40x128

/-- The reference's operation. -/
abbrev ops : List (HloOp τ sig (Elt F)) :=
  [ reshape main_arg0 main_v0 (rfl : (.f32 : EltTy) = .f32) shapeCasts_S320x128_S8x40x128 ]

theorem main_eq (c : Dev nD) : main (F := F) c = seq ops := rfl

theorem out_eq (V : Valuation τ sig (Elt F)) : after ops V (main_v0 : DevRef τ sig) = slots (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := reshape_bufs_sub ..

/-- The reference ends with the eight slots, its argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v0) = slots (m ((c.tc : Thread nD τ).loc main_arg0))
        ∧ r.2.mem ((c.tc : Thread nD τ).loc main_arg0) = m ((c.tc : Thread nD τ).loc main_arg0) :=
  (θ_run defs _ _).mono (fun _ h c => ⟨(h c main_v0).trans (out_eq _), (h c main_arg0).trans (arg0_eq _)⟩)
    (run_seq scopedRefs_eq scopedSems_eq defs main (fun _ => ops) main_eq (fun _ => ops_sub) m ρ)

/-! ## The equation -/

/-- Where every device's argument is its block of the whole array `x`, each device of the gather ends with the reference's result. -/
theorem res_eq (m : (ℓ : Loc Cert.GatherSmallIdeal.nD Cert.GatherSmallIdeal.τ Cert.GatherSmallIdeal.sig) → Buf (Elt F) ℓ) (x : S320x128.Idx → Elt F .f32)
    (h : Layout.Tiles ⟨2, ![40, 128]⟩ ⟨2, ![320, 128]⟩ 0 8)
    (hm : ∀ c : Dev Cert.GatherSmallIdeal.nD, GatherSmallProof.arg m c = Layout.block ⟨2, ![40, 128]⟩ ⟨2, ![320, 128]⟩ 0 8 c x h) (c : Dev Cert.GatherSmallIdeal.nD) :
    GatherSmallProof.res m c = slots x := by
  refine funext fun i : S8x40x128.Idx => ?_
  exact (congrFun (hm (i 0)) (Slots.tail i)).trans (Gather.tiles_slots x h _ i _ rfl)

end Cert.GatherSmallRefProof

end
-- ==== Proof.GatherGradsRun.lean ====
/-
  The gather of the small gradients: the run.

  It is the gather of the protocol at blocks of 592 rows of f32, each device finding the slots and the other devices as in the gather of the
  weights.
-/
module

public import proofs.«01_k».proof.Proof.GatherRun
public import proofs.«01_k».proof.Proof.Gen.GatherGradsIdeal.Skeleton
public import proofs.«01_k».proof.Proof.Gen.GatherGradsIdeal.Launch
public import proofs.«01_k».proof.Proof.Gen.GatherGradsIdeal.Points

@[expose] public section

noncomputable section

namespace Cert.GatherGradsProof

open Cert.GatherGradsIdeal Cert.GatherGradsIdeal.Gen Cert.OneShot Cert.Hops Cert.Gather
open Cert.GatherProof (offs devs offs_eq devs_eq)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The site -/

/-- The argument, the result and the semaphores. -/
def site : Site sig 592 .f32 where
  A := Memref.whole main_arg0
  O := Memref.whole main_v1
  whole_A := View.set_whole _
  whole_O := View.set_whole _
  sq := squeezes_S1x592x128_S592x128
  sem := sems
  sem_inj := sems_inj
  N := (Memref.whole main_arg0).view.dmaCredit
  N_pos := View.dmaCredit_pos _ (by decide)
  credit_A := rfl
  credit_O _ _ := rfl

variable (m : (ℓ : Loc nD τ sig) → Buf (Elt F) ℓ)

/-- Device `c`'s argument, as launched. -/
def arg (c : Dev nD) : Buf (Elt F) ((c.tc : Thread nD τ).loc main_arg0) := m ((c.tc : Thread nD τ).loc main_arg0)
/-- Every device's result: slot `p` is device `p`'s argument. -/
def res (c : Dev nD) : Buf (Elt F) ((c.tc : Thread nD τ).loc main_v1) :=
  fun x : (Slots.Arr 8 592 128).Idx => arg m (x 0) (Slots.tail x)

/-- The blocks gathered. -/
def blocks : Blocks τ (Elt F) site where
  arg := arg m
  res := res m
  read _ _ := rfl

/-! ## The kernel -/

/-- A slot of the result is made of whole words. -/
theorem words (c : Dev nD) (j : Fin 8) : (Slots.cut site.O (offs c j) (offs_inb (offs_eq c) j) site.sq).view.WordExact := (View.wordExact_bits rfl).reshape _ _

/-- The kernel is the protocol's, once it knows its device. -/
theorem body_eq (t : Fin cfg0.N) : bodyAt0 (F := F) t
    = .op .deviceId fun d => kernel site (Memref.isWhole_whole _).wordExact rfl (offs d) (offs_inb (offs_eq d)) (words d) (devs d) := by
  unfold bodyAt0
  simp only [cc0_gather_small_grads_eq_skeleton]; unfold cc0_gather_small_grads_skel
  simp only [k0_part10_eq_skeleton]; unfold k0_part10_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  unfold kernel
  simp only [Prog.lift, Prog.bind_op, Prog.bind_ret, Prog.pure_eq_ret]
  rfl

/-! ## The run -/

/-- For any float values and from any memory: every execution of the gather on the eight devices ends, each argument as it
    was, slot `p` of every device's result device `p`'s argument, and every semaphore at zero. -/
theorem run_main (g : Dev nD → PrngReg) : θ_run defs (onTc (τ := τ) (main (F := F))) ⟨m, fun _ => 0, g⟩ (fun r =>
    (∀ c : Dev nD, r.2.mem ((c.tc : Thread nD τ).loc main_arg0) = arg m c ∧ r.2.mem ((c.tc : Thread nD τ).loc main_v1) = res m c) ∧ r.2.sem = fun _ => 0) :=
  Gather.run cfg0 (blocks m) defs₀ offs_eq devs_eq N_0 body_eq cellOf_inj winFacts0 (by decide) scopedRest0_eq m (fun _ => rfl)
    (fun c => unscopedRest0_eq c _) (by decide) g main (fun _ => rfl)

end Cert.GatherGradsProof

end
-- ==== Proof.GatherGradsRef.lean ====
/-
  The reference of the gather of the small gradients, and the equation.

  The reference has the eight blocks below each other in one array on one device, and reshapes it to eight slots. This module says so of its
  run, and that every device of the gather ends with that result.
-/
module

public import proofs.«01_k».proof.Proof.GatherGradsRun
public import proofs.«01_k».proof.Proof.GatherRef
public import proofs.«01_k».proof.Proof.Gen.GatherGradsRefIdeal
public import Idealize.ShloMosaic.Lib.StableHlo.Run
public import Idealize.ShloMosaic.Lib.Layout
public import Idealize.ShloMosaic.Lib.Quiescent
public import Idealize.ShloMosaic.Lib.Pipeline.Value

@[expose] public section

noncomputable section

namespace Cert.GatherGradsRefProof

open Cert.GatherGradsRefIdeal Cert.GatherGradsRefIdeal.Gen
open Idealize.ShloMosaic Idealize.ShloMosaic.TcCoe Idealize.ShloMosaic.StableHlo Idealize.SL.Sem

variable {F : FTy → Type} [FloatOps F] {α : Type}

/-- The reference's result, from its argument. -/
def slots (x : S4736x128.Idx → α) : S8x592x128.Idx → α := shapeCast S8x592x128 x shapeCasts_S4736x128_S8x592x128

/-- The reference's operation. -/
abbrev ops : List (HloOp τ sig (Elt F)) :=
  [ reshape main_arg0 main_v0 (rfl : (.f32 : EltTy) = .f32) shapeCasts_S4736x128_S8x592x128 ]

theorem main_eq (c : Dev nD) : main (F := F) c = seq ops := rfl

theorem out_eq (V : Valuation τ sig (Elt F)) : after ops V (main_v0 : DevRef τ sig) = slots (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := reshape_bufs_sub ..

/-- The reference ends with the eight slots, its argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v0) = slots (m ((c.tc : Thread nD τ).loc main_arg0))
        ∧ r.2.mem ((c.tc : Thread nD τ).loc main_arg0) = m ((c.tc : Thread nD τ).loc main_arg0) :=
  (θ_run defs _ _).mono (fun _ h c => ⟨(h c main_v0).trans (out_eq _), (h c main_arg0).trans (arg0_eq _)⟩)
    (run_seq scopedRefs_eq scopedSems_eq defs main (fun _ => ops) main_eq (fun _ => ops_sub) m ρ)

/-! ## The equation -/

/-- Where every device's argument is its block of the whole array `x`, each device of the gather ends with the reference's result. -/
theorem res_eq (m : (ℓ : Loc Cert.GatherGradsIdeal.nD Cert.GatherGradsIdeal.τ Cert.GatherGradsIdeal.sig) → Buf (Elt F) ℓ) (x : S4736x128.Idx → Elt F .f32)
    (h : Layout.Tiles ⟨2, ![592, 128]⟩ ⟨2, ![4736, 128]⟩ 0 8)
    (hm : ∀ c : Dev Cert.GatherGradsIdeal.nD, GatherGradsProof.arg m c = Layout.block ⟨2, ![592, 128]⟩ ⟨2, ![4736, 128]⟩ 0 8 c x h) (c : Dev Cert.GatherGradsIdeal.nD) :
    GatherGradsProof.res m c = slots x := by
  refine funext fun i : S8x592x128.Idx => ?_
  exact (congrFun (hm (i 0)) (Slots.tail i)).trans (Gather.tiles_slots x h _ i _ rfl)

end Cert.GatherGradsRefProof

end
-- ==== Proof.Update.lean ====
/-
  The AdamW call over the five weights whose gradients are exchanged, and its reference. Point `t` of the grid adds rows
  `1472 t … 1472 t + 1471` of the eight slots of gradients, reads those rows of the weights and moments, and writes the same rows of the
  results; the 23 points cover the arrays.
-/
module

public import proofs.«01_k».proof.Proof.Rows
public import proofs.«01_k».proof.Proof.Gen.UpdateIdeal.Value
public import proofs.«01_k».proof.Proof.Gen.UpdateRefIdeal.Run

@[expose] public section

noncomputable section

namespace Cert.UpdateProof

open Idealize.ShloMosaic Idealize.ShloMosaic.TcCoe Idealize.SL.Sem

section Kernel

open Cert.UpdateIdeal Cert.UpdateIdeal.Gen

variable {F : FTy → Type} [FloatOps F]
variable (m : (ℓ : Loc nD τ sig) → Buf (Elt F) ℓ) (ρ : Dev nD → PrngReg)

variable (c : Dev nD)

theorem grad_eq (x : Vec F S8x1472x128 .f32) (w v z : Vec F S1472x128 .f32) : k0_pay5 x w v z = Rows.eight x :=
  Rows.eight_rows x (Rows.slot_inb 1472 128) _

theorem first_eq (x : Vec F S8x1472x128 .f32) (w v z : Vec F S1472x128 .f32) : k0_pay6 x w v z = Rows.first v (Rows.eight x) := by
  unfold k0_pay6
  rw [View.ld_unit_zero Rows.zero_zero _ v]
  exact congrArg (Rows.first v) (grad_eq x w v z)

/-- The four results, of the arguments. -/
abbrev grad : Vec F S33856x128 .f32 := Rows.eight (m ((c : Thread nD τ).loc main_arg0))
abbrev delta : Vec F S33856x128 .f32 := Rows.change (m ((c : Thread nD τ).loc main_arg1)) (m ((c : Thread nD τ).loc main_arg2)) (m ((c : Thread nD τ).loc main_arg3)) (grad m c)
abbrev newM : Vec F S33856x128 .f32 := Rows.first (m ((c : Thread nD τ).loc main_arg2)) (grad m c)
abbrev newV : Vec F S33856x128 .f32 := Rows.second (m ((c : Thread nD τ).loc main_arg3)) (grad m c)

/-- Point `t`'s rows: block `t` of each window, counted in blocks. -/
theorem row_facts : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem inside (t : Fin cfg0.N) (y : S1472x128.Idx) : t.val * 1472 + (y 0).val < 33856 := by
  have h : t.val < 23 := lt_of_lt_of_eq t.isLt N_0
  have hy : (y 0).val < 1472 := (y 0).isLt
  omega

/-- Where element `y` of point `t`'s block of rows lies in the array. -/
abbrev under (t : Fin cfg0.N) (y : S1472x128.Idx) : S33856x128.Idx := Rows.below t.val y (inside t y)

theorem rows_eq {f : Fin 2 → Nat} (t : Fin cfg0.N) (y : S1472x128.Idx) (i : S33856x128.Idx) (hf : f = ![t.val, 0]) (h : ∀ a, (i a).val = f a * S1472x128.size a + (y a).val) : i = under t y :=
  Rows.eq_below (inside t y) i fun a => (h a).trans (congrArg (fun f : Fin 2 → Nat => f a * S1472x128.size a + (y a).val) hf)

/-- The blocks read: the array's rows, and the sum of the gradients' slots at those rows. -/
theorem read0 (t : Fin cfg0.N) : Rows.eight (iblk m c 0 t) = fun y => grad m c (under t y) := by
  refine funext fun y : S1472x128.Idx => congrArg Adam.eight (funext fun k => congrArg (m ((c : Thread nD τ).loc main_arg0)) (Shape.idx3_ext ?_ ?_ ?_))
  all_goals refine (Pipeline.Window.rect_emb_val win0_0 t _ _).trans ?_; rw [(row_facts t).1]
  · exact (congrArg (· + k.val) (Nat.zero_mul 8)).trans (Nat.zero_add _)
  · rfl
  · exact (congrArg (· + (y 1).val) (Nat.zero_mul 128)).trans (Nat.zero_add _)
theorem read1 (t : Fin cfg0.N) : iblk m c 1 t = fun y => m ((c : Thread nD τ).loc main_arg1) (under t y) :=
  funext fun y => congrArg (m ((c : Thread nD τ).loc main_arg1)) (rows_eq t y _ (row_facts t).2.1 fun a => Pipeline.Window.rect_emb_val win0_1 t y a)
theorem read2 (t : Fin cfg0.N) : iblk m c 2 t = fun y => m ((c : Thread nD τ).loc main_arg2) (under t y) :=
  funext fun y => congrArg (m ((c : Thread nD τ).loc main_arg2)) (rows_eq t y _ (row_facts t).2.2.1 fun a => Pipeline.Window.rect_emb_val win0_2 t y a)
theorem read3 (t : Fin cfg0.N) : iblk m c 3 t = fun y => m ((c : Thread nD τ).loc main_arg3) (under t y) :=
  funext fun y => congrArg (m ((c : Thread nD τ).loc main_arg3)) (rows_eq t y _ (row_facts t).2.2.2.1 fun a => Pipeline.Window.rect_emb_val win0_3 t y a)

theorem emb4 (t : Fin cfg0.N) (y : S1472x128.Idx) : ((cfg0.win 4).blk t).view.emb y = under t y :=
  rows_eq t y _ (row_facts t).2.2.2.2.1 fun a => Pipeline.Window.rect_emb_val win0_4 t y a
theorem emb5 (t : Fin cfg0.N) (y : S1472x128.Idx) : ((cfg0.win 5).blk t).view.emb y = under t y :=
  rows_eq t y _ (row_facts t).2.2.2.2.2.1 fun a => Pipeline.Window.rect_emb_val win0_5 t y a
theorem emb6 (t : Fin cfg0.N) (y : S1472x128.Idx) : ((cfg0.win 6).blk t).view.emb y = under t y :=
  rows_eq t y _ (row_facts t).2.2.2.2.2.2.1 fun a => Pipeline.Window.rect_emb_val win0_6 t y a
theorem emb7 (t : Fin cfg0.N) (y : S1472x128.Idx) : ((cfg0.win 7).blk t).view.emb y = under t y :=
  rows_eq t y _ (row_facts t).2.2.2.2.2.2.2 fun a => Pipeline.Window.rect_emb_val win0_7 t y a

/-- What the body leaves in a block of each result, of the blocks it reads. -/
theorem out4_eq (x0 : Vec F S8x1472x128 .f32) (x1 x2 x3 : Vec F S1472x128 .f32) : out0_4 x0 x1 x2 x3 = Rows.eight x0 := by
  unfold out0_4
  rw [View.canon_unit_zero Rows.zero_zero, grad_eq]
theorem out5_eq (x0 : Vec F S8x1472x128 .f32) (x1 x2 x3 : Vec F S1472x128 .f32) : out0_5 x0 x1 x2 x3 = Rows.change x1 x2 x3 (Rows.eight x0) := by
  unfold out0_5
  rw [View.canon_unit_zero Rows.zero_zero, View.ld_unit_zero Rows.zero_zero _ x1, View.ld_unit_zero Rows.zero_zero _ x3, grad_eq, first_eq]
  rfl
theorem out6_eq (x0 : Vec F S8x1472x128 .f32) (x1 x2 x3 : Vec F S1472x128 .f32) : out0_6 x0 x1 x2 x3 = Rows.first x2 (Rows.eight x0) := by
  unfold out0_6
  rw [View.canon_unit_zero Rows.zero_zero, first_eq]
theorem out7_eq (x0 : Vec F S8x1472x128 .f32) (x1 x2 x3 : Vec F S1472x128 .f32) : out0_7 x0 x1 x2 x3 = Rows.second x3 (Rows.eight x0) := by
  unfold out0_7
  rw [View.canon_unit_zero Rows.zero_zero, View.ld_unit_zero Rows.zero_zero _ x3, grad_eq]
  rfl

/-- Each point writes its rows of the results, -/
theorem flushed4_eq (t : Fin cfg0.N) : (dats m 0 c).flushed 4 t = ((cfg0.win 4).blk t).view.read (Elt F) (grad m c) := by
  rw [Value.flushed4, out4_eq, read0]
  exact funext fun y => (congrArg (grad m c) (emb4 t y)).symm
theorem flushed5_eq (t : Fin cfg0.N) : (dats m 0 c).flushed 5 t = ((cfg0.win 5).blk t).view.read (Elt F) (delta m c) := by
  rw [Value.flushed5, out5_eq, read0, read1, read2, read3]
  exact funext fun y => (congrArg (delta m c) (emb5 t y)).symm
theorem flushed6_eq (t : Fin cfg0.N) : (dats m 0 c).flushed 6 t = ((cfg0.win 6).blk t).view.read (Elt F) (newM m c) := by
  rw [Value.flushed6, out6_eq, read0, read2]
  exact funext fun y => (congrArg (newM m c) (emb6 t y)).symm
theorem flushed7_eq (t : Fin cfg0.N) : (dats m 0 c).flushed 7 t = ((cfg0.win 7).blk t).view.read (Elt F) (newV m c) := by
  rw [Value.flushed7, out7_eq, read0, read3]
  exact funext fun y => (congrArg (newV m c) (emb7 t y)).symm

/-- and every row is some point's. -/
theorem covered (i : S33856x128.Idx) : ∃ (t : Fin cfg0.N) (y : S1472x128.Idx), under t y = i := by
  obtain ⟨t, y, h, e⟩ := Rows.exists_below (k := 23) (r := 1472) i
  exact ⟨t.cast N_0.symm, y, e⟩

theorem final4 : (dats m 0 c).arrAt 4 cfg0.N = grad m c :=
  (dats m 0 c).arrAt_eq_of_cover 4 (grad m c) (fun t _ => flushed4_eq m c t) fun i => by
    obtain ⟨t, y, h⟩ := covered i
    exact ⟨t, flush0_4 t, Finset.mem_map.mpr ⟨y, Finset.mem_univ _, (emb4 t y).trans h⟩⟩
theorem final5 : (dats m 0 c).arrAt 5 cfg0.N = delta m c :=
  (dats m 0 c).arrAt_eq_of_cover 5 (delta m c) (fun t _ => flushed5_eq m c t) fun i => by
    obtain ⟨t, y, h⟩ := covered i
    exact ⟨t, flush0_5 t, Finset.mem_map.mpr ⟨y, Finset.mem_univ _, (emb5 t y).trans h⟩⟩
theorem final6 : (dats m 0 c).arrAt 6 cfg0.N = newM m c :=
  (dats m 0 c).arrAt_eq_of_cover 6 (newM m c) (fun t _ => flushed6_eq m c t) fun i => by
    obtain ⟨t, y, h⟩ := covered i
    exact ⟨t, flush0_6 t, Finset.mem_map.mpr ⟨y, Finset.mem_univ _, (emb6 t y).trans h⟩⟩
theorem final7 : (dats m 0 c).arrAt 7 cfg0.N = newV m c :=
  (dats m 0 c).arrAt_eq_of_cover 7 (newV m c) (fun t _ => flushed7_eq m c t) fun i => by
    obtain ⟨t, y, h⟩ := covered i
    exact ⟨t, flush0_7 t, Finset.mem_map.mpr ⟨y, Finset.mem_univ _, (emb7 t y).trans h⟩⟩

omit c in
/-- The call's run: each result by element, the arguments unchanged. -/
theorem run : θ_run defs (onTc (τ := τ) (main (F := F))) ⟨m, fun _ => 0, ρ⟩ fun r => ∀ c : Dev nD,
      let g : Vec F S33856x128 .f32 := Rows.eight (m ((c : Thread nD τ).loc main_arg0))
      r.2.mem ((c : Thread nD τ).loc main_v0_0) = g
      ∧ r.2.mem ((c : Thread nD τ).loc main_v0_1) = Rows.change (m ((c : Thread nD τ).loc main_arg1)) (m ((c : Thread nD τ).loc main_arg2)) (m ((c : Thread nD τ).loc main_arg3)) g
      ∧ r.2.mem ((c : Thread nD τ).loc main_v0_2) = Rows.first (m ((c : Thread nD τ).loc main_arg2)) g
      ∧ r.2.mem ((c : Thread nD τ).loc main_v0_3) = Rows.second (m ((c : Thread nD τ).loc main_arg3)) g
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
      (h c).2.2.2.1.trans (final7 m c), (h c).2.2.2.2⟩) (Value.run_blocks m ρ)

end Kernel

section Reference

open Cert.UpdateRefIdeal Cert.UpdateRefIdeal.Gen

variable (m : (ℓ : Loc nD τ sig) → Buf (Elt Ideal) ℓ) (ρ : Dev nD → PrngReg) (M : (ℓ : Loc Cert.UpdateIdeal.nD Cert.UpdateIdeal.τ Cert.UpdateIdeal.sig) → Buf (Elt Ideal) ℓ)

/-- The reference's run from the call's arguments: the same functions of them. -/
theorem run_ref (hm : ∀ c : Dev nD,
      m ((c.tc : Thread nD τ).loc main_arg0) = M ((c.tc : Thread nD τ).loc Cert.UpdateIdeal.main_arg0)
      ∧ m ((c.tc : Thread nD τ).loc main_arg1) = M ((c.tc : Thread nD τ).loc Cert.UpdateIdeal.main_arg1)
      ∧ m ((c.tc : Thread nD τ).loc main_arg2) = M ((c.tc : Thread nD τ).loc Cert.UpdateIdeal.main_arg2)
      ∧ m ((c.tc : Thread nD τ).loc main_arg3) = M ((c.tc : Thread nD τ).loc Cert.UpdateIdeal.main_arg3)) :
    θ_run defs (onTc (τ := τ) (main (F := Ideal))) ⟨m, fun _ => 0, ρ⟩ fun r => ∀ c : Dev nD,
      let g : Vec Ideal S33856x128 .f32 := Rows.eight (M ((c.tc : Thread nD τ).loc Cert.UpdateIdeal.main_arg0))
      r.2.mem ((c.tc : Thread nD τ).loc main_v0) = g
      ∧ r.2.mem ((c.tc : Thread nD τ).loc main_v24) = Rows.change (M ((c.tc : Thread nD τ).loc Cert.UpdateIdeal.main_arg1)) (M ((c.tc : Thread nD τ).loc Cert.UpdateIdeal.main_arg2)) (M ((c.tc : Thread nD τ).loc Cert.UpdateIdeal.main_arg3)) g
      ∧ r.2.mem ((c.tc : Thread nD τ).loc main_v5) = Rows.first (M ((c.tc : Thread nD τ).loc Cert.UpdateIdeal.main_arg2)) g
      ∧ r.2.mem ((c.tc : Thread nD τ).loc main_v11) = Rows.second (M ((c.tc : Thread nD τ).loc Cert.UpdateIdeal.main_arg3)) g
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨e0, e1, e2, e3, hargs⟩ := h c
    obtain ⟨h0, h1, h2, h3⟩ := hm c
    rw [h0, Rows.sum_eight] at e0
    rw [h0, h1, h2, h3, Rows.sum_eight] at e1
    rw [h0, h2, Rows.sum_eight] at e2
    rw [h0, h3, Rows.sum_eight] at e3
    exact ⟨e0, e1.trans rfl, e2.trans rfl, e3.trans rfl, hargs⟩) (Value.run m ρ)

end Reference

end Cert.UpdateProof

end
-- ==== Proof.Rep.lean ====
/-
  The AdamW call over the ten weights that every device holds whole, and its reference. The call adds eight slots of gradients and has one
  grid point, whose blocks are the whole arrays.
-/
module

public import proofs.«01_k».proof.Proof.Rows
public import proofs.«01_k».proof.Proof.Gen.RepIdeal.Value
public import proofs.«01_k».proof.Proof.Gen.RepRefIdeal.Run

@[expose] public section

noncomputable section

namespace Cert.RepProof

open Idealize.ShloMosaic Idealize.ShloMosaic.TcCoe Idealize.SL.Sem

section Kernel

open Cert.RepIdeal Cert.RepIdeal.Gen

variable {F : FTy → Type} [FloatOps F]
variable (m : (ℓ : Loc nD τ sig) → Buf (Elt F) ℓ) (ρ : Dev nD → PrngReg)

/-- The eight slots are loaded and added in a row. -/
theorem grad_eq (x : Vec F S8x176x128 .f32) (w v z : Vec F S176x128 .f32) : k0_pay5 x w v z = Rows.eight x :=
  Rows.eight_rows x (Rows.slot_inb 176 128) _

theorem first_eq (x : Vec F S8x176x128 .f32) (w v z : Vec F S176x128 .f32) : k0_pay6 x w v z = Rows.first v (Rows.eight x) := by
  unfold k0_pay6
  rw [View.ld_unit_zero Rows.zero_zero _ v]
  exact congrArg (Rows.first v) (grad_eq x w v z)

/-- The call's run: each result by element, the arguments unchanged. -/
theorem run : θ_run defs (onTc (τ := τ) (main (F := F))) ⟨m, fun _ => 0, ρ⟩ fun r => ∀ c : Dev nD,
      let g : Vec F S176x128 .f32 := Rows.eight (m ((c : Thread nD τ).loc main_arg0))
      r.2.mem ((c : Thread nD τ).loc main_v0_0) = g
      ∧ r.2.mem ((c : Thread nD τ).loc main_v0_1) = Rows.change (m ((c : Thread nD τ).loc main_arg1)) (m ((c : Thread nD τ).loc main_arg2)) (m ((c : Thread nD τ).loc main_arg3)) g
      ∧ r.2.mem ((c : Thread nD τ).loc main_v0_2) = Rows.first (m ((c : Thread nD τ).loc main_arg2)) g
      ∧ r.2.mem ((c : Thread nD τ).loc main_v0_3) = Rows.second (m ((c : Thread nD τ).loc main_arg3)) g
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨e0, e1, e2, e3, hargs⟩ := h c
    rw [Value.G4, grad_eq] at e0
    rw [Value.G5, grad_eq, first_eq] at e1
    rw [Value.G6, first_eq] at e2
    rw [Value.G7, grad_eq] at e3
    exact ⟨e0, e1.trans rfl, e2, e3.trans rfl, hargs⟩) (Value.run m ρ)

end Kernel

section Reference

open Cert.RepRefIdeal Cert.RepRefIdeal.Gen

variable (m : (ℓ : Loc nD τ sig) → Buf (Elt Ideal) ℓ) (ρ : Dev nD → PrngReg) (M : (ℓ : Loc Cert.RepIdeal.nD Cert.RepIdeal.τ Cert.RepIdeal.sig) → Buf (Elt Ideal) ℓ)

/-- The reference's run from the call's arguments: the same functions of them. -/
theorem run_ref (hm : ∀ c : Dev nD,
      m ((c.tc : Thread nD τ).loc main_arg0) = M ((c.tc : Thread nD τ).loc Cert.RepIdeal.main_arg0)
      ∧ m ((c.tc : Thread nD τ).loc main_arg1) = M ((c.tc : Thread nD τ).loc Cert.RepIdeal.main_arg1)
      ∧ m ((c.tc : Thread nD τ).loc main_arg2) = M ((c.tc : Thread nD τ).loc Cert.RepIdeal.main_arg2)
      ∧ m ((c.tc : Thread nD τ).loc main_arg3) = M ((c.tc : Thread nD τ).loc Cert.RepIdeal.main_arg3)) :
    θ_run defs (onTc (τ := τ) (main (F := Ideal))) ⟨m, fun _ => 0, ρ⟩ fun r => ∀ c : Dev nD,
      let g : Vec Ideal S176x128 .f32 := Rows.eight (M ((c.tc : Thread nD τ).loc Cert.RepIdeal.main_arg0))
      r.2.mem ((c.tc : Thread nD τ).loc main_v0) = g
      ∧ r.2.mem ((c.tc : Thread nD τ).loc main_v24) = Rows.change (M ((c.tc : Thread nD τ).loc Cert.RepIdeal.main_arg1)) (M ((c.tc : Thread nD τ).loc Cert.RepIdeal.main_arg2)) (M ((c.tc : Thread nD τ).loc Cert.RepIdeal.main_arg3)) g
      ∧ r.2.mem ((c.tc : Thread nD τ).loc main_v5) = Rows.first (M ((c.tc : Thread nD τ).loc Cert.RepIdeal.main_arg2)) g
      ∧ r.2.mem ((c.tc : Thread nD τ).loc main_v11) = Rows.second (M ((c.tc : Thread nD τ).loc Cert.RepIdeal.main_arg3)) g
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨e0, e1, e2, e3, hargs⟩ := h c
    obtain ⟨h0, h1, h2, h3⟩ := hm c
    rw [h0, Rows.sum_eight] at e0
    rw [h0, h1, h2, h3, Rows.sum_eight] at e1
    rw [h0, h2, Rows.sum_eight] at e2
    rw [h0, h3, Rows.sum_eight] at e3
    exact ⟨e0, e1.trans rfl, e2.trans rfl, e3.trans rfl, hargs⟩) (Value.run m ρ)

end Reference

end Cert.RepProof

end
-- ==== Proof.Small.lean ====
/-
  The AdamW call over the three small weights that are cut across the devices, and its reference. The call has one slot of gradients and one
  grid point, whose blocks are the whole arrays.
-/
module

public import proofs.«01_k».proof.Proof.Rows
public import proofs.«01_k».proof.Proof.Gen.SmallIdeal.Value
public import proofs.«01_k».proof.Proof.Gen.SmallRefIdeal.Run

@[expose] public section

noncomputable section

namespace Cert.SmallProof

open Idealize.ShloMosaic Idealize.ShloMosaic.TcCoe Idealize.SL.Sem

section Kernel

open Cert.SmallIdeal Cert.SmallIdeal.Gen

variable {F : FTy → Type} [FloatOps F]
variable (m : (ℓ : Loc nD τ sig) → Buf (Elt F) ℓ) (ρ : Dev nD → PrngReg)

theorem grad_eq (x : Vec F S1x40x128 .f32) : k0_pay1 x = Rows.one x := Rows.cast_slot x _

/-- The call's run: each result by element, the arguments unchanged. -/
theorem run : θ_run defs (onTc (τ := τ) (main (F := F))) ⟨m, fun _ => 0, ρ⟩ fun r => ∀ c : Dev nD,
      let g : Vec F S40x128 .f32 := Rows.one (m ((c : Thread nD τ).loc main_arg0))
      r.2.mem ((c : Thread nD τ).loc main_v0_0) = g
      ∧ r.2.mem ((c : Thread nD τ).loc main_v0_1) = Rows.change (m ((c : Thread nD τ).loc main_arg1)) (m ((c : Thread nD τ).loc main_arg2)) (m ((c : Thread nD τ).loc main_arg3)) g
      ∧ r.2.mem ((c : Thread nD τ).loc main_v0_2) = Rows.first (m ((c : Thread nD τ).loc main_arg2)) g
      ∧ r.2.mem ((c : Thread nD τ).loc main_v0_3) = Rows.second (m ((c : Thread nD τ).loc main_arg3)) g
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨e0, e1, e2, e3, hargs⟩ := h c
    have e := grad_eq (F := F) (m ((c : Thread nD τ).loc main_arg0))
    exact ⟨e0.trans e, e1.trans (congrArg (Rows.change _ _ _) e), e2.trans (congrArg (Rows.first _) e), e3.trans (congrArg (Rows.second _) e), hargs⟩) (Value.run m ρ)

end Kernel

section Reference

open Cert.SmallRefIdeal Cert.SmallRefIdeal.Gen

variable (m : (ℓ : Loc nD τ sig) → Buf (Elt Ideal) ℓ) (ρ : Dev nD → PrngReg) (M : (ℓ : Loc Cert.SmallIdeal.nD Cert.SmallIdeal.τ Cert.SmallIdeal.sig) → Buf (Elt Ideal) ℓ)

/-- The reference's run from the call's arguments: the same functions of them. -/
theorem run_ref (hm : ∀ c : Dev nD,
      m ((c.tc : Thread nD τ).loc main_arg0) = M ((c.tc : Thread nD τ).loc Cert.SmallIdeal.main_arg0)
      ∧ m ((c.tc : Thread nD τ).loc main_arg1) = M ((c.tc : Thread nD τ).loc Cert.SmallIdeal.main_arg1)
      ∧ m ((c.tc : Thread nD τ).loc main_arg2) = M ((c.tc : Thread nD τ).loc Cert.SmallIdeal.main_arg2)
      ∧ m ((c.tc : Thread nD τ).loc main_arg3) = M ((c.tc : Thread nD τ).loc Cert.SmallIdeal.main_arg3)) :
    θ_run defs (onTc (τ := τ) (main (F := Ideal))) ⟨m, fun _ => 0, ρ⟩ fun r => ∀ c : Dev nD,
      let g : Vec Ideal S40x128 .f32 := Rows.one (M ((c.tc : Thread nD τ).loc Cert.SmallIdeal.main_arg0))
      r.2.mem ((c.tc : Thread nD τ).loc main_v0) = g
      ∧ r.2.mem ((c.tc : Thread nD τ).loc main_v24) = Rows.change (M ((c.tc : Thread nD τ).loc Cert.SmallIdeal.main_arg1)) (M ((c.tc : Thread nD τ).loc Cert.SmallIdeal.main_arg2)) (M ((c.tc : Thread nD τ).loc Cert.SmallIdeal.main_arg3)) g
      ∧ r.2.mem ((c.tc : Thread nD τ).loc main_v5) = Rows.first (M ((c.tc : Thread nD τ).loc Cert.SmallIdeal.main_arg2)) g
      ∧ r.2.mem ((c.tc : Thread nD τ).loc main_v11) = Rows.second (M ((c.tc : Thread nD τ).loc Cert.SmallIdeal.main_arg3)) g
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨e0, e1, e2, e3, hargs⟩ := h c
    obtain ⟨h0, h1, h2, h3⟩ := hm c
    rw [h0, Rows.sum_one] at e0
    rw [h0, h1, h2, h3, Rows.sum_one] at e1
    rw [h0, h2, Rows.sum_one] at e2
    rw [h0, h3, Rows.sum_one] at e3
    exact ⟨e0, e1.trans rfl, e2.trans rfl, e3.trans rfl, hargs⟩) (Value.run m ρ)

end Reference

end Cert.SmallProof

end
-- ==== Proof.Ada.lean ====
/-
  The AdamW call over w_ada, and its reference. The call has one slot of gradients; point `t` of its grid reads rows `2048 t … 2048 t + 2047`
  of the gradients, the weights and the moments, and writes the same rows of the results, and the three points cover the arrays.
-/
module

public import proofs.«01_k».proof.Proof.Rows
public import proofs.«01_k».proof.Proof.Gen.AdaIdeal.Value
public import proofs.«01_k».proof.Proof.Gen.AdaRefIdeal.Run

@[expose] public section

noncomputable section

namespace Cert.AdaProof

open Idealize.ShloMosaic Idealize.ShloMosaic.TcCoe Idealize.SL.Sem

section Kernel

open Cert.AdaIdeal Cert.AdaIdeal.Gen

variable {F : FTy → Type} [FloatOps F]
variable (m : (ℓ : Loc nD τ sig) → Buf (Elt F) ℓ) (ρ : Dev nD → PrngReg)

variable (c : Dev nD)

theorem grad_eq (x : Vec F S1x2048x128 .f32) : k0_pay1 x = Rows.one x := Rows.cast_slot x _

/-- The four results, of the arguments. -/
abbrev grad : Vec F S6144x128 .f32 := Rows.one (m ((c : Thread nD τ).loc main_arg0))
abbrev delta : Vec F S6144x128 .f32 := Rows.change (m ((c : Thread nD τ).loc main_arg1)) (m ((c : Thread nD τ).loc main_arg2)) (m ((c : Thread nD τ).loc main_arg3)) (grad m c)
abbrev newM : Vec F S6144x128 .f32 := Rows.first (m ((c : Thread nD τ).loc main_arg2)) (grad m c)
abbrev newV : Vec F S6144x128 .f32 := Rows.second (m ((c : Thread nD τ).loc main_arg3)) (grad m c)

/-- Point `t`'s rows: block `t` of each window, counted in blocks. -/
theorem row_facts : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem inside (t : Fin cfg0.N) (y : S2048x128.Idx) : t.val * 2048 + (y 0).val < 6144 := by
  have h : t.val < 3 := lt_of_lt_of_eq t.isLt N_0
  have hy : (y 0).val < 2048 := (y 0).isLt
  omega

/-- Where element `y` of point `t`'s block of rows lies in the array. -/
abbrev under (t : Fin cfg0.N) (y : S2048x128.Idx) : S6144x128.Idx := Rows.below t.val y (inside t y)

theorem rows_eq {f : Fin 2 → Nat} (t : Fin cfg0.N) (y : S2048x128.Idx) (i : S6144x128.Idx) (hf : f = ![t.val, 0]) (h : ∀ a, (i a).val = f a * S2048x128.size a + (y a).val) : i = under t y :=
  Rows.eq_below (inside t y) i fun a => (h a).trans (congrArg (fun f : Fin 2 → Nat => f a * S2048x128.size a + (y a).val) hf)

/-- The blocks read: the array's rows, and the gradients' one slot at those rows. -/
theorem read0 (t : Fin cfg0.N) : Rows.one (iblk m c 0 t) = fun y => grad m c (under t y) := by
  refine funext fun y : S2048x128.Idx => congrArg (m ((c : Thread nD τ).loc main_arg0)) (Shape.idx3_ext ?_ ?_ ?_)
  all_goals refine (Pipeline.Window.rect_emb_val win0_0 t _ _).trans ?_; rw [(row_facts t).1]
  · rfl
  · rfl
  · exact (congrArg (· + (y 1).val) (Nat.zero_mul 128)).trans (Nat.zero_add _)
theorem read1 (t : Fin cfg0.N) : iblk m c 1 t = fun y => m ((c : Thread nD τ).loc main_arg1) (under t y) :=
  funext fun y => congrArg (m ((c : Thread nD τ).loc main_arg1)) (rows_eq t y _ (row_facts t).2.1 fun a => Pipeline.Window.rect_emb_val win0_1 t y a)
theorem read2 (t : Fin cfg0.N) : iblk m c 2 t = fun y => m ((c : Thread nD τ).loc main_arg2) (under t y) :=
  funext fun y => congrArg (m ((c : Thread nD τ).loc main_arg2)) (rows_eq t y _ (row_facts t).2.2.1 fun a => Pipeline.Window.rect_emb_val win0_2 t y a)
theorem read3 (t : Fin cfg0.N) : iblk m c 3 t = fun y => m ((c : Thread nD τ).loc main_arg3) (under t y) :=
  funext fun y => congrArg (m ((c : Thread nD τ).loc main_arg3)) (rows_eq t y _ (row_facts t).2.2.2.1 fun a => Pipeline.Window.rect_emb_val win0_3 t y a)

theorem emb4 (t : Fin cfg0.N) (y : S2048x128.Idx) : ((cfg0.win 4).blk t).view.emb y = under t y :=
  rows_eq t y _ (row_facts t).2.2.2.2.1 fun a => Pipeline.Window.rect_emb_val win0_4 t y a
theorem emb5 (t : Fin cfg0.N) (y : S2048x128.Idx) : ((cfg0.win 5).blk t).view.emb y = under t y :=
  rows_eq t y _ (row_facts t).2.2.2.2.2.1 fun a => Pipeline.Window.rect_emb_val win0_5 t y a
theorem emb6 (t : Fin cfg0.N) (y : S2048x128.Idx) : ((cfg0.win 6).blk t).view.emb y = under t y :=
  rows_eq t y _ (row_facts t).2.2.2.2.2.2.1 fun a => Pipeline.Window.rect_emb_val win0_6 t y a
theorem emb7 (t : Fin cfg0.N) (y : S2048x128.Idx) : ((cfg0.win 7).blk t).view.emb y = under t y :=
  rows_eq t y _ (row_facts t).2.2.2.2.2.2.2 fun a => Pipeline.Window.rect_emb_val win0_7 t y a

/-- What the body leaves in a block of each result, of the blocks it reads. -/
theorem out4_eq (x0 : Vec F S1x2048x128 .f32) (x1 x2 x3 : Vec F S2048x128 .f32) : out0_4 x0 x1 x2 x3 = Rows.one x0 := by
  unfold out0_4
  rw [View.canon_unit_zero Rows.zero_zero, View.ld_unit_zero (S := S1x2048x128) Rows.zero_zero_zero _ x0, grad_eq]
theorem out5_eq (x0 : Vec F S1x2048x128 .f32) (x1 x2 x3 : Vec F S2048x128 .f32) : out0_5 x0 x1 x2 x3 = Rows.change x1 x2 x3 (Rows.one x0) := by
  unfold out0_5
  rw [View.canon_unit_zero Rows.zero_zero, View.ld_unit_zero (S := S1x2048x128) Rows.zero_zero_zero _ x0, View.ld_unit_zero Rows.zero_zero _ x1, View.ld_unit_zero Rows.zero_zero _ x2, View.ld_unit_zero Rows.zero_zero _ x3]
  exact congrArg (Rows.change x1 x2 x3) (grad_eq x0)
theorem out6_eq (x0 : Vec F S1x2048x128 .f32) (x1 x2 x3 : Vec F S2048x128 .f32) : out0_6 x0 x1 x2 x3 = Rows.first x2 (Rows.one x0) := by
  unfold out0_6
  rw [View.canon_unit_zero Rows.zero_zero, View.ld_unit_zero (S := S1x2048x128) Rows.zero_zero_zero _ x0, View.ld_unit_zero Rows.zero_zero _ x2]
  exact congrArg (Rows.first x2) (grad_eq x0)
theorem out7_eq (x0 : Vec F S1x2048x128 .f32) (x1 x2 x3 : Vec F S2048x128 .f32) : out0_7 x0 x1 x2 x3 = Rows.second x3 (Rows.one x0) := by
  unfold out0_7
  rw [View.canon_unit_zero Rows.zero_zero, View.ld_unit_zero (S := S1x2048x128) Rows.zero_zero_zero _ x0, View.ld_unit_zero Rows.zero_zero _ x3]
  exact congrArg (Rows.second x3) (grad_eq x0)

/-- Each point writes its rows of the results, -/
theorem flushed4_eq (t : Fin cfg0.N) : (dats m 0 c).flushed 4 t = ((cfg0.win 4).blk t).view.read (Elt F) (grad m c) := by
  rw [Value.flushed4, out4_eq, read0]
  exact funext fun y => (congrArg (grad m c) (emb4 t y)).symm
theorem flushed5_eq (t : Fin cfg0.N) : (dats m 0 c).flushed 5 t = ((cfg0.win 5).blk t).view.read (Elt F) (delta m c) := by
  rw [Value.flushed5, out5_eq, read0, read1, read2, read3]
  exact funext fun y => (congrArg (delta m c) (emb5 t y)).symm
theorem flushed6_eq (t : Fin cfg0.N) : (dats m 0 c).flushed 6 t = ((cfg0.win 6).blk t).view.read (Elt F) (newM m c) := by
  rw [Value.flushed6, out6_eq, read0, read2]
  exact funext fun y => (congrArg (newM m c) (emb6 t y)).symm
theorem flushed7_eq (t : Fin cfg0.N) : (dats m 0 c).flushed 7 t = ((cfg0.win 7).blk t).view.read (Elt F) (newV m c) := by
  rw [Value.flushed7, out7_eq, read0, read3]
  exact funext fun y => (congrArg (newV m c) (emb7 t y)).symm

/-- and every row is some point's. -/
theorem covered (i : S6144x128.Idx) : ∃ (t : Fin cfg0.N) (y : S2048x128.Idx), under t y = i := by
  obtain ⟨t, y, h, e⟩ := Rows.exists_below (k := 3) (r := 2048) i
  exact ⟨t.cast N_0.symm, y, e⟩

theorem final4 : (dats m 0 c).arrAt 4 cfg0.N = grad m c :=
  (dats m 0 c).arrAt_eq_of_cover 4 (grad m c) (fun t _ => flushed4_eq m c t) fun i => by
    obtain ⟨t, y, h⟩ := covered i
    exact ⟨t, flush0_4 t, Finset.mem_map.mpr ⟨y, Finset.mem_univ _, (emb4 t y).trans h⟩⟩
theorem final5 : (dats m 0 c).arrAt 5 cfg0.N = delta m c :=
  (dats m 0 c).arrAt_eq_of_cover 5 (delta m c) (fun t _ => flushed5_eq m c t) fun i => by
    obtain ⟨t, y, h⟩ := covered i
    exact ⟨t, flush0_5 t, Finset.mem_map.mpr ⟨y, Finset.mem_univ _, (emb5 t y).trans h⟩⟩
theorem final6 : (dats m 0 c).arrAt 6 cfg0.N = newM m c :=
  (dats m 0 c).arrAt_eq_of_cover 6 (newM m c) (fun t _ => flushed6_eq m c t) fun i => by
    obtain ⟨t, y, h⟩ := covered i
    exact ⟨t, flush0_6 t, Finset.mem_map.mpr ⟨y, Finset.mem_univ _, (emb6 t y).trans h⟩⟩
theorem final7 : (dats m 0 c).arrAt 7 cfg0.N = newV m c :=
  (dats m 0 c).arrAt_eq_of_cover 7 (newV m c) (fun t _ => flushed7_eq m c t) fun i => by
    obtain ⟨t, y, h⟩ := covered i
    exact ⟨t, flush0_7 t, Finset.mem_map.mpr ⟨y, Finset.mem_univ _, (emb7 t y).trans h⟩⟩

omit c in
/-- The call's run: each result by element, the arguments unchanged. -/
theorem run : θ_run defs (onTc (τ := τ) (main (F := F))) ⟨m, fun _ => 0, ρ⟩ fun r => ∀ c : Dev nD,
      let g : Vec F S6144x128 .f32 := Rows.one (m ((c : Thread nD τ).loc main_arg0))
      r.2.mem ((c : Thread nD τ).loc main_v0_0) = g
      ∧ r.2.mem ((c : Thread nD τ).loc main_v0_1) = Rows.change (m ((c : Thread nD τ).loc main_arg1)) (m ((c : Thread nD τ).loc main_arg2)) (m ((c : Thread nD τ).loc main_arg3)) g
      ∧ r.2.mem ((c : Thread nD τ).loc main_v0_2) = Rows.first (m ((c : Thread nD τ).loc main_arg2)) g
      ∧ r.2.mem ((c : Thread nD τ).loc main_v0_3) = Rows.second (m ((c : Thread nD τ).loc main_arg3)) g
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
      (h c).2.2.2.1.trans (final7 m c), (h c).2.2.2.2⟩) (Value.run_blocks m ρ)

end Kernel

section Reference

open Cert.AdaRefIdeal Cert.AdaRefIdeal.Gen

variable (m : (ℓ : Loc nD τ sig) → Buf (Elt Ideal) ℓ) (ρ : Dev nD → PrngReg) (M : (ℓ : Loc Cert.AdaIdeal.nD Cert.AdaIdeal.τ Cert.AdaIdeal.sig) → Buf (Elt Ideal) ℓ)

/-- The reference's run from the call's arguments: the same functions of them. -/
theorem run_ref (hm : ∀ c : Dev nD,
      m ((c.tc : Thread nD τ).loc main_arg0) = M ((c.tc : Thread nD τ).loc Cert.AdaIdeal.main_arg0)
      ∧ m ((c.tc : Thread nD τ).loc main_arg1) = M ((c.tc : Thread nD τ).loc Cert.AdaIdeal.main_arg1)
      ∧ m ((c.tc : Thread nD τ).loc main_arg2) = M ((c.tc : Thread nD τ).loc Cert.AdaIdeal.main_arg2)
      ∧ m ((c.tc : Thread nD τ).loc main_arg3) = M ((c.tc : Thread nD τ).loc Cert.AdaIdeal.main_arg3)) :
    θ_run defs (onTc (τ := τ) (main (F := Ideal))) ⟨m, fun _ => 0, ρ⟩ fun r => ∀ c : Dev nD,
      let g : Vec Ideal S6144x128 .f32 := Rows.one (M ((c.tc : Thread nD τ).loc Cert.AdaIdeal.main_arg0))
      r.2.mem ((c.tc : Thread nD τ).loc main_v0) = g
      ∧ r.2.mem ((c.tc : Thread nD τ).loc main_v24) = Rows.change (M ((c.tc : Thread nD τ).loc Cert.AdaIdeal.main_arg1)) (M ((c.tc : Thread nD τ).loc Cert.AdaIdeal.main_arg2)) (M ((c.tc : Thread nD τ).loc Cert.AdaIdeal.main_arg3)) g
      ∧ r.2.mem ((c.tc : Thread nD τ).loc main_v5) = Rows.first (M ((c.tc : Thread nD τ).loc Cert.AdaIdeal.main_arg2)) g
      ∧ r.2.mem ((c.tc : Thread nD τ).loc main_v11) = Rows.second (M ((c.tc : Thread nD τ).loc Cert.AdaIdeal.main_arg3)) g
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨e0, e1, e2, e3, hargs⟩ := h c
    obtain ⟨h0, h1, h2, h3⟩ := hm c
    rw [h0, Rows.sum_one] at e0
    rw [h0, h1, h2, h3, Rows.sum_one] at e1
    rw [h0, h2, Rows.sum_one] at e2
    rw [h0, h3, Rows.sum_one] at e3
    exact ⟨e0, e1.trans rfl, e2.trans rfl, e3.trans rfl, hargs⟩) (Value.run m ρ)

end Reference

end Cert.AdaProof

end
-- ==== Proof.lean ====
/-
  The exchanges of data between the eight devices and the AdamW steps: the claims and their proofs.

  `Proof/ExchangeRun.lean` has the exchange's run, over any float values, and `Proof/ExchangeRef.lean` its reference's run
  and the equation of the two; `Proof/GatherRun.lean` and `Proof/GatherRef.lean` have the same of the gather of the weights,
  `Proof/GatherSmallRun.lean` and `Proof/GatherSmallRef.lean` of that of the small weights, `Proof/GatherGradsRun.lean` and
  `Proof/GatherGradsRef.lean` of that of the small gradients. These calls only move data, so
  the equations hold over the reals and over the float words alike. `Proof/Update.lean`, `Proof/Rep.lean`,
  `Proof/Small.lean` and `Proof/Ada.lean` are of the four AdamW calls and their references; `Proof/SlotSum.lean`, `Proof/DwAda.lean` and
  `Proof/Loss.lean` of the call that adds the small weights' slots, of the product that gives w_ada's gradient, and of the loss's call.
  `Proof/PrenormRun.lean` has the run of the call that carries the stream's gradient back through a norm, `Proof/PrenormAlgebra.lean`
  the identity between its form of the gradient and that of automatic differentiation, and `Proof/Prenorm.lean` the call's values and its reference's.
  `Proof/PrenormFwd.lean`, `Proof/Proj.lean`, `Proof/Conv.lean`, `Proof/Attn.lean`, `Proof/Branch.lean`, `Proof/Merge.lean`, `Proof/Out.lean` and `Proof/Post.lean` are of
  the calls of a layer's forward pass, `Proof/DwOut.lean`, `Proof/DwIn.lean`, `Proof/Dm.lean` and `Proof/Dh.lean` of four products of its
  backward pass; `Proof/Tiles.lean` has what they share.
  `Proof/Softmax.lean` shows that masked scores take no part in a softmax of real ones, `Proof/AttnRef.lean` is of the attention's reference.
-/
module

public import proofs.«01_k».proof.Defs
public import proofs.«01_k».proof.Proof.SlotSum
public import proofs.«01_k».proof.Proof.DwAda
public import proofs.«01_k».proof.Proof.Loss
public import proofs.«01_k».proof.Proof.Prenorm
public import proofs.«01_k».proof.Proof.PrenormFwd
public import proofs.«01_k».proof.Proof.Gen.PrenormFwd
public import proofs.«01_k».proof.Proof.Gen.PrenormFwd.Frame
public import proofs.«01_k».proof.Proof.Gen.PrenormFwdIdeal
public import proofs.«01_k».proof.Proof.Gen.PrenormFwdIdeal.Frame
public import proofs.«01_k».proof.Proof.Gen.PrenormFwdIdeal.Value
public import proofs.«01_k».proof.Proof.Gen.PrenormFwdRefIdeal
public import proofs.«01_k».proof.Proof.Gen.PrenormFwdRefIdeal.Run
public import proofs.«01_k».proof.Proof.Proj
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Conv
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Attn
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Branch
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Merge
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Out
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Post
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.DwOut
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.DwIn
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Dm
public import proofs.«01_k».proof.Proof.Gen.Dm
public import proofs.«01_k».proof.Proof.Gen.Dm.Frame
public import proofs.«01_k».proof.Proof.Gen.DmIdeal
public import proofs.«01_k».proof.Proof.Gen.DmIdeal.Frame
public import proofs.«01_k».proof.Proof.Gen.DmIdeal.Value
public import proofs.«01_k».proof.Proof.Gen.DmRefIdeal
public import proofs.«01_k».proof.Proof.Gen.DmRefIdeal.Run
public import proofs.«01_k».proof.Proof.Dh
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.Pre_finite_heads
public import proofs.«01_k».proof.Proof.ExchangeRun
public import proofs.«01_k».proof.Proof.ExchangeRef
public import proofs.«01_k».proof.Proof.GatherRun
public import proofs.«01_k».proof.Proof.GatherRef
public import proofs.«01_k».proof.Proof.GatherSmallRun
public import proofs.«01_k».proof.Proof.GatherSmallRef
public import proofs.«01_k».proof.Proof.GatherGradsRun
public import proofs.«01_k».proof.Proof.GatherGradsRef
public import proofs.«01_k».proof.Proof.Gen.Exchange
public import proofs.«01_k».proof.Proof.Gen.ExchangeIdeal
public import proofs.«01_k».proof.Proof.Gen.ExchangeRef
public import proofs.«01_k».proof.Proof.Gen.ExchangeRefIdeal
public import proofs.«01_k».proof.Proof.Gen.Gather
public import proofs.«01_k».proof.Proof.Gen.GatherIdeal
public import proofs.«01_k».proof.Proof.Gen.GatherRef
public import proofs.«01_k».proof.Proof.Gen.GatherRefIdeal
public import proofs.«01_k».proof.Proof.Gen.GatherSmall
public import proofs.«01_k».proof.Proof.Gen.GatherSmallIdeal
public import proofs.«01_k».proof.Proof.Gen.GatherSmallRef
public import proofs.«01_k».proof.Proof.Gen.GatherSmallRefIdeal
public import proofs.«01_k».proof.Proof.Gen.GatherSmallIdeal.Skeleton
public import proofs.«01_k».proof.Proof.Gen.GatherSmallIdeal.Launch
public import proofs.«01_k».proof.Proof.Gen.GatherSmallIdeal.Points
public import proofs.«01_k».proof.Proof.Gen.GatherGrads
public import proofs.«01_k».proof.Proof.Gen.GatherGradsIdeal
public import proofs.«01_k».proof.Proof.Gen.GatherGradsRef
public import proofs.«01_k».proof.Proof.Gen.GatherGradsRefIdeal
public import proofs.«01_k».proof.Proof.Gen.GatherGradsIdeal.Skeleton
public import proofs.«01_k».proof.Proof.Gen.GatherGradsIdeal.Launch
public import proofs.«01_k».proof.Proof.Gen.GatherGradsIdeal.Points
public import proofs.«01_k».proof.Proof.Gen.Update
public import proofs.«01_k».proof.Proof.Gen.Update.Frame
public import proofs.«01_k».proof.Proof.Gen.UpdateIdeal
public import proofs.«01_k».proof.Proof.Gen.UpdateIdeal.Frame
public import proofs.«01_k».proof.Proof.Gen.UpdateIdeal.Value
public import proofs.«01_k».proof.Proof.Gen.UpdateRefIdeal
public import proofs.«01_k».proof.Proof.Gen.UpdateRefIdeal.Run
public import proofs.«01_k».proof.Proof.Gen.Rep
public import proofs.«01_k».proof.Proof.Gen.Rep.Frame
public import proofs.«01_k».proof.Proof.Gen.RepIdeal
public import proofs.«01_k».proof.Proof.Gen.RepIdeal.Frame
public import proofs.«01_k».proof.Proof.Gen.RepIdeal.Value
public import proofs.«01_k».proof.Proof.Gen.RepRefIdeal
public import proofs.«01_k».proof.Proof.Gen.RepRefIdeal.Run
public import proofs.«01_k».proof.Proof.Gen.Small
public import proofs.«01_k».proof.Proof.Gen.Small.Frame
public import proofs.«01_k».proof.Proof.Gen.SmallIdeal
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.Sum
public import proofs.«01_k».proof.Proof.Gen.Sum.Frame
public import proofs.«01_k».proof.Proof.Gen.SumIdeal
public import proofs.«01_k».proof.Proof.Gen.SumIdeal.Frame
public import proofs.«01_k».proof.Proof.Gen.SumIdeal.Value
public import proofs.«01_k».proof.Proof.Gen.SumRefIdeal
public import proofs.«01_k».proof.Proof.Gen.SumRefIdeal.Run
public import proofs.«01_k».proof.Proof.Gen.DwAda
public import proofs.«01_k».proof.Proof.Gen.DwAda.Frame
public import proofs.«01_k».proof.Proof.Gen.DwAdaIdeal
public import proofs.«01_k».proof.Proof.Gen.DwAdaIdeal.Frame
public import proofs.«01_k».proof.Proof.Gen.DwAdaIdeal.Value
public import proofs.«01_k».proof.Proof.Gen.DwAdaRefIdeal
public import proofs.«01_k».proof.Proof.Gen.DwAdaRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Update
public import proofs.«01_k».proof.Proof.Rep
public import proofs.«01_k».proof.Proof.Small
public import proofs.«01_k».proof.Proof.Ada
public import proofs.«01_k».proof.Proof.Gen.Prenorm
public import proofs.«01_k».proof.Proof.Gen.PrenormIdeal
public import proofs.«01_k».proof.Proof.Gen.PrenormIdeal.Frame
public import proofs.«01_k».proof.Proof.Gen.PrenormIdeal.Skeleton
public import proofs.«01_k».proof.Proof.Gen.PrenormRefIdeal
public import proofs.«01_k».proof.Proof.Gen.PrenormRefIdeal.Run

@[expose] public section

noncomputable section

namespace Cert.Proof

open Idealize.ShloMosaic Idealize.ShloMosaic.TcCoe Idealize.SL.Sem

/-- The kernel over the float words ends, its argument unchanged and every semaphore at zero. -/
theorem frame_exchange : Cert.quiescent_Exchange := fun m ρ _ =>
  (θ_run Cert.ExchangeIdeal.defs _ _).mono (fun _ h => ⟨fun c => (h.1 c).1, h.2⟩) (ExchangeProof.run_main (F := Bits) m ρ)

/-- So does the kernel over the extended reals, -/
theorem frame_exchangeIdeal : Cert.quiescent_ExchangeIdeal := fun m ρ _ =>
  (θ_run Cert.ExchangeIdeal.defs _ _).mono (fun _ h => ⟨fun c => (h.1 c).1, h.2⟩) (ExchangeProof.run_main (F := Ideal) m ρ)

/-- the reference over the extended reals, -/
theorem frame_exchangeRefIdeal : Cert.quiescent_ExchangeRefIdeal := fun m ρ _ =>
  (θ_run Cert.ExchangeRefIdeal.defs _ _).mono (fun _ h => ⟨fun c => (h c).2, sem_eq_zero_of_no_sems (by decide) _⟩) (ExchangeRefProof.run_main (F := Ideal) m ρ)

/-- and the reference over the float words. -/
theorem frame_exchangeRef : Cert.quiescent_ExchangeRef := fun m ρ _ =>
  (θ_run Cert.ExchangeRefIdeal.defs _ _).mono (fun _ h => ⟨fun c => (h c).2, sem_eq_zero_of_no_sems (by decide) _⟩) (ExchangeRefProof.run_main (F := Bits) m ρ)

/-- Over the extended reals device `c` ends with block `c` of the reference's result, -/
theorem algebraic_exchange : Cert.algebraic_ExchangeIdeal_ExchangeRefIdeal := fun m g m' g' _ hm =>
  ⟨_, (θ_run Cert.ExchangeIdeal.defs _ _).mono (fun _ h c => ⟨(h.1 c).2.trans (ExchangeRefProof.res_eq m _ _ hm c), (h.1 c).1⟩) (ExchangeProof.run_main (F := Ideal) m g),
    (θ_run Cert.ExchangeRefIdeal.defs _ _).mono (fun _ h => h 0) (ExchangeRefProof.run_main (F := Ideal) m' g')⟩

/-- and over the float words, where no operation on floats is looked into. -/
theorem bitexact_exchange : Cert.bitexact_Exchange_ExchangeRef := fun m g m' g' _ hm =>
  ⟨_, (θ_run Cert.ExchangeIdeal.defs _ _).mono (fun _ h c => ⟨(h.1 c).2.trans (ExchangeRefProof.res_eq m _ _ hm c), (h.1 c).1⟩) (ExchangeProof.run_main (F := Bits) m g),
    (θ_run Cert.ExchangeRefIdeal.defs _ _).mono (fun _ h => h 0) (ExchangeRefProof.run_main (F := Bits) m' g')⟩

/-- The gather ends, its argument unchanged and every semaphore at zero, over the float words -/
theorem frame_gather : Cert.quiescent_Gather := fun m ρ _ =>
  (θ_run Cert.GatherIdeal.defs _ _).mono (fun _ h => ⟨fun c => (h.1 c).1, h.2⟩) (GatherProof.run_main (F := Bits) m ρ)

/-- and over the extended reals; -/
theorem frame_gatherIdeal : Cert.quiescent_GatherIdeal := fun m ρ _ =>
  (θ_run Cert.GatherIdeal.defs _ _).mono (fun _ h => ⟨fun c => (h.1 c).1, h.2⟩) (GatherProof.run_main (F := Ideal) m ρ)

/-- so does its reference over the extended reals, -/
theorem frame_gatherRefIdeal : Cert.quiescent_GatherRefIdeal := fun m ρ _ =>
  (θ_run Cert.GatherRefIdeal.defs _ _).mono (fun _ h => ⟨fun c => (h c).2, sem_eq_zero_of_no_sems (by decide) _⟩) (GatherRefProof.run_main (F := Ideal) m ρ)

/-- and over the float words. -/
theorem frame_gatherRef : Cert.quiescent_GatherRef := fun m ρ _ =>
  (θ_run Cert.GatherRefIdeal.defs _ _).mono (fun _ h => ⟨fun c => (h c).2, sem_eq_zero_of_no_sems (by decide) _⟩) (GatherRefProof.run_main (F := Bits) m ρ)

/-- Over the extended reals every device of the gather ends with the reference's result, -/
theorem algebraic_gather : Cert.algebraic_GatherIdeal_GatherRefIdeal := fun m g m' g' _ hm =>
  ⟨_, (θ_run Cert.GatherIdeal.defs _ _).mono (fun _ h c => ⟨(h.1 c).2.trans (GatherRefProof.res_eq m _ _ hm c), (h.1 c).1⟩) (GatherProof.run_main (F := Ideal) m g),
    (θ_run Cert.GatherRefIdeal.defs _ _).mono (fun _ h => h 0) (GatherRefProof.run_main (F := Ideal) m' g')⟩

/-- and over the float words. -/
theorem bitexact_gather : Cert.bitexact_Gather_GatherRef := fun m g m' g' _ hm =>
  ⟨_, (θ_run Cert.GatherIdeal.defs _ _).mono (fun _ h c => ⟨(h.1 c).2.trans (GatherRefProof.res_eq m _ _ hm c), (h.1 c).1⟩) (GatherProof.run_main (F := Bits) m g),
    (θ_run Cert.GatherRefIdeal.defs _ _).mono (fun _ h => h 0) (GatherRefProof.run_main (F := Bits) m' g')⟩

/-- The same of the gather of the small weights. -/
theorem frame_gatherSmall : Cert.quiescent_GatherSmall := fun m ρ _ =>
  (θ_run Cert.GatherSmallIdeal.defs _ _).mono (fun _ h => ⟨fun c => (h.1 c).1, h.2⟩) (GatherSmallProof.run_main (F := Bits) m ρ)
theorem frame_gatherSmallIdeal : Cert.quiescent_GatherSmallIdeal := fun m ρ _ =>
  (θ_run Cert.GatherSmallIdeal.defs _ _).mono (fun _ h => ⟨fun c => (h.1 c).1, h.2⟩) (GatherSmallProof.run_main (F := Ideal) m ρ)
theorem frame_gatherSmallRefIdeal : Cert.quiescent_GatherSmallRefIdeal := fun m ρ _ =>
  (θ_run Cert.GatherSmallRefIdeal.defs _ _).mono (fun _ h => ⟨fun c => (h c).2, sem_eq_zero_of_no_sems (by decide) _⟩) (GatherSmallRefProof.run_main (F := Ideal) m ρ)
theorem frame_gatherSmallRef : Cert.quiescent_GatherSmallRef := fun m ρ _ =>
  (θ_run Cert.GatherSmallRefIdeal.defs _ _).mono (fun _ h => ⟨fun c => (h c).2, sem_eq_zero_of_no_sems (by decide) _⟩) (GatherSmallRefProof.run_main (F := Bits) m ρ)
theorem algebraic_gatherSmall : Cert.algebraic_GatherSmallIdeal_GatherSmallRefIdeal := fun m g m' g' _ hm =>
  ⟨_, (θ_run Cert.GatherSmallIdeal.defs _ _).mono (fun _ h c => ⟨(h.1 c).2.trans (GatherSmallRefProof.res_eq m _ _ hm c), (h.1 c).1⟩) (GatherSmallProof.run_main (F := Ideal) m g),
    (θ_run Cert.GatherSmallRefIdeal.defs _ _).mono (fun _ h => h 0) (GatherSmallRefProof.run_main (F := Ideal) m' g')⟩
theorem bitexact_gatherSmall : Cert.bitexact_GatherSmall_GatherSmallRef := fun m g m' g' _ hm =>
  ⟨_, (θ_run Cert.GatherSmallIdeal.defs _ _).mono (fun _ h c => ⟨(h.1 c).2.trans (GatherSmallRefProof.res_eq m _ _ hm c), (h.1 c).1⟩) (GatherSmallProof.run_main (F := Bits) m g),
    (θ_run Cert.GatherSmallRefIdeal.defs _ _).mono (fun _ h => h 0) (GatherSmallRefProof.run_main (F := Bits) m' g')⟩

/-- The same of the gather of the small gradients. -/
theorem frame_gatherGrads : Cert.quiescent_GatherGrads := fun m ρ _ =>
  (θ_run Cert.GatherGradsIdeal.defs _ _).mono (fun _ h => ⟨fun c => (h.1 c).1, h.2⟩) (GatherGradsProof.run_main (F := Bits) m ρ)
theorem frame_gatherGradsIdeal : Cert.quiescent_GatherGradsIdeal := fun m ρ _ =>
  (θ_run Cert.GatherGradsIdeal.defs _ _).mono (fun _ h => ⟨fun c => (h.1 c).1, h.2⟩) (GatherGradsProof.run_main (F := Ideal) m ρ)
theorem frame_gatherGradsRefIdeal : Cert.quiescent_GatherGradsRefIdeal := fun m ρ _ =>
  (θ_run Cert.GatherGradsRefIdeal.defs _ _).mono (fun _ h => ⟨fun c => (h c).2, sem_eq_zero_of_no_sems (by decide) _⟩) (GatherGradsRefProof.run_main (F := Ideal) m ρ)
theorem frame_gatherGradsRef : Cert.quiescent_GatherGradsRef := fun m ρ _ =>
  (θ_run Cert.GatherGradsRefIdeal.defs _ _).mono (fun _ h => ⟨fun c => (h c).2, sem_eq_zero_of_no_sems (by decide) _⟩) (GatherGradsRefProof.run_main (F := Bits) m ρ)
theorem algebraic_gatherGrads : Cert.algebraic_GatherGradsIdeal_GatherGradsRefIdeal := fun m g m' g' _ hm =>
  ⟨_, (θ_run Cert.GatherGradsIdeal.defs _ _).mono (fun _ h c => ⟨(h.1 c).2.trans (GatherGradsRefProof.res_eq m _ _ hm c), (h.1 c).1⟩) (GatherGradsProof.run_main (F := Ideal) m g),
    (θ_run Cert.GatherGradsRefIdeal.defs _ _).mono (fun _ h => h 0) (GatherGradsRefProof.run_main (F := Ideal) m' g')⟩
theorem bitexact_gatherGrads : Cert.bitexact_GatherGrads_GatherGradsRef := fun m g m' g' _ hm =>
  ⟨_, (θ_run Cert.GatherGradsIdeal.defs _ _).mono (fun _ h c => ⟨(h.1 c).2.trans (GatherGradsRefProof.res_eq m _ _ hm c), (h.1 c).1⟩) (GatherGradsProof.run_main (F := Bits) m g),
    (θ_run Cert.GatherGradsRefIdeal.defs _ _).mono (fun _ h => h 0) (GatherGradsRefProof.run_main (F := Bits) m' g')⟩

/-- The AdamW call ends, its arguments unchanged and every semaphore at zero, over the float words -/
theorem frame_update : Cert.quiescent_Update := fun m ρ _ => Cert.Update.Gen.frame m ρ

/-- and over the extended reals; -/
theorem frame_updateIdeal : Cert.quiescent_UpdateIdeal := fun m ρ _ => Cert.UpdateIdeal.Gen.frame m ρ

/-- so does its reference. -/
theorem frame_updateRefIdeal : Cert.quiescent_UpdateRefIdeal := fun m ρ _ =>
  (θ_run Cert.UpdateRefIdeal.defs _ _).mono (fun _ h => ⟨fun c => (h c).2.2.2.2, sem_eq_zero_of_no_sems (by decide) _⟩) (UpdateRefIdeal.Value.run m ρ)

/-- Over the extended reals the AdamW call and its reference end with the same gradient, change of the weights and moments. -/
theorem algebraic_update : Cert.algebraic_UpdateIdeal_UpdateRefIdeal := fun m g m' g' _ hm =>
  ⟨_, _, _, _, UpdateProof.run m g, UpdateProof.run_ref m' g' m hm⟩

/-- The same of the AdamW call over the weights that every device holds whole. -/
theorem frame_rep : Cert.quiescent_Rep := fun m ρ _ => Cert.Rep.Gen.frame m ρ
theorem frame_repIdeal : Cert.quiescent_RepIdeal := fun m ρ _ => Cert.RepIdeal.Gen.frame m ρ
theorem frame_repRefIdeal : Cert.quiescent_RepRefIdeal := fun m ρ _ =>
  (θ_run Cert.RepRefIdeal.defs _ _).mono (fun _ h => ⟨fun c => (h c).2.2.2.2, sem_eq_zero_of_no_sems (by decide) _⟩) (RepRefIdeal.Value.run m ρ)
theorem algebraic_rep : Cert.algebraic_RepIdeal_RepRefIdeal := fun m g m' g' _ hm =>
  ⟨_, _, _, _, RepProof.run m g, RepProof.run_ref m' g' m hm⟩

/-- The same of the AdamW call over the small weights that are cut across the devices. -/
theorem frame_small : Cert.quiescent_Small := fun m ρ _ => Cert.Small.Gen.frame m ρ
theorem frame_smallIdeal : Cert.quiescent_SmallIdeal := fun m ρ _ => Cert.SmallIdeal.Gen.frame m ρ
theorem frame_smallRefIdeal : Cert.quiescent_SmallRefIdeal := fun m ρ _ =>
  (θ_run Cert.SmallRefIdeal.defs _ _).mono (fun _ h => ⟨fun c => (h c).2.2.2.2, sem_eq_zero_of_no_sems (by decide) _⟩) (SmallRefIdeal.Value.run m ρ)
theorem algebraic_small : Cert.algebraic_SmallIdeal_SmallRefIdeal := fun m g m' g' _ hm =>
  ⟨_, _, _, _, SmallProof.run m g, SmallProof.run_ref m' g' m hm⟩

/-- The same of the AdamW call over w_ada. -/
theorem frame_ada : Cert.quiescent_Ada := fun m ρ _ => Cert.Ada.Gen.frame m ρ
theorem frame_adaIdeal : Cert.quiescent_AdaIdeal := fun m ρ _ => Cert.AdaIdeal.Gen.frame m ρ
theorem frame_adaRefIdeal : Cert.quiescent_AdaRefIdeal := fun m ρ _ =>
  (θ_run Cert.AdaRefIdeal.defs _ _).mono (fun _ h => ⟨fun c => (h c).2.2.2.2, sem_eq_zero_of_no_sems (by decide) _⟩) (AdaRefIdeal.Value.run m ρ)
theorem algebraic_ada : Cert.algebraic_AdaIdeal_AdaRefIdeal := fun m g m' g' _ hm =>
  ⟨_, _, _, _, AdaProof.run m g, AdaProof.run_ref m' g' m hm⟩

/-- The same of the call that adds the slots of the small weights' gradients. -/
theorem frame_sum : Cert.quiescent_Sum := fun m ρ _ => Cert.Sum.Gen.frame m ρ
theorem frame_sumIdeal : Cert.quiescent_SumIdeal := fun m ρ _ => Cert.SumIdeal.Gen.frame m ρ
theorem frame_sumRefIdeal : Cert.quiescent_SumRefIdeal := fun m ρ _ =>
  (θ_run Cert.SumRefIdeal.defs _ _).mono (fun _ h => ⟨fun c => (h c).2, sem_eq_zero_of_no_sems (by decide) _⟩) (SumRefIdeal.Value.run m ρ)
theorem algebraic_sum : Cert.algebraic_SumIdeal_SumRefIdeal := fun m g m' g' _ hm =>
  ⟨_, SumProof.run m g, SumProof.run_ref m' g' m hm⟩

/-- The same of the product that gives w_ada's gradient. -/
theorem frame_dwAda : Cert.quiescent_DwAda := fun m ρ _ => Cert.DwAda.Gen.frame m ρ
theorem frame_dwAdaIdeal : Cert.quiescent_DwAdaIdeal := fun m ρ _ => Cert.DwAdaIdeal.Gen.frame m ρ
theorem frame_dwAdaRefIdeal : Cert.quiescent_DwAdaRefIdeal := fun m ρ _ =>
  (θ_run Cert.DwAdaRefIdeal.defs _ _).mono (fun _ h => ⟨fun c => (h c).2, sem_eq_zero_of_no_sems (by decide) _⟩) (DwAdaRefIdeal.Value.run m ρ)
theorem algebraic_dwAda : Cert.algebraic_DwAdaIdeal_DwAdaRefIdeal := fun m g m' g' _ hm =>
  ⟨_, DwAdaIdeal.Value.run m g, DwAdaProof.run_ref m' g' m hm⟩

/-- The same of the loss's call. -/
theorem frame_loss : Cert.quiescent_Loss := fun m ρ _ => Cert.Loss.Gen.frame m ρ
theorem frame_lossIdeal : Cert.quiescent_LossIdeal := fun m ρ _ => Cert.LossIdeal.Gen.frame m ρ
theorem frame_lossRefIdeal : Cert.quiescent_LossRefIdeal := fun m ρ _ =>
  (θ_run Cert.LossRefIdeal.defs _ _).mono (fun _ h => ⟨fun c => (h c).2.2, sem_eq_zero_of_no_sems (by decide) _⟩) (LossRefIdeal.Value.run m ρ)
theorem algebraic_loss : Cert.algebraic_LossIdeal_LossRefIdeal := fun m g m' g' _ hm =>
  ⟨_, _, LossProof.run m g, LossProof.run_ref m' g' m hm⟩

/-- The same of the call that carries the stream's gradient back through the first layer's first norm. Its two programs' bodies are one text, read after the parts that
they are cut in. -/
theorem prenorm_defs : Cert.Prenorm.defs (F := Bits) = Cert.PrenormIdeal.defs (F := Bits) := by
  refine congrArg (Pipeline.defs (Cert.PrenormIdeal.pcfgs (F := Bits))) (congrArg Defs.onTc (funext fun l => funext fun x => ?_))
  match l, x with
  | 0, (t, s) =>
    show Cert.Prenorm.cc0_l0_b_prenorm .. = Cert.PrenormIdeal.cc0_l0_b_prenorm ..
    unfold Cert.Prenorm.cc0_l0_b_prenorm Cert.PrenormIdeal.cc0_l0_b_prenorm
    refine congrArg (Bind.bind _) (funext fun p => ?_)
    obtain ⟨_, _, _, _, _, _⟩ := p
    rfl
theorem frame_prenorm : Cert.quiescent_Prenorm := fun m ρ _ => by
  rw [prenorm_defs]
  exact (θ_run Cert.PrenormIdeal.defs _ _).mono (fun _ h => ⟨fun c => (h.1 c).2.2.2.2, h.2⟩) (PrenormProof.run_arrays (F := Bits) m ρ)
theorem frame_prenormIdeal : Cert.quiescent_PrenormIdeal := fun m ρ _ =>
  (θ_run Cert.PrenormIdeal.defs _ _).mono (fun _ h => ⟨fun c => (h.1 c).2.2.2.2, h.2⟩) (PrenormProof.run_arrays (F := Ideal) m ρ)
theorem frame_prenormRefIdeal : Cert.quiescent_PrenormRefIdeal := fun m ρ _ =>
  (θ_run Cert.PrenormRefIdeal.defs _ _).mono (fun _ h => ⟨fun c => (h c).2.2.2.2, sem_eq_zero_of_no_sems (by decide) _⟩) (PrenormRefIdeal.Value.run m ρ)
theorem algebraic_prenorm : Cert.algebraic_PrenormIdeal_PrenormRefIdeal := fun m g m' g' _ hm =>
  ⟨_, _, _, _, PrenormProof.run m g, PrenormProof.run_ref m' g' m hm⟩

/-! The calls of the forward and the backward pass of a layer. -/

theorem frame_prenormFwd : Cert.quiescent_PrenormFwd := fun m ρ _ => Cert.PrenormFwd.Gen.frame m ρ
theorem frame_prenormFwdIdeal : Cert.quiescent_PrenormFwdIdeal := fun m ρ _ => Cert.PrenormFwdIdeal.Gen.frame m ρ
theorem frame_prenormFwdRefIdeal : Cert.quiescent_PrenormFwdRefIdeal := fun m ρ _ =>
  (θ_run Cert.PrenormFwdRefIdeal.defs _ _).mono (fun _ h => ⟨fun c => (h c).2, sem_eq_zero_of_no_sems (by decide) _⟩) (PrenormFwdRefIdeal.Value.run m ρ)
theorem algebraic_prenormFwd : Cert.algebraic_PrenormFwdIdeal_PrenormFwdRefIdeal := fun m g m' g' _ hm => ⟨_, PrenormFwdProof.run m g, PrenormFwdProof.run_ref m' g' m hm⟩

theorem frame_proj : Cert.quiescent_Proj := fun m ρ _ => Cert.Proj.Gen.frame m ρ
theorem frame_projIdeal : Cert.quiescent_ProjIdeal := fun m ρ _ => Cert.ProjIdeal.Gen.frame m ρ
theorem frame_projRefIdeal : Cert.quiescent_ProjRefIdeal := fun m ρ _ =>
  (θ_run Cert.ProjRefIdeal.defs _ _).mono (fun _ h => ⟨fun c => (h c).2, sem_eq_zero_of_no_sems (by decide) _⟩) (ProjRefIdeal.Value.run m ρ)
theorem algebraic_proj : Cert.algebraic_ProjIdeal_ProjRefIdeal := fun m g m' g' _ hm => ⟨_, ProjProof.run m g, ProjProof.run_ref m' g' m hm⟩

theorem frame_conv : Cert.quiescent_Conv := fun m ρ _ => Cert.Conv.Gen.frame m ρ
theorem frame_convIdeal : Cert.quiescent_ConvIdeal := fun m ρ _ => Cert.ConvIdeal.Gen.frame m ρ
theorem frame_convRefIdeal : Cert.quiescent_ConvRefIdeal := fun m ρ _ =>
  (θ_run Cert.ConvRefIdeal.defs _ _).mono (fun _ h => ⟨fun c => (h c).2.2, sem_eq_zero_of_no_sems (by decide) _⟩) (ConvRefIdeal.Value.run m ρ)
theorem algebraic_conv : Cert.algebraic_ConvIdeal_ConvRefIdeal := fun m g m' g' _ hm => ⟨_, _, ConvProof.run m g, ConvProof.run_ref m' g' m hm⟩

theorem frame_attn : Cert.quiescent_Attn := fun m ρ _ => Cert.Attn.Gen.frame m ρ
theorem frame_attnIdeal : Cert.quiescent_AttnIdeal := fun m ρ _ => Cert.AttnIdeal.Gen.frame m ρ
theorem frame_attnRefIdeal : Cert.quiescent_AttnRefIdeal := fun m ρ _ =>
  (θ_run Cert.AttnRefIdeal.defs _ _).mono (fun _ h => ⟨fun c => (h c).2, sem_eq_zero_of_no_sems (by decide) _⟩) (AttnRefIdeal.Value.run m ρ)
theorem frame_attnIdeal_pre : Cert.quiescent_AttnIdeal_pre_finite_heads := fun m ρ _ => Cert.AttnIdeal.Gen.frame m ρ
theorem frame_attnRefIdeal_pre : Cert.quiescent_AttnRefIdeal_pre_finite_heads := fun m ρ _ =>
  (θ_run Cert.AttnRefIdeal.defs _ _).mono (fun _ h => ⟨fun c => (h c).2, sem_eq_zero_of_no_sems (by decide) _⟩) (AttnRefIdeal.Value.run m ρ)
theorem preserves_attn : Cert.preserves_Attn_AttnIdeal := IdealRules.named_const.statement _ _ _ _ _ rfl
theorem algebraic_attn : Cert.algebraic_AttnIdeal_AttnRefIdeal_pre_finite_heads := fun m g m' g' hp hm => ⟨_, AttnProof.run m g hp, AttnProof.run_ref m' g' m hm⟩

theorem frame_branch : Cert.quiescent_Branch := fun m ρ _ => Cert.Branch.Gen.frame m ρ
theorem frame_branchIdeal : Cert.quiescent_BranchIdeal := fun m ρ _ => Cert.BranchIdeal.Gen.frame m ρ
theorem frame_branchRefIdeal : Cert.quiescent_BranchRefIdeal := fun m ρ _ =>
  (θ_run Cert.BranchRefIdeal.defs _ _).mono (fun _ h => ⟨fun c => (h c).2.2, sem_eq_zero_of_no_sems (by decide) _⟩) (BranchRefIdeal.Value.run m ρ)
theorem algebraic_branch : Cert.algebraic_BranchIdeal_BranchRefIdeal := fun m g m' g' _ hm => ⟨_, _, BranchProof.run m g, BranchProof.run_ref m' g' m hm⟩

theorem frame_merge : Cert.quiescent_Merge := fun m ρ _ => Cert.Merge.Gen.frame m ρ
theorem frame_mergeIdeal : Cert.quiescent_MergeIdeal := fun m ρ _ => Cert.MergeIdeal.Gen.frame m ρ
theorem frame_mergeRefIdeal : Cert.quiescent_MergeRefIdeal := fun m ρ _ =>
  (θ_run Cert.MergeRefIdeal.defs _ _).mono (fun _ h => ⟨fun c => (h c).2, sem_eq_zero_of_no_sems (by decide) _⟩) (MergeRefIdeal.Value.run m ρ)
theorem algebraic_merge : Cert.algebraic_MergeIdeal_MergeRefIdeal := fun m g m' g' _ hm => ⟨_, MergeProof.run m g, MergeProof.run_ref m' g' m hm⟩

theorem frame_out : Cert.quiescent_Out := fun m ρ _ => Cert.Out.Gen.frame m ρ
theorem frame_outIdeal : Cert.quiescent_OutIdeal := fun m ρ _ => Cert.OutIdeal.Gen.frame m ρ
theorem frame_outRefIdeal : Cert.quiescent_OutRefIdeal := fun m ρ _ =>
  (θ_run Cert.OutRefIdeal.defs _ _).mono (fun _ h => ⟨fun c => (h c).2, sem_eq_zero_of_no_sems (by decide) _⟩) (OutRefIdeal.Value.run m ρ)
theorem algebraic_out : Cert.algebraic_OutIdeal_OutRefIdeal := fun m g m' g' _ hm => ⟨_, OutProof.run m g, OutProof.run_ref m' g' m hm⟩

theorem frame_post : Cert.quiescent_Post := fun m ρ _ => Cert.Post.Gen.frame m ρ
theorem frame_postIdeal : Cert.quiescent_PostIdeal := fun m ρ _ => Cert.PostIdeal.Gen.frame m ρ
theorem frame_postRefIdeal : Cert.quiescent_PostRefIdeal := fun m ρ _ =>
  (θ_run Cert.PostRefIdeal.defs _ _).mono (fun _ h => ⟨fun c => (h c).2, sem_eq_zero_of_no_sems (by decide) _⟩) (PostRefIdeal.Value.run m ρ)
theorem algebraic_post : Cert.algebraic_PostIdeal_PostRefIdeal := fun m g m' g' _ hm => ⟨_, PostProof.run m g, PostProof.run_ref m' g' m hm⟩

theorem frame_dwOut : Cert.quiescent_DwOut := fun m ρ _ => Cert.DwOut.Gen.frame m ρ
theorem frame_dwOutIdeal : Cert.quiescent_DwOutIdeal := fun m ρ _ => Cert.DwOutIdeal.Gen.frame m ρ
theorem frame_dwOutRefIdeal : Cert.quiescent_DwOutRefIdeal := fun m ρ _ =>
  (θ_run Cert.DwOutRefIdeal.defs _ _).mono (fun _ h => ⟨fun c => (h c).2, sem_eq_zero_of_no_sems (by decide) _⟩) (DwOutRefIdeal.Value.run m ρ)
theorem algebraic_dwOut : Cert.algebraic_DwOutIdeal_DwOutRefIdeal := fun m g m' g' _ hm => ⟨_, DwOutProof.run m g, DwOutProof.run_ref m' g' m hm⟩

theorem frame_dwIn : Cert.quiescent_DwIn := fun m ρ _ => Cert.DwIn.Gen.frame m ρ
theorem frame_dwInIdeal : Cert.quiescent_DwInIdeal := fun m ρ _ => Cert.DwInIdeal.Gen.frame m ρ
theorem frame_dwInRefIdeal : Cert.quiescent_DwInRefIdeal := fun m ρ _ =>
  (θ_run Cert.DwInRefIdeal.defs _ _).mono (fun _ h => ⟨fun c => (h c).2, sem_eq_zero_of_no_sems (by decide) _⟩) (DwInRefIdeal.Value.run m ρ)
theorem algebraic_dwIn : Cert.algebraic_DwInIdeal_DwInRefIdeal := fun m g m' g' _ hm => ⟨_, DwInProof.run m g, DwInProof.run_ref m' g' m hm⟩

theorem frame_dm : Cert.quiescent_Dm := fun m ρ _ => Cert.Dm.Gen.frame m ρ
theorem frame_dmIdeal : Cert.quiescent_DmIdeal := fun m ρ _ => Cert.DmIdeal.Gen.frame m ρ
theorem frame_dmRefIdeal : Cert.quiescent_DmRefIdeal := fun m ρ _ =>
  (θ_run Cert.DmRefIdeal.defs _ _).mono (fun _ h => ⟨fun c => (h c).2, sem_eq_zero_of_no_sems (by decide) _⟩) (DmRefIdeal.Value.run m ρ)
theorem algebraic_dm : Cert.algebraic_DmIdeal_DmRefIdeal := fun m g m' g' _ hm => ⟨_, DmProof.run m g, DmProof.run_ref m' g' m hm⟩

theorem frame_dh : Cert.quiescent_Dh := fun m ρ _ => Cert.Dh.Gen.frame m ρ
theorem frame_dhIdeal : Cert.quiescent_DhIdeal := fun m ρ _ => Cert.DhIdeal.Gen.frame m ρ
theorem frame_dhRefIdeal : Cert.quiescent_DhRefIdeal := fun m ρ _ =>
  (θ_run Cert.DhRefIdeal.defs _ _).mono (fun _ h => ⟨fun c => (h c).2, sem_eq_zero_of_no_sems (by decide) _⟩) (DhRefIdeal.Value.run m ρ)
theorem algebraic_dh : Cert.algebraic_DhIdeal_DhRefIdeal := fun m g m' g' _ hm => ⟨_, DhProof.run m g, DhProof.run_ref m' g' m hm⟩

theorem claim : Cert.Claim :=
  ⟨Cert.Exchange.Gen.facts, Cert.ExchangeIdeal.Gen.facts, Cert.ExchangeRefIdeal.Gen.facts, Cert.ExchangeRef.Gen.facts,
    Cert.Gather.Gen.facts, Cert.GatherIdeal.Gen.facts, Cert.GatherRefIdeal.Gen.facts, Cert.GatherRef.Gen.facts,
    Cert.GatherSmall.Gen.facts, Cert.GatherSmallIdeal.Gen.facts, Cert.GatherSmallRefIdeal.Gen.facts, Cert.GatherSmallRef.Gen.facts,
    Cert.GatherGrads.Gen.facts, Cert.GatherGradsIdeal.Gen.facts, Cert.GatherGradsRefIdeal.Gen.facts, Cert.GatherGradsRef.Gen.facts,
    Cert.Update.Gen.facts, Cert.UpdateIdeal.Gen.facts, Cert.UpdateRefIdeal.Gen.facts,
    Cert.Rep.Gen.facts, Cert.RepIdeal.Gen.facts, Cert.RepRefIdeal.Gen.facts,
    Cert.Small.Gen.facts, Cert.SmallIdeal.Gen.facts, Cert.SmallRefIdeal.Gen.facts,
    Cert.Ada.Gen.facts, Cert.AdaIdeal.Gen.facts, Cert.AdaRefIdeal.Gen.facts,
    Cert.Sum.Gen.facts, Cert.SumIdeal.Gen.facts, Cert.SumRefIdeal.Gen.facts,
    Cert.DwAda.Gen.facts, Cert.DwAdaIdeal.Gen.facts, Cert.DwAdaRefIdeal.Gen.facts,
    Cert.Loss.Gen.facts, Cert.LossIdeal.Gen.facts, Cert.LossRefIdeal.Gen.facts,
    Cert.Prenorm.Gen.facts, Cert.PrenormIdeal.Gen.facts, Cert.PrenormRefIdeal.Gen.facts,
    Cert.PrenormFwd.Gen.facts, Cert.PrenormFwdIdeal.Gen.facts, Cert.PrenormFwdRefIdeal.Gen.facts,
    Cert.Proj.Gen.facts, Cert.ProjIdeal.Gen.facts, Cert.ProjRefIdeal.Gen.facts,
    Cert.Conv.Gen.facts, Cert.ConvIdeal.Gen.facts, Cert.ConvRefIdeal.Gen.facts,
    Cert.Attn.Gen.facts, Cert.AttnIdeal.Gen.facts, Cert.AttnRefIdeal.Gen.facts,
    Cert.Branch.Gen.facts, Cert.BranchIdeal.Gen.facts, Cert.BranchRefIdeal.Gen.facts,
    Cert.Merge.Gen.facts, Cert.MergeIdeal.Gen.facts, Cert.MergeRefIdeal.Gen.facts,
    Cert.Out.Gen.facts, Cert.OutIdeal.Gen.facts, Cert.OutRefIdeal.Gen.facts,
    Cert.Post.Gen.facts, Cert.PostIdeal.Gen.facts, Cert.PostRefIdeal.Gen.facts,
    Cert.DwOut.Gen.facts, Cert.DwOutIdeal.Gen.facts, Cert.DwOutRefIdeal.Gen.facts,
    Cert.DwIn.Gen.facts, Cert.DwInIdeal.Gen.facts, Cert.DwInRefIdeal.Gen.facts,
    Cert.Dm.Gen.facts, Cert.DmIdeal.Gen.facts, Cert.DmRefIdeal.Gen.facts,
    Cert.Dh.Gen.facts, Cert.DhIdeal.Gen.facts, Cert.DhRefIdeal.Gen.facts,
    Cert.Pre_finite_heads.Gen.facts,
    frame_exchange, frame_exchangeIdeal, frame_exchangeRefIdeal, frame_exchangeRef, frame_gather, frame_gatherIdeal, frame_gatherRefIdeal, frame_gatherRef,
    frame_gatherSmall, frame_gatherSmallIdeal, frame_gatherSmallRefIdeal, frame_gatherSmallRef,
    frame_gatherGrads, frame_gatherGradsIdeal, frame_gatherGradsRefIdeal, frame_gatherGradsRef,
    frame_update, frame_updateIdeal, frame_updateRefIdeal,
    frame_rep, frame_repIdeal, frame_repRefIdeal,
    frame_small, frame_smallIdeal, frame_smallRefIdeal,
    frame_ada, frame_adaIdeal, frame_adaRefIdeal,
    frame_sum, frame_sumIdeal, frame_sumRefIdeal,
    frame_dwAda, frame_dwAdaIdeal, frame_dwAdaRefIdeal,
    frame_loss, frame_lossIdeal, frame_lossRefIdeal,
    frame_prenorm, frame_prenormIdeal, frame_prenormRefIdeal,
    frame_prenormFwd, frame_prenormFwdIdeal, frame_prenormFwdRefIdeal,
    frame_proj, frame_projIdeal, frame_projRefIdeal,
    frame_conv, frame_convIdeal, frame_convRefIdeal,
    frame_attn, frame_attnIdeal, frame_attnIdeal_pre, frame_attnRefIdeal, frame_attnRefIdeal_pre,
    frame_branch, frame_branchIdeal, frame_branchRefIdeal,
    frame_merge, frame_mergeIdeal, frame_mergeRefIdeal,
    frame_out, frame_outIdeal, frame_outRefIdeal,
    frame_post, frame_postIdeal, frame_postRefIdeal,
    frame_dwOut, frame_dwOutIdeal, frame_dwOutRefIdeal,
    frame_dwIn, frame_dwInIdeal, frame_dwInRefIdeal,
    frame_dm, frame_dmIdeal, frame_dmRefIdeal,
    frame_dh, frame_dhIdeal, frame_dhRefIdeal,
    trivial, algebraic_exchange, bitexact_exchange, trivial, algebraic_gather, bitexact_gather,
    trivial, algebraic_gatherSmall, bitexact_gatherSmall, trivial, algebraic_gatherGrads, bitexact_gatherGrads, trivial, algebraic_update,
    trivial, algebraic_rep, trivial, algebraic_small, trivial, algebraic_ada,
    trivial, algebraic_sum, trivial, algebraic_dwAda, trivial, algebraic_loss, trivial, algebraic_prenorm,
    trivial, algebraic_prenormFwd,
    trivial, algebraic_proj,
    trivial, algebraic_conv,
    preserves_attn, algebraic_attn,
    trivial, algebraic_branch,
    trivial, algebraic_merge,
    trivial, algebraic_out,
    trivial, algebraic_post,
    trivial, algebraic_dwOut,
    trivial, algebraic_dwIn,
    trivial, algebraic_dm,
    trivial, algebraic_dh⟩

end Cert.Proof

end
